-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S6x4096x32x64 : Shape := ⟨4, ![6, 4096, 32, 64]⟩
abbrev S6x4096x32 : Shape := ⟨3, ![6, 4096, 32]⟩
abbrev S6x32x64x64 : Shape := ⟨4, ![6, 32, 64, 64]⟩
abbrev S6 : Shape := ⟨1, ![6]⟩
abbrev S_ : Shape := ⟨0, ![]⟩

class Facts : Prop where
  bcast_S_S6 : S_.BroadcastsInDim S6 (![] : Fin 0 → Fin S6.rank)
  reducesTo_S6_S_d0 : S6.ReducesTo [0] S_
  h_S_ : 0 < S_.numel
  bcast_S_S6x4096x32x64 : S_.BroadcastsInDim S6x4096x32x64 (![] : Fin 0 → Fin S6x4096x32x64.rank)
  reducesTo_S6x4096x32x64_S_d0_1_2_3 : S6x4096x32x64.ReducesTo [0, 1, 2, 3] S_
  bcast_S_S6x4096x32 : S_.BroadcastsInDim S6x4096x32 (![] : Fin 0 → Fin S6x4096x32.rank)
  reducesTo_S6x4096x32_S_d0_1_2 : S6x4096x32.ReducesTo [0, 1, 2] S_
  bitsLt_bf16_f32 : FTy.bits .bf16 < FTy.bits .f32
  bcast_S_S6x32x64x64 : S_.BroadcastsInDim S6x32x64x64 (![] : Fin 0 → Fin S6x32x64x64.rank)
  reducesTo_S6x32x64x64_S_d0_1_2_3 : S6x32x64x64.ReducesTo [0, 1, 2, 3] S_

variable [Facts]

def fn_part3 {F : FTy → Type} [FloatOps F] (main_v50 : IVec S_ 1) (main_v51 : FVec F S6x32x64x64 .f32) : IVec S_ 1 :=
  let main_cst_18 : FVec F S_ .f32 := constant S_ .f32 0x7F800000#32
  let main_v52 : FVec F S6x32x64x64 .f32 := broadcastInDim S6x32x64x64 ![] bcast_S_S6x32x64x64 main_cst_18
  let main_v53 : IVec S6x32x64x64 1 := cmpf .olt main_v51 main_v52
  let main_c_19 : IVec S_ 1 := constantI S_ 1 1#1
  let main_v54 : IVec S_ 1 := (fun x v => Host.reduce IntOp.andi x v reducesTo_S6x32x64x64_S_d0_1_2_3 h_S_) main_v53 main_c_19
  let main_v55 : IVec S_ 1 := andi main_v50 main_v54
  main_v55

def fn_part2 {F : FTy → Type} [FloatOps F] (main_arg7 : FVec F S6x4096x32x64 .bf16) (main_arg8 : FVec F S6x4096x32x64 .bf16) (main_arg9 : FVec F S6x32x64x64 .f32) (main_v32 : IVec S_ 1) (main_v33 : FVec F S6x4096x32x64 .f32) : IVec S_ 1 :=
  let main_v34 : FVec F S6x4096x32x64 .f32 := Host.absf main_v33
  let main_cst_12 : FVec F S_ .f32 := constant S_ .f32 0x7F800000#32
  let main_v35 : FVec F S6x4096x32x64 .f32 := broadcastInDim S6x4096x32x64 ![] bcast_S_S6x4096x32x64 main_cst_12
  let main_v36 : IVec S6x4096x32x64 1 := cmpf .olt main_v34 main_v35
  let main_c_13 : IVec S_ 1 := constantI S_ 1 1#1
  let main_v37 : IVec S_ 1 := (fun x v => Host.reduce IntOp.andi x v reducesTo_S6x4096x32x64_S_d0_1_2_3 h_S_) main_v36 main_c_13
  let main_v38 : IVec S_ 1 := andi main_v32 main_v37
  let main_v39 : FVec F S6x4096x32x64 .f32 := (extf .f32 · bitsLt_bf16_f32) main_arg7
  let main_v40 : FVec F S6x4096x32x64 .f32 := Host.absf main_v39
  let main_cst_14 : FVec F S_ .f32 := constant S_ .f32 0x7F800000#32
  let main_v41 : FVec F S6x4096x32x64 .f32 := broadcastInDim S6x4096x32x64 ![] bcast_S_S6x4096x32x64 main_cst_14
  let main_v42 : IVec S6x4096x32x64 1 := cmpf .olt main_v40 main_v41
  let main_c_15 : IVec S_ 1 := constantI S_ 1 1#1
  let main_v43 : IVec S_ 1 := (fun x v => Host.reduce IntOp.andi x v reducesTo_S6x4096x32x64_S_d0_1_2_3 h_S_) main_v42 main_c_15
  let main_v44 : IVec S_ 1 := andi main_v38 main_v43
  let main_v45 : FVec F S6x4096x32x64 .f32 := (extf .f32 · bitsLt_bf16_f32) main_arg8
  let main_v46 : FVec F S6x4096x32x64 .f32 := Host.absf main_v45
  let main_cst_16 : FVec F S_ .f32 := constant S_ .f32 0x7F800000#32
  let main_v47 : FVec F S6x4096x32x64 .f32 := broadcastInDim S6x4096x32x64 ![] bcast_S_S6x4096x32x64 main_cst_16
  let main_v48 : IVec S6x4096x32x64 1 := cmpf .olt main_v46 main_v47
  let main_c_17 : IVec S_ 1 := constantI S_ 1 1#1
  let main_v49 : IVec S_ 1 := (fun x v => Host.reduce IntOp.andi x v reducesTo_S6x4096x32x64_S_d0_1_2_3 h_S_) main_v48 main_c_17
  let main_v50 : IVec S_ 1 := andi main_v44 main_v49
  let main_v51 : FVec F S6x32x64x64 .f32 := Host.absf main_arg9
  fn_part3 (F := F) main_v50 main_v51

def fn_part1 {F : FTy → Type} [FloatOps F] (main_arg3 : FVec F S6x4096x32 .f32) (main_arg4 : FVec F S6x4096x32 .f32) (main_arg5 : FVec F S6x4096x32 .f32) (main_arg6 : FVec F S6x4096x32x64 .bf16) (main_arg7 : FVec F S6x4096x32x64 .bf16) (main_arg8 : FVec F S6x4096x32x64 .bf16) (main_arg9 : FVec F S6x32x64x64 .f32) (main_v12 : IVec S_ 1) (main_v15 : IVec S6x4096x32x64 1) (main_c_5 : IVec S_ 1) : IVec S_ 1 :=
  let main_v16 : IVec S_ 1 := (fun x v => Host.reduce IntOp.andi x v reducesTo_S6x4096x32x64_S_d0_1_2_3 h_S_) main_v15 main_c_5
  let main_v17 : IVec S_ 1 := andi main_v12 main_v16
  let main_v18 : FVec F S6x4096x32 .f32 := Host.absf main_arg3
  let main_cst_6 : FVec F S_ .f32 := constant S_ .f32 0x7F800000#32
  let main_v19 : FVec F S6x4096x32 .f32 := broadcastInDim S6x4096x32 ![] bcast_S_S6x4096x32 main_cst_6
  let main_v20 : IVec S6x4096x32 1 := cmpf .olt main_v18 main_v19
  let main_c_7 : IVec S_ 1 := constantI S_ 1 1#1
  let main_v21 : IVec S_ 1 := (fun x v => Host.reduce IntOp.andi x v reducesTo_S6x4096x32_S_d0_1_2 h_S_) main_v20 main_c_7
  let main_v22 : IVec S_ 1 := andi main_v17 main_v21
  let main_v23 : FVec F S6x4096x32 .f32 := Host.absf main_arg4
  let main_cst_8 : FVec F S_ .f32 := constant S_ .f32 0x7F800000#32
  let main_v24 : FVec F S6x4096x32 .f32 := broadcastInDim S6x4096x32 ![] bcast_S_S6x4096x32 main_cst_8
  let main_v25 : IVec S6x4096x32 1 := cmpf .olt main_v23 main_v24
  let main_c_9 : IVec S_ 1 := constantI S_ 1 1#1
  let main_v26 : IVec S_ 1 := (fun x v => Host.reduce IntOp.andi x v reducesTo_S6x4096x32_S_d0_1_2 h_S_) main_v25 main_c_9
  let main_v27 : IVec S_ 1 := andi main_v22 main_v26
  let main_v28 : FVec F S6x4096x32 .f32 := Host.absf main_arg5
  let main_cst_10 : FVec F S_ .f32 := constant S_ .f32 0x7F800000#32
  let main_v29 : FVec F S6x4096x32 .f32 := broadcastInDim S6x4096x32 ![] bcast_S_S6x4096x32 main_cst_10
  let main_v30 : IVec S6x4096x32 1 := cmpf .olt main_v28 main_v29
  let main_c_11 : IVec S_ 1 := constantI S_ 1 1#1
  let main_v31 : IVec S_ 1 := (fun x v => Host.reduce IntOp.andi x v reducesTo_S6x4096x32_S_d0_1_2 h_S_) main_v30 main_c_11
  let main_v32 : IVec S_ 1 := andi main_v27 main_v31
  let main_v33 : FVec F S6x4096x32x64 .f32 := (extf .f32 · bitsLt_bf16_f32) main_arg6
  fn_part2 (F := F) main_arg7 main_arg8 main_arg9 main_v32 main_v33

def fn {F : FTy → Type} [FloatOps F] (main_arg0 : FVec F S6x4096x32x64 .f32) (main_arg1 : FVec F S6x4096x32x64 .f32) (main_arg2 : FVec F S6x4096x32x64 .f32) (main_arg3 : FVec F S6x4096x32 .f32) (main_arg4 : FVec F S6x4096x32 .f32) (main_arg5 : FVec F S6x4096x32 .f32) (main_arg6 : FVec F S6x4096x32x64 .bf16) (main_arg7 : FVec F S6x4096x32x64 .bf16) (main_arg8 : FVec F S6x4096x32x64 .bf16) (main_arg9 : FVec F S6x32x64x64 .f32) (main_arg10 : IVec S6 32) : IVec S_ 1 :=
  let main_c : IVec S_ 32 := constantI S_ 32 0#32
  let main_v0 : IVec S6 32 := broadcastInDim S6 ![] bcast_S_S6 main_c
  let main_v1 : IVec S6 1 := cmpi .sge main_arg10 main_v0
  let main_c_0 : IVec S_ 1 := constantI S_ 1 1#1
  let main_v2 : IVec S_ 1 := (fun x v => Host.reduce IntOp.andi x v reducesTo_S6_S_d0 h_S_) main_v1 main_c_0
  let main_v3 : FVec F S6x4096x32x64 .f32 := Host.absf main_arg0
  let main_cst : FVec F S_ .f32 := constant S_ .f32 0x7F800000#32
  let main_v4 : FVec F S6x4096x32x64 .f32 := broadcastInDim S6x4096x32x64 ![] bcast_S_S6x4096x32x64 main_cst
  let main_v5 : IVec S6x4096x32x64 1 := cmpf .olt main_v3 main_v4
  let main_c_1 : IVec S_ 1 := constantI S_ 1 1#1
  let main_v6 : IVec S_ 1 := (fun x v => Host.reduce IntOp.andi x v reducesTo_S6x4096x32x64_S_d0_1_2_3 h_S_) main_v5 main_c_1
  let main_v7 : IVec S_ 1 := andi main_v2 main_v6
  let main_v8 : FVec F S6x4096x32x64 .f32 := Host.absf main_arg1
  let main_cst_2 : FVec F S_ .f32 := constant S_ .f32 0x7F800000#32
  let main_v9 : FVec F S6x4096x32x64 .f32 := broadcastInDim S6x4096x32x64 ![] bcast_S_S6x4096x32x64 main_cst_2
  let main_v10 : IVec S6x4096x32x64 1 := cmpf .olt main_v8 main_v9
  let main_c_3 : IVec S_ 1 := constantI S_ 1 1#1
  let main_v11 : IVec S_ 1 := (fun x v => Host.reduce IntOp.andi x v reducesTo_S6x4096x32x64_S_d0_1_2_3 h_S_) main_v10 main_c_3
  let main_v12 : IVec S_ 1 := andi main_v7 main_v11
  let main_v13 : FVec F S6x4096x32x64 .f32 := Host.absf main_arg2
  let main_cst_4 : FVec F S_ .f32 := constant S_ .f32 0x7F800000#32
  let main_v14 : FVec F S6x4096x32x64 .f32 := broadcastInDim S6x4096x32x64 ![] bcast_S_S6x4096x32x64 main_cst_4
  let main_v15 : IVec S6x4096x32x64 1 := cmpf .olt main_v13 main_v14
  let main_c_5 : IVec S_ 1 := constantI S_ 1 1#1
  fn_part1 (F := F) main_arg3 main_arg4 main_arg5 main_arg6 main_arg7 main_arg8 main_arg9 main_v12 main_v15 main_c_5
-- ==== Kernel.lean ====
abbrev S6x4096x32x64 : Shape := ⟨4, ![6, 4096, 32, 64]⟩
abbrev S6x4096x32 : Shape := ⟨3, ![6, 4096, 32]⟩
abbrev S6x32x64x64 : Shape := ⟨4, ![6, 32, 64, 64]⟩
abbrev S6 : Shape := ⟨1, ![6]⟩
abbrev S6x32x64x4096 : Shape := ⟨4, ![6, 32, 64, 4096]⟩
abbrev S6x2048x4096 : Shape := ⟨3, ![6, 2048, 4096]⟩
abbrev S6x32x4096 : Shape := ⟨3, ![6, 32, 4096]⟩
abbrev S6x4x8x4096 : Shape := ⟨4, ![6, 4, 8, 4096]⟩
abbrev S1x2048x256 : Shape := ⟨3, ![1, 2048, 256]⟩
abbrev S1 : Shape := ⟨1, ![1]⟩
abbrev S1x4x8x256 : Shape := ⟨4, ![1, 4, 8, 256]⟩
abbrev S1x32x64x64 : Shape := ⟨4, ![1, 32, 64, 64]⟩
abbrev S16x64x128 : Shape := ⟨3, ![16, 64, 128]⟩
abbrev S1x1x64x64 : Shape := ⟨4, ![1, 1, 64, 64]⟩
abbrev S64x64 : Shape := ⟨2, ![64, 64]⟩
abbrev S64x128 : Shape := ⟨2, ![64, 128]⟩
abbrev S1x64x128 : Shape := ⟨3, ![1, 64, 128]⟩
abbrev S1x128 : Shape := ⟨2, ![1, 128]⟩
abbrev S1x128x128 : Shape := ⟨3, ![1, 128, 128]⟩
abbrev S128x128 : Shape := ⟨2, ![128, 128]⟩
abbrev S128x256 : Shape := ⟨2, ![128, 256]⟩
abbrev S1x1x1x128 : Shape := ⟨4, ![1, 1, 1, 128]⟩
abbrev S64x256 : Shape := ⟨2, ![64, 256]⟩
abbrev S192x128 : Shape := ⟨2, ![192, 128]⟩
abbrev S192x256 : Shape := ⟨2, ![192, 256]⟩
abbrev S32x128 : Shape := ⟨2, ![32, 128]⟩
abbrev S8x128 : Shape := ⟨2, ![8, 128]⟩
abbrev S8x128x1 : Shape := ⟨3, ![8, 128, 1]⟩
abbrev S128x384 : Shape := ⟨2, ![128, 384]⟩
abbrev S64x384 : Shape := ⟨2, ![64, 384]⟩
abbrev S2048x128 : Shape := ⟨2, ![2048, 128]⟩
abbrev S1x2048x128 : Shape := ⟨3, ![1, 2048, 128]⟩

abbrev nBuf : Space → Nat
  | .hbm => 33
  | .vmem => 25
  | .smem => 1
  | _ => 0

abbrev bufTy : (tb : Table) → Fin (tcTables nBuf tb) → BufTy
  | .hbm, ⟨0, _⟩ => ⟨S6x4096x32x64, .f32⟩
  | .hbm, ⟨1, _⟩ => ⟨S6x4096x32x64, .f32⟩
  | .hbm, ⟨2, _⟩ => ⟨S6x4096x32x64, .f32⟩
  | .hbm, ⟨3, _⟩ => ⟨S6x4096x32, .f32⟩
  | .hbm, ⟨4, _⟩ => ⟨S6x4096x32, .f32⟩
  | .hbm, ⟨5, _⟩ => ⟨S6x4096x32, .f32⟩
  | .hbm, ⟨6, _⟩ => ⟨S6x4096x32x64, .bf16⟩
  | .hbm, ⟨7, _⟩ => ⟨S6x4096x32x64, .bf16⟩
  | .hbm, ⟨8, _⟩ => ⟨S6x4096x32x64, .bf16⟩
  | .hbm, ⟨9, _⟩ => ⟨S6x32x64x64, .f32⟩
  | .hbm, ⟨10, _⟩ => ⟨S6x4096x32x64, .fp8e4m3⟩
  | .hbm, ⟨11, _⟩ => ⟨S6x4096x32x64, .fp8e4m3⟩
  | .hbm, ⟨12, _⟩ => ⟨S6x4096x32x64, .fp8e4m3⟩
  | .hbm, ⟨13, _⟩ => ⟨S6x32x64x4096, .fp8e4m3⟩
  | .hbm, ⟨14, _⟩ => ⟨S6x2048x4096, .fp8e4m3⟩
  | .hbm, ⟨15, _⟩ => ⟨S6x32x64x4096, .fp8e4m3⟩
  | .hbm, ⟨16, _⟩ => ⟨S6x2048x4096, .fp8e4m3⟩
  | .hbm, ⟨17, _⟩ => ⟨S6x32x64x4096, .fp8e4m3⟩
  | .hbm, ⟨18, _⟩ => ⟨S6x2048x4096, .fp8e4m3⟩
  | .hbm, ⟨19, _⟩ => ⟨S6x32x4096, .f32⟩
  | .hbm, ⟨20, _⟩ => ⟨S6x4x8x4096, .f32⟩
  | .hbm, ⟨21, _⟩ => ⟨S6x32x4096, .f32⟩
  | .hbm, ⟨22, _⟩ => ⟨S6x4x8x4096, .f32⟩
  | .hbm, ⟨23, _⟩ => ⟨S6x32x4096, .f32⟩
  | .hbm, ⟨24, _⟩ => ⟨S6x4x8x4096, .f32⟩
  | .hbm, ⟨25, _⟩ => ⟨S6x32x64x4096, .bf16⟩
  | .hbm, ⟨26, _⟩ => ⟨S6x2048x4096, .bf16⟩
  | .hbm, ⟨27, _⟩ => ⟨S6x32x64x4096, .bf16⟩
  | .hbm, ⟨28, _⟩ => ⟨S6x2048x4096, .bf16⟩
  | .hbm, ⟨29, _⟩ => ⟨S6x32x64x4096, .bf16⟩
  | .hbm, ⟨30, _⟩ => ⟨S6x2048x4096, .bf16⟩
  | .hbm, ⟨31, _⟩ => ⟨S6x2048x4096, .bf16⟩
  | .hbm, ⟨32, _⟩ => ⟨S6x32x64x64, .f32⟩
  | .local _ .vmem, ⟨0, _⟩ => ⟨S1x2048x256, .fp8e4m3⟩
  | .local _ .vmem, ⟨1, _⟩ => ⟨S1x2048x256, .fp8e4m3⟩
  | .local _ .vmem, ⟨2, _⟩ => ⟨S1x2048x256, .fp8e4m3⟩
  | .local _ .vmem, ⟨3, _⟩ => ⟨S1x2048x256, .fp8e4m3⟩
  | .local _ .vmem, ⟨4, _⟩ => ⟨S1x2048x256, .fp8e4m3⟩
  | .local _ .vmem, ⟨5, _⟩ => ⟨S1x2048x256, .fp8e4m3⟩
  | .local _ .vmem, ⟨6, _⟩ => ⟨S1x4x8x256, .f32⟩
  | .local _ .vmem, ⟨7, _⟩ => ⟨S1x4x8x256, .f32⟩
  | .local _ .vmem, ⟨8, _⟩ => ⟨S1x4x8x256, .f32⟩
  | .local _ .vmem, ⟨9, _⟩ => ⟨S1x4x8x256, .f32⟩
  | .local _ .vmem, ⟨10, _⟩ => ⟨S1x4x8x256, .f32⟩
  | .local _ .vmem, ⟨11, _⟩ => ⟨S1x4x8x256, .f32⟩
  | .local _ .vmem, ⟨12, _⟩ => ⟨S1x2048x256, .bf16⟩
  | .local _ .vmem, ⟨13, _⟩ => ⟨S1x2048x256, .bf16⟩
  | .local _ .vmem, ⟨14, _⟩ => ⟨S1x2048x256, .bf16⟩
  | .local _ .vmem, ⟨15, _⟩ => ⟨S1x2048x256, .bf16⟩
  | .local _ .vmem, ⟨16, _⟩ => ⟨S1x2048x256, .bf16⟩
  | .local _ .vmem, ⟨17, _⟩ => ⟨S1x2048x256, .bf16⟩
  | .local _ .vmem, ⟨18, _⟩ => ⟨S1x32x64x64, .f32⟩
  | .local _ .vmem, ⟨19, _⟩ => ⟨S1x32x64x64, .f32⟩
  | .local _ .vmem, ⟨20, _⟩ => ⟨S1x2048x256, .bf16⟩
  | .local _ .vmem, ⟨21, _⟩ => ⟨S1x2048x256, .bf16⟩
  | .local _ .vmem, ⟨22, _⟩ => ⟨S1x32x64x64, .f32⟩
  | .local _ .vmem, ⟨23, _⟩ => ⟨S1x32x64x64, .f32⟩
  | .local _ .vmem, ⟨24, _⟩ => ⟨S16x64x128, .f32⟩
  | .local _ .smem, ⟨0, _⟩ => ⟨S6, .i32⟩
  | _, _ => ⟨S6x4096x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_arg10 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![6, 16], ![false, false]⟩

abbrev pre0 : Pipeline.Prefetch sig := ⟨1, ![main_arg10.idx], fun | 0 => main_arg10.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_9 : BitVec 32 := 0#32
  let c4_i32 : BitVec 32 := 4#32
  let v22 : BitVec 32 := Scalar.addi c0_i32_9 c4_i32
  let c1_i32 : BitVec 32 := 1#32
  ⟨c0_i32_9, v22, c1_i32⟩
def k0_mult1 (k0_t1 : Fin k0_t1_loop.trips) : BitVec 32 :=
  let c0_i32_9 : BitVec 32 := 0#32
  let c1_i32 : BitVec 32 := 1#32
  let arg16 : BitVec 32 := Scf.iv c0_i32_9 c1_i32 k0_t1
  let c4_i32_11 : BitVec 32 := 4#32
  let v23 : BitVec 32 := Scalar.muli arg16 c4_i32_11
  let c0_i32_12 : BitVec 32 := 0#32
  let v24 : BitVec 32 := Scalar.addi v23 c0_i32_12
  let c128_i32_13 : BitVec 32 := 128#32
  let v25 : BitVec 32 := Scalar.muli v24 c128_i32_13
  v25
def k0_mult2 : BitVec 32 :=
  let c0_i32_14 : BitVec 32 := 0#32
  c0_i32_14
def k0_off2 (k0_t1 : Fin k0_t1_loop.trips) (c0_i32_12 : BitVec 32) : Fin 3 → Nat :=
  let c0 : Index := 0#32
  let c0_i32_9 : BitVec 32 := 0#32
  let c1_i32 : BitVec 32 := 1#32
  let arg16 : BitVec 32 := Scf.iv c0_i32_9 c1_i32 k0_t1
  let c4_i32_11 : BitVec 32 := 4#32
  let v23 : BitVec 32 := Scalar.muli arg16 c4_i32_11
  let v24 : BitVec 32 := Scalar.addi v23 c0_i32_12
  let c128_i32_13 : BitVec 32 := 128#32
  let v25 : BitVec 32 := Scalar.muli v24 c128_i32_13
  let v26 : BitVec 32 := v25
  let v36 : Index := Scalar.indexCast v26
  let c0_i32_14 : BitVec 32 := 0#32
  let v27 : BitVec 32 := c0_i32_14
  let v37 : Index := Scalar.indexCast v27
  ![0, v36.toNat, 0]
def k0_off3 (k0_t1 : Fin k0_t1_loop.trips) : Fin 4 → Nat :=
  let c0_43 : Index := 0#32
  let c0_i32_9 : BitVec 32 := 0#32
  let c1_i32 : BitVec 32 := 1#32
  let arg16 : BitVec 32 := Scf.iv c0_i32_9 c1_i32 k0_t1
  let v151 : Index := Scalar.indexCast arg16
  let c0_44 : Index := 0#32
  let c0_i32_14 : BitVec 32 := 0#32
  let v27 : BitVec 32 := c0_i32_14
  let v152 : Index := Scalar.indexCast v27
  ![0, v151.toNat, 0, 0]
def k0_off4 (k0_t1 : Fin k0_t1_loop.trips) : Fin 4 → Nat :=
  let c0_45 : Index := 0#32
  let c0_i32_9 : BitVec 32 := 0#32
  let c1_i32 : BitVec 32 := 1#32
  let arg16 : BitVec 32 := Scf.iv c0_i32_9 c1_i32 k0_t1
  let v157 : Index := Scalar.indexCast arg16
  let c1 : Index := 1#32
  let c0_i32_14 : BitVec 32 := 0#32
  let v27 : BitVec 32 := c0_i32_14
  let v158 : Index := Scalar.indexCast v27
  ![0, v157.toNat, 1, 0]
def k0_off5 (k0_t1 : Fin k0_t1_loop.trips) (c0_i32_12 : BitVec 32) : Fin 3 → Nat :=
  let c0_i32_9 : BitVec 32 := 0#32
  let c1_i32 : BitVec 32 := 1#32
  let arg16 : BitVec 32 := Scf.iv c0_i32_9 c1_i32 k0_t1
  let c4_i32_11 : BitVec 32 := 4#32
  let v23 : BitVec 32 := Scalar.muli arg16 c4_i32_11
  let v24 : BitVec 32 := Scalar.addi v23 c0_i32_12
  let v214 : Index := Scalar.indexCast v24
  let c0_60 : Index := 0#32
  let c0_61 : Index := 0#32
  ![v214.toNat, 0, 0]
def k0_mult3 (k0_t1 : Fin k0_t1_loop.trips) : BitVec 32 :=
  let c0_i32_9 : BitVec 32 := 0#32
  let c1_i32 : BitVec 32 := 1#32
  let arg16 : BitVec 32 := Scf.iv c0_i32_9 c1_i32 k0_t1
  let c4_i32_641 : BitVec 32 := 4#32
  let v3125 : BitVec 32 := Scalar.muli arg16 c4_i32_641
  let c1_i32_642 : BitVec 32 := 1#32
  let v3126 : BitVec 32 := Scalar.addi v3125 c1_i32_642
  let c128_i32_643 : BitVec 32 := 128#32
  let v3127 : BitVec 32 := Scalar.muli v3126 c128_i32_643
  v3127
def k0_mult4 : BitVec 32 :=
  let c0_i32_644 : BitVec 32 := 0#32
  c0_i32_644
def k0_off6 (k0_t1 : Fin k0_t1_loop.trips) : Fin 4 → Nat :=
  let c0_676 : Index := 0#32
  let c0_i32_9 : BitVec 32 := 0#32
  let c1_i32 : BitVec 32 := 1#32
  let arg16 : BitVec 32 := Scf.iv c0_i32_9 c1_i32 k0_t1
  let v3253 : Index := Scalar.indexCast arg16
  let c2 : Index := 2#32
  let c0_i32_644 : BitVec 32 := 0#32
  let v3129 : BitVec 32 := c0_i32_644
  let v3254 : Index := Scalar.indexCast v3129
  ![0, v3253.toNat, 2, 0]
def k0_off7 (k0_t1 : Fin k0_t1_loop.trips) : Fin 4 → Nat :=
  let c0_677 : Index := 0#32
  let c0_i32_9 : BitVec 32 := 0#32
  let c1_i32 : BitVec 32 := 1#32
  let arg16 : BitVec 32 := Scf.iv c0_i32_9 c1_i32 k0_t1
  let v3259 : Index := Scalar.indexCast arg16
  let c3 : Index := 3#32
  let c0_i32_644 : BitVec 32 := 0#32
  let v3129 : BitVec 32 := c0_i32_644
  let v3260 : Index := Scalar.indexCast v3129
  ![0, v3259.toNat, 3, 0]
def k0_mult5 (k0_t1 : Fin k0_t1_loop.trips) : BitVec 32 :=
  let c0_i32_9 : BitVec 32 := 0#32
  let c1_i32 : BitVec 32 := 1#32
  let arg16 : BitVec 32 := Scf.iv c0_i32_9 c1_i32 k0_t1
  let c4_i32_1304 : BitVec 32 := 4#32
  let v6227 : BitVec 32 := Scalar.muli arg16 c4_i32_1304
  let c2_i32_1305 : BitVec 32 := 2#32
  let v6228 : BitVec 32 := Scalar.addi v6227 c2_i32_1305
  let c128_i32_1306 : BitVec 32 := 128#32
  let v6229 : BitVec 32 := Scalar.muli v6228 c128_i32_1306
  v6229
def k0_mult6 : BitVec 32 :=
  let c0_i32_1307 : BitVec 32 := 0#32
  c0_i32_1307
def k0_off8 (k0_t1 : Fin k0_t1_loop.trips) : Fin 4 → Nat :=
  let c0_1339 : Index := 0#32
  let c0_i32_9 : BitVec 32 := 0#32
  let c1_i32 : BitVec 32 := 1#32
  let arg16 : BitVec 32 := Scf.iv c0_i32_9 c1_i32 k0_t1
  let v6355 : Index := Scalar.indexCast arg16
  let c4 : Index := 4#32
  let c0_i32_1307 : BitVec 32 := 0#32
  let v6231 : BitVec 32 := c0_i32_1307
  let v6356 : Index := Scalar.indexCast v6231
  ![0, v6355.toNat, 4, 0]
def k0_off9 (k0_t1 : Fin k0_t1_loop.trips) : Fin 4 → Nat :=
  let c0_1340 : Index := 0#32
  let c0_i32_9 : BitVec 32 := 0#32
  let c1_i32 : BitVec 32 := 1#32
  let arg16 : BitVec 32 := Scf.iv c0_i32_9 c1_i32 k0_t1
  let v6361 : Index := Scalar.indexCast arg16
  let c5 : Index := 5#32
  let c0_i32_1307 : BitVec 32 := 0#32
  let v6231 : BitVec 32 := c0_i32_1307
  let v6362 : Index := Scalar.indexCast v6231
  ![0, v6361.toNat, 5, 0]
def k0_mult7 (k0_t1 : Fin k0_t1_loop.trips) : BitVec 32 :=
  let c0_i32_9 : BitVec 32 := 0#32
  let c1_i32 : BitVec 32 := 1#32
  let arg16 : BitVec 32 := Scf.iv c0_i32_9 c1_i32 k0_t1
  let c4_i32_1967 : BitVec 32 := 4#32
  let v9329 : BitVec 32 := Scalar.muli arg16 c4_i32_1967
  let c3_i32_1968 : BitVec 32 := 3#32
  let v9330 : BitVec 32 := Scalar.addi v9329 c3_i32_1968
  let c128_i32_1969 : BitVec 32 := 128#32
  let v9331 : BitVec 32 := Scalar.muli v9330 c128_i32_1969
  v9331
def k0_mult8 : BitVec 32 :=
  let c0_i32_1970 : BitVec 32 := 0#32
  c0_i32_1970
def k0_off10 (k0_t1 : Fin k0_t1_loop.trips) : Fin 4 → Nat :=
  let c0_2002 : Index := 0#32
  let c0_i32_9 : BitVec 32 := 0#32
  let c1_i32 : BitVec 32 := 1#32
  let arg16 : BitVec 32 := Scf.iv c0_i32_9 c1_i32 k0_t1
  let v9457 : Index := Scalar.indexCast arg16
  let c6 : Index := 6#32
  let c0_i32_1970 : BitVec 32 := 0#32
  let v9333 : BitVec 32 := c0_i32_1970
  let v9458 : Index := Scalar.indexCast v9333
  ![0, v9457.toNat, 6, 0]
def k0_off11 (k0_t1 : Fin k0_t1_loop.trips) : Fin 4 → Nat :=
  let c0_2003 : Index := 0#32
  let c0_i32_9 : BitVec 32 := 0#32
  let c1_i32 : BitVec 32 := 1#32
  let arg16 : BitVec 32 := Scf.iv c0_i32_9 c1_i32 k0_t1
  let v9463 : Index := Scalar.indexCast arg16
  let c7 : Index := 7#32
  let c0_i32_1970 : BitVec 32 := 0#32
  let v9333 : BitVec 32 := c0_i32_1970
  let v9464 : Index := Scalar.indexCast v9333
  ![0, v9463.toNat, 7, 0]
@[reducible] def k0_t2_loop : Scf.Loop 32 :=
  let c0_i32_9 : BitVec 32 := 0#32
  let c4_i32 : BitVec 32 := 4#32
  let v22 : BitVec 32 := Scalar.addi c0_i32_9 c4_i32
  let c1_i32 : BitVec 32 := 1#32
  ⟨c0_i32_9, v22, c1_i32⟩
def k0_mult9 (k0_t2 : Fin k0_t2_loop.trips) : BitVec 32 :=
  let c0_i32_9 : BitVec 32 := 0#32
  let c1_i32 : BitVec 32 := 1#32
  let arg16 : BitVec 32 := Scf.iv c0_i32_9 c1_i32 k0_t2
  let c4_i32_11 : BitVec 32 := 4#32
  let v23 : BitVec 32 := Scalar.muli arg16 c4_i32_11
  let c0_i32_12 : BitVec 32 := 0#32
  let v24 : BitVec 32 := Scalar.addi v23 c0_i32_12
  let c128_i32_13 : BitVec 32 := 128#32
  let v25 : BitVec 32 := Scalar.muli v24 c128_i32_13
  v25
def k0_mult10 : BitVec 32 :=
  let c128_i32_14 : BitVec 32 := 128#32
  c128_i32_14
def k0_off12 (k0_t2 : Fin k0_t2_loop.trips) (c0_i32_12 : BitVec 32) : Fin 3 → Nat :=
  let c0 : Index := 0#32
  let c0_i32_9 : BitVec 32 := 0#32
  let c1_i32 : BitVec 32 := 1#32
  let arg16 : BitVec 32 := Scf.iv c0_i32_9 c1_i32 k0_t2
  let c4_i32_11 : BitVec 32 := 4#32
  let v23 : BitVec 32 := Scalar.muli arg16 c4_i32_11
  let v24 : BitVec 32 := Scalar.addi v23 c0_i32_12
  let c128_i32_13 : BitVec 32 := 128#32
  let v25 : BitVec 32 := Scalar.muli v24 c128_i32_13
  let v26 : BitVec 32 := v25
  let v36 : Index := Scalar.indexCast v26
  let c128_i32_14 : BitVec 32 := 128#32
  let v27 : BitVec 32 := c128_i32_14
  let v37 : Index := Scalar.indexCast v27
  ![0, v36.toNat, 128]
def k0_off13 (k0_t2 : Fin k0_t2_loop.trips) : Fin 4 → Nat :=
  let c0_43 : Index := 0#32
  let c0_i32_9 : BitVec 32 := 0#32
  let c1_i32 : BitVec 32 := 1#32
  let arg16 : BitVec 32 := Scf.iv c0_i32_9 c1_i32 k0_t2
  let v151 : Index := Scalar.indexCast arg16
  let c0_44 : Index := 0#32
  let c128_i32_14 : BitVec 32 := 128#32
  let v27 : BitVec 32 := c128_i32_14
  let v152 : Index := Scalar.indexCast v27
  ![0, v151.toNat, 0, 128]
def k0_off14 (k0_t2 : Fin k0_t2_loop.trips) : Fin 4 → Nat :=
  let c0_45 : Index := 0#32
  let c0_i32_9 : BitVec 32 := 0#32
  let c1_i32 : BitVec 32 := 1#32
  let arg16 : BitVec 32 := Scf.iv c0_i32_9 c1_i32 k0_t2
  let v157 : Index := Scalar.indexCast arg16
  let c1 : Index := 1#32
  let c128_i32_14 : BitVec 32 := 128#32
  let v27 : BitVec 32 := c128_i32_14
  let v158 : Index := Scalar.indexCast v27
  ![0, v157.toNat, 1, 128]
def k0_off15 (k0_t2 : Fin k0_t2_loop.trips) (c0_i32_12 : BitVec 32) : Fin 3 → Nat :=
  let c0_i32_9 : BitVec 32 := 0#32
  let c1_i32 : BitVec 32 := 1#32
  let arg16 : BitVec 32 := Scf.iv c0_i32_9 c1_i32 k0_t2
  let c4_i32_11 : BitVec 32 := 4#32
  let v23 : BitVec 32 := Scalar.muli arg16 c4_i32_11
  let v24 : BitVec 32 := Scalar.addi v23 c0_i32_12
  let v214 : Index := Scalar.indexCast v24
  let c0_60 : Index := 0#32
  let c0_61 : Index := 0#32
  ![v214.toNat, 0, 0]
def k0_mult11 (k0_t2 : Fin k0_t2_loop.trips) : BitVec 32 :=
  let c0_i32_9 : BitVec 32 := 0#32
  let c1_i32 : BitVec 32 := 1#32
  let arg16 : BitVec 32 := Scf.iv c0_i32_9 c1_i32 k0_t2
  let c4_i32_641 : BitVec 32 := 4#32
  let v3125 : BitVec 32 := Scalar.muli arg16 c4_i32_641
  let c1_i32_642 : BitVec 32 := 1#32
  let v3126 : BitVec 32 := Scalar.addi v3125 c1_i32_642
  let c128_i32_643 : BitVec 32 := 128#32
  let v3127 : BitVec 32 := Scalar.muli v3126 c128_i32_643
  v3127
def k0_mult12 : BitVec 32 :=
  let c128_i32_644 : BitVec 32 := 128#32
  c128_i32_644
def k0_off16 (k0_t2 : Fin k0_t2_loop.trips) : Fin 4 → Nat :=
  let c0_676 : Index := 0#32
  let c0_i32_9 : BitVec 32 := 0#32
  let c1_i32 : BitVec 32 := 1#32
  let arg16 : BitVec 32 := Scf.iv c0_i32_9 c1_i32 k0_t2
  let v3253 : Index := Scalar.indexCast arg16
  let c2 : Index := 2#32
  let c128_i32_644 : BitVec 32 := 128#32
  let v3129 : BitVec 32 := c128_i32_644
  let v3254 : Index := Scalar.indexCast v3129
  ![0, v3253.toNat, 2, 128]
def k0_off17 (k0_t2 : Fin k0_t2_loop.trips) : Fin 4 → Nat :=
  let c0_677 : Index := 0#32
  let c0_i32_9 : BitVec 32 := 0#32
  let c1_i32 : BitVec 32 := 1#32
  let arg16 : BitVec 32 := Scf.iv c0_i32_9 c1_i32 k0_t2
  let v3259 : Index := Scalar.indexCast arg16
  let c3 : Index := 3#32
  let c128_i32_644 : BitVec 32 := 128#32
  let v3129 : BitVec 32 := c128_i32_644
  let v3260 : Index := Scalar.indexCast v3129
  ![0, v3259.toNat, 3, 128]
def k0_mult13 (k0_t2 : Fin k0_t2_loop.trips) : BitVec 32 :=
  let c0_i32_9 : BitVec 32 := 0#32
  let c1_i32 : BitVec 32 := 1#32
  let arg16 : BitVec 32 := Scf.iv c0_i32_9 c1_i32 k0_t2
  let c4_i32_1304 : BitVec 32 := 4#32
  let v6227 : BitVec 32 := Scalar.muli arg16 c4_i32_1304
  let c2_i32_1305 : BitVec 32 := 2#32
  let v6228 : BitVec 32 := Scalar.addi v6227 c2_i32_1305
  let c128_i32_1306 : BitVec 32 := 128#32
  let v6229 : BitVec 32 := Scalar.muli v6228 c128_i32_1306
  v6229
def k0_mult14 : BitVec 32 :=
  let c128_i32_1307 : BitVec 32 := 128#32
  c128_i32_1307
def k0_off18 (k0_t2 : Fin k0_t2_loop.trips) : Fin 4 → Nat :=
  let c0_1339 : Index := 0#32
  let c0_i32_9 : BitVec 32 := 0#32
  let c1_i32 : BitVec 32 := 1#32
  let arg16 : BitVec 32 := Scf.iv c0_i32_9 c1_i32 k0_t2
  let v6355 : Index := Scalar.indexCast arg16
  let c4 : Index := 4#32
  let c128_i32_1307 : BitVec 32 := 128#32
  let v6231 : BitVec 32 := c128_i32_1307
  let v6356 : Index := Scalar.indexCast v6231
  ![0, v6355.toNat, 4, 128]
def k0_off19 (k0_t2 : Fin k0_t2_loop.trips) : Fin 4 → Nat :=
  let c0_1340 : Index := 0#32
  let c0_i32_9 : BitVec 32 := 0#32
  let c1_i32 : BitVec 32 := 1#32
  let arg16 : BitVec 32 := Scf.iv c0_i32_9 c1_i32 k0_t2
  let v6361 : Index := Scalar.indexCast arg16
  let c5 : Index := 5#32
  let c128_i32_1307 : BitVec 32 := 128#32
  let v6231 : BitVec 32 := c128_i32_1307
  let v6362 : Index := Scalar.indexCast v6231
  ![0, v6361.toNat, 5, 128]
def k0_mult15 (k0_t2 : Fin k0_t2_loop.trips) : BitVec 32 :=
  let c0_i32_9 : BitVec 32 := 0#32
  let c1_i32 : BitVec 32 := 1#32
  let arg16 : BitVec 32 := Scf.iv c0_i32_9 c1_i32 k0_t2
  let c4_i32_1967 : BitVec 32 := 4#32
  let v9329 : BitVec 32 := Scalar.muli arg16 c4_i32_1967
  let c3_i32_1968 : BitVec 32 := 3#32
  let v9330 : BitVec 32 := Scalar.addi v9329 c3_i32_1968
  let c128_i32_1969 : BitVec 32 := 128#32
  let v9331 : BitVec 32 := Scalar.muli v9330 c128_i32_1969
  v9331
def k0_mult16 : BitVec 32 :=
  let c128_i32_1970 : BitVec 32 := 128#32
  c128_i32_1970
def k0_off20 (k0_t2 : Fin k0_t2_loop.trips) : Fin 4 → Nat :=
  let c0_2002 : Index := 0#32
  let c0_i32_9 : BitVec 32 := 0#32
  let c1_i32 : BitVec 32 := 1#32
  let arg16 : BitVec 32 := Scf.iv c0_i32_9 c1_i32 k0_t2
  let v9457 : Index := Scalar.indexCast arg16
  let c6 : Index := 6#32
  let c128_i32_1970 : BitVec 32 := 128#32
  let v9333 : BitVec 32 := c128_i32_1970
  let v9458 : Index := Scalar.indexCast v9333
  ![0, v9457.toNat, 6, 128]
def k0_off21 (k0_t2 : Fin k0_t2_loop.trips) : Fin 4 → Nat :=
  let c0_2003 : Index := 0#32
  let c0_i32_9 : BitVec 32 := 0#32
  let c1_i32 : BitVec 32 := 1#32
  let arg16 : BitVec 32 := Scf.iv c0_i32_9 c1_i32 k0_t2
  let v9463 : Index := Scalar.indexCast arg16
  let c7 : Index := 7#32
  let c128_i32_1970 : BitVec 32 := 128#32
  let v9333 : BitVec 32 := c128_i32_1970
  let v9464 : Index := Scalar.indexCast v9333
  ![0, v9463.toNat, 7, 128]
def k0_cond2 (i : grid0.Coords) (v4 : BitVec 32) : BitVec 1 :=
  let arg1 : BitVec 32 := BitVec.ofNat 32 (i 1).val
  let c256_i32 : BitVec 32 := 256#32
  let v5 : BitVec 32 := Scalar.muli arg1 c256_i32
  let v6 : BitVec 32 := Scalar.subi v4 v5
  let c0_i32_1 : BitVec 32 := 0#32
  let v7 : BitVec 1 := Scalar.cmpi .sgt v6 c0_i32_1
  let v8 : BitVec 32 := Scalar.extui v7
  let c0_i32_2 : BitVec 32 := 0#32
  let v9 : BitVec 1 := Scalar.cmpi .ne v8 c0_i32_2
  v9

def k0_cond3 (i : grid0.Coords) (v4 : BitVec 32) : BitVec 1 :=
  let arg1 : BitVec 32 := BitVec.ofNat 32 (i 1).val
  let c256_i32 : BitVec 32 := 256#32
  let v5 : BitVec 32 := Scalar.muli arg1 c256_i32
  let v6 : BitVec 32 := Scalar.subi v4 v5
  let c0_i32_3 : BitVec 32 := 0#32
  let v10 : BitVec 1 := Scalar.cmpi .sle v6 c0_i32_3
  let v11 : BitVec 32 := Scalar.extui v10
  let c0_i32_4 : BitVec 32 := 0#32
  let v12 : BitVec 1 := Scalar.cmpi .ne v11 c0_i32_4
  v12

def k0_cond4 (i : grid0.Coords) (v4 : BitVec 32) : BitVec 1 :=
  let arg1 : BitVec 32 := BitVec.ofNat 32 (i 1).val
  let c256_i32 : BitVec 32 := 256#32
  let v5 : BitVec 32 := Scalar.muli arg1 c256_i32
  let v6 : BitVec 32 := Scalar.subi v4 v5
  let c128_i32 : BitVec 32 := 128#32
  let v13 : BitVec 1 := Scalar.cmpi .sgt v6 c128_i32
  let v14 : BitVec 32 := Scalar.extui v13
  let c0_i32_5 : BitVec 32 := 0#32
  let v15 : BitVec 1 := Scalar.cmpi .ne v14 c0_i32_5
  v15

def k0_cond5 (i : grid0.Coords) (v4 : BitVec 32) : BitVec 1 :=
  let arg1 : BitVec 32 := BitVec.ofNat 32 (i 1).val
  let c256_i32 : BitVec 32 := 256#32
  let v5 : BitVec 32 := Scalar.muli arg1 c256_i32
  let v6 : BitVec 32 := Scalar.subi v4 v5
  let c128_i32_6 : BitVec 32 := 128#32
  let v16 : BitVec 1 := Scalar.cmpi .sle v6 c128_i32_6
  let v17 : BitVec 32 := Scalar.extui v16
  let c0_i32_7 : BitVec 32 := 0#32
  let v18 : BitVec 1 := Scalar.cmpi .ne v17 c0_i32_7
  v18

def k0_cond6 (i : grid0.Coords) : BitVec 1 :=
  let arg1 : BitVec 32 := BitVec.ofNat 32 (i 1).val
  let c15_i32 : BitVec 32 := 15#32
  let v19 : BitVec 1 := Scalar.cmpi .eq arg1 c15_i32
  let v20 : BitVec 32 := Scalar.extui v19
  let c0_i32_8 : BitVec 32 := 0#32
  let v21 : BitVec 1 := Scalar.cmpi .ne v20 c0_i32_8
  v21

def cc0_transform_0 (k0_off1_inb : ∀ i : grid0.Coords, ∀ a, (k0_off1 i) a + S1.size a ≤ S6.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S6) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c256_i32 : BitVec 32 := 256#32
  let v4 : BitVec 32 := Scalar.divsi v3 c256_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c256_i32 c0_i32_2
  let v11 : BitVec 32 := Scalar.extui v10
  let c0_i32_3 : BitVec 32 := 0#32
  let v12 : BitVec 1 := Scalar.cmpi .slt c256_i32 c0_i32_3
  let v13 : BitVec 32 := Scalar.extui v12
  let v14 : BitVec 32 := Scalar.subi v11 v13
  let v15 : BitVec 1 := Scalar.cmpi .ne v9 v14
  let v16 : BitVec 32 := Scalar.remsi v3 c256_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  ![arg0.toNat, c0_i32_6.toNat, v21.toNat]

def cc0_transform_1 (k0_off1_inb : ∀ i : grid0.Coords, ∀ a, (k0_off1 i) a + S1.size a ≤ S6.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S6) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c256_i32 : BitVec 32 := 256#32
  let v4 : BitVec 32 := Scalar.divsi v3 c256_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c256_i32 c0_i32_2
  let v11 : BitVec 32 := Scalar.extui v10
  let c0_i32_3 : BitVec 32 := 0#32
  let v12 : BitVec 1 := Scalar.cmpi .slt c256_i32 c0_i32_3
  let v13 : BitVec 32 := Scalar.extui v12
  let v14 : BitVec 32 := Scalar.subi v11 v13
  let v15 : BitVec 1 := Scalar.cmpi .ne v9 v14
  let v16 : BitVec 32 := Scalar.remsi v3 c256_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  ![arg0.toNat, c0_i32_6.toNat, v21.toNat]

def cc0_transform_2 (k0_off1_inb : ∀ i : grid0.Coords, ∀ a, (k0_off1 i) a + S1.size a ≤ S6.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S6) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c256_i32 : BitVec 32 := 256#32
  let v4 : BitVec 32 := Scalar.divsi v3 c256_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c256_i32 c0_i32_2
  let v11 : BitVec 32 := Scalar.extui v10
  let c0_i32_3 : BitVec 32 := 0#32
  let v12 : BitVec 1 := Scalar.cmpi .slt c256_i32 c0_i32_3
  let v13 : BitVec 32 := Scalar.extui v12
  let v14 : BitVec 32 := Scalar.subi v11 v13
  let v15 : BitVec 1 := Scalar.cmpi .ne v9 v14
  let v16 : BitVec 32 := Scalar.remsi v3 c256_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  ![arg0.toNat, c0_i32_6.toNat, v21.toNat]

def cc0_transform_3 (k0_off1_inb : ∀ i : grid0.Coords, ∀ a, (k0_off1 i) a + S1.size a ≤ S6.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S6) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c256_i32 : BitVec 32 := 256#32
  let v4 : BitVec 32 := Scalar.divsi v3 c256_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c256_i32 c0_i32_2
  let v11 : BitVec 32 := Scalar.extui v10
  let c0_i32_3 : BitVec 32 := 0#32
  let v12 : BitVec 1 := Scalar.cmpi .slt c256_i32 c0_i32_3
  let v13 : BitVec 32 := Scalar.extui v12
  let v14 : BitVec 32 := Scalar.subi v11 v13
  let v15 : BitVec 1 := Scalar.cmpi .ne v9 v14
  let v16 : BitVec 32 := Scalar.remsi v3 c256_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  let c0_i32_8 : BitVec 32 := 0#32
  ![arg0.toNat, c0_i32_6.toNat, c0_i32_7.toNat, v21.toNat]

def cc0_transform_4 (k0_off1_inb : ∀ i : grid0.Coords, ∀ a, (k0_off1 i) a + S1.size a ≤ S6.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S6) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c256_i32 : BitVec 32 := 256#32
  let v4 : BitVec 32 := Scalar.divsi v3 c256_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c256_i32 c0_i32_2
  let v11 : BitVec 32 := Scalar.extui v10
  let c0_i32_3 : BitVec 32 := 0#32
  let v12 : BitVec 1 := Scalar.cmpi .slt c256_i32 c0_i32_3
  let v13 : BitVec 32 := Scalar.extui v12
  let v14 : BitVec 32 := Scalar.subi v11 v13
  let v15 : BitVec 1 := Scalar.cmpi .ne v9 v14
  let v16 : BitVec 32 := Scalar.remsi v3 c256_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  let c0_i32_8 : BitVec 32 := 0#32
  ![arg0.toNat, c0_i32_6.toNat, c0_i32_7.toNat, v21.toNat]

def cc0_transform_5 (k0_off1_inb : ∀ i : grid0.Coords, ∀ a, (k0_off1 i) a + S1.size a ≤ S6.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S6) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c256_i32 : BitVec 32 := 256#32
  let v4 : BitVec 32 := Scalar.divsi v3 c256_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c256_i32 c0_i32_2
  let v11 : BitVec 32 := Scalar.extui v10
  let c0_i32_3 : BitVec 32 := 0#32
  let v12 : BitVec 1 := Scalar.cmpi .slt c256_i32 c0_i32_3
  let v13 : BitVec 32 := Scalar.extui v12
  let v14 : BitVec 32 := Scalar.subi v11 v13
  let v15 : BitVec 1 := Scalar.cmpi .ne v9 v14
  let v16 : BitVec 32 := Scalar.remsi v3 c256_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  let c0_i32_8 : BitVec 32 := 0#32
  ![arg0.toNat, c0_i32_6.toNat, c0_i32_7.toNat, v21.toNat]

def cc0_transform_6 (k0_off1_inb : ∀ i : grid0.Coords, ∀ a, (k0_off1 i) a + S1.size a ≤ S6.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S6) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c256_i32 : BitVec 32 := 256#32
  let v4 : BitVec 32 := Scalar.divsi v3 c256_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c256_i32 c0_i32_2
  let v11 : BitVec 32 := Scalar.extui v10
  let c0_i32_3 : BitVec 32 := 0#32
  let v12 : BitVec 1 := Scalar.cmpi .slt c256_i32 c0_i32_3
  let v13 : BitVec 32 := Scalar.extui v12
  let v14 : BitVec 32 := Scalar.subi v11 v13
  let v15 : BitVec 1 := Scalar.cmpi .ne v9 v14
  let v16 : BitVec 32 := Scalar.remsi v3 c256_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  ![arg0.toNat, c0_i32_6.toNat, v21.toNat]

def cc0_transform_7 (k0_off1_inb : ∀ i : grid0.Coords, ∀ a, (k0_off1 i) a + S1.size a ≤ S6.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S6) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c256_i32 : BitVec 32 := 256#32
  let v4 : BitVec 32 := Scalar.divsi v3 c256_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c256_i32 c0_i32_2
  let v11 : BitVec 32 := Scalar.extui v10
  let c0_i32_3 : BitVec 32 := 0#32
  let v12 : BitVec 1 := Scalar.cmpi .slt c256_i32 c0_i32_3
  let v13 : BitVec 32 := Scalar.extui v12
  let v14 : BitVec 32 := Scalar.subi v11 v13
  let v15 : BitVec 1 := Scalar.cmpi .ne v9 v14
  let v16 : BitVec 32 := Scalar.remsi v3 c256_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  ![arg0.toNat, c0_i32_6.toNat, v21.toNat]

def cc0_transform_8 (k0_off1_inb : ∀ i : grid0.Coords, ∀ a, (k0_off1 i) a + S1.size a ≤ S6.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S6) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c256_i32 : BitVec 32 := 256#32
  let v4 : BitVec 32 := Scalar.divsi v3 c256_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c256_i32 c0_i32_2
  let v11 : BitVec 32 := Scalar.extui v10
  let c0_i32_3 : BitVec 32 := 0#32
  let v12 : BitVec 1 := Scalar.cmpi .slt c256_i32 c0_i32_3
  let v13 : BitVec 32 := Scalar.extui v12
  let v14 : BitVec 32 := Scalar.subi v11 v13
  let v15 : BitVec 1 := Scalar.cmpi .ne v9 v14
  let v16 : BitVec 32 := Scalar.remsi v3 c256_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  ![arg0.toNat, c0_i32_6.toNat, v21.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2048x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x32x64x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x32x64x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "neg_log2e" => some ((-((Real.log 2)⁻¹) : ℝ) : EReal)
  | _ => none
-- ==== ReferenceIdeal.lean ====
abbrev S6x4096x32x64 : Shape := ⟨4, ![6, 4096, 32, 64]⟩
abbrev S6x4096x32 : Shape := ⟨3, ![6, 4096, 32]⟩
abbrev S6x32x64x64 : Shape := ⟨4, ![6, 32, 64, 64]⟩
abbrev S6 : Shape := ⟨1, ![6]⟩
abbrev S6x1x32x64 : Shape := ⟨4, ![6, 1, 32, 64]⟩
abbrev S6x32x64 : Shape := ⟨3, ![6, 32, 64]⟩
abbrev S6x1x32 : Shape := ⟨3, ![6, 1, 32]⟩
abbrev S6x32 : Shape := ⟨2, ![6, 32]⟩
abbrev S6x32x1 : Shape := ⟨3, ![6, 32, 1]⟩
abbrev S6x32x1x64 : Shape := ⟨4, ![6, 32, 1, 64]⟩
abbrev S6x32x64x1 : Shape := ⟨4, ![6, 32, 64, 1]⟩
abbrev S6x1x1 : Shape := ⟨3, ![6, 1, 1]⟩
abbrev S6x1x1x1 : Shape := ⟨4, ![6, 1, 1, 1]⟩
abbrev S6x32x64x4096 : Shape := ⟨4, ![6, 32, 64, 4096]⟩
abbrev S6x2048x4096 : Shape := ⟨3, ![6, 2048, 4096]⟩

abbrev nBuf : Space → Nat
  | .hbm => 18
  | .vmem => 13
  | .smem => 0
  | _ => 0

abbrev bufTy : (tb : Table) → Fin (tcTables nBuf tb) → BufTy
  | .hbm, ⟨0, _⟩ => ⟨S6x4096x32x64, .f32⟩
  | .hbm, ⟨1, _⟩ => ⟨S6x4096x32x64, .f32⟩
  | .hbm, ⟨2, _⟩ => ⟨S6x4096x32x64, .f32⟩
  | .hbm, ⟨3, _⟩ => ⟨S6x4096x32, .f32⟩
  | .hbm, ⟨4, _⟩ => ⟨S6x4096x32, .f32⟩
  | .hbm, ⟨5, _⟩ => ⟨S6x4096x32, .f32⟩
  | .hbm, ⟨6, _⟩ => ⟨S6x4096x32x64, .bf16⟩
  | .hbm, ⟨7, _⟩ => ⟨S6x4096x32x64, .bf16⟩
  | .hbm, ⟨8, _⟩ => ⟨S6x4096x32x64, .bf16⟩
  | .hbm, ⟨9, _⟩ => ⟨S6x32x64x64, .f32⟩
  | .hbm, ⟨10, _⟩ => ⟨S6, .i32⟩
  | .hbm, ⟨11, _⟩ => ⟨S6x4096x32x64, .fp8e4m3⟩
  | .hbm, ⟨12, _⟩ => ⟨S6x4096x32x64, .fp8e4m3⟩
  | .hbm, ⟨13, _⟩ => ⟨S6x4096x32x64, .fp8e4m3⟩
  | .hbm, ⟨14, _⟩ => ⟨S6x4096x32x64, .bf16⟩
  | .hbm, ⟨15, _⟩ => ⟨S6x32x64x64, .f32⟩
  | .hbm, ⟨16, _⟩ => ⟨S6x32x64x4096, .bf16⟩
  | .hbm, ⟨17, _⟩ => ⟨S6x2048x4096, .bf16⟩
  | .local _ .vmem, ⟨0, _⟩ => ⟨S6x4096x32x64, .fp8e4m3⟩
  | .local _ .vmem, ⟨1, _⟩ => ⟨S6x4096x32x64, .fp8e4m3⟩
  | .local _ .vmem, ⟨2, _⟩ => ⟨S6x4096x32x64, .fp8e4m3⟩
  | .local _ .vmem, ⟨3, _⟩ => ⟨S6x4096x32, .f32⟩
  | .local _ .vmem, ⟨4, _⟩ => ⟨S6x4096x32, .f32⟩
  | .local _ .vmem, ⟨5, _⟩ => ⟨S6x4096x32, .f32⟩
  | .local _ .vmem, ⟨6, _⟩ => ⟨S6x4096x32x64, .bf16⟩
  | .local _ .vmem, ⟨7, _⟩ => ⟨S6x4096x32x64, .bf16⟩
  | .local _ .vmem, ⟨8, _⟩ => ⟨S6x4096x32x64, .bf16⟩
  | .local _ .vmem, ⟨9, _⟩ => ⟨S6x32x64x64, .f32⟩
  | .local _ .vmem, ⟨10, _⟩ => ⟨S6, .i32⟩
  | .local _ .vmem, ⟨11, _⟩ => ⟨S6x4096x32x64, .bf16⟩
  | .local _ .vmem, ⟨12, _⟩ => ⟨S6x32x64x64, .f32⟩
  | _, _ => ⟨S6x4096x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c4096_i32 : BitVec 32 := 4096#32
  let v2 : BitVec 32 := Scalar.addi c0_i32 c4096_i32
  let c1_i32 : BitVec 32 := 1#32
  ⟨c0_i32, v2, c1_i32⟩
def k0_off1 (k0_t1 : Fin k0_t1_loop.trips) : Fin 4 → Nat :=
  let c0_9 : Index := 0#32
  let c0_i32 : BitVec 32 := 0#32
  let c1_i32 : BitVec 32 := 1#32
  let arg13 : BitVec 32 := Scf.iv c0_i32 c1_i32 k0_t1
  let v5 : Index := Scalar.indexCast arg13
  let c0_10 : Index := 0#32
  let c0_11 : Index := 0#32
  ![0, v5.toNat, 0, 0]
def k0_off2 (k0_t1 : Fin k0_t1_loop.trips) : Fin 3 → Nat :=
  let c0_12 : Index := 0#32
  let c0_i32 : BitVec 32 := 0#32
  let c1_i32 : BitVec 32 := 1#32
  let arg13 : BitVec 32 := Scf.iv c0_i32 c1_i32 k0_t1
  let v9 : Index := Scalar.indexCast arg13
  let c0_13 : Index := 0#32
  ![0, v9.toNat, 0]
abbrev stage0_0 : Fin 1 → Memref sig .tc .vmem S6x4096x32x64 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x4096x32x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x4096x32x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x4096x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x4096x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x4096x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x4096x32x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x4096x32x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x4096x32x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x32x64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x4096x32x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S6x32x64x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Adm.lean ====
/- The block indices of the staged inputs stay inside the arrays, whatever the table of lengths holds: the last
   coordinate is the smaller of the grid's second coordinate and a quotient that is never negative. -/
module

public import proofs.«01_k».proof.Proof.Gen.KernelIdeal
public import Idealize.ShloMosaic.Lib.WordArith
public import Idealize.ShloMosaic.Lib.Tactic

@[expose] public section

noncomputable section

namespace Cert.KernelIdeal.Pair

open Idealize.ShloMosaic
open Cert.KernelIdeal.Gen

variable {F : FTy → Type} [FloatOps F] [Named F]

/-- The last block of a sequence of length `w`, as the index maps compute it. -/
def lastBlock (w : BitVec 32) : BitVec 32 :=
  let v3 : BitVec 32 := Scalar.maxsi (Scalar.subi w 1#32) 0#32
  let v4 : BitVec 32 := Scalar.divsi v3 256#32
  let v9 : BitVec 32 := Scalar.subi (Scalar.extui (Scalar.cmpi .sgt v3 0#32)) (Scalar.extui (Scalar.cmpi .slt v3 0#32))
  let v14 : BitVec 32 := Scalar.subi (Scalar.extui (Scalar.cmpi .sgt 256#32 0#32)) (Scalar.extui (Scalar.cmpi .slt 256#32 0#32))
  let v18 : BitVec 1 := Scalar.andi (Scalar.cmpi .ne v9 v14) (Scalar.cmpi .ne (Scalar.remsi v3 256#32) 0#32)
  Scalar.select v18 (Scalar.subi v4 1#32) v4

/-- A word that is a natural number's stays one under the quotient by 256. -/
theorem lastBlock_eq (w : BitVec 32) : ∃ n : ℕ, n < 2 ^ 31 ∧ (lastBlock w).toNat = n / 256 ∧ (lastBlock w).toNat < 2 ^ 31 := by
  have h3 : (Scalar.maxsi (Scalar.subi w 1#32) 0#32).toNat < 2 ^ 31 := by
    show (if (0#32).slt (w - 1#32) then w - 1#32 else 0#32).toNat < 2 ^ 31
    split
    · next h =>
      simp only [BitVec.slt_eq_decide, decide_eq_true_eq] at h
      have := BitVec.toInt_eq_toNat_cond (w - 1#32)
      have h0 : (0#32).toInt = 0 := rfl
      have := (w - 1#32).isLt
      split at * <;> omega
    · decide
  unfold lastBlock
  dsimp only
  generalize Scalar.maxsi (Scalar.subi w 1#32) 0#32 = v at h3
  refine ⟨v.toNat, h3, ?_⟩
  by_cases hv : v = 0#32
  · subst hv; decide
  have hpos : (0#32).slt v = true := by
    have hne : v.toNat ≠ 0 := fun h => hv (BitVec.eq_of_toNat_eq h)
    simp only [BitVec.slt_eq_decide, decide_eq_true_eq]
    rw [BitVec.toInt_eq_toNat_cond v]
    have h0 : (0#32).toInt = 0 := rfl
    split <;> omega
  have hneg : v.slt (0#32) = false := by
    simp only [BitVec.slt_eq_decide, decide_eq_false_iff_not, not_lt] at hpos ⊢
    simp only [decide_eq_true_eq] at hpos
    omega
  have e5 : Scalar.cmpi .sgt v 0#32 = 1#1 := by show BitVec.ofBool ((0#32).slt v) = 1#1; rw [hpos]; rfl
  have e7 : Scalar.cmpi .slt v 0#32 = 0#1 := by show BitVec.ofBool (v.slt 0#32) = 0#1; rw [hneg]; rfl
  have ez : Scalar.andi (Scalar.cmpi .ne (Scalar.subi (Scalar.extui (Scalar.cmpi .sgt v 0#32)) (Scalar.extui (Scalar.cmpi .slt v 0#32)) : BitVec 32)
      (Scalar.subi (Scalar.extui (Scalar.cmpi .sgt 256#32 0#32)) (Scalar.extui (Scalar.cmpi .slt 256#32 0#32))))
      (Scalar.cmpi .ne (Scalar.remsi v 256#32) 0#32) = 0#1 := by
    rw [e5, e7]
    generalize Scalar.cmpi .ne (Scalar.remsi v 256#32) 0#32 = b
    revert b; decide
  rw [ez]
  have hd : (Scalar.divsi v 256#32).toNat = v.toNat / 256 := by
    show (IntOp.divsi .scalar v 256#32).toNat = _
    have hc : ¬ IntOp.SDivCorner v 256#32 := by
      rintro (h | ⟨-, h⟩) <;> revert h <;> decide
    unfold IntOp.divsi
    rw [if_neg hc, BitVec.sdiv_eq]
    have hm : v.msb = false := by rw [BitVec.msb_eq_decide]; simp only [decide_eq_false_iff_not, not_le]; omega
    rw [hm, show (256#32).msb = false from rfl]
    show (v / 256#32).toNat = _
    rw [BitVec.toNat_udiv]; rfl
  show (Scalar.divsi v 256#32).toNat = _ ∧ (Scalar.divsi v 256#32).toNat < _
  rw [hd]
  exact ⟨rfl, lt_of_le_of_lt (Nat.div_le_self _ _) h3⟩

theorem minsi_lt (a b : BitVec 32) (ha : a.toNat < 16) (hb : b.toNat < 2 ^ 31) : (Scalar.minsi a b).toNat < 16 := by
  show (if a.slt b then a else b).toNat < 16
  split
  · exact ha
  · next h =>
    simp only [BitVec.slt_eq_decide, decide_eq_true_eq, not_lt] at h
    rw [BitVec.toInt_eq_toNat_cond a, BitVec.toInt_eq_toNat_cond b] at h
    split at h <;> split at h <;> omega

/-- The third coordinate of the block index of a staged input. -/
theorem third_lt (i : grid0.Coords) (w : BitVec 32) : (Scalar.minsi (BitVec.ofNat 32 (i 1).val) (lastBlock w)).toNat < 16 := by
  have hi : (i 1).val < 16 := (i 1).isLt
  obtain ⟨n, -, -, hl⟩ := lastBlock_eq w
  refine minsi_lt _ _ ?_ hl
  rw [BitVec.toNat_ofNat]
  exact lt_of_le_of_lt (Nat.mod_le _ _) hi

end Cert.KernelIdeal.Pair

end
-- ==== Proof.Pair.lean ====
/- The work of one pair of heads in one tile of 128 time steps: the values as plain functions of what
   is loaded, in the order the kernel computes them, and the part of the program that loads, computes
   and stores. Every definition names one step of the algorithm. -/
module

public import proofs.«01_k».proof.Proof.Gen.KernelIdeal

@[expose] public section

noncomputable section

namespace Cert.KernelIdeal.Pair

open Idealize.ShloMosaic Idealize.SL.Sem Cert.KernelIdeal.Gen

variable {F : FTy → Type} [FloatOps F] [Named F]

/-- A whole-number array divided by `c`, rounded down. -/
def floorDiv {S : Shape} (x : IVec S 32) (c : BitVec 32) : IVec S 32 :=
  select
    (andi
      (cmpi .ne
        (subi (extui 32 (cmpi .sgt x (broadcast S 0#32)) natLt_1_32)
          (extui 32 (cmpi .slt x (broadcast S 0#32)) natLt_1_32))
        (broadcast S (Scalar.subi (Scalar.extui (Scalar.cmpi .sgt c 0#32))
          (Scalar.extui (Scalar.cmpi .slt c 0#32)))))
      (cmpi .ne (remsi x (broadcast S c)) (broadcast S 0#32)))
    (subi (divsi x (broadcast S c)) (broadcast S 1#32))
    (divsi x (broadcast S c))

/-- The remainder of a 128×128 whole-number array by 2, of the divisor's sign. -/
def mod2 (x : IVec S128x128 32) : IVec S128x128 32 :=
  select
    (andi
      (xori (cmpi .slt (remsi x (broadcast S128x128 (Scalar.select (Scalar.cmpi .eq 2#32 0#32) 1#32 2#32)))
          (broadcast S128x128 0#32))
        (broadcastTo S128x128
          (broadcast S128x128 (Scalar.cmpi .slt (Scalar.select (Scalar.cmpi .eq 2#32 0#32) 1#32 2#32) 0#32))
          broadcasts_S128x128_S128x128))
      (cmpi .ne (remsi x (broadcast S128x128 (Scalar.select (Scalar.cmpi .eq 2#32 0#32) 1#32 2#32)))
        (broadcast S128x128 0#32)))
    (addi (remsi x (broadcast S128x128 (Scalar.select (Scalar.cmpi .eq 2#32 0#32) 1#32 2#32)))
      (broadcast S128x128 (Scalar.select (Scalar.cmpi .eq 2#32 0#32) 1#32 2#32)))
    (remsi x (broadcast S128x128 (Scalar.select (Scalar.cmpi .eq 2#32 0#32) 1#32 2#32)))

/-- The constant one and the constant zero, in every place. -/
def ones (S : Shape) : FVec F S .f32 := broadcast S (Scalar.ofBits .f32 0x3F800000#32)
def zeros (S : Shape) : FVec F S .f32 := broadcast S (Scalar.ofBits .f32 0x00000000#32)

/-- Which of the tile's time steps are before the sequence's end, as 1 and 0. -/
def mask (t0 n : BitVec 32) : FVec F S1x128 .f32 :=
  select (cmpi .slt (addi (broadcast S1x128 t0) (iota .tc S1x128 32 [1] iota_S1x128_d1_w32)) (broadcast S1x128 n))
    (ones S1x128) (zeros S1x128)

def row : IVec S128x128 32 := iota .tc S128x128 32 [0] iota_S128x128_d0_w32
def col : IVec S128x128 32 := iota .tc S128x128 32 [1] iota_S128x128_d1_w32

/-- Ones where both time steps lie in one chunk of 64. -/
def same : IVec S128x128 1 := cmpi .eq (floorDiv row 64#32) (floorDiv col 64#32)
def triIncl : FVec F S128x128 .f32 :=
  select (andi same (cmpi .sle row col)) (ones S128x128) (zeros S128x128)
def triExcl : FVec F S128x128 .f32 :=
  select (andi same (cmpi .slt row col)) (ones S128x128) (zeros S128x128)

/-- The logarithms (base 2) of the decays, summed over the chunk: up to and with, and up to but without. -/
def cumLog (w : FVec F S1x128x128 .bf16) (m : FVec F S1x128 .f32) : FVec F S128x256 .f32 :=
  matmul dot_S128x128_S128x256_S128x256_1_0_0_1_n_n (some .fp32)
    (mulf (exp (extf .f32 (shapeCast S128x128 w shapeCasts_S1x128x128_S128x128) bitsLt_bf16_f32))
      (broadcastTo S128x128 (mulf (broadcast S1x128 (Named.named Cert.KernelIdeal.κ "neg_log2e" (φ := .f32) 0xBFB8AA3B#32)) m)
        broadcasts_S1x128_S128x128))
    (concatenate S128x256 1 [⟨S128x128, triIncl⟩, ⟨S128x128, triExcl⟩] concatenates_S128x128_S128x128_S128x256_d1)
    (constant S128x256 .f32 0x00000000#32)

def wIn (c : FVec F S128x256 .f32) : FVec F S128x128 .f32 :=
  exp2 (extractStridedSlice S128x128 ![0, 0] c slices_S128x256_o0_0_S128x128)
def wEx (c : FVec F S128x256 .f32) : FVec F S128x128 .f32 :=
  exp2 (extractStridedSlice S128x128 ![0, 128] c slices_S128x256_o0_128_S128x128)
def wInv (c : FVec F S128x256 .f32) (m : FVec F S1x128 .f32) : FVec F S128x128 .f32 :=
  mulf (exp2 (subf (zeros S128x128) (extractStridedSlice S128x128 ![0, 0] c slices_S128x256_o0_0_S128x128)))
    (broadcastTo S128x128 (subf (zeros S1x128) m) broadcasts_S1x128_S128x128)

def ofBf16 (x : FVec F S1x128x128 .bf16) : FVec F S128x128 .f32 :=
  extf .f32 (shapeCast S128x128 x shapeCasts_S1x128x128_S128x128) bitsLt_bf16_f32
def ofF8 (x : FVec F S1x128x128 .fp8e4m3) : FVec F S128x128 .f32 :=
  extf .f32 (shapeCast S128x128 x shapeCasts_S1x128x128_S128x128) bitsLt_fp8e4m3_f32

/-- One scale per head and time step, over the 64 rows of its head. -/
def halfRow (x : FVec F S1x1x1x128 .f32) : FVec F S64x128 .f32 :=
  broadcastTo S64x128 (shapeCast S1x128 (shapeCast S1x128 x shapeCasts_S1x1x1x128_S1x128) shapeCasts_S1x128_S1x128)
    broadcasts_S1x128_S64x128
def cat2 (x y : FVec F S64x128 .f32) : FVec F S128x128 .f32 :=
  concatenate S128x128 0 [⟨S64x128, x⟩, ⟨S64x128, y⟩] concatenates_S64x128_S64x128_S128x128_d0
def halfRows (x y : FVec F S1x1x1x128 .f32) : FVec F S128x128 .f32 := cat2 (halfRow x) (halfRow y)

def tr (x : FVec F S128x128 .f32) : FVec F S128x128 .f32 :=
  transpose S128x128 [1, 0] x transposes_S128x128_p1_0_S128x128
def roll (x : FVec F S128x128 .f32) : FVec F S128x128 .f32 := dynamicRotate 1 64#32 none x rotates_S128x128_d1
def roll64 (x : FVec F S64x128 .f32) : FVec F S64x128 .f32 := dynamicRotate 1 64#32 none x rotates_S64x128_d1
def top (x : FVec F S128x128 .f32) : FVec F S64x128 .f32 :=
  extractStridedSlice S64x128 ![0, 0] x slices_S128x128_o0_0_S64x128
def bot (x : FVec F S128x128 .f32) : FVec F S64x128 .f32 :=
  extractStridedSlice S64x128 ![64, 0] x slices_S128x128_o64_0_S64x128

def lo : IVec S64x128 1 :=
  cmpi .slt (iota .tc S64x128 32 [1] iota_S64x128_d1_w32) (broadcast S64x128 64#32)
def srow : IVec S64x128 32 := iota .tc S64x128 32 [0] iota_S64x128_d0_w32
def tcol : IVec S64x128 32 :=
  andi (iota .tc S64x128 32 [1] iota_S64x128_d1_w32) (broadcast S64x128 63#32)
def strict : IVec S64x128 1 := cmpi .slt srow tcol
def incl : IVec S64x128 1 := cmpi .sle srow tcol

/-! ### The inverse of the unit triangular matrices -/

def blk0 : IVec S32x128 1 :=
  cmpi .eq (andi (floorDiv (iota .tc S32x128 32 [1] iota_S32x128_d1_w32) 32#32) (broadcast S32x128 1#32))
    (broadcast S32x128 0#32)
def eye4 : FVec F S32x128 .f32 :=
  select (cmpi .eq (andi (iota .tc S32x128 32 [1] iota_S32x128_d1_w32) (broadcast S32x128 31#32))
    (iota .tc S32x128 32 [0] iota_S32x128_d0_w32)) (ones S32x128) (zeros S32x128)
def group : IVec S32x128 32 :=
  andi (iota .tc S32x128 32 [1] iota_S32x128_d1_w32) (broadcast S32x128 4294967264#32)

theorem sliceRows : ∀ i : Fin 4, S32x128.Slices ![8 * (i : ℕ), 0] S8x128 := by decide
theorem sliceRow : ∀ l : Fin 8, S8x128.Slices ![(l : ℕ), 0] S1x128 := by decide

def rows8 {α : EltTy} (x : Vec F S32x128 α) (i : Fin 4) : Vec F S8x128 α :=
  extractStridedSlice S8x128 ![8 * (i : ℕ), 0] x (sliceRows i)

/-- The places of column `k` of each of the four 32-column groups, for rows `8 i …`. -/
def colIdx (k : BitVec 32) (i : Fin 4) : IVec S8x128 32 :=
  (fun (x : IVec S8x128 32) =>
    shapeCast S8x128 (shapeCast S8x128x1
      (select (cmpi .slt x (broadcast S8x128 0#32)) (addi x (broadcast S8x128 128#32)) x)
      shapeCasts_S8x128_S8x128x1) shapeCasts_S8x128x1_S8x128)
    (extractStridedSlice S8x128 ![8 * (i : ℕ), 0] (addi group (broadcast S32x128 k)) (sliceRows i))

/-- Rows `8 i …` after row `qk` has been added, each times its entry in column `k`. -/
def upd (g : FVec F S32x128 .f32) (k : BitVec 32) (i : Fin 4) (qk : FVec F S1x128 .f32) (x : FVec F S8x128 .f32) :
    FVec F S8x128 .f32 :=
  addf x (mulf (dynamicGather 1 (extractStridedSlice S8x128 ![8 * (i : ℕ), 0] g (sliceRows i)) (colIdx k i))
    (broadcastTo S8x128 qk broadcasts_S1x128_S8x128))

/-- The step for row `8 j + l`: it is added into the rows above. -/
def invStep (g : FVec F S32x128 .f32) (j : Fin 4) (l : Fin 8) (rs : Fin 4 → FVec F S8x128 .f32) :
    Fin 4 → FVec F S8x128 .f32 := fun i =>
  if 8 * (i : ℕ) < 8 * (j : ℕ) + (l : ℕ) then
    upd g (BitVec.ofNat 32 (8 * (j : ℕ) + (l : ℕ))) i
      (extractStridedSlice S1x128 ![(l : ℕ), 0] (rs j) (sliceRow l)) (rs i)
  else rs i

/-- The rows after the steps 31, 30, …, 31 − n + 1. -/
def invRows (g : FVec F S32x128 .f32) : ℕ → Fin 4 → FVec F S8x128 .f32
  | 0 => fun i => extractStridedSlice S8x128 ![8 * (i : ℕ), 0] eye4 (sliceRows i)
  | n + 1 => invStep g (Fin.ofNat 4 ((31 - n) / 8)) (Fin.ofNat 8 ((31 - n) % 8)) (invRows g n)

def unitInv (g : FVec F S32x128 .f32) : FVec F S32x128 .f32 :=
  concatenate S32x128 0 [⟨S8x128, invRows g 31 0⟩, ⟨S8x128, invRows g 31 1⟩, ⟨S8x128, invRows g 31 2⟩,
    ⟨S8x128, invRows g 31 3⟩] concatenates_S8x128_S8x128_S8x128_S8x128_S32x128_d0

def up32 (g : FVec F S64x128 .f32) : FVec F S32x128 .f32 :=
  extractStridedSlice S32x128 ![0, 0] g slices_S64x128_o0_0_S32x128
def dn32 (g : FVec F S64x128 .f32) : FVec F S32x128 .f32 :=
  extractStridedSlice S32x128 ![32, 0] g slices_S64x128_o32_0_S32x128
def rep4 (x : FVec F S32x128 .f32) : FVec F S128x128 .f32 :=
  concatenate S128x128 0 [⟨S32x128, x⟩, ⟨S32x128, x⟩, ⟨S32x128, x⟩, ⟨S32x128, x⟩]
    concatenates_S32x128_S32x128_S32x128_S32x128_S128x128_d0
def grow : IVec S128x128 32 := floorDiv row 32#32
def gcol : IVec S128x128 32 := floorDiv col 32#32
def mm32 (x : FVec F S32x128 .f32) (y : FVec F S128x128 .f32) : FVec F S32x128 .f32 :=
  matmul dot_S32x128_S128x128_S32x128_1_0_0_1_n_n (some .fp32) x y (constant S32x128 .f32 0x00000000#32)

/-- The inverse of the unit triangular matrix that `g` is strictly above the diagonal, per head: from the
    inverses of its two 32×32 blocks on the diagonal. -/
def invOf (g : FVec F S64x128 .f32) (qd : FVec F S32x128 .f32) : FVec F S64x128 .f32 :=
  concatenate S64x128 0
    [⟨S32x128, select blk0 qd
      (mm32 qd (select (andi (cmpi .eq (floorDiv grow 2#32) (floorDiv gcol 2#32))
          (cmpi .eq (mod2 grow) (broadcast S128x128 0#32)))
        (rep4 (mm32 (select blk0 (zeros S32x128) (up32 g))
          (select (cmpi .eq grow gcol) (rep4 qd) (zeros S128x128)))) (zeros S128x128)))⟩,
     ⟨S32x128, select blk0 (zeros S32x128) qd⟩] concatenates_S32x128_S32x128_S64x128_d0
def inv (g : FVec F S64x128 .f32) : FVec F S64x128 .f32 :=
  invOf g (unitInv (select blk0 (up32 g) (dn32 g)))

/-! ### One chunk of 64 time steps -/

def blockDiag (u : FVec F S64x128 .f32) : FVec F S128x128 .f32 :=
  cat2 (select lo u (zeros S64x128)) (select lo (zeros S64x128) u)
def antiDiag (u : FVec F S64x128 .f32) : FVec F S128x128 .f32 :=
  cat2 (select lo (zeros S64x128) u) (select lo u (zeros S64x128))

/-- `b̂ᵀ`, `k̂ᵀ` and the state, times `â` and `r̂`. -/
def out (x0 x1 bt kt s : FVec F S64x128 .f32) : FVec F S192x256 .f32 :=
  matmul dot_S192x128_S128x256_S192x256_1_0_0_1_n_n (some .fp32)
    (concatenate S192x128 0 [⟨S64x128, bt⟩, ⟨S64x128, kt⟩, ⟨S64x128, s⟩]
      concatenates_S64x128_S64x128_S64x128_S192x128_d0)
    (concatenate S128x256 0
      [⟨S64x256, concatenate S64x256 1 [⟨S64x128, x0⟩, ⟨S64x128, zeros S64x128⟩] concatenates_S64x128_S64x128_S64x256_d1⟩,
       ⟨S64x256, concatenate S64x256 1 [⟨S64x128, zeros S64x128⟩, ⟨S64x128, x1⟩] concatenates_S64x128_S64x128_S64x256_d1⟩]
      concatenates_S64x256_S64x256_S128x256_d0)
    (constant S192x256 .f32 0x00000000#32)
def o0 (o : FVec F S192x256 .f32) : FVec F S192x128 .f32 :=
  extractStridedSlice S192x128 ![0, 0] o slices_S192x256_o0_0_S192x128
def o1 (o : FVec F S192x256 .f32) : FVec F S192x128 .f32 :=
  extractStridedSlice S192x128 ![0, 128] o slices_S192x256_o0_128_S192x128
def p0 (o : FVec F S192x128 .f32) : FVec F S64x128 .f32 :=
  extractStridedSlice S64x128 ![0, 0] o slices_S192x128_o0_0_S64x128
def p1 (o : FVec F S192x128 .f32) : FVec F S64x128 .f32 :=
  extractStridedSlice S64x128 ![64, 0] o slices_S192x128_o64_0_S64x128
def p2 (o : FVec F S192x128 .f32) : FVec F S64x128 .f32 :=
  extractStridedSlice S64x128 ![128, 0] o slices_S192x128_o128_0_S64x128
def gOf (o : FVec F S192x256 .f32) : FVec F S64x128 .f32 :=
  select strict (select lo (p0 (o0 o)) (p0 (o1 o))) (zeros S64x128)
def mbOf (o : FVec F S192x256 .f32) : FVec F S64x128 .f32 :=
  select incl (select lo (p0 (o1 o)) (p0 (o0 o))) (zeros S64x128)
def lkOf (o : FVec F S192x256 .f32) : FVec F S64x128 .f32 :=
  select strict (select lo (p1 (o0 o)) (p1 (o1 o))) (zeros S64x128)
def mkOf (o : FVec F S192x256 .f32) : FVec F S64x128 .f32 :=
  select incl (select lo (p1 (o1 o)) (p1 (o0 o))) (zeros S64x128)
def xOf (o : FVec F S192x256 .f32) : FVec F S64x128 .f32 := select lo (p2 (o0 o)) (p2 (o1 o))
def yyOf (o : FVec F S192x256 .f32) : FVec F S64x128 .f32 := select lo (p2 (o1 o)) (p2 (o0 o))

def voOf (v kt : FVec F S64x128 .f32) (o : FVec F S192x256 .f32) : FVec F S64x384 .f32 :=
  matmul dot_S64x128_S128x384_S64x384_1_0_0_1_n_n (some .fp32) v
    (concatenate S128x384 1 [⟨S128x128, blockDiag (lkOf o)⟩, ⟨S128x128, antiDiag (mkOf o)⟩, ⟨S128x128, blockDiag kt⟩]
      concatenates_S128x128_S128x128_S128x128_S128x384_d1)
    (constant S64x384 .f32 0x00000000#32)
def uOf (x : FVec F S64x128 .f32) (q : FVec F S64x128 .f32) : FVec F S64x128 .f32 :=
  matmul dot_S64x128_S128x128_S64x128_1_0_0_1_n_n (some .fp32) x (blockDiag q) (constant S64x128 .f32 0x00000000#32)
def uoOf (u bt : FVec F S64x128 .f32) (o : FVec F S192x256 .f32) : FVec F S64x256 .f32 :=
  matmul dot_S64x128_S128x256_S64x256_1_0_0_1_n_n (some .fp32) u
    (concatenate S128x256 1 [⟨S128x128, antiDiag (mbOf o)⟩, ⟨S128x128, blockDiag bt⟩]
      concatenates_S128x128_S128x128_S128x256_d1)
    (constant S64x256 .f32 0x00000000#32)
def chunkU (v kt : FVec F S64x128 .f32) (o : FVec F S192x256 .f32) (vo : FVec F S64x384 .f32) :
    FVec F S64x128 .f32 :=
  uOf (addf (xOf o) (extractStridedSlice S64x128 ![0, 0] vo slices_S64x384_o0_0_S64x128)) (inv (gOf o))
def chunkY (o : FVec F S192x256 .f32) (vo : FVec F S64x384 .f32) (uo : FVec F S64x256 .f32) : FVec F S64x128 .f32 :=
  addf (addf (yyOf o) (extractStridedSlice S64x128 ![0, 128] vo slices_S64x384_o0_128_S64x128))
    (extractStridedSlice S64x128 ![0, 0] uo slices_S64x256_o0_0_S64x128)
def chunkS (s : FVec F S64x128 .f32) (vo : FVec F S64x384 .f32) (uo : FVec F S64x256 .f32) (we : FVec F S1x128 .f32) :
    FVec F S64x128 .f32 :=
  mulf (addf (addf s (extractStridedSlice S64x128 ![0, 256] vo slices_S64x384_o0_256_S64x128))
      (extractStridedSlice S64x128 ![0, 128] uo slices_S64x256_o0_128_S64x128))
    (broadcastTo S64x128 we broadcasts_S1x128_S64x128)

/-- One chunk: the outputs and the new state. -/
def chunk (x0 x1 v bt kt s : FVec F S64x128 .f32) (we : FVec F S1x128 .f32) :
    FVec F S64x128 .f32 × FVec F S64x128 .f32 :=
  (chunkY (out x0 x1 bt kt s) (voOf v kt (out x0 x1 bt kt s))
     (uoOf (chunkU v kt (out x0 x1 bt kt s) (voOf v kt (out x0 x1 bt kt s))) bt (out x0 x1 bt kt s)),
   chunkS s (voOf v kt (out x0 x1 bt kt s))
     (uoOf (chunkU v kt (out x0 x1 bt kt s) (voOf v kt (out x0 x1 bt kt s))) bt (out x0 x1 bt kt s)) we)

/-! ### One pair of heads in one tile -/

/-- What is loaded for one pair of heads in one tile. -/
structure Ins (F : FTy → Type) where
  w : FVec F S1x128x128 .bf16
  kk : FVec F S1x128x128 .bf16
  r : FVec F S1x128x128 .fp8e4m3
  ic : FVec F S1x128x128 .bf16
  k : FVec F S1x128x128 .fp8e4m3
  v : FVec F S1x128x128 .fp8e4m3
  ks0 : FVec F S1x1x1x128 .f32
  ks1 : FVec F S1x1x1x128 .f32
  vs0 : FVec F S1x1x1x128 .f32
  vs1 : FVec F S1x1x1x128 .f32
  rs0 : FVec F S1x1x1x128 .f32
  rs1 : FVec F S1x1x1x128 .f32

variable (m : FVec F S1x128 .f32) (x : Ins F)

def aOf : FVec F S128x128 .f32 := mulf (ofBf16 x.kk) (wEx (cumLog x.w m))
def rOf : FVec F S128x128 .f32 := mulf (ofF8 x.r) (wIn (cumLog x.w m))
def bOf : FVec F S128x128 .f32 := mulf (mulf (ofBf16 x.kk) (ofBf16 x.ic)) (wInv (cumLog x.w m) m)
def kOf : FVec F S128x128 .f32 := mulf (ofF8 x.k) (wInv (cumLog x.w m) m)
def vOf : FVec F S128x128 .f32 :=
  mulf (mulf (mulf (ofF8 x.v) (halfRows x.ks0 x.ks1)) (halfRows x.vs0 x.vs1))
    (broadcastTo S128x128 (subf (zeros S1x128) m) broadcasts_S1x128_S128x128)
def ysOf : FVec F S128x128 .f32 :=
  mulf (halfRows x.rs0 x.rs1) (broadcastTo S128x128 m broadcasts_S1x128_S128x128)

def chunk0 (s : FVec F S64x128 .f32) : FVec F S64x128 .f32 × FVec F S64x128 .f32 :=
  chunk (select lo (top (aOf m x)) (top (roll (rOf m x)))) (select lo (bot (rOf m x)) (bot (roll (aOf m x))))
    (select lo (top (vOf m x)) (bot (roll (vOf m x))))
    (top (tr (bOf m x))) (top (tr (kOf m x))) s
    (extractStridedSlice S1x128 ![63, 0] (tr (wIn (cumLog x.w m))) slices_S128x128_o63_0_S1x128)
def chunk1 (s : FVec F S64x128 .f32) : FVec F S64x128 .f32 × FVec F S64x128 .f32 :=
  chunk (select lo (top (roll (aOf m x))) (top (rOf m x))) (select lo (bot (roll (rOf m x))) (bot (aOf m x)))
    (select lo (top (roll (vOf m x))) (bot (vOf m x)))
    (bot (tr (bOf m x))) (bot (tr (kOf m x))) s
    (extractStridedSlice S1x128 ![127, 0] (tr (wIn (cumLog x.w m))) slices_S128x128_o127_0_S1x128)

def cast64 (s : FVec F S1x64x128 .f32) : FVec F S64x128 .f32 := shapeCast S64x128 s shapeCasts_S1x64x128_S64x128

/-- The pair's new state. -/
def pairS (s : FVec F S1x64x128 .f32) : FVec F S1x64x128 .f32 :=
  shapeCast S1x64x128 (chunk1 m x (chunk0 m x (cast64 s)).2).2 shapeCasts_S64x128_S1x64x128
/-- The pair's outputs. -/
def pairY (s : FVec F S1x64x128 .f32) : FVec F S1x128x128 .bf16 :=
  shapeCast S1x128x128
    (truncf .bf16
      (mulf (cat2 (select lo (roll64 (chunk0 m x (cast64 s)).1) (chunk1 m x (chunk0 m x (cast64 s)).2).1)
          (select lo (chunk0 m x (cast64 s)).1 (roll64 (chunk1 m x (chunk0 m x (cast64 s)).2).1)))
        (ysOf m x)) bitsLt_bf16_f32)
    shapeCasts_S128x128_S1x128x128

end Cert.KernelIdeal.Pair

end
-- ==== Proof.Body.lean ====
/- The kernel's body written over the functions of `Pair`: the same loads, stores, loops and branches in the
   same order, each repeated group of lines once. `body_eq` says that the printed function is this program. -/
module

public import proofs.«01_k».proof.Proof.Pair

@[expose] public section

noncomputable section

namespace Cert.KernelIdeal.Pair

open Idealize.ShloMosaic Idealize.SL.Sem Cert.KernelIdeal.Gen

variable {F : FTy → Type} [FloatOps F] [Named F]

section Steps

variable (arg3 : Memref sig .tc .vmem S1x2048x256 .fp8e4m3) (arg4 : Memref sig .tc .vmem S1x2048x256 .fp8e4m3)
  (arg5 : Memref sig .tc .vmem S1x2048x256 .fp8e4m3) (arg6 : Memref sig .tc .vmem S1x4x8x256 .f32)
  (arg7 : Memref sig .tc .vmem S1x4x8x256 .f32) (arg8 : Memref sig .tc .vmem S1x4x8x256 .f32)
  (arg9 : Memref sig .tc .vmem S1x2048x256 .bf16) (arg10 : Memref sig .tc .vmem S1x2048x256 .bf16)
  (arg11 : Memref sig .tc .vmem S1x2048x256 .bf16) (arg12 : Memref sig .tc .vmem S1x32x64x64 .f32)
  (arg13 : Memref sig .tc .vmem S1x2048x256 .bf16) (harg13 : arg13.IsWhole)
  (arg14 : Memref sig .tc .vmem S1x32x64x64 .f32) (arg15 : Memref sig .tc .vmem S16x64x128 .f32)

include harg13 in
/-- One pair of heads in one tile: load, compute, store the state and the outputs. -/
def pairProg (m : FVec F S1x128 .f32)
    (off : Fin 3 → ℕ) (hoff : ∀ a, off a + S1x128x128.size a ≤ S1x2048x256.size a)
    (hpk : (Rect.unit (s := S1x2048x256) off S1x128x128.size hoff).PackedRows (EltTy.packing .bf16))
    (offA : Fin 4 → ℕ) (hoffA : ∀ a, offA a + S1x1x1x128.size a ≤ S1x4x8x256.size a)
    (offB : Fin 4 → ℕ) (hoffB : ∀ a, offB a + S1x1x1x128.size a ≤ S1x4x8x256.size a)
    (offS : Fin 3 → ℕ) (hoffS : ∀ a, offS a + S1x64x128.size a ≤ S16x64x128.size a) : Prog (TpuEff nD τ sig (Elt F) Λ₀ .tc) PUnit := do
  let w : Vec F S1x128x128 .bf16 ← Prog.lift (.load arg9 (Rect.unit (s := S1x2048x256) off S1x128x128.size hoff).toLoadRect (View.loadsAt_vmem h_S1x128x128))
  let kk : Vec F S1x128x128 .bf16 ← Prog.lift (.load arg10 (Rect.unit (s := S1x2048x256) off S1x128x128.size hoff).toLoadRect (View.loadsAt_vmem h_S1x128x128))
  let r : Vec F S1x128x128 .fp8e4m3 ← Prog.lift (.load arg3 (Rect.unit (s := S1x2048x256) off S1x128x128.size hoff).toLoadRect (View.loadsAt_vmem h_S1x128x128))
  let ic : Vec F S1x128x128 .bf16 ← Prog.lift (.load arg11 (Rect.unit (s := S1x2048x256) off S1x128x128.size hoff).toLoadRect (View.loadsAt_vmem h_S1x128x128))
  let k : Vec F S1x128x128 .fp8e4m3 ← Prog.lift (.load arg4 (Rect.unit (s := S1x2048x256) off S1x128x128.size hoff).toLoadRect (View.loadsAt_vmem h_S1x128x128))
  let v : Vec F S1x128x128 .fp8e4m3 ← Prog.lift (.load arg5 (Rect.unit (s := S1x2048x256) off S1x128x128.size hoff).toLoadRect (View.loadsAt_vmem h_S1x128x128))
  let ks0 : Vec F S1x1x1x128 .f32 ← Prog.lift (.load arg7 (Rect.unit (s := S1x4x8x256) offA S1x1x1x128.size hoffA).toLoadRect (View.loadsAt_vmem h_S1x1x1x128))
  let ks1 : Vec F S1x1x1x128 .f32 ← Prog.lift (.load arg7 (Rect.unit (s := S1x4x8x256) offB S1x1x1x128.size hoffB).toLoadRect (View.loadsAt_vmem h_S1x1x1x128))
  let vs0 : Vec F S1x1x1x128 .f32 ← Prog.lift (.load arg8 (Rect.unit (s := S1x4x8x256) offA S1x1x1x128.size hoffA).toLoadRect (View.loadsAt_vmem h_S1x1x1x128))
  let vs1 : Vec F S1x1x1x128 .f32 ← Prog.lift (.load arg8 (Rect.unit (s := S1x4x8x256) offB S1x1x1x128.size hoffB).toLoadRect (View.loadsAt_vmem h_S1x1x1x128))
  let rs0 : Vec F S1x1x1x128 .f32 ← Prog.lift (.load arg6 (Rect.unit (s := S1x4x8x256) offA S1x1x1x128.size hoffA).toLoadRect (View.loadsAt_vmem h_S1x1x1x128))
  let rs1 : Vec F S1x1x1x128 .f32 ← Prog.lift (.load arg6 (Rect.unit (s := S1x4x8x256) offB S1x1x1x128.size hoffB).toLoadRect (View.loadsAt_vmem h_S1x1x1x128))
  let s : Vec F S1x64x128 .f32 ← Prog.lift (.load arg15 (Rect.unit (s := S16x64x128) offS S1x64x128.size hoffS).toLoadRect (View.loadsAt_vmem h_S1x64x128))
  let _ : Vec F S1x64x128 .f32 ← Prog.lift (.load arg15 (Rect.unit (s := S16x64x128) offS S1x64x128.size hoffS).toLoadRect (View.loadsAt_vmem h_S1x64x128))
  Prog.lift (.store arg15 (Rect.unit (s := S16x64x128) offS S1x64x128.size hoffS) (pairS m ⟨w, kk, r, ic, k, v, ks0, ks1, vs0, vs1, rs0, rs1⟩ s) Finset.univ (View.stores_vmem_bits_univ h_S1x64x128 rfl) (.inl rfl))
  let _ : Vec F S1x128x128 .bf16 ← Prog.lift (.load arg13 (Rect.unit (s := S1x2048x256) off S1x128x128.size hoff).toLoadRect (View.loadsAt_vmem h_S1x128x128))
  Prog.lift (.store arg13 (Rect.unit (s := S1x2048x256) off S1x128x128.size hoff) (pairY m ⟨w, kk, r, ic, k, v, ks0, ks1, vs0, vs1, rs0, rs1⟩ s) Finset.univ (View.stores_vmem h_S1x128x128 (harg13.storeExact_slice rfl _ hpk) (fun _ => rfl)) (.inl rfl))

/-- Where a pair's scales lie, head by head: first tile, and second tile. -/
def offA1 (t : Fin k0_t1_loop.trips) : Fin 4 → Fin 4 → ℕ := ![k0_off3 t, k0_off6 t, k0_off8 t, k0_off10 t]
def offB1 (t : Fin k0_t1_loop.trips) : Fin 4 → Fin 4 → ℕ := ![k0_off4 t, k0_off7 t, k0_off9 t, k0_off11 t]
def offA2 (t : Fin k0_t2_loop.trips) : Fin 4 → Fin 4 → ℕ := ![k0_off13 t, k0_off16 t, k0_off18 t, k0_off20 t]
def offB2 (t : Fin k0_t2_loop.trips) : Fin 4 → Fin 4 → ℕ := ![k0_off14 t, k0_off17 t, k0_off19 t, k0_off21 t]

theorem offA1_inb (t) (j : Fin 4) : ∀ a, offA1 t j a + S1x1x1x128.size a ≤ S1x4x8x256.size a :=
  match j with
  | 0 => k0_off3_inb t | 1 => k0_off6_inb t | 2 => k0_off8_inb t | 3 => k0_off10_inb t
theorem offB1_inb (t) (j : Fin 4) : ∀ a, offB1 t j a + S1x1x1x128.size a ≤ S1x4x8x256.size a :=
  match j with
  | 0 => k0_off4_inb t | 1 => k0_off7_inb t | 2 => k0_off9_inb t | 3 => k0_off11_inb t
theorem offA2_inb (t) (j : Fin 4) : ∀ a, offA2 t j a + S1x1x1x128.size a ≤ S1x4x8x256.size a :=
  match j with
  | 0 => k0_off13_inb t | 1 => k0_off16_inb t | 2 => k0_off18_inb t | 3 => k0_off20_inb t
theorem offB2_inb (t) (j : Fin 4) : ∀ a, offB2 t j a + S1x1x1x128.size a ≤ S1x4x8x256.size a :=
  match j with
  | 0 => k0_off14_inb t | 1 => k0_off17_inb t | 2 => k0_off19_inb t | 3 => k0_off21_inb t

include harg13 in
def pair1 (n : BitVec 32) (t : Fin k0_t1_loop.trips) (j : Fin 4) : Prog (TpuEff nD τ sig (Elt F) Λ₀ .tc) PUnit :=
  pairProg arg3 arg4 arg5 arg6 arg7 arg8 arg9 arg10 arg11 arg13 harg13 arg15 (mask 0#32 n)
    (k0_off2 t (BitVec.ofNat 32 j.val)) (k0_off2_inb t j) (k0_off2_packedbf16 t j)
    (offA1 t j) (offA1_inb t j) (offB1 t j) (offB1_inb t j)
    (k0_off5 t (BitVec.ofNat 32 j.val)) (k0_off5_inb t j)
include harg13 in
def pair2 (n : BitVec 32) (t : Fin k0_t2_loop.trips) (j : Fin 4) : Prog (TpuEff nD τ sig (Elt F) Λ₀ .tc) PUnit :=
  pairProg arg3 arg4 arg5 arg6 arg7 arg8 arg9 arg10 arg11 arg13 harg13 arg15 (mask 128#32 n)
    (k0_off12 t (BitVec.ofNat 32 j.val)) (k0_off12_inb t j) (k0_off12_packedbf16 t j)
    (offA2 t j) (offA2_inb t j) (offB2 t j) (offB2_inb t j)
    (k0_off15 t (BitVec.ofNat 32 j.val)) (k0_off15_inb t j)

include harg13 in
/-- One trip: the four pairs of a group of eight heads. -/
def trip1 (n : BitVec 32) (t : Fin k0_t1_loop.trips) : Prog (TpuEff nD τ sig (Elt F) Λ₀ .tc) PUnit := do
  pair1 arg3 arg4 arg5 arg6 arg7 arg8 arg9 arg10 arg11 arg13 harg13 arg15 n t 0
  pair1 arg3 arg4 arg5 arg6 arg7 arg8 arg9 arg10 arg11 arg13 harg13 arg15 n t 1
  pair1 arg3 arg4 arg5 arg6 arg7 arg8 arg9 arg10 arg11 arg13 harg13 arg15 n t 2
  pair1 arg3 arg4 arg5 arg6 arg7 arg8 arg9 arg10 arg11 arg13 harg13 arg15 n t 3
include harg13 in
def trip2 (n : BitVec 32) (t : Fin k0_t2_loop.trips) : Prog (TpuEff nD τ sig (Elt F) Λ₀ .tc) PUnit := do
  pair2 arg3 arg4 arg5 arg6 arg7 arg8 arg9 arg10 arg11 arg13 harg13 arg15 n t 0
  pair2 arg3 arg4 arg5 arg6 arg7 arg8 arg9 arg10 arg11 arg13 harg13 arg15 n t 1
  pair2 arg3 arg4 arg5 arg6 arg7 arg8 arg9 arg10 arg11 arg13 harg13 arg15 n t 2
  pair2 arg3 arg4 arg5 arg6 arg7 arg8 arg9 arg10 arg11 arg13 harg13 arg15 n t 3

theorem offHead_inb : ∀ h : Fin 32, ∀ a, (![0, (h : ℕ), 0, 0] : Fin 4 → ℕ) a + S1x1x64x64.size a ≤ S1x32x64x64.size a := by
  decide
theorem offPair_inb : ∀ p : Fin 16, ∀ a, (![(p : ℕ), 0, 0] : Fin 3 → ℕ) a + S1x64x128.size a ≤ S16x64x128.size a := by
  decide

/-- Two heads' states side by side. -/
def besides (x y : Vec F S1x1x64x64 .f32) : Vec F S1x64x128 .f32 :=
  shapeCast S1x64x128
    (concatenate S64x128 1 [⟨S64x64, (shapeCast S64x64 x shapeCasts_S1x1x64x64_S64x64 : FVec F S64x64 .f32)⟩,
      ⟨S64x64, (shapeCast S64x64 y shapeCasts_S1x1x64x64_S64x64 : FVec F S64x64 .f32)⟩] concatenates_S64x64_S64x64_S64x128_d1)
    shapeCasts_S64x128_S1x64x128
/-- The first and the second head's state of a pair. -/
def headL (x : Vec F S1x64x128 .f32) : Vec F S1x1x64x64 .f32 :=
  shapeCast S1x1x64x64
    (extractStridedSlice S64x64 ![0, 0] (shapeCast S64x128 x shapeCasts_S1x64x128_S64x128 : FVec F S64x128 .f32) slices_S64x128_o0_0_S64x64)
    shapeCasts_S64x64_S1x1x64x64
def headR (x : Vec F S1x64x128 .f32) : Vec F S1x1x64x64 .f32 :=
  shapeCast S1x1x64x64
    (extractStridedSlice S64x64 ![0, 64] (shapeCast S64x128 x shapeCasts_S1x64x128_S64x128 : FVec F S64x128 .f32) slices_S64x128_o0_64_S64x64)
    shapeCasts_S64x64_S1x1x64x64

/-- Bring one pair's initial states into the scratch. -/
def initProg (h0 h1 : Fin 32) (p : Fin 16) : Prog (TpuEff nD τ sig (Elt F) Λ₀ .tc) PUnit := do
  let x : Vec F S1x1x64x64 .f32 ← Prog.lift (.load arg12 (Rect.unit (s := S1x32x64x64) ![0, h0.val, 0, 0] S1x1x64x64.size (offHead_inb h0)).toLoadRect (View.loadsAt_vmem h_S1x1x64x64))
  let y : Vec F S1x1x64x64 .f32 ← Prog.lift (.load arg12 (Rect.unit (s := S1x32x64x64) ![0, h1.val, 0, 0] S1x1x64x64.size (offHead_inb h1)).toLoadRect (View.loadsAt_vmem h_S1x1x64x64))
  let _ : Vec F S1x64x128 .f32 ← Prog.lift (.load arg15 (Rect.unit (s := S16x64x128) ![p.val, 0, 0] S1x64x128.size (offPair_inb p)).toLoadRect (View.loadsAt_vmem h_S1x64x128))
  Prog.lift (.store arg15 (Rect.unit (s := S16x64x128) ![p.val, 0, 0] S1x64x128.size (offPair_inb p)) (besides x y) Finset.univ (View.stores_vmem_bits_univ h_S1x64x128 rfl) (.inl rfl))

/-- Write one pair's final states out. -/
def finProg (h0 h1 : Fin 32) (p : Fin 16) : Prog (TpuEff nD τ sig (Elt F) Λ₀ .tc) PUnit := do
  let x : Vec F S1x64x128 .f32 ← Prog.lift (.load arg15 (Rect.unit (s := S16x64x128) ![p.val, 0, 0] S1x64x128.size (offPair_inb p)).toLoadRect (View.loadsAt_vmem h_S1x64x128))
  let _ : Vec F S1x1x64x64 .f32 ← Prog.lift (.load arg14 (Rect.unit (s := S1x32x64x64) ![0, h0.val, 0, 0] S1x1x64x64.size (offHead_inb h0)).toLoadRect (View.loadsAt_vmem h_S1x1x64x64))
  Prog.lift (.store arg14 (Rect.unit (s := S1x32x64x64) ![0, h0.val, 0, 0] S1x1x64x64.size (offHead_inb h0)) (headL x) Finset.univ (View.stores_vmem_bits_univ h_S1x1x64x64 rfl) (.inl rfl))
  let _ : Vec F S1x1x64x64 .f32 ← Prog.lift (.load arg14 (Rect.unit (s := S1x32x64x64) ![0, h1.val, 0, 0] S1x1x64x64.size (offHead_inb h1)).toLoadRect (View.loadsAt_vmem h_S1x1x64x64))
  Prog.lift (.store arg14 (Rect.unit (s := S1x32x64x64) ![0, h1.val, 0, 0] S1x1x64x64.size (offHead_inb h1)) (headR x) Finset.univ (View.stores_vmem_bits_univ h_S1x1x64x64 rfl) (.inl rfl))

/-- The pairs whose states are brought in and written out, in order. -/
def pairs : List (Fin 32 × Fin 32 × Fin 16) :=
  [(0, 1, 0), (2, 3, 1), (4, 5, 2), (6, 7, 3), (8, 9, 4), (10, 11, 5), (12, 13, 6), (14, 15, 7), (16, 17, 8), (18, 19, 9),
   (20, 21, 10), (22, 23, 11), (24, 25, 12), (26, 27, 13), (28, 29, 14), (30, 31, 15)]

def runList (f : Fin 32 → Fin 32 → Fin 16 → Prog (TpuEff nD τ sig (Elt F) Λ₀ .tc) PUnit) : List (Fin 32 × Fin 32 × Fin 16) → Prog (TpuEff nD τ sig (Elt F) Λ₀ .tc) PUnit
  | [] => pure ⟨⟩
  | x :: l => do
    f x.1 x.2.1 x.2.2
    runList f l

/-- Zeros, as the outputs of a tile that begins after the sequence's end. -/
def zeroY : Vec F S1x2048x128 .bf16 :=
  shapeCast S1x2048x128 (broadcast S2048x128 (Scalar.ofBits .bf16 0x0000#16) : FVec F S2048x128 .bf16) shapeCasts_S2048x128_S1x2048x128

end Steps

/-- A branch, and what comes after it. -/
def branch (P : Prop) [Decidable P] (p k : Prog (TpuEff nD τ sig (Elt F) Λ₀ .tc) PUnit) : Prog (TpuEff nD τ sig (Elt F) Λ₀ .tc) PUnit :=
  if _h : P then p >>= fun _ => k else k

/-- The first branch's condition: the sequence's first block. -/
abbrev cond1 (i : grid0.Coords) : Prop :=
  Scalar.cmpi .ne (Scalar.extui (Scalar.cmpi .eq (BitVec.ofNat 32 (i 1).val) 0#32)) (0#32) = 1#1

/-- The number of steps of the sequence that are left at a grid point, as the body counts it. -/
def left (i : grid0.Coords) (v : BitVec 32) : BitVec 32 := Scalar.subi v (Scalar.muli (BitVec.ofNat 32 (i 1).val) 256#32)

/-- The whole body. -/
def body (i : grid0.Coords) (arg2 : Memref sig .tc .smem S6 .i32) (_harg2 : arg2.IsWhole) (arg3 : Memref sig .tc .vmem S1x2048x256 .fp8e4m3) (_harg3 : arg3.IsWhole) (arg4 : Memref sig .tc .vmem S1x2048x256 .fp8e4m3) (_harg4 : arg4.IsWhole) (arg5 : Memref sig .tc .vmem S1x2048x256 .fp8e4m3) (_harg5 : arg5.IsWhole) (arg6 : Memref sig .tc .vmem S1x4x8x256 .f32) (_harg6 : arg6.IsWhole) (arg7 : Memref sig .tc .vmem S1x4x8x256 .f32) (_harg7 : arg7.IsWhole) (arg8 : Memref sig .tc .vmem S1x4x8x256 .f32) (_harg8 : arg8.IsWhole) (arg9 : Memref sig .tc .vmem S1x2048x256 .bf16) (_harg9 : arg9.IsWhole) (arg10 : Memref sig .tc .vmem S1x2048x256 .bf16) (_harg10 : arg10.IsWhole) (arg11 : Memref sig .tc .vmem S1x2048x256 .bf16) (_harg11 : arg11.IsWhole) (arg12 : Memref sig .tc .vmem S1x32x64x64 .f32) (_harg12 : arg12.IsWhole) (arg13 : Memref sig .tc .vmem S1x2048x256 .bf16) (harg13 : arg13.IsWhole) (arg14 : Memref sig .tc .vmem S1x32x64x64 .f32) (_harg14 : arg14.IsWhole) (arg15 : Memref sig .tc .vmem S16x64x128 .f32) (_harg15 : arg15.IsWhole) : Prog (TpuEff nD τ sig (Elt F) Λ₀ .tc) PUnit :=
  branch (cond1 i) (runList (initProg arg12 arg15) pairs) <|
  smemLoad arg2 (Rect.unit (s := S6) (k0_off1 i) S1.size (k0_off1_inb i)) numel1_S1 rfl >>= fun v4 =>
  branch (k0_cond2 i v4 = 1#1) (Scf.Loop.for k0_t1_loop k0_t1_ok ⟨⟩ fun t _ => trip1 arg3 arg4 arg5 arg6 arg7 arg8 arg9 arg10 arg11 arg13 harg13 arg15 (left i v4) t) <|
  branch (k0_cond3 i v4 = 1#1) (do
    let _ : Vec F S1x2048x128 .bf16 ← Prog.lift (.load arg13 (Rect.unit (s := S1x2048x256) ![0, 0, 0] S1x2048x128.size inb_S1x2048x256_S1x2048x128_0_0_0).toLoadRect (View.loadsAt_vmem h_S1x2048x128))
    Prog.lift (.store arg13 (Rect.unit (s := S1x2048x256) ![0, 0, 0] S1x2048x128.size inb_S1x2048x256_S1x2048x128_0_0_0) zeroY Finset.univ (View.stores_vmem h_S1x2048x128 (harg13.storeExact_slice rfl _ packedbf16_S1x2048x256_S1x2048x128_0_0_0) (fun _ => rfl)) (.inl rfl))) <|
  branch (k0_cond4 i v4 = 1#1) (Scf.Loop.for k0_t2_loop k0_t2_ok ⟨⟩ fun t _ => trip2 arg3 arg4 arg5 arg6 arg7 arg8 arg9 arg10 arg11 arg13 harg13 arg15 (left i v4) t) <|
  branch (k0_cond5 i v4 = 1#1) (do
    let _ : Vec F S1x2048x128 .bf16 ← Prog.lift (.load arg13 (Rect.unit (s := S1x2048x256) ![0, 0, 128] S1x2048x128.size inb_S1x2048x256_S1x2048x128_0_0_128).toLoadRect (View.loadsAt_vmem h_S1x2048x128))
    Prog.lift (.store arg13 (Rect.unit (s := S1x2048x256) ![0, 0, 128] S1x2048x128.size inb_S1x2048x256_S1x2048x128_0_0_128) zeroY Finset.univ (View.stores_vmem h_S1x2048x128 (harg13.storeExact_slice rfl _ packedbf16_S1x2048x256_S1x2048x128_0_0_128) (fun _ => rfl)) (.inl rfl))) <|
  branch (k0_cond6 i = 1#1) (runList (finProg arg14 arg15) pairs) <|
  pure ⟨⟩

end Cert.KernelIdeal.Pair

end
-- ==== Proof.BodyEq.lean ====
module

public import proofs.«01_k».proof.Proof.Body
public import Idealize.ShloMosaic.Lib.Exec
public import Idealize.ShloMosaic.Lib.Tactic

@[expose] public section

set_option maxRecDepth 100000
set_option maxHeartbeats 0

noncomputable section

namespace Cert.KernelIdeal.Pair

open Idealize.ShloMosaic Idealize.SL.Sem Cert.KernelIdeal.Gen

variable {F : FTy → Type} [FloatOps F] [Named F]

theorem body_eq : cc0_rwkv7_chunked (F := F) = body (F := F) := by
  sl_kernel_rfl

end Cert.KernelIdeal.Pair

end
-- ==== Proof.Run.lean ====
/- Running the body: what each of its pieces does to the memory that it meets. A block of outputs and the
   scratch of states are the state; the staged inputs are read and stay. -/
module

public import proofs.«01_k».proof.Proof.Body
public import Idealize.ShloMosaic.Lib.Exec
public import Idealize.ShloMosaic.Lib.Tactic
public import Idealize.ShloMosaic.Lib.Pipeline.Kit
public import Idealize.ShloMosaic.Lib.VecWindow
public import Idealize.ShloMosaic.Lib.Pipeline.TableIdle

@[expose] public section

set_option maxRecDepth 8192
set_option maxHeartbeats 400000

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.VecWindow (window put)

variable {F : FTy → Type} [FloatOps F] [Named F]

/-- The resource algebra. -/
local notation "𝕄G" => MT nD τ sig Unit (Elt F) ℕ (UR sig nD τ) ℕ

/-- The staged inputs of one grid point. -/
structure Rd (F : FTy → Type) where
  (x3 x4 x5 : Vec F S1x2048x256 .fp8e4m3) (x6 x7 x8 : Vec F S1x4x8x256 .f32) (x9 x10 x11 : Vec F S1x2048x256 .bf16)

/-- The outputs' block and the states' scratch. -/
abbrev St (F : FTy → Type) := Vec F S1x2048x256 .bf16 × Vec F S16x64x128 .f32

/-- What one pair of heads does in one tile. -/
def pairStep (x : Rd F) (m : FVec F S1x128 .f32)
    (off : Fin 3 → ℕ) (hoff : ∀ a, off a + S1x128x128.size a ≤ S1x2048x256.size a)
    (offA : Fin 4 → ℕ) (hoffA : ∀ a, offA a + S1x1x1x128.size a ≤ S1x4x8x256.size a)
    (offB : Fin 4 → ℕ) (hoffB : ∀ a, offB a + S1x1x1x128.size a ≤ S1x4x8x256.size a)
    (offS : Fin 3 → ℕ) (hoffS : ∀ a, offS a + S1x64x128.size a ≤ S16x64x128.size a) (st : St F) : St F :=
  let i : Ins F := ⟨window x.x9 off S1x128x128.size hoff, window x.x10 off S1x128x128.size hoff, window x.x3 off S1x128x128.size hoff,
    window x.x11 off S1x128x128.size hoff, window x.x4 off S1x128x128.size hoff, window x.x5 off S1x128x128.size hoff,
    window x.x7 offA S1x1x1x128.size hoffA, window x.x7 offB S1x1x1x128.size hoffB,
    window x.x8 offA S1x1x1x128.size hoffA, window x.x8 offB S1x1x1x128.size hoffB,
    window x.x6 offA S1x1x1x128.size hoffA, window x.x6 offB S1x1x1x128.size hoffB⟩
  let s : Vec F S1x64x128 .f32 := window st.2 offS S1x64x128.size hoffS
  (put st.1 off S1x128x128.size (pairY m i s), put st.2 offS S1x64x128.size (pairS m i s))

/-- A store over the representative of `X` leaves the representative of `X` with the payload put there. -/
theorem writes_rep (c : Thread nD τ) {sp : Space} {sh : Shape} {e : EltTy} (M : Memref sig c.2.kind sp sh e)
    (X : sh.Idx → Elt F e) {off size : Fin sh.rank → ℕ} (inb : ∀ a, off a + size a ≤ sh.size a)
    (w : (Rect.unit off size inb).shape.Idx → Elt F e) :
    (M.view.loc c ↦[M.view.set]{fullShare} M.view.writes (Elt F) (M.view.rep X) [⟨Rect.unit off size inb, w⟩] : sProp 𝕄G)
      ⊢ (M.view.loc c ↦[M.view.set]{fullShare} M.view.rep (put X off size w)) := by
  rw [← owns_eq_rep]
  unfold owns
  iintro H
  iexists _
  isplitr
  rotate_left
  · iexact H
  ipureintro
  exact View.read_writes_rep_unit _ _ _ _ rfl

section Steps

variable (c : Dev nD) (arg3 : Memref sig .tc .vmem S1x2048x256 .fp8e4m3) (arg4 : Memref sig .tc .vmem S1x2048x256 .fp8e4m3)
  (arg5 : Memref sig .tc .vmem S1x2048x256 .fp8e4m3) (arg6 : Memref sig .tc .vmem S1x4x8x256 .f32)
  (arg7 : Memref sig .tc .vmem S1x4x8x256 .f32) (arg8 : Memref sig .tc .vmem S1x4x8x256 .f32)
  (arg9 : Memref sig .tc .vmem S1x2048x256 .bf16) (arg10 : Memref sig .tc .vmem S1x2048x256 .bf16)
  (arg11 : Memref sig .tc .vmem S1x2048x256 .bf16) (arg12 : Memref sig .tc .vmem S1x32x64x64 .f32)
  (arg13 : Memref sig .tc .vmem S1x2048x256 .bf16) (harg13 : arg13.IsWhole)
  (arg14 : Memref sig .tc .vmem S1x32x64x64 .f32) (arg15 : Memref sig .tc .vmem S16x64x128 .f32)

/-- A memref of the core held at `X`. -/
abbrev at_ {sp : Space} {sh : Shape} {e : EltTy} (M : Memref sig .tc sp sh e) (X : sh.Idx → Elt F e) : sProp 𝕄G :=
  (M.view.loc (c : Thread nD τ) ↦[M.view.set]{fullShare} M.view.rep X)

/-- The staged inputs held. -/
def rdHeld (x : Rd F) : sProp 𝕄G :=
  iprop(at_ c arg3 x.x3 ∗ at_ c arg4 x.x4 ∗ at_ c arg5 x.x5 ∗ at_ c arg6 x.x6 ∗ at_ c arg7 x.x7 ∗ at_ c arg8 x.x8
    ∗ at_ c arg9 x.x9 ∗ at_ c arg10 x.x10 ∗ at_ c arg11 x.x11)

/-- The inputs and the state held. -/
def stHeld (x : Rd F) (st : St F) : sProp 𝕄G :=
  iprop(rdHeld c arg3 arg4 arg5 arg6 arg7 arg8 arg9 arg10 arg11 x ∗ at_ c arg13 st.1 ∗ at_ c arg15 st.2)

theorem pairProg_run (𝒱 : Variants) (bd : Option 𝒱.V) (E : Set ℕ) (x : Rd F) (m : FVec F S1x128 .f32)
    (off : Fin 3 → ℕ) (hoff : ∀ a, off a + S1x128x128.size a ≤ S1x2048x256.size a)
    (hpk : (Rect.unit (s := S1x2048x256) off S1x128x128.size hoff).PackedRows (EltTy.packing .bf16))
    (offA : Fin 4 → ℕ) (hoffA : ∀ a, offA a + S1x1x1x128.size a ≤ S1x4x8x256.size a)
    (offB : Fin 4 → ℕ) (hoffB : ∀ a, offB a + S1x1x1x128.size a ≤ S1x4x8x256.size a)
    (offS : Fin 3 → ℕ) (hoffS : ∀ a, offS a + S1x64x128.size a ≤ S16x64x128.size a) (st : St F) :
    stHeld c arg3 arg4 arg5 arg6 arg7 arg8 arg9 arg10 arg11 arg13 arg15 x st
      ⊢ wp frame (wpE (defs₀ (F := F)) 𝒱 (c : Thread nD τ) bd) E
          (pairProg arg3 arg4 arg5 arg6 arg7 arg8 arg9 arg10 arg11 arg13 harg13 arg15 m off hoff hpk offA hoffA offB hoffB offS hoffS)
          (fun _ => stHeld c arg3 arg4 arg5 arg6 arg7 arg8 arg9 arg10 arg11 arg13 arg15 x (pairStep x m off hoff offA hoffA offB hoffB offS hoffS st)) := by
  unfold stHeld rdHeld pairProg pairStep
  generalize pairS (F := F) = fS
  generalize pairY (F := F) = fY
  iintro ⟨⟨H3, H4, H5, H6, H7, H8, H9, H10, H11⟩, H13, H15⟩
  sl_exec
  sl_step
  isplitl [H3 H4 H5 H6 H7 H8 H9 H10 H11]
  · isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  rw [View.readAt_rep_unit arg9.view x.x9 hoff rfl hoff,
    View.readAt_rep_unit arg10.view x.x10 hoff rfl hoff,
    View.readAt_rep_unit arg3.view x.x3 hoff rfl hoff,
    View.readAt_rep_unit arg11.view x.x11 hoff rfl hoff,
    View.readAt_rep_unit arg4.view x.x4 hoff rfl hoff,
    View.readAt_rep_unit arg5.view x.x5 hoff rfl hoff,
    View.readAt_rep_unit arg7.view x.x7 hoffA rfl hoffA,
    View.readAt_rep_unit arg7.view x.x7 hoffB rfl hoffB,
    View.readAt_rep_unit arg8.view x.x8 hoffA rfl hoffA,
    View.readAt_rep_unit arg8.view x.x8 hoffB rfl hoffB,
    View.readAt_rep_unit arg6.view x.x6 hoffA rfl hoffA,
    View.readAt_rep_unit arg6.view x.x6 hoffB rfl hoffB,
    View.readAt_rep_unit arg15.view st.2 hoffS rfl hoffS]
  isplitl [H13]
  · iapply (writes_rep (c : Thread nD τ) arg13 st.1 hoff _)
    iexact H13
  · iapply (writes_rep (c : Thread nD τ) arg15 st.2 hoffS _)
    iexact H15

/-! ## Sequencing -/

/-- One program after another. -/
theorem seq_run (𝒱 : Variants) (bd : Option 𝒱.V) (E : Set ℕ) {A B : sProp 𝕄G} {α : Type} {Q : α → sProp 𝕄G}
    {p : Prog (TpuEff nD τ sig (Elt F) Λ₀ .tc) PUnit} {k : PUnit → Prog (TpuEff nD τ sig (Elt F) Λ₀ .tc) α}
    (h : A ⊢ wp frame (wpE (defs₀ (F := F)) 𝒱 (c : Thread nD τ) bd) E p (fun _ => B))
    (h' : B ⊢ wp frame (wpE (defs₀ (F := F)) 𝒱 (c : Thread nD τ) bd) E (k ⟨⟩) Q) :
    A ⊢ wp frame (wpE (defs₀ (F := F)) 𝒱 (c : Thread nD τ) bd) E (p >>= k) Q := by
  rw [wp_bind]
  iintro H
  iapply (wp_wand_r frame (wpE (defs₀ (F := F)) 𝒱 (c : Thread nD τ) bd) E)
  isplitl [H]
  · iapply h; iexact H
  · iintro %_ H
    iapply h'; iexact H

/-- What a program does not touch rides along. -/
theorem ride_run (𝒱 : Variants) (bd : Option 𝒱.V) (E : Set ℕ) {A B C : sProp 𝕄G}
    {p : Prog (TpuEff nD τ sig (Elt F) Λ₀ .tc) PUnit}
    (h : A ⊢ wp frame (wpE (defs₀ (F := F)) 𝒱 (c : Thread nD τ) bd) E p (fun _ => B)) :
    iprop(A ∗ C) ⊢ wp frame (wpE (defs₀ (F := F)) 𝒱 (c : Thread nD τ) bd) E p (fun _ => iprop(B ∗ C)) := by
  iintro ⟨H, HC⟩
  iapply (wp_wand_r frame (wpE (defs₀ (F := F)) 𝒱 (c : Thread nD τ) bd) E)
  isplitl [H]
  · iapply h; iexact H
  · iintro %_ H
    isplitl [H]
    · iexact H
    iexact HC

/-- A loop whose trips step a state. -/
theorem for_run (𝒱 : Variants) (bd : Option 𝒱.V) (E : Set ℕ) {S : Type} (own : S → sProp 𝕄G) (l : Scf.Loop 32) (hok : l.OK)
    (body : Fin l.trips → PUnit → Prog (TpuEff nD τ sig (Elt F) Λ₀ .tc) PUnit) (st : ℕ → S)
    (h : ∀ k : Fin l.trips, own (st k.val) ⊢ wp frame (wpE (defs₀ (F := F)) 𝒱 (c : Thread nD τ) bd) E (body k ⟨⟩) (fun _ => own (st (k.val + 1)))) :
    own (st 0) ⊢ wp frame (wpE (defs₀ (F := F)) 𝒱 (c : Thread nD τ) bd) E (Scf.Loop.for l hok ⟨⟩ body) (fun _ => own (st l.trips)) := by
  iintro H
  iapply (Scf.wp_for frame (wpE (defs₀ (F := F)) 𝒱 (c : Thread nD τ) bd) E l.lb l.ub l.st hok ⟨⟩ body (fun n _ => own (st n)) (fun k _ => h k))
  isplitl [H]
  · iexact H
  · iintro %_ H
    iexact H

/-- A run through a list. -/
theorem runList_run (𝒱 : Variants) (bd : Option 𝒱.V) (E : Set ℕ) {S : Type} (own : S → sProp 𝕄G)
    (f : Fin 32 → Fin 32 → Fin 16 → Prog (TpuEff nD τ sig (Elt F) Λ₀ .tc) PUnit) (step : S → Fin 32 × Fin 32 × Fin 16 → S)
    (h : ∀ x st, own st ⊢ wp frame (wpE (defs₀ (F := F)) 𝒱 (c : Thread nD τ) bd) E (f x.1 x.2.1 x.2.2) (fun _ => own (step st x))) :
    ∀ (l : List (Fin 32 × Fin 32 × Fin 16)) (st : S), own st ⊢ wp frame (wpE (defs₀ (F := F)) 𝒱 (c : Thread nD τ) bd) E (runList f l) (fun _ => own (l.foldl step st))
  | [], st => by
    unfold runList
    show _ ⊢ wp _ _ _ (Prog.ret _) _
    rw [wp_ret]
    show own st ⊢ _
    exact fupd_intro
  | x :: l, st => seq_run c 𝒱 bd E (h x st) (runList_run 𝒱 bd E own f step h l (step st x))

/-! ## The pieces of the body -/

/-- What one pair does in the first and in the second tile of a grid point. -/
def step1 (x : Rd F) (n : BitVec 32) (t : Fin k0_t1_loop.trips) (j : Fin 4) : St F → St F :=
  pairStep x (mask 0#32 n) (k0_off2 t (BitVec.ofNat 32 j.val)) (k0_off2_inb t j) (offA1 t j) (offA1_inb t j) (offB1 t j) (offB1_inb t j)
    (k0_off5 t (BitVec.ofNat 32 j.val)) (k0_off5_inb t j)
def step2 (x : Rd F) (n : BitVec 32) (t : Fin k0_t2_loop.trips) (j : Fin 4) : St F → St F :=
  pairStep x (mask 128#32 n) (k0_off12 t (BitVec.ofNat 32 j.val)) (k0_off12_inb t j) (offA2 t j) (offA2_inb t j) (offB2 t j) (offB2_inb t j)
    (k0_off15 t (BitVec.ofNat 32 j.val)) (k0_off15_inb t j)
/-- What the four pairs of a group do. -/
def group1 (x : Rd F) (n : BitVec 32) (t : Fin k0_t1_loop.trips) (st : St F) : St F :=
  step1 x n t 3 (step1 x n t 2 (step1 x n t 1 (step1 x n t 0 st)))
def group2 (x : Rd F) (n : BitVec 32) (t : Fin k0_t2_loop.trips) (st : St F) : St F :=
  step2 x n t 3 (step2 x n t 2 (step2 x n t 1 (step2 x n t 0 st)))
/-- What the first `k` groups do. -/
def groups1 (x : Rd F) (n : BitVec 32) (st : St F) : ℕ → St F
  | 0 => st
  | k + 1 => if h : k < k0_t1_loop.trips then group1 x n ⟨k, h⟩ (groups1 x n st k) else groups1 x n st k
def groups2 (x : Rd F) (n : BitVec 32) (st : St F) : ℕ → St F
  | 0 => st
  | k + 1 => if h : k < k0_t2_loop.trips then group2 x n ⟨k, h⟩ (groups2 x n st k) else groups2 x n st k

theorem pair1_run (𝒱 : Variants) (bd : Option 𝒱.V) (E : Set ℕ) (x : Rd F) (n : BitVec 32) (t : Fin k0_t1_loop.trips) (j : Fin 4) (st : St F) :
    stHeld c arg3 arg4 arg5 arg6 arg7 arg8 arg9 arg10 arg11 arg13 arg15 x st
      ⊢ wp frame (wpE (defs₀ (F := F)) 𝒱 (c : Thread nD τ) bd) E (pair1 arg3 arg4 arg5 arg6 arg7 arg8 arg9 arg10 arg11 arg13 harg13 arg15 n t j)
          (fun _ => stHeld c arg3 arg4 arg5 arg6 arg7 arg8 arg9 arg10 arg11 arg13 arg15 x (step1 x n t j st)) :=
  pairProg_run c arg3 arg4 arg5 arg6 arg7 arg8 arg9 arg10 arg11 arg13 harg13 arg15 𝒱 bd E x _ _ _ _ _ _ _ _ _ _ st

theorem tile1_run (𝒱 : Variants) (bd : Option 𝒱.V) (E : Set ℕ) (x : Rd F) (n : BitVec 32) (st : St F) :
    stHeld c arg3 arg4 arg5 arg6 arg7 arg8 arg9 arg10 arg11 arg13 arg15 x st
      ⊢ wp frame (wpE (defs₀ (F := F)) 𝒱 (c : Thread nD τ) bd) E
          (Scf.Loop.for k0_t1_loop k0_t1_ok ⟨⟩ fun t _ => trip1 arg3 arg4 arg5 arg6 arg7 arg8 arg9 arg10 arg11 arg13 harg13 arg15 n t)
          (fun _ => stHeld c arg3 arg4 arg5 arg6 arg7 arg8 arg9 arg10 arg11 arg13 arg15 x (groups1 x n st k0_t1_loop.trips)) := by
  refine for_run c 𝒱 bd E (fun st => stHeld c arg3 arg4 arg5 arg6 arg7 arg8 arg9 arg10 arg11 arg13 arg15 x st) k0_t1_loop k0_t1_ok _ (groups1 x n st) fun k => ?_
  have e : groups1 x n st (k.val + 1) = group1 x n k (groups1 x n st k.val) := by rw [groups1, dif_pos k.isLt]
  rw [e]
  unfold trip1
  refine seq_run c 𝒱 bd E (pair1_run c arg3 arg4 arg5 arg6 arg7 arg8 arg9 arg10 arg11 arg13 harg13 arg15 𝒱 bd E x n k 0 _) ?_
  refine seq_run c 𝒱 bd E (pair1_run c arg3 arg4 arg5 arg6 arg7 arg8 arg9 arg10 arg11 arg13 harg13 arg15 𝒱 bd E x n k 1 _) ?_
  refine seq_run c 𝒱 bd E (pair1_run c arg3 arg4 arg5 arg6 arg7 arg8 arg9 arg10 arg11 arg13 harg13 arg15 𝒱 bd E x n k 2 _) ?_
  exact pair1_run c arg3 arg4 arg5 arg6 arg7 arg8 arg9 arg10 arg11 arg13 harg13 arg15 𝒱 bd E x n k 3 _

theorem pair2_run (𝒱 : Variants) (bd : Option 𝒱.V) (E : Set ℕ) (x : Rd F) (n : BitVec 32) (t : Fin k0_t2_loop.trips) (j : Fin 4) (st : St F) :
    stHeld c arg3 arg4 arg5 arg6 arg7 arg8 arg9 arg10 arg11 arg13 arg15 x st
      ⊢ wp frame (wpE (defs₀ (F := F)) 𝒱 (c : Thread nD τ) bd) E (pair2 arg3 arg4 arg5 arg6 arg7 arg8 arg9 arg10 arg11 arg13 harg13 arg15 n t j)
          (fun _ => stHeld c arg3 arg4 arg5 arg6 arg7 arg8 arg9 arg10 arg11 arg13 arg15 x (step2 x n t j st)) :=
  pairProg_run c arg3 arg4 arg5 arg6 arg7 arg8 arg9 arg10 arg11 arg13 harg13 arg15 𝒱 bd E x _ _ _ _ _ _ _ _ _ _ st

theorem tile2_run (𝒱 : Variants) (bd : Option 𝒱.V) (E : Set ℕ) (x : Rd F) (n : BitVec 32) (st : St F) :
    stHeld c arg3 arg4 arg5 arg6 arg7 arg8 arg9 arg10 arg11 arg13 arg15 x st
      ⊢ wp frame (wpE (defs₀ (F := F)) 𝒱 (c : Thread nD τ) bd) E
          (Scf.Loop.for k0_t2_loop k0_t2_ok ⟨⟩ fun t _ => trip2 arg3 arg4 arg5 arg6 arg7 arg8 arg9 arg10 arg11 arg13 harg13 arg15 n t)
          (fun _ => stHeld c arg3 arg4 arg5 arg6 arg7 arg8 arg9 arg10 arg11 arg13 arg15 x (groups2 x n st k0_t2_loop.trips)) := by
  refine for_run c 𝒱 bd E (fun st => stHeld c arg3 arg4 arg5 arg6 arg7 arg8 arg9 arg10 arg11 arg13 arg15 x st) k0_t2_loop k0_t2_ok _ (groups2 x n st) fun k => ?_
  have e : groups2 x n st (k.val + 1) = group2 x n k (groups2 x n st k.val) := by rw [groups2, dif_pos k.isLt]
  rw [e]
  unfold trip2
  refine seq_run c 𝒱 bd E (pair2_run c arg3 arg4 arg5 arg6 arg7 arg8 arg9 arg10 arg11 arg13 harg13 arg15 𝒱 bd E x n k 0 _) ?_
  refine seq_run c 𝒱 bd E (pair2_run c arg3 arg4 arg5 arg6 arg7 arg8 arg9 arg10 arg11 arg13 harg13 arg15 𝒱 bd E x n k 1 _) ?_
  refine seq_run c 𝒱 bd E (pair2_run c arg3 arg4 arg5 arg6 arg7 arg8 arg9 arg10 arg11 arg13 harg13 arg15 𝒱 bd E x n k 2 _) ?_
  exact pair2_run c arg3 arg4 arg5 arg6 arg7 arg8 arg9 arg10 arg11 arg13 harg13 arg15 𝒱 bd E x n k 3 _

/-- One pair's initial states put into the scratch. -/
def initStep (x12 : Vec F S1x32x64x64 .f32) (s : Vec F S16x64x128 .f32) (h : Fin 32 × Fin 32 × Fin 16) : Vec F S16x64x128 .f32 :=
  put s ![h.2.2.val, 0, 0] S1x64x128.size
    (besides (window x12 ![0, h.1.val, 0, 0] S1x1x64x64.size (offHead_inb h.1)) (window x12 ![0, h.2.1.val, 0, 0] S1x1x64x64.size (offHead_inb h.2.1)))
/-- One pair's final states put into the block of final states. -/
def finStep (s : Vec F S16x64x128 .f32) (z : Vec F S1x32x64x64 .f32) (h : Fin 32 × Fin 32 × Fin 16) : Vec F S1x32x64x64 .f32 :=
  put (put z ![0, h.1.val, 0, 0] S1x1x64x64.size (headL (window s ![h.2.2.val, 0, 0] S1x64x128.size (offPair_inb h.2.2))))
    ![0, h.2.1.val, 0, 0] S1x1x64x64.size (headR (window s ![h.2.2.val, 0, 0] S1x64x128.size (offPair_inb h.2.2)))

theorem init_run (𝒱 : Variants) (bd : Option 𝒱.V) (E : Set ℕ) (x12 : Vec F S1x32x64x64 .f32) (h : Fin 32 × Fin 32 × Fin 16)
    (s : Vec F S16x64x128 .f32) :
    iprop(at_ c arg12 x12 ∗ at_ c arg15 s)
      ⊢ wp frame (wpE (defs₀ (F := F)) 𝒱 (c : Thread nD τ) bd) E (initProg arg12 arg15 h.1 h.2.1 h.2.2)
          (fun _ => iprop(at_ c arg12 x12 ∗ at_ c arg15 (initStep x12 s h))) := by
  unfold initProg initStep
  generalize besides (F := F) = fB
  iintro ⟨H12, H15⟩
  sl_exec
  sl_step
  unfold init_run.sl.x init_run.sl.y
  rw [View.readAt_rep_unit arg12.view x12 (offHead_inb h.1) rfl (offHead_inb h.1),
    View.readAt_rep_unit arg12.view x12 (offHead_inb h.2.1) rfl (offHead_inb h.2.1)]
  isplitl [H12]
  · iexact H12
  · iapply (writes_rep (c : Thread nD τ) arg15 s (offPair_inb h.2.2) _)
    iexact H15

/-- Two stores over the representative of `X`. -/
theorem writes_rep2 (c : Thread nD τ) {sp : Space} {sh : Shape} {e : EltTy} (M : Memref sig c.2.kind sp sh e)
    (X : sh.Idx → Elt F e) {off size off' size' : Fin sh.rank → ℕ} (inb : ∀ a, off a + size a ≤ sh.size a) (inb' : ∀ a, off' a + size' a ≤ sh.size a)
    (w : (Rect.unit off size inb).shape.Idx → Elt F e) (w' : (Rect.unit off' size' inb').shape.Idx → Elt F e) :
    (M.view.loc c ↦[M.view.set]{fullShare} M.view.writes (Elt F) (M.view.rep X) [⟨Rect.unit off' size' inb', w'⟩, ⟨Rect.unit off size inb, w⟩] : sProp 𝕄G)
      ⊢ (M.view.loc c ↦[M.view.set]{fullShare} M.view.rep (put (put X off size w) off' size' w')) := by
  rw [← owns_eq_rep]
  unfold owns
  iintro H
  iexists _
  isplitr
  rotate_left
  · iexact H
  ipureintro
  rw [View.read_writes_cons_put _ _ _ _ _ rfl, View.read_writes_rep_unit _ _ _ _ rfl]

theorem fin_run (𝒱 : Variants) (bd : Option 𝒱.V) (E : Set ℕ) (s : Vec F S16x64x128 .f32) (h : Fin 32 × Fin 32 × Fin 16)
    (z : Vec F S1x32x64x64 .f32) :
    iprop(at_ c arg15 s ∗ at_ c arg14 z)
      ⊢ wp frame (wpE (defs₀ (F := F)) 𝒱 (c : Thread nD τ) bd) E (finProg arg14 arg15 h.1 h.2.1 h.2.2)
          (fun _ => iprop(at_ c arg15 s ∗ at_ c arg14 (finStep s z h))) := by
  unfold finProg finStep
  generalize headL (F := F) = fL
  generalize headR (F := F) = fR
  iintro ⟨H15, H14⟩
  sl_exec
  sl_step
  unfold fin_run.sl.x
  rw [View.readAt_rep_unit arg15.view s (offPair_inb h.2.2) rfl (offPair_inb h.2.2)]
  isplitl [H15]
  · iexact H15
  · iapply (writes_rep2 (c : Thread nD τ) arg14 z (offHead_inb h.1) (offHead_inb h.2.1) _ _)
    iexact H14

/-- The outputs' block with zeros in the first, and in the second half. -/
def zero1 (st : St F) : St F := (put st.1 ![0, 0, 0] S1x2048x128.size (zeroY (F := F)), st.2)
def zero2 (st : St F) : St F := (put st.1 ![0, 0, 128] S1x2048x128.size (zeroY (F := F)), st.2)

theorem zero1_run (𝒱 : Variants) (bd : Option 𝒱.V) (E : Set ℕ) (x : Rd F) (st : St F) (h₁ h₂ h₃) :
    stHeld c arg3 arg4 arg5 arg6 arg7 arg8 arg9 arg10 arg11 arg13 arg15 x st
      ⊢ wp frame (wpE (defs₀ (F := F)) 𝒱 (c : Thread nD τ) bd) E
          (do
            let _ : Vec F S1x2048x128 .bf16 ← Prog.lift (.load arg13 (Rect.unit (s := S1x2048x256) ![0, 0, 0] S1x2048x128.size inb_S1x2048x256_S1x2048x128_0_0_0).toLoadRect h₁)
            Prog.lift (.store arg13 (Rect.unit (s := S1x2048x256) ![0, 0, 0] S1x2048x128.size inb_S1x2048x256_S1x2048x128_0_0_0) zeroY Finset.univ h₂ h₃))
          (fun _ => stHeld c arg3 arg4 arg5 arg6 arg7 arg8 arg9 arg10 arg11 arg13 arg15 x (zero1 st)) := by
  unfold stHeld zero1
  generalize zeroY (F := F) = zz
  iintro ⟨HR, H13, H15⟩
  sl_exec
  sl_step
  isplitl [HR]
  · iexact HR
  isplitl [H13]
  · iapply (writes_rep (c : Thread nD τ) arg13 st.1 inb_S1x2048x256_S1x2048x128_0_0_0 _)
    iexact H13
  iexact H15

theorem zero2_run (𝒱 : Variants) (bd : Option 𝒱.V) (E : Set ℕ) (x : Rd F) (st : St F) (h₁ h₂ h₃) :
    stHeld c arg3 arg4 arg5 arg6 arg7 arg8 arg9 arg10 arg11 arg13 arg15 x st
      ⊢ wp frame (wpE (defs₀ (F := F)) 𝒱 (c : Thread nD τ) bd) E
          (do
            let _ : Vec F S1x2048x128 .bf16 ← Prog.lift (.load arg13 (Rect.unit (s := S1x2048x256) ![0, 0, 128] S1x2048x128.size inb_S1x2048x256_S1x2048x128_0_0_128).toLoadRect h₁)
            Prog.lift (.store arg13 (Rect.unit (s := S1x2048x256) ![0, 0, 128] S1x2048x128.size inb_S1x2048x256_S1x2048x128_0_0_128) zeroY Finset.univ h₂ h₃))
          (fun _ => stHeld c arg3 arg4 arg5 arg6 arg7 arg8 arg9 arg10 arg11 arg13 arg15 x (zero2 st)) := by
  unfold stHeld zero2
  generalize zeroY (F := F) = zz
  iintro ⟨HR, H13, H15⟩
  sl_exec
  sl_step
  isplitl [HR]
  · iexact HR
  isplitl [H13]
  · iapply (writes_rep (c : Thread nD τ) arg13 st.1 inb_S1x2048x256_S1x2048x128_0_0_128 _)
    iexact H13
  iexact H15

/-- A program that does nothing. -/
theorem skip_run (𝒱 : Variants) (bd : Option 𝒱.V) (E : Set ℕ) (A : sProp 𝕄G) :
    A ⊢ wp frame (wpE (defs₀ (F := F)) 𝒱 (c : Thread nD τ) bd) E (pure ⟨⟩ : Prog (TpuEff nD τ sig (Elt F) Λ₀ .tc) PUnit) (fun _ => A) := by
  show A ⊢ wp _ _ _ (Prog.ret _) _
  rw [wp_ret]
  exact fupd_intro

/-- A branch, and what comes after it. -/
theorem branch_run (𝒱 : Variants) (bd : Option 𝒱.V) (E : Set ℕ) (P : Prop) [Decidable P] {S : Type} (own : S → sProp 𝕄G) (u v : S)
    (p k : Prog (TpuEff nD τ sig (Elt F) Λ₀ .tc) PUnit) {Q : PUnit → sProp 𝕄G}
    (h : own u ⊢ wp frame (wpE (defs₀ (F := F)) 𝒱 (c : Thread nD τ) bd) E p (fun _ => own v))
    (h' : own (if P then v else u) ⊢ wp frame (wpE (defs₀ (F := F)) 𝒱 (c : Thread nD τ) bd) E k Q) :
    own u ⊢ wp frame (wpE (defs₀ (F := F)) 𝒱 (c : Thread nD τ) bd) E (branch P p k) Q := by
  unfold branch
  by_cases hp : P
  · rw [if_pos hp] at h'
    rw [dif_pos hp]
    exact seq_run c 𝒱 bd E h h'
  · rw [if_neg hp] at h'
    rw [dif_neg hp]
    exact h'

/-- The word of the table that a grid point reads. -/
def wordAt (arg2 : Memref sig .tc .smem S6 .i32) (f : arg2.view.ty.Contents (Elt F)) (i : grid0.Coords) : BitVec 32 :=
  View.readAt (Elt F) arg2.view (Rect.unit (s := S6) (k0_off1 i) S1.size (k0_off1_inb i)).toLoadRect f (Shape.Idx.first (numel1_S1.symm ▸ Nat.one_pos))

theorem word_run (𝒱 : Variants) (bd : Option 𝒱.V) (E : Set ℕ) (arg2 : Memref sig .tc .smem S6 .i32) (q : PosShare TreeShare)
    (f : arg2.view.ty.Contents (Elt F)) (i : grid0.Coords) (C : sProp 𝕄G) {α : Type} {Q : α → sProp 𝕄G}
    {k : Elt F .i32 → Prog (TpuEff nD τ sig (Elt F) Λ₀ .tc) α}
    (h : iprop(C ∗ (arg2.view.loc (c : Thread nD τ) ↦[arg2.view.set]{q} f)) ⊢ wp frame (wpE (defs₀ (F := F)) 𝒱 (c : Thread nD τ) bd) E (k (wordAt arg2 f i)) Q) :
    iprop(C ∗ (arg2.view.loc (c : Thread nD τ) ↦[arg2.view.set]{q} f))
      ⊢ wp frame (wpE (defs₀ (F := F)) 𝒱 (c : Thread nD τ) bd) E (smemLoad arg2 (Rect.unit (s := S6) (k0_off1 i) S1.size (k0_off1_inb i)) numel1_S1 rfl >>= k) Q := by
  iintro ⟨HC, H2⟩
  sl_exec
  iapply h
  isplitl [HC]
  · iexact HC
  iexact H2

/-- What a grid point does to the outputs' block and the scratch. -/
def bodySt (x : Rd F) (x12 : Vec F S1x32x64x64 .f32) (i : grid0.Coords) (v : BitVec 32) (st : St F) : St F :=
  let a : St F := if cond1 i then (st.1, pairs.foldl (initStep x12) st.2) else st
  let b : St F := if k0_cond2 i v = 1#1 then groups1 x (left i v) a k0_t1_loop.trips else a
  let d : St F := if k0_cond3 i v = 1#1 then zero1 b else b
  let e : St F := if k0_cond4 i v = 1#1 then groups2 x (left i v) d k0_t2_loop.trips else d
  if k0_cond5 i v = 1#1 then zero2 e else e
/-- What a grid point does to the block of final states. -/
def bodyFin (i : grid0.Coords) (s : Vec F S16x64x128 .f32) (z : Vec F S1x32x64x64 .f32) : Vec F S1x32x64x64 .f32 :=
  if k0_cond6 i = 1#1 then pairs.foldl (finStep s) z else z

/-- Everything the body works on. -/
def bodyHeld (x : Rd F) (x12 : Vec F S1x32x64x64 .f32) (A2 : sProp 𝕄G) (z : Vec F S1x32x64x64 .f32) (st : St F) : sProp 𝕄G :=
  iprop(stHeld c arg3 arg4 arg5 arg6 arg7 arg8 arg9 arg10 arg11 arg13 arg15 x st ∗ at_ c arg12 x12 ∗ at_ c arg14 z ∗ A2)

theorem inits_run (𝒱 : Variants) (bd : Option 𝒱.V) (E : Set ℕ) (x : Rd F) (x12 : Vec F S1x32x64x64 .f32) (A2 : sProp 𝕄G) (z : Vec F S1x32x64x64 .f32) (st : St F) :
    bodyHeld c arg3 arg4 arg5 arg6 arg7 arg8 arg9 arg10 arg11 arg12 arg13 arg14 arg15 x x12 A2 z st
      ⊢ wp frame (wpE (defs₀ (F := F)) 𝒱 (c : Thread nD τ) bd) E (runList (initProg arg12 arg15) pairs)
          (fun _ => bodyHeld c arg3 arg4 arg5 arg6 arg7 arg8 arg9 arg10 arg11 arg12 arg13 arg14 arg15 x x12 A2 z (st.1, pairs.foldl (initStep x12) st.2)) := by
  have h := runList_run c 𝒱 bd E (fun s => iprop(at_ c arg12 x12 ∗ at_ c arg15 s)) (initProg arg12 arg15) (initStep x12)
    (fun h s => init_run c arg12 arg15 𝒱 bd E x12 h s) pairs st.2
  unfold bodyHeld stHeld
  iintro ⟨⟨HR, H13, H15⟩, H12, HZ⟩
  iapply (wp_wand_r frame (wpE (defs₀ (F := F)) 𝒱 (c : Thread nD τ) bd) E)
  isplitl [H12 H15]
  · iapply h
    isplitl [H12]
    · iexact H12
    iexact H15
  · iintro %_ ⟨H12, H15⟩
    isplitl [HR H13 H15]
    · isplitl [HR]
      · iexact HR
      isplitl [H13]
      · iexact H13
      iexact H15
    isplitl [H12]
    · iexact H12
    iexact HZ

theorem fins_run (𝒱 : Variants) (bd : Option 𝒱.V) (E : Set ℕ) (x : Rd F) (x12 : Vec F S1x32x64x64 .f32) (A2 : sProp 𝕄G) (z : Vec F S1x32x64x64 .f32) (st : St F) :
    bodyHeld c arg3 arg4 arg5 arg6 arg7 arg8 arg9 arg10 arg11 arg12 arg13 arg14 arg15 x x12 A2 z st
      ⊢ wp frame (wpE (defs₀ (F := F)) 𝒱 (c : Thread nD τ) bd) E (runList (finProg arg14 arg15) pairs)
          (fun _ => bodyHeld c arg3 arg4 arg5 arg6 arg7 arg8 arg9 arg10 arg11 arg12 arg13 arg14 arg15 x x12 A2 (pairs.foldl (finStep st.2) z) st) := by
  have h := runList_run c 𝒱 bd E (fun z => iprop(at_ c arg15 st.2 ∗ at_ c arg14 z)) (finProg arg14 arg15) (finStep st.2)
    (fun h z => fin_run c arg14 arg15 𝒱 bd E st.2 h z) pairs z
  unfold bodyHeld stHeld
  iintro ⟨⟨HR, H13, H15⟩, H12, H14, HZ⟩
  iapply (wp_wand_r frame (wpE (defs₀ (F := F)) 𝒱 (c : Thread nD τ) bd) E)
  isplitl [H14 H15]
  · iapply h
    isplitl [H15]
    · iexact H15
    iexact H14
  · iintro %_ ⟨H15, H14⟩
    isplitl [HR H13 H15]
    · isplitl [HR]
      · iexact HR
      isplitl [H13]
      · iexact H13
      iexact H15
    isplitl [H12]
    · iexact H12
    isplitl [H14]
    · iexact H14
    iexact HZ

/-- The body at a grid point. -/
theorem body_run (𝒱 : Variants) (bd : Option 𝒱.V) (E : Set ℕ) (i : grid0.Coords) (arg2 : Memref sig .tc .smem S6 .i32) (q : PosShare TreeShare)
    (f : arg2.view.ty.Contents (Elt F)) (x : Rd F) (x12 : Vec F S1x32x64x64 .f32) (z : Vec F S1x32x64x64 .f32) (st : St F)
    (h2 h3 h4 h5 h6 h7 h8 h9 h10 h11 h12 h14 h15) :
    bodyHeld c arg3 arg4 arg5 arg6 arg7 arg8 arg9 arg10 arg11 arg12 arg13 arg14 arg15 x x12 (arg2.view.loc (c : Thread nD τ) ↦[arg2.view.set]{q} f) z st
      ⊢ wp frame (wpE (defs₀ (F := F)) 𝒱 (c : Thread nD τ) bd) E
          (body i arg2 h2 arg3 h3 arg4 h4 arg5 h5 arg6 h6 arg7 h7 arg8 h8 arg9 h9 arg10 h10 arg11 h11 arg12 h12 arg13 harg13 arg14 h14 arg15 h15)
          (fun _ => bodyHeld c arg3 arg4 arg5 arg6 arg7 arg8 arg9 arg10 arg11 arg12 arg13 arg14 arg15 x x12 (arg2.view.loc (c : Thread nD τ) ↦[arg2.view.set]{q} f)
            (bodyFin i (bodySt x x12 i (wordAt arg2 f i) st).2 z) (bodySt x x12 i (wordAt arg2 f i) st)) := by
  unfold body bodySt bodyFin
  dsimp only
  have ride : ∀ {p : Prog (TpuEff nD τ sig (Elt F) Λ₀ .tc) PUnit} {u v : St F},
      (stHeld c arg3 arg4 arg5 arg6 arg7 arg8 arg9 arg10 arg11 arg13 arg15 x u ⊢ wp frame (wpE (defs₀ (F := F)) 𝒱 (c : Thread nD τ) bd) E p (fun _ => stHeld c arg3 arg4 arg5 arg6 arg7 arg8 arg9 arg10 arg11 arg13 arg15 x v)) →
      (bodyHeld c arg3 arg4 arg5 arg6 arg7 arg8 arg9 arg10 arg11 arg12 arg13 arg14 arg15 x x12 (arg2.view.loc (c : Thread nD τ) ↦[arg2.view.set]{q} f) z) u ⊢ wp frame (wpE (defs₀ (F := F)) 𝒱 (c : Thread nD τ) bd) E p (fun _ => (bodyHeld c arg3 arg4 arg5 arg6 arg7 arg8 arg9 arg10 arg11 arg12 arg13 arg14 arg15 x x12 (arg2.view.loc (c : Thread nD τ) ↦[arg2.view.set]{q} f) z) v) :=
    fun h => ride_run c 𝒱 bd E h
  refine branch_run c 𝒱 bd E _ (bodyHeld c arg3 arg4 arg5 arg6 arg7 arg8 arg9 arg10 arg11 arg12 arg13 arg14 arg15 x x12 (arg2.view.loc (c : Thread nD τ) ↦[arg2.view.set]{q} f) z) st _ _ _ (inits_run c arg3 arg4 arg5 arg6 arg7 arg8 arg9 arg10 arg11 arg12 arg13 arg14 arg15 𝒱 bd E x x12 _ z st) ?_
  generalize (if cond1 i then (st.1, pairs.foldl (initStep x12) st.2) else st) = a
  have word : ∀ (u : St F) {Q : PUnit → sProp 𝕄G} {k : Elt F .i32 → Prog (TpuEff nD τ sig (Elt F) Λ₀ .tc) PUnit},
      ((bodyHeld c arg3 arg4 arg5 arg6 arg7 arg8 arg9 arg10 arg11 arg12 arg13 arg14 arg15 x x12 (arg2.view.loc (c : Thread nD τ) ↦[arg2.view.set]{q} f) z) u ⊢ wp frame (wpE (defs₀ (F := F)) 𝒱 (c : Thread nD τ) bd) E (k (wordAt arg2 f i)) Q) →
      (bodyHeld c arg3 arg4 arg5 arg6 arg7 arg8 arg9 arg10 arg11 arg12 arg13 arg14 arg15 x x12 (arg2.view.loc (c : Thread nD τ) ↦[arg2.view.set]{q} f) z) u ⊢ wp frame (wpE (defs₀ (F := F)) 𝒱 (c : Thread nD τ) bd) E (smemLoad arg2 (Rect.unit (s := S6) (k0_off1 i) S1.size (k0_off1_inb i)) numel1_S1 rfl >>= k) Q := by
    intro u Q k h
    refine BIBase.Entails.trans ?_ (word_run c 𝒱 bd E arg2 q f i iprop(stHeld c arg3 arg4 arg5 arg6 arg7 arg8 arg9 arg10 arg11 arg13 arg15 x u ∗ at_ c arg12 x12 ∗ at_ c arg14 z) (BIBase.Entails.trans ?_ h))
    · unfold bodyHeld
      iintro ⟨H, H12, H14, H2⟩
      isplitl [H H12 H14]
      · isplitl [H]
        · iexact H
        isplitl [H12]
        · iexact H12
        iexact H14
      iexact H2
    · unfold bodyHeld
      iintro ⟨⟨H, H12, H14⟩, H2⟩
      isplitl [H]
      · iexact H
      isplitl [H12]
      · iexact H12
      isplitl [H14]
      · iexact H14
      iexact H2
  refine word _ ?_
  generalize wordAt arg2 f i = v
  refine branch_run c 𝒱 bd E _ (bodyHeld c arg3 arg4 arg5 arg6 arg7 arg8 arg9 arg10 arg11 arg12 arg13 arg14 arg15 x x12 (arg2.view.loc (c : Thread nD τ) ↦[arg2.view.set]{q} f) z) _ _ _ _ (ride (tile1_run c arg3 arg4 arg5 arg6 arg7 arg8 arg9 arg10 arg11 arg13 harg13 arg15 𝒱 bd E x (left i v) a)) ?_
  generalize (if k0_cond2 i v = 1#1 then groups1 x (left i v) a k0_t1_loop.trips else a) = b
  refine branch_run c 𝒱 bd E _ (bodyHeld c arg3 arg4 arg5 arg6 arg7 arg8 arg9 arg10 arg11 arg12 arg13 arg14 arg15 x x12 (arg2.view.loc (c : Thread nD τ) ↦[arg2.view.set]{q} f) z) _ _ _ _ (ride (zero1_run c arg3 arg4 arg5 arg6 arg7 arg8 arg9 arg10 arg11 arg13 arg15 𝒱 bd E x b _ _ _)) ?_
  generalize (if k0_cond3 i v = 1#1 then zero1 b else b) = d
  refine branch_run c 𝒱 bd E _ (bodyHeld c arg3 arg4 arg5 arg6 arg7 arg8 arg9 arg10 arg11 arg12 arg13 arg14 arg15 x x12 (arg2.view.loc (c : Thread nD τ) ↦[arg2.view.set]{q} f) z) _ _ _ _ (ride (tile2_run c arg3 arg4 arg5 arg6 arg7 arg8 arg9 arg10 arg11 arg13 harg13 arg15 𝒱 bd E x (left i v) d)) ?_
  generalize (if k0_cond4 i v = 1#1 then groups2 x (left i v) d k0_t2_loop.trips else d) = e
  refine branch_run c 𝒱 bd E _ (bodyHeld c arg3 arg4 arg5 arg6 arg7 arg8 arg9 arg10 arg11 arg12 arg13 arg14 arg15 x x12 (arg2.view.loc (c : Thread nD τ) ↦[arg2.view.set]{q} f) z) _ _ _ _ (ride (zero2_run c arg3 arg4 arg5 arg6 arg7 arg8 arg9 arg10 arg11 arg13 arg15 𝒱 bd E x e _ _ _)) ?_
  generalize (if k0_cond5 i v = 1#1 then zero2 e else e) = w
  refine branch_run c 𝒱 bd E _ (fun z => bodyHeld c arg3 arg4 arg5 arg6 arg7 arg8 arg9 arg10 arg11 arg12 arg13 arg14 arg15 x x12 (arg2.view.loc (c : Thread nD τ) ↦[arg2.view.set]{q} f) z _) z _ _ _
    (fins_run c arg3 arg4 arg5 arg6 arg7 arg8 arg9 arg10 arg11 arg12 arg13 arg14 arg15 𝒱 bd E x x12 _ z _) ?_
  exact skip_run c 𝒱 bd E _

end Steps

end Cert.KernelIdeal.Pair

end
-- ==== Proof.Frame.lean ====
/- The launch: every window's block lies inside its array, the body runs at every grid point on whatever the
   staging buffers hold, and the program terminates with its arguments unchanged and every counter at zero. -/
module

public import proofs.«01_k».proof.Proof.Adm
public import proofs.«01_k».proof.Proof.BodyEq
public import proofs.«01_k».proof.Proof.Run
public import proofs.«01_k».proof.Proof.Gen.KernelIdeal.Launch
public import Idealize.ShloMosaic.Lib.Pipeline.Frame
public import Idealize.ShloMosaic.Lib.Tactic

@[expose] public section

set_option maxRecDepth 8192
set_option maxHeartbeats 400000

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.VecWindow (window put)

variable {F : FTy → Type} [FloatOps F] [Named F]

/-- The resource algebra. -/
local notation "𝕄G" => MT nD τ sig Unit (Elt F) ℕ (UR sig nD τ) ℕ

/-! ## The blocks lie inside the arrays -/

theorem ix_wide (pf : pre0.Contents (Elt F)) (i : grid0.Coords) (ix : Fin 3 → ℕ) (w : BitVec 32)
    (h : ix = ![(BitVec.ofNat 32 (i 0).val).toNat, 0, (Scalar.minsi (BitVec.ofNat 32 (i 1).val) (lastBlock w)).toNat]) :
    ∀ a, (ix a + 1) * S1x2048x256.size a ≤ S6x2048x4096.size a := by
  subst h
  have h2 := third_lt i w
  have h0 : (i 0).val < 6 := (i 0).isLt
  intro a
  match a with
  | 0 =>
    show ((BitVec.ofNat 32 (i 0).val).toNat + 1) * 1 ≤ 6
    rw [BitVec.toNat_ofNat]
    have := Nat.mod_le (i 0).val (2 ^ 32)
    omega
  | 1 => show (0 + 1) * 2048 ≤ 2048; omega
  | 2 =>
    show ((Scalar.minsi (BitVec.ofNat 32 (i 1).val) (lastBlock w)).toNat + 1) * 256 ≤ 4096
    omega

theorem ix_scale (pf : pre0.Contents (Elt F)) (i : grid0.Coords) (ix : Fin 4 → ℕ) (w : BitVec 32)
    (h : ix = ![(BitVec.ofNat 32 (i 0).val).toNat, 0, 0, (Scalar.minsi (BitVec.ofNat 32 (i 1).val) (lastBlock w)).toNat]) :
    ∀ a, (ix a + 1) * S1x4x8x256.size a ≤ S6x4x8x4096.size a := by
  subst h
  have h2 := third_lt i w
  have h0 : (i 0).val < 6 := (i 0).isLt
  intro a
  match a with
  | 0 =>
    show ((BitVec.ofNat 32 (i 0).val).toNat + 1) * 1 ≤ 6
    rw [BitVec.toNat_ofNat]
    have := Nat.mod_le (i 0).val (2 ^ 32)
    omega
  | 1 => show (0 + 1) * 4 ≤ 4; omega
  | 2 => show (0 + 1) * 8 ≤ 8; omega
  | 3 =>
    show ((Scalar.minsi (BitVec.ofNat 32 (i 1).val) (lastBlock w)).toNat + 1) * 256 ≤ 4096
    omega

/-- The word of the table a point's index maps read. -/
abbrev tblWord (pf : pre0.Contents (Elt F)) (i : grid0.Coords) : BitVec 32 :=
  pf.at 0 (Rect.unit (s := S6) ![(Scalar.indexCast (BitVec.ofNat 32 (i 0).val)).toNat] S1.size (Gen.k0_off1_inb i)) Gen.numel1_S1

/-- Every table of lengths is admissible. -/
theorem ok_all (pf : pre0.Contents (Elt F)) : ok0 pf :=
  ⟨fun i => ⟨ix_wide pf i _ (tblWord pf i) rfl, .inr (Affine.block_words_dvd (of_decide_eq_true rfl) (by decide))⟩,
   fun i => ⟨ix_wide pf i _ (tblWord pf i) rfl, .inr (Affine.block_words_dvd (of_decide_eq_true rfl) (by decide))⟩,
   fun i => ⟨ix_wide pf i _ (tblWord pf i) rfl, .inr (Affine.block_words_dvd (of_decide_eq_true rfl) (by decide))⟩,
   fun i => ⟨ix_scale pf i _ (tblWord pf i) rfl, .inl rfl⟩,
   fun i => ⟨ix_scale pf i _ (tblWord pf i) rfl, .inl rfl⟩,
   fun i => ⟨ix_scale pf i _ (tblWord pf i) rfl, .inl rfl⟩,
   fun i => ⟨ix_wide pf i _ (tblWord pf i) rfl, .inr (Affine.block_words_dvd (of_decide_eq_true rfl) (by decide))⟩,
   fun i => ⟨ix_wide pf i _ (tblWord pf i) rfl, .inr (Affine.block_words_dvd (of_decide_eq_true rfl) (by decide))⟩,
   fun i => ⟨ix_wide pf i _ (tblWord pf i) rfl, .inr (Affine.block_words_dvd (of_decide_eq_true rfl) (by decide))⟩⟩

/-! ## The launch's data -/

variable (m : (ℓ : Loc nD τ sig) → Buf (Elt F) ℓ)

/-- The table of lengths as the program is given it. -/
def table : pre0.Contents (Elt F) := fun k => m ((0 : Dev nD).tc.loc (pre0.ref k))

/-- The contents the region's tables are entered at. -/
def adm : (p : Fin 1) → (pcfgs (F := F) p).Adm := fun _ => ⟨table m, ok_all _⟩

/-- The buffers' contents at the region's entry. -/
abbrev V0 (c : Dev nD) : Valuation τ sig (Elt F) := StableHlo.after hostOps0 (fun b => m (c, b))

/-- What the body finds in the inputs it leaves there; of the outputs' blocks nothing is said. -/
def rdat (c : Dev nD) : Pipeline.RDat τ (Elt F) Unit ℕ (UR sig nD τ) ℕ (Pipeline.pin (pcfgs (F := F)) (adm m) 0) c where
  A w := V0 m c (Proc.devRef .tc (Pipeline.arrRef spec0 w))
  after _ _ _ _ := True
  Φ _ := iprop(Pipeline.ΦA spec0 c ∗ Pipeline.ΦT pre0 (table m) c)
  q _ := fullShare
  owed _ := 0

theorem whole_eq (c : Dev nD) (b : Ref sig .tc) (q : PosShare TreeShare) (f : b.ty.Contents (Elt F)) :
    (((c : Thread nD τ).loc b) ↦{q} f : sProp 𝕄G)
      = ((Memref.whole b).view.loc (c : Thread nD τ) ↦[(Memref.whole b).view.set]{q} f) := by
  simp only [Memref.view_whole, View.set_whole]

theorem pre_eq (c : Dev nD) (q : PosShare TreeShare) : (Pipeline.prefHeld pre0 c (fun _ => q) (table m) : sProp 𝕄G)
    = ((Memref.whole main_arg10).view.loc (c : Thread nD τ) ↦[(Memref.whole main_arg10).view.set]{q} (table m 0 : main_arg10.ty.Contents (Elt F))) := by
  refine Eq.trans ?_ (whole_eq c main_arg10 q (table m 0))
  unfold Pipeline.prefHeld
  rw [show (Finset.univ : Finset (Fin pre0.K)) = {0} from rfl, bigSep_singleton]
  rfl

/-- The body's call at a grid point. -/
abbrev call (t : Fin grid0.N) (s : (w : Fin 12) → Fin (spec0 w).nbuf) : Prog (TpuEff nD τ sig (Elt F) Λ₀ .tc) PUnit :=
  body (grid0.coords t) (Memref.whole main_arg10) (Memref.isWhole_whole _) (spec0_0.stage (s 0)) (hstage0_0 ((s 0).cast nbuf0_0))
    (spec0_1.stage (s 1)) (hstage0_1 ((s 1).cast nbuf0_1)) (spec0_2.stage (s 2)) (hstage0_2 ((s 2).cast nbuf0_2))
    (spec0_3.stage (s 3)) (hstage0_3 ((s 3).cast nbuf0_3)) (spec0_4.stage (s 4)) (hstage0_4 ((s 4).cast nbuf0_4))
    (spec0_5.stage (s 5)) (hstage0_5 ((s 5).cast nbuf0_5)) (spec0_6.stage (s 6)) (hstage0_6 ((s 6).cast nbuf0_6))
    (spec0_7.stage (s 7)) (hstage0_7 ((s 7).cast nbuf0_7)) (spec0_8.stage (s 8)) (hstage0_8 ((s 8).cast nbuf0_8))
    (spec0_9.stage (s 9)) (hstage0_9 ((s 9).cast nbuf0_9)) (spec0_10.stage (s 10)) (hstage0_10 ((s 10).cast nbuf0_10))
    (spec0_11.stage (s 11)) (hstage0_11 ((s 11).cast nbuf0_11)) (Memref.whole cc0_scratch0) (Memref.isWhole_whole _)

theorem defs₀_row (t : Fin grid0.N) (s : (w : Fin 12) → Fin (spec0 w).nbuf) : defs₀ (F := F) .tc 0 (t, s) = call t s := by
  unfold defs₀
  rw [Defs.onTc_tc]
  show cc0_rwkv7_chunked _ _ _ _ _ _ _ _ _ _ _ _ _ _ _ _ _ _ _ _ _ _ _ _ _ _ _ _ _ = _
  rw [body_eq]

/-- The inputs' staged blocks out of a point's buffers. -/
abbrev rdOf (Y : (w : Fin 12) → (spec0 w).block.Idx → Elt F (spec0 w).elt) : Rd F := ⟨Y 0, Y 1, Y 2, Y 3, Y 4, Y 5, Y 6, Y 7, Y 8⟩

/-- The call at a grid point, on what the staging buffers hold. -/
theorem call_run (c : Dev nD) (t : Fin grid0.N) (s : (w : Fin 12) → Fin (spec0 w).nbuf)
    (Y : (w : Fin 12) → (spec0 w).block.Idx → Elt F (spec0 w).elt) (q : PosShare TreeShare)
    (f : main_arg10.ty.Contents (Elt F)) (g : cc0_scratch0.ty.Contents (Elt F)) :
    iprop((((Memref.whole main_arg10).view.loc (c : Thread nD τ) ↦[(Memref.whole main_arg10).view.set]{q} f) ∗ (((c : Thread nD τ).loc cc0_scratch0) ↦{fullShare} g))
        ∗ bigSep Finset.univ fun w : Fin 12 => owns (c : Thread nD τ) ((spec0 w).stage (s w)) fullShare (Y w))
      ⊢ wp (M := 𝕄G) frame (wpE (defs₀ (F := F)) Variants.none (c : Thread nD τ) none) Set.univ (call t s) (fun _ =>
        iprop((((Memref.whole main_arg10).view.loc (c : Thread nD τ) ↦[(Memref.whole main_arg10).view.set]{q} f)
          ∗ (((c : Thread nD τ).loc cc0_scratch0) ↦{fullShare} (bodySt (rdOf Y) (Y 9) (grid0.coords t) (wordAt (Memref.whole main_arg10) f (grid0.coords t)) (Y 10, g)).2))
        ∗ bigSep Finset.univ fun w : Fin 12 => owns (c : Thread nD τ) ((spec0 w).stage (s w)) fullShare
            ((match w with
              | 10 => (bodySt (rdOf Y) (Y 9) (grid0.coords t) (wordAt (Memref.whole main_arg10) f (grid0.coords t)) (Y 10, g)).1
              | 11 => bodyFin (grid0.coords t) (bodySt (rdOf Y) (Y 9) (grid0.coords t) (wordAt (Memref.whole main_arg10) f (grid0.coords t)) (Y 10, g)).2 (Y 11)
              | w => Y w : (spec0 w).block.Idx → Elt F (spec0 w).elt)))) := by
  rw [bigSep_W0, bigSep_W0]
  have sc : ∀ h : cc0_scratch0.ty.Contents (Elt F), (((c : Thread nD τ).loc cc0_scratch0) ↦{fullShare} h : sProp 𝕄G) = at_ (F := F) c (Memref.whole cc0_scratch0) h := fun h => by
    rw [← owns_whole (c : Thread nD τ) cc0_scratch0 fullShare h, owns_eq_rep]
  simp only [sc, owns_eq_rep]
  refine BIBase.Entails.trans ?_ (BIBase.Entails.trans (body_run c (spec0_0.stage (s 0)) (spec0_1.stage (s 1)) (spec0_2.stage (s 2)) (spec0_3.stage (s 3))
    (spec0_4.stage (s 4)) (spec0_5.stage (s 5)) (spec0_6.stage (s 6)) (spec0_7.stage (s 7)) (spec0_8.stage (s 8)) (spec0_9.stage (s 9))
    (spec0_10.stage (s 10)) (hstage0_10 ((s 10).cast nbuf0_10)) (spec0_11.stage (s 11)) (Memref.whole cc0_scratch0) Variants.none none Set.univ
    (grid0.coords t) (Memref.whole main_arg10) q f (rdOf Y) (Y 9) (Y 11) (Y 10, g) _ _ _ _ _ _ _ _ _ _ _ _ _) (wp_mono _ _ _ fun _ => ?_))
  · unfold bodyHeld stHeld rdHeld
    iintro ⟨⟨H2, H15⟩, H3, H4, H5, H6, H7, H8, H9, H10, H11, H12, H13, H14⟩
    isplitl [H3 H4 H5 H6 H7 H8 H9 H10 H11 H13 H15]
    · isplitl [H3 H4 H5 H6 H7 H8 H9 H10 H11]
      · isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexact H11
      isplitl [H13]; · iexact H13
      iexact H15
    isplitl [H12]; · iexact H12
    isplitl [H14]; · iexact H14
    iexact H2
  · generalize bodySt (F := F) (rdOf Y) (Y 9) (grid0.coords t) (wordAt (Memref.whole main_arg10) f (grid0.coords t)) (Y 10, g) = u
    unfold bodyHeld stHeld rdHeld
    iintro ⟨⟨⟨H3, H4, H5, H6, H7, H8, H9, H10, H11⟩, H13, H15⟩, H12, H14, H2⟩
    isplitl [H2 H15]
    · isplitl [H2]; · iexact H2
      iexact H15
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

theorem hbody (c : Dev nD) : (rdat m c).BodyObligation defs₀ Variants.none () Set.univ := by
  intro t Y _
  show _ ⊢ wp frame _ _ (defs₀ (F := F) .tc 0 (t, (Pipeline.pin (pcfgs (F := F)) (adm m) 0).slots t)) _
  rw [defs₀_row]
  unfold rdat Pipeline.RDat.owesAt Pipeline.ΦA Pipeline.ΦT
  dsimp only
  rw [scopedRest0_eq, pre_eq]
  iintro ⟨⟨⟨⟨%g, Hg⟩, Hr⟩, Ht⟩, HO, HY⟩
  iapply (wp_wand_r frame (wpE (defs₀ (F := F)) Variants.none (c : Thread nD τ) none) Set.univ)
  isplitl [Ht Hg HY]
  · iapply (call_run c t ((Pipeline.pin (pcfgs (F := F)) (adm m) 0).slots t) Y fullShare.right (table m 0) g)
    isplitl [Ht Hg]
    · isplitl [Ht]
      · iexact Ht
      iexact Hg
    iexact HY
  iintro %_ ⟨⟨Ht, Hg⟩, HY⟩
  isplitl [Ht Hg Hr]
  · isplitl [Hg Hr]
    · isplitl [Hg]
      · iexists _; iexact Hg
      iexact Hr
    iexact Ht
  isplitl [HO]
  · iexact HO
  have wk1 : ∀ (w : Fin 12) (X : (spec0 w).block.Idx → Elt F (spec0 w).elt),
      (owns (c : Thread nD τ) ((spec0 w).stage ((Pipeline.pin (pcfgs (F := F)) (adm m) 0).slots t w)) fullShare X : sProp 𝕄G)
        ⊢ iprop(∃ X, ⌜True⌝ ∗ owns (c : Thread nD τ) ((spec0 w).stage ((Pipeline.pin (pcfgs (F := F)) (adm m) 0).slots t w)) fullShare X) := fun w X => by
    iintro H
    iexists X
    isplitr
    · ipureintro; trivial
    iexact H
  have wk : ∀ X : (w : Fin 12) → (spec0 w).block.Idx → Elt F (spec0 w).elt,
      bigSep (M := 𝕄G) Finset.univ (fun w : Fin 12 => owns (c : Thread nD τ) ((spec0 w).stage ((Pipeline.pin (pcfgs (F := F)) (adm m) 0).slots t w)) fullShare (X w))
        ⊢ bigSep Finset.univ (fun w : Fin 12 => iprop(∃ X, ⌜True⌝ ∗ owns (c : Thread nD τ) ((spec0 w).stage ((Pipeline.pin (pcfgs (F := F)) (adm m) 0).slots t w)) fullShare X)) :=
    fun X => bigSep_mono fun w _ => wk1 w (X w)
  iapply (wk _)
  iexact HY

/-! ## The run -/

theorem hmain : Pipeline.HMainP (Ix := Unit) (Name := ℕ) (U := UR sig nD τ) (Lvl := ℕ) (pcfgs (F := F)) 0 defs₀ Variants.none m main
    (fun c b => V0 m c (Proc.devRef .tc b)) :=
  Pipeline.hmainP_prefix (pcfgs (F := F)) 0 defs₀ Variants.none m main hostOps0 hostOps0_sub
    (by repeat' constructor) main_chain

/-- The host operations before the call write none of @main's arguments. -/
theorem not_written (b : Ref sig .tc) (hb : ∀ x ∈ [main_v0, main_v1, main_v2, main_v3, main_v4, main_v5, main_v6, main_v7, main_v8, main_v9, main_v10, main_v11, main_v12, main_v13, main_v14, main_v15, main_v16, main_v17, main_v18, main_v19, main_v20], b ≠ x) :
    ∀ op ∈ (hostOps0 (F := F)), Proc.devRef .tc b ∉ op.writes := by
  intro op hop
  simp only [List.mem_cons, List.mem_nil_iff, or_false] at hop
  rcases hop with rfl | rfl | rfl | rfl | rfl | rfl | rfl | rfl | rfl | rfl | rfl | rfl | rfl | rfl | rfl | rfl | rfl | rfl | rfl | rfl | rfl <;>
    simp only [StableHlo.unary_writes, StableHlo.reshape_writes, Finset.mem_singleton] <;>
    exact StableHlo.devRef_ne_of_ne (hb _ (by simp))

theorem V0_arg (c : Dev nD) (b : Ref sig .tc) (hb : ∀ x ∈ [main_v0, main_v1, main_v2, main_v3, main_v4, main_v5, main_v6, main_v7, main_v8, main_v9, main_v10, main_v11, main_v12, main_v13, main_v14, main_v15, main_v16, main_v17, main_v18, main_v19, main_v20], b ≠ x) :
    V0 m c (Proc.devRef .tc b) = m ((c : Thread nD τ).loc b) :=
  StableHlo.after_of_forall_not_mem (b := Proc.devRef .tc b) hostOps0 (fun b => m (c, b)) (not_written b hb)

/-- The arguments' arrays at the end of a run. -/
theorem rest_eq (r : PUnit × MemSt nD τ sig (Elt F)) (h : Pipeline.RDat.FramePost (Pipeline.pin (pcfgs (F := F)) (adm m) 0) (rdat m) (fun c b => V0 m c (Proc.devRef .tc b)) r)
    (c : Dev nD) (b : Ref sig .tc) (hb : b ∈ Pipeline.restRefs sig spec0) (hV : V0 m c (Proc.devRef .tc b) = m ((c : Thread nD τ).loc b)) :
    r.2.mem ((c : Thread nD τ).loc b) = m ((c : Thread nD τ).loc b) := ((h c).2 b hb).trans hV

theorem share_full (c : Dev nD) (w : Fin 12) : (rdat m c).share w = fullShare := by
  unfold Pipeline.RDat.share
  split <;> rfl

theorem launch_run (g : Dev nD → PrngReg) :
    θ_run (defs (F := F)) (onTc (τ := τ) (main (F := F))) ⟨m, fun _ => 0, g⟩ (fun r =>
      Pipeline.RDat.FramePost (Pipeline.pin (pcfgs (F := F)) (adm m) 0) (rdat m) (fun c b => V0 m c (Proc.devRef .tc b)) r ∧ r.2.sem = fun _ => 0) :=
  Pipeline.RDat.θ_run_frameP (pcfgs (F := F)) (adm m) 0 launch0 defs₀ Variants.none (rdat m) m g main (hbody m) (share_full m) (fun _ _ => rfl)
    (fun c b => V0 m c (Proc.devRef .tc b)) (hmain m) (fun _ _ => rfl) (fun c k => by
      have hk : k = 0 := Subsingleton.elim (α := Fin 1) k 0
      subst hk
      have hc : c = 0 := Subsingleton.elim (α := Fin 1) c 0
      subst hc
      exact V0_arg m 0 main_arg10 (by decide)) (fun _ _ => rfl) _ (fun _ h => h)

/-- Every run of the program ends with its arguments as they were and every counter at zero. -/
theorem frame_run (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) := by
  refine (launch_run m g).mono fun s h => ⟨fun c => ?_, h.2⟩
  have e : ∀ (b : Ref sig .tc), b ∈ Pipeline.restRefs sig spec0 → (∀ x ∈ [main_v0, main_v1, main_v2, main_v3, main_v4, main_v5, main_v6, main_v7, main_v8, main_v9, main_v10, main_v11, main_v12, main_v13, main_v14, main_v15, main_v16, main_v17, main_v18, main_v19, main_v20], b ≠ x) →
      s.mem ((c : Thread nD τ).loc b) = m ((c : Thread nD τ).loc b) := fun b hb hx => rest_eq m (PUnit.unit, s) h.1 c b hb (V0_arg m c b hx)
  refine ⟨e main_arg0 ?_ ?_, e main_arg1 ?_ ?_, e main_arg2 ?_ ?_, e main_arg3 ?_ ?_, e main_arg4 ?_ ?_, e main_arg5 ?_ ?_, e main_arg6 ?_ ?_,
    e main_arg7 ?_ ?_, e main_arg8 ?_ ?_, (h.1.arr_in c 9 rfl).trans (V0_arg m c main_arg9 (by decide)), e main_arg10 ?_ ?_⟩
  all_goals first | decide | exact Pipeline.mem_restRefs_of _ (by decide) (by decide)

end Cert.KernelIdeal.Pair

end
-- ==== Proof.AdmPrinted.lean ====
/- The block indices of the staged inputs stay inside the arrays, whatever the table of lengths holds: the last
   coordinate is the smaller of the grid's second coordinate and a quotient that is never negative. -/
module

public import proofs.«01_k».proof.Proof.Gen.Kernel
public import Idealize.ShloMosaic.Lib.WordArith
public import Idealize.ShloMosaic.Lib.Tactic

@[expose] public section

noncomputable section

namespace Cert.Kernel.Pair

open Idealize.ShloMosaic
open Cert.Kernel.Gen

variable {F : FTy → Type} [FloatOps F]

/-- The last block of a sequence of length `w`, as the index maps compute it. -/
def lastBlock (w : BitVec 32) : BitVec 32 :=
  let v3 : BitVec 32 := Scalar.maxsi (Scalar.subi w 1#32) 0#32
  let v4 : BitVec 32 := Scalar.divsi v3 256#32
  let v9 : BitVec 32 := Scalar.subi (Scalar.extui (Scalar.cmpi .sgt v3 0#32)) (Scalar.extui (Scalar.cmpi .slt v3 0#32))
  let v14 : BitVec 32 := Scalar.subi (Scalar.extui (Scalar.cmpi .sgt 256#32 0#32)) (Scalar.extui (Scalar.cmpi .slt 256#32 0#32))
  let v18 : BitVec 1 := Scalar.andi (Scalar.cmpi .ne v9 v14) (Scalar.cmpi .ne (Scalar.remsi v3 256#32) 0#32)
  Scalar.select v18 (Scalar.subi v4 1#32) v4

/-- A word that is a natural number's stays one under the quotient by 256. -/
theorem lastBlock_eq (w : BitVec 32) : ∃ n : ℕ, n < 2 ^ 31 ∧ (lastBlock w).toNat = n / 256 ∧ (lastBlock w).toNat < 2 ^ 31 := by
  have h3 : (Scalar.maxsi (Scalar.subi w 1#32) 0#32).toNat < 2 ^ 31 := by
    show (if (0#32).slt (w - 1#32) then w - 1#32 else 0#32).toNat < 2 ^ 31
    split
    · next h =>
      simp only [BitVec.slt_eq_decide, decide_eq_true_eq] at h
      have := BitVec.toInt_eq_toNat_cond (w - 1#32)
      have h0 : (0#32).toInt = 0 := rfl
      have := (w - 1#32).isLt
      split at * <;> omega
    · decide
  unfold lastBlock
  dsimp only
  generalize Scalar.maxsi (Scalar.subi w 1#32) 0#32 = v at h3
  refine ⟨v.toNat, h3, ?_⟩
  by_cases hv : v = 0#32
  · subst hv; decide
  have hpos : (0#32).slt v = true := by
    have hne : v.toNat ≠ 0 := fun h => hv (BitVec.eq_of_toNat_eq h)
    simp only [BitVec.slt_eq_decide, decide_eq_true_eq]
    rw [BitVec.toInt_eq_toNat_cond v]
    have h0 : (0#32).toInt = 0 := rfl
    split <;> omega
  have hneg : v.slt (0#32) = false := by
    simp only [BitVec.slt_eq_decide, decide_eq_false_iff_not, not_lt] at hpos ⊢
    simp only [decide_eq_true_eq] at hpos
    omega
  have e5 : Scalar.cmpi .sgt v 0#32 = 1#1 := by show BitVec.ofBool ((0#32).slt v) = 1#1; rw [hpos]; rfl
  have e7 : Scalar.cmpi .slt v 0#32 = 0#1 := by show BitVec.ofBool (v.slt 0#32) = 0#1; rw [hneg]; rfl
  have ez : Scalar.andi (Scalar.cmpi .ne (Scalar.subi (Scalar.extui (Scalar.cmpi .sgt v 0#32)) (Scalar.extui (Scalar.cmpi .slt v 0#32)) : BitVec 32)
      (Scalar.subi (Scalar.extui (Scalar.cmpi .sgt 256#32 0#32)) (Scalar.extui (Scalar.cmpi .slt 256#32 0#32))))
      (Scalar.cmpi .ne (Scalar.remsi v 256#32) 0#32) = 0#1 := by
    rw [e5, e7]
    generalize Scalar.cmpi .ne (Scalar.remsi v 256#32) 0#32 = b
    revert b; decide
  rw [ez]
  have hd : (Scalar.divsi v 256#32).toNat = v.toNat / 256 := by
    show (IntOp.divsi .scalar v 256#32).toNat = _
    have hc : ¬ IntOp.SDivCorner v 256#32 := by
      rintro (h | ⟨-, h⟩) <;> revert h <;> decide
    unfold IntOp.divsi
    rw [if_neg hc, BitVec.sdiv_eq]
    have hm : v.msb = false := by rw [BitVec.msb_eq_decide]; simp only [decide_eq_false_iff_not, not_le]; omega
    rw [hm, show (256#32).msb = false from rfl]
    show (v / 256#32).toNat = _
    rw [BitVec.toNat_udiv]; rfl
  show (Scalar.divsi v 256#32).toNat = _ ∧ (Scalar.divsi v 256#32).toNat < _
  rw [hd]
  exact ⟨rfl, lt_of_le_of_lt (Nat.div_le_self _ _) h3⟩

theorem minsi_lt (a b : BitVec 32) (ha : a.toNat < 16) (hb : b.toNat < 2 ^ 31) : (Scalar.minsi a b).toNat < 16 := by
  show (if a.slt b then a else b).toNat < 16
  split
  · exact ha
  · next h =>
    simp only [BitVec.slt_eq_decide, decide_eq_true_eq, not_lt] at h
    rw [BitVec.toInt_eq_toNat_cond a, BitVec.toInt_eq_toNat_cond b] at h
    split at h <;> split at h <;> omega

/-- The third coordinate of the block index of a staged input. -/
theorem third_lt (i : grid0.Coords) (w : BitVec 32) : (Scalar.minsi (BitVec.ofNat 32 (i 1).val) (lastBlock w)).toNat < 16 := by
  have hi : (i 1).val < 16 := (i 1).isLt
  obtain ⟨n, -, -, hl⟩ := lastBlock_eq w
  refine minsi_lt _ _ ?_ hl
  rw [BitVec.toNat_ofNat]
  exact lt_of_le_of_lt (Nat.mod_le _ _) hi

end Cert.Kernel.Pair

end
-- ==== Proof.PairPrinted.lean ====
/- The work of one pair of heads in one tile of 128 time steps: the values as plain functions of what
   is loaded, in the order the kernel computes them, and the part of the program that loads, computes
   and stores. Every definition names one step of the algorithm. -/
module

public import proofs.«01_k».proof.Proof.Gen.Kernel

@[expose] public section

noncomputable section

namespace Cert.Kernel.Pair

open Idealize.ShloMosaic Idealize.SL.Sem Cert.Kernel.Gen

variable {F : FTy → Type} [FloatOps F]

/-- A whole-number array divided by `c`, rounded down. -/
def floorDiv {S : Shape} (x : IVec S 32) (c : BitVec 32) : IVec S 32 :=
  select
    (andi
      (cmpi .ne
        (subi (extui 32 (cmpi .sgt x (broadcast S 0#32)) natLt_1_32)
          (extui 32 (cmpi .slt x (broadcast S 0#32)) natLt_1_32))
        (broadcast S (Scalar.subi (Scalar.extui (Scalar.cmpi .sgt c 0#32))
          (Scalar.extui (Scalar.cmpi .slt c 0#32)))))
      (cmpi .ne (remsi x (broadcast S c)) (broadcast S 0#32)))
    (subi (divsi x (broadcast S c)) (broadcast S 1#32))
    (divsi x (broadcast S c))

/-- The remainder of a 128×128 whole-number array by 2, of the divisor's sign. -/
def mod2 (x : IVec S128x128 32) : IVec S128x128 32 :=
  select
    (andi
      (xori (cmpi .slt (remsi x (broadcast S128x128 (Scalar.select (Scalar.cmpi .eq 2#32 0#32) 1#32 2#32)))
          (broadcast S128x128 0#32))
        (broadcastTo S128x128
          (broadcast S128x128 (Scalar.cmpi .slt (Scalar.select (Scalar.cmpi .eq 2#32 0#32) 1#32 2#32) 0#32))
          broadcasts_S128x128_S128x128))
      (cmpi .ne (remsi x (broadcast S128x128 (Scalar.select (Scalar.cmpi .eq 2#32 0#32) 1#32 2#32)))
        (broadcast S128x128 0#32)))
    (addi (remsi x (broadcast S128x128 (Scalar.select (Scalar.cmpi .eq 2#32 0#32) 1#32 2#32)))
      (broadcast S128x128 (Scalar.select (Scalar.cmpi .eq 2#32 0#32) 1#32 2#32)))
    (remsi x (broadcast S128x128 (Scalar.select (Scalar.cmpi .eq 2#32 0#32) 1#32 2#32)))

/-- The constant one and the constant zero, in every place. -/
def ones (S : Shape) : FVec F S .f32 := broadcast S (Scalar.ofBits .f32 0x3F800000#32)
def zeros (S : Shape) : FVec F S .f32 := broadcast S (Scalar.ofBits .f32 0x00000000#32)

/-- Which of the tile's time steps are before the sequence's end, as 1 and 0. -/
def mask (t0 n : BitVec 32) : FVec F S1x128 .f32 :=
  select (cmpi .slt (addi (broadcast S1x128 t0) (iota .tc S1x128 32 [1] iota_S1x128_d1_w32)) (broadcast S1x128 n))
    (ones S1x128) (zeros S1x128)

def row : IVec S128x128 32 := iota .tc S128x128 32 [0] iota_S128x128_d0_w32
def col : IVec S128x128 32 := iota .tc S128x128 32 [1] iota_S128x128_d1_w32

/-- Ones where both time steps lie in one chunk of 64. -/
def same : IVec S128x128 1 := cmpi .eq (floorDiv row 64#32) (floorDiv col 64#32)
def triIncl : FVec F S128x128 .f32 :=
  select (andi same (cmpi .sle row col)) (ones S128x128) (zeros S128x128)
def triExcl : FVec F S128x128 .f32 :=
  select (andi same (cmpi .slt row col)) (ones S128x128) (zeros S128x128)

/-- The logarithms (base 2) of the decays, summed over the chunk: up to and with, and up to but without. -/
def cumLog (w : FVec F S1x128x128 .bf16) (m : FVec F S1x128 .f32) : FVec F S128x256 .f32 :=
  matmul dot_S128x128_S128x256_S128x256_1_0_0_1_n_n (some .fp32)
    (mulf (exp (extf .f32 (shapeCast S128x128 w shapeCasts_S1x128x128_S128x128) bitsLt_bf16_f32))
      (broadcastTo S128x128 (mulf (broadcast S1x128 (Scalar.ofBits .f32 0xBFB8AA3B#32)) m)
        broadcasts_S1x128_S128x128))
    (concatenate S128x256 1 [⟨S128x128, triIncl⟩, ⟨S128x128, triExcl⟩] concatenates_S128x128_S128x128_S128x256_d1)
    (constant S128x256 .f32 0x00000000#32)

def wIn (c : FVec F S128x256 .f32) : FVec F S128x128 .f32 :=
  exp2 (extractStridedSlice S128x128 ![0, 0] c slices_S128x256_o0_0_S128x128)
def wEx (c : FVec F S128x256 .f32) : FVec F S128x128 .f32 :=
  exp2 (extractStridedSlice S128x128 ![0, 128] c slices_S128x256_o0_128_S128x128)
def wInv (c : FVec F S128x256 .f32) (m : FVec F S1x128 .f32) : FVec F S128x128 .f32 :=
  mulf (exp2 (subf (zeros S128x128) (extractStridedSlice S128x128 ![0, 0] c slices_S128x256_o0_0_S128x128)))
    (broadcastTo S128x128 (subf (zeros S1x128) m) broadcasts_S1x128_S128x128)

def ofBf16 (x : FVec F S1x128x128 .bf16) : FVec F S128x128 .f32 :=
  extf .f32 (shapeCast S128x128 x shapeCasts_S1x128x128_S128x128) bitsLt_bf16_f32
def ofF8 (x : FVec F S1x128x128 .fp8e4m3) : FVec F S128x128 .f32 :=
  extf .f32 (shapeCast S128x128 x shapeCasts_S1x128x128_S128x128) bitsLt_fp8e4m3_f32

/-- One scale per head and time step, over the 64 rows of its head. -/
def halfRow (x : FVec F S1x1x1x128 .f32) : FVec F S64x128 .f32 :=
  broadcastTo S64x128 (shapeCast S1x128 (shapeCast S1x128 x shapeCasts_S1x1x1x128_S1x128) shapeCasts_S1x128_S1x128)
    broadcasts_S1x128_S64x128
def cat2 (x y : FVec F S64x128 .f32) : FVec F S128x128 .f32 :=
  concatenate S128x128 0 [⟨S64x128, x⟩, ⟨S64x128, y⟩] concatenates_S64x128_S64x128_S128x128_d0
def halfRows (x y : FVec F S1x1x1x128 .f32) : FVec F S128x128 .f32 := cat2 (halfRow x) (halfRow y)

def tr (x : FVec F S128x128 .f32) : FVec F S128x128 .f32 :=
  transpose S128x128 [1, 0] x transposes_S128x128_p1_0_S128x128
def roll (x : FVec F S128x128 .f32) : FVec F S128x128 .f32 := dynamicRotate 1 64#32 none x rotates_S128x128_d1
def roll64 (x : FVec F S64x128 .f32) : FVec F S64x128 .f32 := dynamicRotate 1 64#32 none x rotates_S64x128_d1
def top (x : FVec F S128x128 .f32) : FVec F S64x128 .f32 :=
  extractStridedSlice S64x128 ![0, 0] x slices_S128x128_o0_0_S64x128
def bot (x : FVec F S128x128 .f32) : FVec F S64x128 .f32 :=
  extractStridedSlice S64x128 ![64, 0] x slices_S128x128_o64_0_S64x128

def lo : IVec S64x128 1 :=
  cmpi .slt (iota .tc S64x128 32 [1] iota_S64x128_d1_w32) (broadcast S64x128 64#32)
def srow : IVec S64x128 32 := iota .tc S64x128 32 [0] iota_S64x128_d0_w32
def tcol : IVec S64x128 32 :=
  andi (iota .tc S64x128 32 [1] iota_S64x128_d1_w32) (broadcast S64x128 63#32)
def strict : IVec S64x128 1 := cmpi .slt srow tcol
def incl : IVec S64x128 1 := cmpi .sle srow tcol

/-! ### The inverse of the unit triangular matrices -/

def blk0 : IVec S32x128 1 :=
  cmpi .eq (andi (floorDiv (iota .tc S32x128 32 [1] iota_S32x128_d1_w32) 32#32) (broadcast S32x128 1#32))
    (broadcast S32x128 0#32)
def eye4 : FVec F S32x128 .f32 :=
  select (cmpi .eq (andi (iota .tc S32x128 32 [1] iota_S32x128_d1_w32) (broadcast S32x128 31#32))
    (iota .tc S32x128 32 [0] iota_S32x128_d0_w32)) (ones S32x128) (zeros S32x128)
def group : IVec S32x128 32 :=
  andi (iota .tc S32x128 32 [1] iota_S32x128_d1_w32) (broadcast S32x128 4294967264#32)

theorem sliceRows : ∀ i : Fin 4, S32x128.Slices ![8 * (i : ℕ), 0] S8x128 := by decide
theorem sliceRow : ∀ l : Fin 8, S8x128.Slices ![(l : ℕ), 0] S1x128 := by decide

def rows8 {α : EltTy} (x : Vec F S32x128 α) (i : Fin 4) : Vec F S8x128 α :=
  extractStridedSlice S8x128 ![8 * (i : ℕ), 0] x (sliceRows i)

/-- The places of column `k` of each of the four 32-column groups, for rows `8 i …`. -/
def colIdx (k : BitVec 32) (i : Fin 4) : IVec S8x128 32 :=
  (fun (x : IVec S8x128 32) =>
    shapeCast S8x128 (shapeCast S8x128x1
      (select (cmpi .slt x (broadcast S8x128 0#32)) (addi x (broadcast S8x128 128#32)) x)
      shapeCasts_S8x128_S8x128x1) shapeCasts_S8x128x1_S8x128)
    (extractStridedSlice S8x128 ![8 * (i : ℕ), 0] (addi group (broadcast S32x128 k)) (sliceRows i))

/-- Rows `8 i …` after row `qk` has been added, each times its entry in column `k`. -/
def upd (g : FVec F S32x128 .f32) (k : BitVec 32) (i : Fin 4) (qk : FVec F S1x128 .f32) (x : FVec F S8x128 .f32) :
    FVec F S8x128 .f32 :=
  addf x (mulf (dynamicGather 1 (extractStridedSlice S8x128 ![8 * (i : ℕ), 0] g (sliceRows i)) (colIdx k i))
    (broadcastTo S8x128 qk broadcasts_S1x128_S8x128))

/-- The step for row `8 j + l`: it is added into the rows above. -/
def invStep (g : FVec F S32x128 .f32) (j : Fin 4) (l : Fin 8) (rs : Fin 4 → FVec F S8x128 .f32) :
    Fin 4 → FVec F S8x128 .f32 := fun i =>
  if 8 * (i : ℕ) < 8 * (j : ℕ) + (l : ℕ) then
    upd g (BitVec.ofNat 32 (8 * (j : ℕ) + (l : ℕ))) i
      (extractStridedSlice S1x128 ![(l : ℕ), 0] (rs j) (sliceRow l)) (rs i)
  else rs i

/-- The rows after the steps 31, 30, …, 31 − n + 1. -/
def invRows (g : FVec F S32x128 .f32) : ℕ → Fin 4 → FVec F S8x128 .f32
  | 0 => fun i => extractStridedSlice S8x128 ![8 * (i : ℕ), 0] eye4 (sliceRows i)
  | n + 1 => invStep g (Fin.ofNat 4 ((31 - n) / 8)) (Fin.ofNat 8 ((31 - n) % 8)) (invRows g n)

def unitInv (g : FVec F S32x128 .f32) : FVec F S32x128 .f32 :=
  concatenate S32x128 0 [⟨S8x128, invRows g 31 0⟩, ⟨S8x128, invRows g 31 1⟩, ⟨S8x128, invRows g 31 2⟩,
    ⟨S8x128, invRows g 31 3⟩] concatenates_S8x128_S8x128_S8x128_S8x128_S32x128_d0

def up32 (g : FVec F S64x128 .f32) : FVec F S32x128 .f32 :=
  extractStridedSlice S32x128 ![0, 0] g slices_S64x128_o0_0_S32x128
def dn32 (g : FVec F S64x128 .f32) : FVec F S32x128 .f32 :=
  extractStridedSlice S32x128 ![32, 0] g slices_S64x128_o32_0_S32x128
def rep4 (x : FVec F S32x128 .f32) : FVec F S128x128 .f32 :=
  concatenate S128x128 0 [⟨S32x128, x⟩, ⟨S32x128, x⟩, ⟨S32x128, x⟩, ⟨S32x128, x⟩]
    concatenates_S32x128_S32x128_S32x128_S32x128_S128x128_d0
def grow : IVec S128x128 32 := floorDiv row 32#32
def gcol : IVec S128x128 32 := floorDiv col 32#32
def mm32 (x : FVec F S32x128 .f32) (y : FVec F S128x128 .f32) : FVec F S32x128 .f32 :=
  matmul dot_S32x128_S128x128_S32x128_1_0_0_1_n_n (some .fp32) x y (constant S32x128 .f32 0x00000000#32)

/-- The inverse of the unit triangular matrix that `g` is strictly above the diagonal, per head: from the
    inverses of its two 32×32 blocks on the diagonal. -/
def invOf (g : FVec F S64x128 .f32) (qd : FVec F S32x128 .f32) : FVec F S64x128 .f32 :=
  concatenate S64x128 0
    [⟨S32x128, select blk0 qd
      (mm32 qd (select (andi (cmpi .eq (floorDiv grow 2#32) (floorDiv gcol 2#32))
          (cmpi .eq (mod2 grow) (broadcast S128x128 0#32)))
        (rep4 (mm32 (select blk0 (zeros S32x128) (up32 g))
          (select (cmpi .eq grow gcol) (rep4 qd) (zeros S128x128)))) (zeros S128x128)))⟩,
     ⟨S32x128, select blk0 (zeros S32x128) qd⟩] concatenates_S32x128_S32x128_S64x128_d0
def inv (g : FVec F S64x128 .f32) : FVec F S64x128 .f32 :=
  invOf g (unitInv (select blk0 (up32 g) (dn32 g)))

/-! ### One chunk of 64 time steps -/

def blockDiag (u : FVec F S64x128 .f32) : FVec F S128x128 .f32 :=
  cat2 (select lo u (zeros S64x128)) (select lo (zeros S64x128) u)
def antiDiag (u : FVec F S64x128 .f32) : FVec F S128x128 .f32 :=
  cat2 (select lo (zeros S64x128) u) (select lo u (zeros S64x128))

/-- `b̂ᵀ`, `k̂ᵀ` and the state, times `â` and `r̂`. -/
def out (x0 x1 bt kt s : FVec F S64x128 .f32) : FVec F S192x256 .f32 :=
  matmul dot_S192x128_S128x256_S192x256_1_0_0_1_n_n (some .fp32)
    (concatenate S192x128 0 [⟨S64x128, bt⟩, ⟨S64x128, kt⟩, ⟨S64x128, s⟩]
      concatenates_S64x128_S64x128_S64x128_S192x128_d0)
    (concatenate S128x256 0
      [⟨S64x256, concatenate S64x256 1 [⟨S64x128, x0⟩, ⟨S64x128, zeros S64x128⟩] concatenates_S64x128_S64x128_S64x256_d1⟩,
       ⟨S64x256, concatenate S64x256 1 [⟨S64x128, zeros S64x128⟩, ⟨S64x128, x1⟩] concatenates_S64x128_S64x128_S64x256_d1⟩]
      concatenates_S64x256_S64x256_S128x256_d0)
    (constant S192x256 .f32 0x00000000#32)
def o0 (o : FVec F S192x256 .f32) : FVec F S192x128 .f32 :=
  extractStridedSlice S192x128 ![0, 0] o slices_S192x256_o0_0_S192x128
def o1 (o : FVec F S192x256 .f32) : FVec F S192x128 .f32 :=
  extractStridedSlice S192x128 ![0, 128] o slices_S192x256_o0_128_S192x128
def p0 (o : FVec F S192x128 .f32) : FVec F S64x128 .f32 :=
  extractStridedSlice S64x128 ![0, 0] o slices_S192x128_o0_0_S64x128
def p1 (o : FVec F S192x128 .f32) : FVec F S64x128 .f32 :=
  extractStridedSlice S64x128 ![64, 0] o slices_S192x128_o64_0_S64x128
def p2 (o : FVec F S192x128 .f32) : FVec F S64x128 .f32 :=
  extractStridedSlice S64x128 ![128, 0] o slices_S192x128_o128_0_S64x128
def gOf (o : FVec F S192x256 .f32) : FVec F S64x128 .f32 :=
  select strict (select lo (p0 (o0 o)) (p0 (o1 o))) (zeros S64x128)
def mbOf (o : FVec F S192x256 .f32) : FVec F S64x128 .f32 :=
  select incl (select lo (p0 (o1 o)) (p0 (o0 o))) (zeros S64x128)
def lkOf (o : FVec F S192x256 .f32) : FVec F S64x128 .f32 :=
  select strict (select lo (p1 (o0 o)) (p1 (o1 o))) (zeros S64x128)
def mkOf (o : FVec F S192x256 .f32) : FVec F S64x128 .f32 :=
  select incl (select lo (p1 (o1 o)) (p1 (o0 o))) (zeros S64x128)
def xOf (o : FVec F S192x256 .f32) : FVec F S64x128 .f32 := select lo (p2 (o0 o)) (p2 (o1 o))
def yyOf (o : FVec F S192x256 .f32) : FVec F S64x128 .f32 := select lo (p2 (o1 o)) (p2 (o0 o))

def voOf (v kt : FVec F S64x128 .f32) (o : FVec F S192x256 .f32) : FVec F S64x384 .f32 :=
  matmul dot_S64x128_S128x384_S64x384_1_0_0_1_n_n (some .fp32) v
    (concatenate S128x384 1 [⟨S128x128, blockDiag (lkOf o)⟩, ⟨S128x128, antiDiag (mkOf o)⟩, ⟨S128x128, blockDiag kt⟩]
      concatenates_S128x128_S128x128_S128x128_S128x384_d1)
    (constant S64x384 .f32 0x00000000#32)
def uOf (x : FVec F S64x128 .f32) (q : FVec F S64x128 .f32) : FVec F S64x128 .f32 :=
  matmul dot_S64x128_S128x128_S64x128_1_0_0_1_n_n (some .fp32) x (blockDiag q) (constant S64x128 .f32 0x00000000#32)
def uoOf (u bt : FVec F S64x128 .f32) (o : FVec F S192x256 .f32) : FVec F S64x256 .f32 :=
  matmul dot_S64x128_S128x256_S64x256_1_0_0_1_n_n (some .fp32) u
    (concatenate S128x256 1 [⟨S128x128, antiDiag (mbOf o)⟩, ⟨S128x128, blockDiag bt⟩]
      concatenates_S128x128_S128x128_S128x256_d1)
    (constant S64x256 .f32 0x00000000#32)
def chunkU (v kt : FVec F S64x128 .f32) (o : FVec F S192x256 .f32) (vo : FVec F S64x384 .f32) :
    FVec F S64x128 .f32 :=
  uOf (addf (xOf o) (extractStridedSlice S64x128 ![0, 0] vo slices_S64x384_o0_0_S64x128)) (inv (gOf o))
def chunkY (o : FVec F S192x256 .f32) (vo : FVec F S64x384 .f32) (uo : FVec F S64x256 .f32) : FVec F S64x128 .f32 :=
  addf (addf (yyOf o) (extractStridedSlice S64x128 ![0, 128] vo slices_S64x384_o0_128_S64x128))
    (extractStridedSlice S64x128 ![0, 0] uo slices_S64x256_o0_0_S64x128)
def chunkS (s : FVec F S64x128 .f32) (vo : FVec F S64x384 .f32) (uo : FVec F S64x256 .f32) (we : FVec F S1x128 .f32) :
    FVec F S64x128 .f32 :=
  mulf (addf (addf s (extractStridedSlice S64x128 ![0, 256] vo slices_S64x384_o0_256_S64x128))
      (extractStridedSlice S64x128 ![0, 128] uo slices_S64x256_o0_128_S64x128))
    (broadcastTo S64x128 we broadcasts_S1x128_S64x128)

/-- One chunk: the outputs and the new state. -/
def chunk (x0 x1 v bt kt s : FVec F S64x128 .f32) (we : FVec F S1x128 .f32) :
    FVec F S64x128 .f32 × FVec F S64x128 .f32 :=
  (chunkY (out x0 x1 bt kt s) (voOf v kt (out x0 x1 bt kt s))
     (uoOf (chunkU v kt (out x0 x1 bt kt s) (voOf v kt (out x0 x1 bt kt s))) bt (out x0 x1 bt kt s)),
   chunkS s (voOf v kt (out x0 x1 bt kt s))
     (uoOf (chunkU v kt (out x0 x1 bt kt s) (voOf v kt (out x0 x1 bt kt s))) bt (out x0 x1 bt kt s)) we)

/-! ### One pair of heads in one tile -/

/-- What is loaded for one pair of heads in one tile. -/
structure Ins (F : FTy → Type) where
  w : FVec F S1x128x128 .bf16
  kk : FVec F S1x128x128 .bf16
  r : FVec F S1x128x128 .fp8e4m3
  ic : FVec F S1x128x128 .bf16
  k : FVec F S1x128x128 .fp8e4m3
  v : FVec F S1x128x128 .fp8e4m3
  ks0 : FVec F S1x1x1x128 .f32
  ks1 : FVec F S1x1x1x128 .f32
  vs0 : FVec F S1x1x1x128 .f32
  vs1 : FVec F S1x1x1x128 .f32
  rs0 : FVec F S1x1x1x128 .f32
  rs1 : FVec F S1x1x1x128 .f32

variable (m : FVec F S1x128 .f32) (x : Ins F)

def aOf : FVec F S128x128 .f32 := mulf (ofBf16 x.kk) (wEx (cumLog x.w m))
def rOf : FVec F S128x128 .f32 := mulf (ofF8 x.r) (wIn (cumLog x.w m))
def bOf : FVec F S128x128 .f32 := mulf (mulf (ofBf16 x.kk) (ofBf16 x.ic)) (wInv (cumLog x.w m) m)
def kOf : FVec F S128x128 .f32 := mulf (ofF8 x.k) (wInv (cumLog x.w m) m)
def vOf : FVec F S128x128 .f32 :=
  mulf (mulf (mulf (ofF8 x.v) (halfRows x.ks0 x.ks1)) (halfRows x.vs0 x.vs1))
    (broadcastTo S128x128 (subf (zeros S1x128) m) broadcasts_S1x128_S128x128)
def ysOf : FVec F S128x128 .f32 :=
  mulf (halfRows x.rs0 x.rs1) (broadcastTo S128x128 m broadcasts_S1x128_S128x128)

def chunk0 (s : FVec F S64x128 .f32) : FVec F S64x128 .f32 × FVec F S64x128 .f32 :=
  chunk (select lo (top (aOf m x)) (top (roll (rOf m x)))) (select lo (bot (rOf m x)) (bot (roll (aOf m x))))
    (select lo (top (vOf m x)) (bot (roll (vOf m x))))
    (top (tr (bOf m x))) (top (tr (kOf m x))) s
    (extractStridedSlice S1x128 ![63, 0] (tr (wIn (cumLog x.w m))) slices_S128x128_o63_0_S1x128)
def chunk1 (s : FVec F S64x128 .f32) : FVec F S64x128 .f32 × FVec F S64x128 .f32 :=
  chunk (select lo (top (roll (aOf m x))) (top (rOf m x))) (select lo (bot (roll (rOf m x))) (bot (aOf m x)))
    (select lo (top (roll (vOf m x))) (bot (vOf m x)))
    (bot (tr (bOf m x))) (bot (tr (kOf m x))) s
    (extractStridedSlice S1x128 ![127, 0] (tr (wIn (cumLog x.w m))) slices_S128x128_o127_0_S1x128)

def cast64 (s : FVec F S1x64x128 .f32) : FVec F S64x128 .f32 := shapeCast S64x128 s shapeCasts_S1x64x128_S64x128

/-- The pair's new state. -/
def pairS (s : FVec F S1x64x128 .f32) : FVec F S1x64x128 .f32 :=
  shapeCast S1x64x128 (chunk1 m x (chunk0 m x (cast64 s)).2).2 shapeCasts_S64x128_S1x64x128
/-- The pair's outputs. -/
def pairY (s : FVec F S1x64x128 .f32) : FVec F S1x128x128 .bf16 :=
  shapeCast S1x128x128
    (truncf .bf16
      (mulf (cat2 (select lo (roll64 (chunk0 m x (cast64 s)).1) (chunk1 m x (chunk0 m x (cast64 s)).2).1)
          (select lo (chunk0 m x (cast64 s)).1 (roll64 (chunk1 m x (chunk0 m x (cast64 s)).2).1)))
        (ysOf m x)) bitsLt_bf16_f32)
    shapeCasts_S128x128_S1x128x128

end Cert.Kernel.Pair

end
-- ==== Proof.BodyPrinted.lean ====
/- The kernel's body written over the functions of `Pair`: the same loads, stores, loops and branches in the
   same order, each repeated group of lines once. `body_eq` says that the printed function is this program. -/
module

public import proofs.«01_k».proof.Proof.PairPrinted

@[expose] public section

noncomputable section

namespace Cert.Kernel.Pair

open Idealize.ShloMosaic Idealize.SL.Sem Cert.Kernel.Gen

variable {F : FTy → Type} [FloatOps F]

section Steps

variable (arg3 : Memref sig .tc .vmem S1x2048x256 .fp8e4m3) (arg4 : Memref sig .tc .vmem S1x2048x256 .fp8e4m3)
  (arg5 : Memref sig .tc .vmem S1x2048x256 .fp8e4m3) (arg6 : Memref sig .tc .vmem S1x4x8x256 .f32)
  (arg7 : Memref sig .tc .vmem S1x4x8x256 .f32) (arg8 : Memref sig .tc .vmem S1x4x8x256 .f32)
  (arg9 : Memref sig .tc .vmem S1x2048x256 .bf16) (arg10 : Memref sig .tc .vmem S1x2048x256 .bf16)
  (arg11 : Memref sig .tc .vmem S1x2048x256 .bf16) (arg12 : Memref sig .tc .vmem S1x32x64x64 .f32)
  (arg13 : Memref sig .tc .vmem S1x2048x256 .bf16) (harg13 : arg13.IsWhole)
  (arg14 : Memref sig .tc .vmem S1x32x64x64 .f32) (arg15 : Memref sig .tc .vmem S16x64x128 .f32)

include harg13 in
/-- One pair of heads in one tile: load, compute, store the state and the outputs. -/
def pairProg (m : FVec F S1x128 .f32)
    (off : Fin 3 → ℕ) (hoff : ∀ a, off a + S1x128x128.size a ≤ S1x2048x256.size a)
    (hpk : (Rect.unit (s := S1x2048x256) off S1x128x128.size hoff).PackedRows (EltTy.packing .bf16))
    (offA : Fin 4 → ℕ) (hoffA : ∀ a, offA a + S1x1x1x128.size a ≤ S1x4x8x256.size a)
    (offB : Fin 4 → ℕ) (hoffB : ∀ a, offB a + S1x1x1x128.size a ≤ S1x4x8x256.size a)
    (offS : Fin 3 → ℕ) (hoffS : ∀ a, offS a + S1x64x128.size a ≤ S16x64x128.size a) : Prog (TpuEff nD τ sig (Elt F) Λ₀ .tc) PUnit := do
  let w : Vec F S1x128x128 .bf16 ← Prog.lift (.load arg9 (Rect.unit (s := S1x2048x256) off S1x128x128.size hoff).toLoadRect (View.loadsAt_vmem h_S1x128x128))
  let kk : Vec F S1x128x128 .bf16 ← Prog.lift (.load arg10 (Rect.unit (s := S1x2048x256) off S1x128x128.size hoff).toLoadRect (View.loadsAt_vmem h_S1x128x128))
  let r : Vec F S1x128x128 .fp8e4m3 ← Prog.lift (.load arg3 (Rect.unit (s := S1x2048x256) off S1x128x128.size hoff).toLoadRect (View.loadsAt_vmem h_S1x128x128))
  let ic : Vec F S1x128x128 .bf16 ← Prog.lift (.load arg11 (Rect.unit (s := S1x2048x256) off S1x128x128.size hoff).toLoadRect (View.loadsAt_vmem h_S1x128x128))
  let k : Vec F S1x128x128 .fp8e4m3 ← Prog.lift (.load arg4 (Rect.unit (s := S1x2048x256) off S1x128x128.size hoff).toLoadRect (View.loadsAt_vmem h_S1x128x128))
  let v : Vec F S1x128x128 .fp8e4m3 ← Prog.lift (.load arg5 (Rect.unit (s := S1x2048x256) off S1x128x128.size hoff).toLoadRect (View.loadsAt_vmem h_S1x128x128))
  let ks0 : Vec F S1x1x1x128 .f32 ← Prog.lift (.load arg7 (Rect.unit (s := S1x4x8x256) offA S1x1x1x128.size hoffA).toLoadRect (View.loadsAt_vmem h_S1x1x1x128))
  let ks1 : Vec F S1x1x1x128 .f32 ← Prog.lift (.load arg7 (Rect.unit (s := S1x4x8x256) offB S1x1x1x128.size hoffB).toLoadRect (View.loadsAt_vmem h_S1x1x1x128))
  let vs0 : Vec F S1x1x1x128 .f32 ← Prog.lift (.load arg8 (Rect.unit (s := S1x4x8x256) offA S1x1x1x128.size hoffA).toLoadRect (View.loadsAt_vmem h_S1x1x1x128))
  let vs1 : Vec F S1x1x1x128 .f32 ← Prog.lift (.load arg8 (Rect.unit (s := S1x4x8x256) offB S1x1x1x128.size hoffB).toLoadRect (View.loadsAt_vmem h_S1x1x1x128))
  let rs0 : Vec F S1x1x1x128 .f32 ← Prog.lift (.load arg6 (Rect.unit (s := S1x4x8x256) offA S1x1x1x128.size hoffA).toLoadRect (View.loadsAt_vmem h_S1x1x1x128))
  let rs1 : Vec F S1x1x1x128 .f32 ← Prog.lift (.load arg6 (Rect.unit (s := S1x4x8x256) offB S1x1x1x128.size hoffB).toLoadRect (View.loadsAt_vmem h_S1x1x1x128))
  let s : Vec F S1x64x128 .f32 ← Prog.lift (.load arg15 (Rect.unit (s := S16x64x128) offS S1x64x128.size hoffS).toLoadRect (View.loadsAt_vmem h_S1x64x128))
  let _ : Vec F S1x64x128 .f32 ← Prog.lift (.load arg15 (Rect.unit (s := S16x64x128) offS S1x64x128.size hoffS).toLoadRect (View.loadsAt_vmem h_S1x64x128))
  Prog.lift (.store arg15 (Rect.unit (s := S16x64x128) offS S1x64x128.size hoffS) (pairS m ⟨w, kk, r, ic, k, v, ks0, ks1, vs0, vs1, rs0, rs1⟩ s) Finset.univ (View.stores_vmem_bits_univ h_S1x64x128 rfl) (.inl rfl))
  let _ : Vec F S1x128x128 .bf16 ← Prog.lift (.load arg13 (Rect.unit (s := S1x2048x256) off S1x128x128.size hoff).toLoadRect (View.loadsAt_vmem h_S1x128x128))
  Prog.lift (.store arg13 (Rect.unit (s := S1x2048x256) off S1x128x128.size hoff) (pairY m ⟨w, kk, r, ic, k, v, ks0, ks1, vs0, vs1, rs0, rs1⟩ s) Finset.univ (View.stores_vmem h_S1x128x128 (harg13.storeExact_slice rfl _ hpk) (fun _ => rfl)) (.inl rfl))

/-- Where a pair's scales lie, head by head: first tile, and second tile. -/
def offA1 (t : Fin k0_t1_loop.trips) : Fin 4 → Fin 4 → ℕ := ![k0_off3 t, k0_off6 t, k0_off8 t, k0_off10 t]
def offB1 (t : Fin k0_t1_loop.trips) : Fin 4 → Fin 4 → ℕ := ![k0_off4 t, k0_off7 t, k0_off9 t, k0_off11 t]
def offA2 (t : Fin k0_t2_loop.trips) : Fin 4 → Fin 4 → ℕ := ![k0_off13 t, k0_off16 t, k0_off18 t, k0_off20 t]
def offB2 (t : Fin k0_t2_loop.trips) : Fin 4 → Fin 4 → ℕ := ![k0_off14 t, k0_off17 t, k0_off19 t, k0_off21 t]

theorem offA1_inb (t) (j : Fin 4) : ∀ a, offA1 t j a + S1x1x1x128.size a ≤ S1x4x8x256.size a :=
  match j with
  | 0 => k0_off3_inb t | 1 => k0_off6_inb t | 2 => k0_off8_inb t | 3 => k0_off10_inb t
theorem offB1_inb (t) (j : Fin 4) : ∀ a, offB1 t j a + S1x1x1x128.size a ≤ S1x4x8x256.size a :=
  match j with
  | 0 => k0_off4_inb t | 1 => k0_off7_inb t | 2 => k0_off9_inb t | 3 => k0_off11_inb t
theorem offA2_inb (t) (j : Fin 4) : ∀ a, offA2 t j a + S1x1x1x128.size a ≤ S1x4x8x256.size a :=
  match j with
  | 0 => k0_off13_inb t | 1 => k0_off16_inb t | 2 => k0_off18_inb t | 3 => k0_off20_inb t
theorem offB2_inb (t) (j : Fin 4) : ∀ a, offB2 t j a + S1x1x1x128.size a ≤ S1x4x8x256.size a :=
  match j with
  | 0 => k0_off14_inb t | 1 => k0_off17_inb t | 2 => k0_off19_inb t | 3 => k0_off21_inb t

include harg13 in
def pair1 (n : BitVec 32) (t : Fin k0_t1_loop.trips) (j : Fin 4) : Prog (TpuEff nD τ sig (Elt F) Λ₀ .tc) PUnit :=
  pairProg arg3 arg4 arg5 arg6 arg7 arg8 arg9 arg10 arg11 arg13 harg13 arg15 (mask 0#32 n)
    (k0_off2 t (BitVec.ofNat 32 j.val)) (k0_off2_inb t j) (k0_off2_packedbf16 t j)
    (offA1 t j) (offA1_inb t j) (offB1 t j) (offB1_inb t j)
    (k0_off5 t (BitVec.ofNat 32 j.val)) (k0_off5_inb t j)
include harg13 in
def pair2 (n : BitVec 32) (t : Fin k0_t2_loop.trips) (j : Fin 4) : Prog (TpuEff nD τ sig (Elt F) Λ₀ .tc) PUnit :=
  pairProg arg3 arg4 arg5 arg6 arg7 arg8 arg9 arg10 arg11 arg13 harg13 arg15 (mask 128#32 n)
    (k0_off12 t (BitVec.ofNat 32 j.val)) (k0_off12_inb t j) (k0_off12_packedbf16 t j)
    (offA2 t j) (offA2_inb t j) (offB2 t j) (offB2_inb t j)
    (k0_off15 t (BitVec.ofNat 32 j.val)) (k0_off15_inb t j)

include harg13 in
/-- One trip: the four pairs of a group of eight heads. -/
def trip1 (n : BitVec 32) (t : Fin k0_t1_loop.trips) : Prog (TpuEff nD τ sig (Elt F) Λ₀ .tc) PUnit := do
  pair1 arg3 arg4 arg5 arg6 arg7 arg8 arg9 arg10 arg11 arg13 harg13 arg15 n t 0
  pair1 arg3 arg4 arg5 arg6 arg7 arg8 arg9 arg10 arg11 arg13 harg13 arg15 n t 1
  pair1 arg3 arg4 arg5 arg6 arg7 arg8 arg9 arg10 arg11 arg13 harg13 arg15 n t 2
  pair1 arg3 arg4 arg5 arg6 arg7 arg8 arg9 arg10 arg11 arg13 harg13 arg15 n t 3
include harg13 in
def trip2 (n : BitVec 32) (t : Fin k0_t2_loop.trips) : Prog (TpuEff nD τ sig (Elt F) Λ₀ .tc) PUnit := do
  pair2 arg3 arg4 arg5 arg6 arg7 arg8 arg9 arg10 arg11 arg13 harg13 arg15 n t 0
  pair2 arg3 arg4 arg5 arg6 arg7 arg8 arg9 arg10 arg11 arg13 harg13 arg15 n t 1
  pair2 arg3 arg4 arg5 arg6 arg7 arg8 arg9 arg10 arg11 arg13 harg13 arg15 n t 2
  pair2 arg3 arg4 arg5 arg6 arg7 arg8 arg9 arg10 arg11 arg13 harg13 arg15 n t 3

theorem offHead_inb : ∀ h : Fin 32, ∀ a, (![0, (h : ℕ), 0, 0] : Fin 4 → ℕ) a + S1x1x64x64.size a ≤ S1x32x64x64.size a := by
  decide
theorem offPair_inb : ∀ p : Fin 16, ∀ a, (![(p : ℕ), 0, 0] : Fin 3 → ℕ) a + S1x64x128.size a ≤ S16x64x128.size a := by
  decide

/-- Two heads' states side by side. -/
def besides (x y : Vec F S1x1x64x64 .f32) : Vec F S1x64x128 .f32 :=
  shapeCast S1x64x128
    (concatenate S64x128 1 [⟨S64x64, (shapeCast S64x64 x shapeCasts_S1x1x64x64_S64x64 : FVec F S64x64 .f32)⟩,
      ⟨S64x64, (shapeCast S64x64 y shapeCasts_S1x1x64x64_S64x64 : FVec F S64x64 .f32)⟩] concatenates_S64x64_S64x64_S64x128_d1)
    shapeCasts_S64x128_S1x64x128
/-- The first and the second head's state of a pair. -/
def headL (x : Vec F S1x64x128 .f32) : Vec F S1x1x64x64 .f32 :=
  shapeCast S1x1x64x64
    (extractStridedSlice S64x64 ![0, 0] (shapeCast S64x128 x shapeCasts_S1x64x128_S64x128 : FVec F S64x128 .f32) slices_S64x128_o0_0_S64x64)
    shapeCasts_S64x64_S1x1x64x64
def headR (x : Vec F S1x64x128 .f32) : Vec F S1x1x64x64 .f32 :=
  shapeCast S1x1x64x64
    (extractStridedSlice S64x64 ![0, 64] (shapeCast S64x128 x shapeCasts_S1x64x128_S64x128 : FVec F S64x128 .f32) slices_S64x128_o0_64_S64x64)
    shapeCasts_S64x64_S1x1x64x64

/-- Bring one pair's initial states into the scratch. -/
def initProg (h0 h1 : Fin 32) (p : Fin 16) : Prog (TpuEff nD τ sig (Elt F) Λ₀ .tc) PUnit := do
  let x : Vec F S1x1x64x64 .f32 ← Prog.lift (.load arg12 (Rect.unit (s := S1x32x64x64) ![0, h0.val, 0, 0] S1x1x64x64.size (offHead_inb h0)).toLoadRect (View.loadsAt_vmem h_S1x1x64x64))
  let y : Vec F S1x1x64x64 .f32 ← Prog.lift (.load arg12 (Rect.unit (s := S1x32x64x64) ![0, h1.val, 0, 0] S1x1x64x64.size (offHead_inb h1)).toLoadRect (View.loadsAt_vmem h_S1x1x64x64))
  let _ : Vec F S1x64x128 .f32 ← Prog.lift (.load arg15 (Rect.unit (s := S16x64x128) ![p.val, 0, 0] S1x64x128.size (offPair_inb p)).toLoadRect (View.loadsAt_vmem h_S1x64x128))
  Prog.lift (.store arg15 (Rect.unit (s := S16x64x128) ![p.val, 0, 0] S1x64x128.size (offPair_inb p)) (besides x y) Finset.univ (View.stores_vmem_bits_univ h_S1x64x128 rfl) (.inl rfl))

/-- Write one pair's final states out. -/
def finProg (h0 h1 : Fin 32) (p : Fin 16) : Prog (TpuEff nD τ sig (Elt F) Λ₀ .tc) PUnit := do
  let x : Vec F S1x64x128 .f32 ← Prog.lift (.load arg15 (Rect.unit (s := S16x64x128) ![p.val, 0, 0] S1x64x128.size (offPair_inb p)).toLoadRect (View.loadsAt_vmem h_S1x64x128))
  let _ : Vec F S1x1x64x64 .f32 ← Prog.lift (.load arg14 (Rect.unit (s := S1x32x64x64) ![0, h0.val, 0, 0] S1x1x64x64.size (offHead_inb h0)).toLoadRect (View.loadsAt_vmem h_S1x1x64x64))
  Prog.lift (.store arg14 (Rect.unit (s := S1x32x64x64) ![0, h0.val, 0, 0] S1x1x64x64.size (offHead_inb h0)) (headL x) Finset.univ (View.stores_vmem_bits_univ h_S1x1x64x64 rfl) (.inl rfl))
  let _ : Vec F S1x1x64x64 .f32 ← Prog.lift (.load arg14 (Rect.unit (s := S1x32x64x64) ![0, h1.val, 0, 0] S1x1x64x64.size (offHead_inb h1)).toLoadRect (View.loadsAt_vmem h_S1x1x64x64))
  Prog.lift (.store arg14 (Rect.unit (s := S1x32x64x64) ![0, h1.val, 0, 0] S1x1x64x64.size (offHead_inb h1)) (headR x) Finset.univ (View.stores_vmem_bits_univ h_S1x1x64x64 rfl) (.inl rfl))

/-- The pairs whose states are brought in and written out, in order. -/
def pairs : List (Fin 32 × Fin 32 × Fin 16) :=
  [(0, 1, 0), (2, 3, 1), (4, 5, 2), (6, 7, 3), (8, 9, 4), (10, 11, 5), (12, 13, 6), (14, 15, 7), (16, 17, 8), (18, 19, 9),
   (20, 21, 10), (22, 23, 11), (24, 25, 12), (26, 27, 13), (28, 29, 14), (30, 31, 15)]

def runList (f : Fin 32 → Fin 32 → Fin 16 → Prog (TpuEff nD τ sig (Elt F) Λ₀ .tc) PUnit) : List (Fin 32 × Fin 32 × Fin 16) → Prog (TpuEff nD τ sig (Elt F) Λ₀ .tc) PUnit
  | [] => pure ⟨⟩
  | x :: l => do
    f x.1 x.2.1 x.2.2
    runList f l

/-- Zeros, as the outputs of a tile that begins after the sequence's end. -/
def zeroY : Vec F S1x2048x128 .bf16 :=
  shapeCast S1x2048x128 (broadcast S2048x128 (Scalar.ofBits .bf16 0x0000#16) : FVec F S2048x128 .bf16) shapeCasts_S2048x128_S1x2048x128

end Steps

/-- A branch, and what comes after it. -/
def branch (P : Prop) [Decidable P] (p k : Prog (TpuEff nD τ sig (Elt F) Λ₀ .tc) PUnit) : Prog (TpuEff nD τ sig (Elt F) Λ₀ .tc) PUnit :=
  if _h : P then p >>= fun _ => k else k

/-- The first branch's condition: the sequence's first block. -/
abbrev cond1 (i : grid0.Coords) : Prop :=
  Scalar.cmpi .ne (Scalar.extui (Scalar.cmpi .eq (BitVec.ofNat 32 (i 1).val) 0#32)) (0#32) = 1#1

/-- The number of steps of the sequence that are left at a grid point, as the body counts it. -/
def left (i : grid0.Coords) (v : BitVec 32) : BitVec 32 := Scalar.subi v (Scalar.muli (BitVec.ofNat 32 (i 1).val) 256#32)

/-- The whole body. -/
def body (i : grid0.Coords) (arg2 : Memref sig .tc .smem S6 .i32) (_harg2 : arg2.IsWhole) (arg3 : Memref sig .tc .vmem S1x2048x256 .fp8e4m3) (_harg3 : arg3.IsWhole) (arg4 : Memref sig .tc .vmem S1x2048x256 .fp8e4m3) (_harg4 : arg4.IsWhole) (arg5 : Memref sig .tc .vmem S1x2048x256 .fp8e4m3) (_harg5 : arg5.IsWhole) (arg6 : Memref sig .tc .vmem S1x4x8x256 .f32) (_harg6 : arg6.IsWhole) (arg7 : Memref sig .tc .vmem S1x4x8x256 .f32) (_harg7 : arg7.IsWhole) (arg8 : Memref sig .tc .vmem S1x4x8x256 .f32) (_harg8 : arg8.IsWhole) (arg9 : Memref sig .tc .vmem S1x2048x256 .bf16) (_harg9 : arg9.IsWhole) (arg10 : Memref sig .tc .vmem S1x2048x256 .bf16) (_harg10 : arg10.IsWhole) (arg11 : Memref sig .tc .vmem S1x2048x256 .bf16) (_harg11 : arg11.IsWhole) (arg12 : Memref sig .tc .vmem S1x32x64x64 .f32) (_harg12 : arg12.IsWhole) (arg13 : Memref sig .tc .vmem S1x2048x256 .bf16) (harg13 : arg13.IsWhole) (arg14 : Memref sig .tc .vmem S1x32x64x64 .f32) (_harg14 : arg14.IsWhole) (arg15 : Memref sig .tc .vmem S16x64x128 .f32) (_harg15 : arg15.IsWhole) : Prog (TpuEff nD τ sig (Elt F) Λ₀ .tc) PUnit :=
  branch (cond1 i) (runList (initProg arg12 arg15) pairs) <|
  smemLoad arg2 (Rect.unit (s := S6) (k0_off1 i) S1.size (k0_off1_inb i)) numel1_S1 rfl >>= fun v4 =>
  branch (k0_cond2 i v4 = 1#1) (Scf.Loop.for k0_t1_loop k0_t1_ok ⟨⟩ fun t _ => trip1 arg3 arg4 arg5 arg6 arg7 arg8 arg9 arg10 arg11 arg13 harg13 arg15 (left i v4) t) <|
  branch (k0_cond3 i v4 = 1#1) (do
    let _ : Vec F S1x2048x128 .bf16 ← Prog.lift (.load arg13 (Rect.unit (s := S1x2048x256) ![0, 0, 0] S1x2048x128.size inb_S1x2048x256_S1x2048x128_0_0_0).toLoadRect (View.loadsAt_vmem h_S1x2048x128))
    Prog.lift (.store arg13 (Rect.unit (s := S1x2048x256) ![0, 0, 0] S1x2048x128.size inb_S1x2048x256_S1x2048x128_0_0_0) zeroY Finset.univ (View.stores_vmem h_S1x2048x128 (harg13.storeExact_slice rfl _ packedbf16_S1x2048x256_S1x2048x128_0_0_0) (fun _ => rfl)) (.inl rfl))) <|
  branch (k0_cond4 i v4 = 1#1) (Scf.Loop.for k0_t2_loop k0_t2_ok ⟨⟩ fun t _ => trip2 arg3 arg4 arg5 arg6 arg7 arg8 arg9 arg10 arg11 arg13 harg13 arg15 (left i v4) t) <|
  branch (k0_cond5 i v4 = 1#1) (do
    let _ : Vec F S1x2048x128 .bf16 ← Prog.lift (.load arg13 (Rect.unit (s := S1x2048x256) ![0, 0, 128] S1x2048x128.size inb_S1x2048x256_S1x2048x128_0_0_128).toLoadRect (View.loadsAt_vmem h_S1x2048x128))
    Prog.lift (.store arg13 (Rect.unit (s := S1x2048x256) ![0, 0, 128] S1x2048x128.size inb_S1x2048x256_S1x2048x128_0_0_128) zeroY Finset.univ (View.stores_vmem h_S1x2048x128 (harg13.storeExact_slice rfl _ packedbf16_S1x2048x256_S1x2048x128_0_0_128) (fun _ => rfl)) (.inl rfl))) <|
  branch (k0_cond6 i = 1#1) (runList (finProg arg14 arg15) pairs) <|
  pure ⟨⟩

end Cert.Kernel.Pair

end
-- ==== Proof.BodyEqPrinted.lean ====
module

public import proofs.«01_k».proof.Proof.BodyPrinted
public import Idealize.ShloMosaic.Lib.Exec
public import Idealize.ShloMosaic.Lib.Tactic

@[expose] public section

set_option maxRecDepth 100000
set_option maxHeartbeats 0

noncomputable section

namespace Cert.Kernel.Pair

open Idealize.ShloMosaic Idealize.SL.Sem Cert.Kernel.Gen

variable {F : FTy → Type} [FloatOps F]

theorem body_eq : cc0_rwkv7_chunked (F := F) = body (F := F) := by
  sl_kernel_rfl

end Cert.Kernel.Pair

end
-- ==== Proof.RunPrinted.lean ====
/- Running the body: what each of its pieces does to the memory that it meets. A block of outputs and the
   scratch of states are the state; the staged inputs are read and stay. -/
module

public import proofs.«01_k».proof.Proof.BodyPrinted
public import Idealize.ShloMosaic.Lib.Exec
public import Idealize.ShloMosaic.Lib.Tactic
public import Idealize.ShloMosaic.Lib.Pipeline.Kit
public import Idealize.ShloMosaic.Lib.VecWindow
public import Idealize.ShloMosaic.Lib.Pipeline.TableIdle

@[expose] public section

set_option maxRecDepth 8192
set_option maxHeartbeats 400000

noncomputable section

namespace Cert.Kernel.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen
open Idealize.ShloMosaic.VecWindow (window put)

variable {F : FTy → Type} [FloatOps F]

/-- The resource algebra. -/
local notation "𝕄G" => MT nD τ sig Unit (Elt F) ℕ (UR sig nD τ) ℕ

/-- The staged inputs of one grid point. -/
structure Rd (F : FTy → Type) where
  (x3 x4 x5 : Vec F S1x2048x256 .fp8e4m3) (x6 x7 x8 : Vec F S1x4x8x256 .f32) (x9 x10 x11 : Vec F S1x2048x256 .bf16)

/-- The outputs' block and the states' scratch. -/
abbrev St (F : FTy → Type) := Vec F S1x2048x256 .bf16 × Vec F S16x64x128 .f32

/-- What one pair of heads does in one tile. -/
def pairStep (x : Rd F) (m : FVec F S1x128 .f32)
    (off : Fin 3 → ℕ) (hoff : ∀ a, off a + S1x128x128.size a ≤ S1x2048x256.size a)
    (offA : Fin 4 → ℕ) (hoffA : ∀ a, offA a + S1x1x1x128.size a ≤ S1x4x8x256.size a)
    (offB : Fin 4 → ℕ) (hoffB : ∀ a, offB a + S1x1x1x128.size a ≤ S1x4x8x256.size a)
    (offS : Fin 3 → ℕ) (hoffS : ∀ a, offS a + S1x64x128.size a ≤ S16x64x128.size a) (st : St F) : St F :=
  let i : Ins F := ⟨window x.x9 off S1x128x128.size hoff, window x.x10 off S1x128x128.size hoff, window x.x3 off S1x128x128.size hoff,
    window x.x11 off S1x128x128.size hoff, window x.x4 off S1x128x128.size hoff, window x.x5 off S1x128x128.size hoff,
    window x.x7 offA S1x1x1x128.size hoffA, window x.x7 offB S1x1x1x128.size hoffB,
    window x.x8 offA S1x1x1x128.size hoffA, window x.x8 offB S1x1x1x128.size hoffB,
    window x.x6 offA S1x1x1x128.size hoffA, window x.x6 offB S1x1x1x128.size hoffB⟩
  let s : Vec F S1x64x128 .f32 := window st.2 offS S1x64x128.size hoffS
  (put st.1 off S1x128x128.size (pairY m i s), put st.2 offS S1x64x128.size (pairS m i s))

/-- A store over the representative of `X` leaves the representative of `X` with the payload put there. -/
theorem writes_rep (c : Thread nD τ) {sp : Space} {sh : Shape} {e : EltTy} (M : Memref sig c.2.kind sp sh e)
    (X : sh.Idx → Elt F e) {off size : Fin sh.rank → ℕ} (inb : ∀ a, off a + size a ≤ sh.size a)
    (w : (Rect.unit off size inb).shape.Idx → Elt F e) :
    (M.view.loc c ↦[M.view.set]{fullShare} M.view.writes (Elt F) (M.view.rep X) [⟨Rect.unit off size inb, w⟩] : sProp 𝕄G)
      ⊢ (M.view.loc c ↦[M.view.set]{fullShare} M.view.rep (put X off size w)) := by
  rw [← owns_eq_rep]
  unfold owns
  iintro H
  iexists _
  isplitr
  rotate_left
  · iexact H
  ipureintro
  exact View.read_writes_rep_unit _ _ _ _ rfl

section Steps

variable (c : Dev nD) (arg3 : Memref sig .tc .vmem S1x2048x256 .fp8e4m3) (arg4 : Memref sig .tc .vmem S1x2048x256 .fp8e4m3)
  (arg5 : Memref sig .tc .vmem S1x2048x256 .fp8e4m3) (arg6 : Memref sig .tc .vmem S1x4x8x256 .f32)
  (arg7 : Memref sig .tc .vmem S1x4x8x256 .f32) (arg8 : Memref sig .tc .vmem S1x4x8x256 .f32)
  (arg9 : Memref sig .tc .vmem S1x2048x256 .bf16) (arg10 : Memref sig .tc .vmem S1x2048x256 .bf16)
  (arg11 : Memref sig .tc .vmem S1x2048x256 .bf16) (arg12 : Memref sig .tc .vmem S1x32x64x64 .f32)
  (arg13 : Memref sig .tc .vmem S1x2048x256 .bf16) (harg13 : arg13.IsWhole)
  (arg14 : Memref sig .tc .vmem S1x32x64x64 .f32) (arg15 : Memref sig .tc .vmem S16x64x128 .f32)

/-- A memref of the core held at `X`. -/
abbrev at_ {sp : Space} {sh : Shape} {e : EltTy} (M : Memref sig .tc sp sh e) (X : sh.Idx → Elt F e) : sProp 𝕄G :=
  (M.view.loc (c : Thread nD τ) ↦[M.view.set]{fullShare} M.view.rep X)

/-- The staged inputs held. -/
def rdHeld (x : Rd F) : sProp 𝕄G :=
  iprop(at_ c arg3 x.x3 ∗ at_ c arg4 x.x4 ∗ at_ c arg5 x.x5 ∗ at_ c arg6 x.x6 ∗ at_ c arg7 x.x7 ∗ at_ c arg8 x.x8
    ∗ at_ c arg9 x.x9 ∗ at_ c arg10 x.x10 ∗ at_ c arg11 x.x11)

/-- The inputs and the state held. -/
def stHeld (x : Rd F) (st : St F) : sProp 𝕄G :=
  iprop(rdHeld c arg3 arg4 arg5 arg6 arg7 arg8 arg9 arg10 arg11 x ∗ at_ c arg13 st.1 ∗ at_ c arg15 st.2)

theorem pairProg_run (𝒱 : Variants) (bd : Option 𝒱.V) (E : Set ℕ) (x : Rd F) (m : FVec F S1x128 .f32)
    (off : Fin 3 → ℕ) (hoff : ∀ a, off a + S1x128x128.size a ≤ S1x2048x256.size a)
    (hpk : (Rect.unit (s := S1x2048x256) off S1x128x128.size hoff).PackedRows (EltTy.packing .bf16))
    (offA : Fin 4 → ℕ) (hoffA : ∀ a, offA a + S1x1x1x128.size a ≤ S1x4x8x256.size a)
    (offB : Fin 4 → ℕ) (hoffB : ∀ a, offB a + S1x1x1x128.size a ≤ S1x4x8x256.size a)
    (offS : Fin 3 → ℕ) (hoffS : ∀ a, offS a + S1x64x128.size a ≤ S16x64x128.size a) (st : St F) :
    stHeld c arg3 arg4 arg5 arg6 arg7 arg8 arg9 arg10 arg11 arg13 arg15 x st
      ⊢ wp frame (wpE (defs₀ (F := F)) 𝒱 (c : Thread nD τ) bd) E
          (pairProg arg3 arg4 arg5 arg6 arg7 arg8 arg9 arg10 arg11 arg13 harg13 arg15 m off hoff hpk offA hoffA offB hoffB offS hoffS)
          (fun _ => stHeld c arg3 arg4 arg5 arg6 arg7 arg8 arg9 arg10 arg11 arg13 arg15 x (pairStep x m off hoff offA hoffA offB hoffB offS hoffS st)) := by
  unfold stHeld rdHeld pairProg pairStep
  generalize pairS (F := F) = fS
  generalize pairY (F := F) = fY
  iintro ⟨⟨H3, H4, H5, H6, H7, H8, H9, H10, H11⟩, H13, H15⟩
  sl_exec
  sl_step
  isplitl [H3 H4 H5 H6 H7 H8 H9 H10 H11]
  · isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  rw [View.readAt_rep_unit arg9.view x.x9 hoff rfl hoff,
    View.readAt_rep_unit arg10.view x.x10 hoff rfl hoff,
    View.readAt_rep_unit arg3.view x.x3 hoff rfl hoff,
    View.readAt_rep_unit arg11.view x.x11 hoff rfl hoff,
    View.readAt_rep_unit arg4.view x.x4 hoff rfl hoff,
    View.readAt_rep_unit arg5.view x.x5 hoff rfl hoff,
    View.readAt_rep_unit arg7.view x.x7 hoffA rfl hoffA,
    View.readAt_rep_unit arg7.view x.x7 hoffB rfl hoffB,
    View.readAt_rep_unit arg8.view x.x8 hoffA rfl hoffA,
    View.readAt_rep_unit arg8.view x.x8 hoffB rfl hoffB,
    View.readAt_rep_unit arg6.view x.x6 hoffA rfl hoffA,
    View.readAt_rep_unit arg6.view x.x6 hoffB rfl hoffB,
    View.readAt_rep_unit arg15.view st.2 hoffS rfl hoffS]
  isplitl [H13]
  · iapply (writes_rep (c : Thread nD τ) arg13 st.1 hoff _)
    iexact H13
  · iapply (writes_rep (c : Thread nD τ) arg15 st.2 hoffS _)
    iexact H15

/-! ## Sequencing -/

/-- One program after another. -/
theorem seq_run (𝒱 : Variants) (bd : Option 𝒱.V) (E : Set ℕ) {A B : sProp 𝕄G} {α : Type} {Q : α → sProp 𝕄G}
    {p : Prog (TpuEff nD τ sig (Elt F) Λ₀ .tc) PUnit} {k : PUnit → Prog (TpuEff nD τ sig (Elt F) Λ₀ .tc) α}
    (h : A ⊢ wp frame (wpE (defs₀ (F := F)) 𝒱 (c : Thread nD τ) bd) E p (fun _ => B))
    (h' : B ⊢ wp frame (wpE (defs₀ (F := F)) 𝒱 (c : Thread nD τ) bd) E (k ⟨⟩) Q) :
    A ⊢ wp frame (wpE (defs₀ (F := F)) 𝒱 (c : Thread nD τ) bd) E (p >>= k) Q := by
  rw [wp_bind]
  iintro H
  iapply (wp_wand_r frame (wpE (defs₀ (F := F)) 𝒱 (c : Thread nD τ) bd) E)
  isplitl [H]
  · iapply h; iexact H
  · iintro %_ H
    iapply h'; iexact H

/-- What a program does not touch rides along. -/
theorem ride_run (𝒱 : Variants) (bd : Option 𝒱.V) (E : Set ℕ) {A B C : sProp 𝕄G}
    {p : Prog (TpuEff nD τ sig (Elt F) Λ₀ .tc) PUnit}
    (h : A ⊢ wp frame (wpE (defs₀ (F := F)) 𝒱 (c : Thread nD τ) bd) E p (fun _ => B)) :
    iprop(A ∗ C) ⊢ wp frame (wpE (defs₀ (F := F)) 𝒱 (c : Thread nD τ) bd) E p (fun _ => iprop(B ∗ C)) := by
  iintro ⟨H, HC⟩
  iapply (wp_wand_r frame (wpE (defs₀ (F := F)) 𝒱 (c : Thread nD τ) bd) E)
  isplitl [H]
  · iapply h; iexact H
  · iintro %_ H
    isplitl [H]
    · iexact H
    iexact HC

/-- A loop whose trips step a state. -/
theorem for_run (𝒱 : Variants) (bd : Option 𝒱.V) (E : Set ℕ) {S : Type} (own : S → sProp 𝕄G) (l : Scf.Loop 32) (hok : l.OK)
    (body : Fin l.trips → PUnit → Prog (TpuEff nD τ sig (Elt F) Λ₀ .tc) PUnit) (st : ℕ → S)
    (h : ∀ k : Fin l.trips, own (st k.val) ⊢ wp frame (wpE (defs₀ (F := F)) 𝒱 (c : Thread nD τ) bd) E (body k ⟨⟩) (fun _ => own (st (k.val + 1)))) :
    own (st 0) ⊢ wp frame (wpE (defs₀ (F := F)) 𝒱 (c : Thread nD τ) bd) E (Scf.Loop.for l hok ⟨⟩ body) (fun _ => own (st l.trips)) := by
  iintro H
  iapply (Scf.wp_for frame (wpE (defs₀ (F := F)) 𝒱 (c : Thread nD τ) bd) E l.lb l.ub l.st hok ⟨⟩ body (fun n _ => own (st n)) (fun k _ => h k))
  isplitl [H]
  · iexact H
  · iintro %_ H
    iexact H

/-- A run through a list. -/
theorem runList_run (𝒱 : Variants) (bd : Option 𝒱.V) (E : Set ℕ) {S : Type} (own : S → sProp 𝕄G)
    (f : Fin 32 → Fin 32 → Fin 16 → Prog (TpuEff nD τ sig (Elt F) Λ₀ .tc) PUnit) (step : S → Fin 32 × Fin 32 × Fin 16 → S)
    (h : ∀ x st, own st ⊢ wp frame (wpE (defs₀ (F := F)) 𝒱 (c : Thread nD τ) bd) E (f x.1 x.2.1 x.2.2) (fun _ => own (step st x))) :
    ∀ (l : List (Fin 32 × Fin 32 × Fin 16)) (st : S), own st ⊢ wp frame (wpE (defs₀ (F := F)) 𝒱 (c : Thread nD τ) bd) E (runList f l) (fun _ => own (l.foldl step st))
  | [], st => by
    unfold runList
    show _ ⊢ wp _ _ _ (Prog.ret _) _
    rw [wp_ret]
    show own st ⊢ _
    exact fupd_intro
  | x :: l, st => seq_run c 𝒱 bd E (h x st) (runList_run 𝒱 bd E own f step h l (step st x))

/-! ## The pieces of the body -/

/-- What one pair does in the first and in the second tile of a grid point. -/
def step1 (x : Rd F) (n : BitVec 32) (t : Fin k0_t1_loop.trips) (j : Fin 4) : St F → St F :=
  pairStep x (mask 0#32 n) (k0_off2 t (BitVec.ofNat 32 j.val)) (k0_off2_inb t j) (offA1 t j) (offA1_inb t j) (offB1 t j) (offB1_inb t j)
    (k0_off5 t (BitVec.ofNat 32 j.val)) (k0_off5_inb t j)
def step2 (x : Rd F) (n : BitVec 32) (t : Fin k0_t2_loop.trips) (j : Fin 4) : St F → St F :=
  pairStep x (mask 128#32 n) (k0_off12 t (BitVec.ofNat 32 j.val)) (k0_off12_inb t j) (offA2 t j) (offA2_inb t j) (offB2 t j) (offB2_inb t j)
    (k0_off15 t (BitVec.ofNat 32 j.val)) (k0_off15_inb t j)
/-- What the four pairs of a group do. -/
def group1 (x : Rd F) (n : BitVec 32) (t : Fin k0_t1_loop.trips) (st : St F) : St F :=
  step1 x n t 3 (step1 x n t 2 (step1 x n t 1 (step1 x n t 0 st)))
def group2 (x : Rd F) (n : BitVec 32) (t : Fin k0_t2_loop.trips) (st : St F) : St F :=
  step2 x n t 3 (step2 x n t 2 (step2 x n t 1 (step2 x n t 0 st)))
/-- What the first `k` groups do. -/
def groups1 (x : Rd F) (n : BitVec 32) (st : St F) : ℕ → St F
  | 0 => st
  | k + 1 => if h : k < k0_t1_loop.trips then group1 x n ⟨k, h⟩ (groups1 x n st k) else groups1 x n st k
def groups2 (x : Rd F) (n : BitVec 32) (st : St F) : ℕ → St F
  | 0 => st
  | k + 1 => if h : k < k0_t2_loop.trips then group2 x n ⟨k, h⟩ (groups2 x n st k) else groups2 x n st k

theorem pair1_run (𝒱 : Variants) (bd : Option 𝒱.V) (E : Set ℕ) (x : Rd F) (n : BitVec 32) (t : Fin k0_t1_loop.trips) (j : Fin 4) (st : St F) :
    stHeld c arg3 arg4 arg5 arg6 arg7 arg8 arg9 arg10 arg11 arg13 arg15 x st
      ⊢ wp frame (wpE (defs₀ (F := F)) 𝒱 (c : Thread nD τ) bd) E (pair1 arg3 arg4 arg5 arg6 arg7 arg8 arg9 arg10 arg11 arg13 harg13 arg15 n t j)
          (fun _ => stHeld c arg3 arg4 arg5 arg6 arg7 arg8 arg9 arg10 arg11 arg13 arg15 x (step1 x n t j st)) :=
  pairProg_run c arg3 arg4 arg5 arg6 arg7 arg8 arg9 arg10 arg11 arg13 harg13 arg15 𝒱 bd E x _ _ _ _ _ _ _ _ _ _ st

theorem tile1_run (𝒱 : Variants) (bd : Option 𝒱.V) (E : Set ℕ) (x : Rd F) (n : BitVec 32) (st : St F) :
    stHeld c arg3 arg4 arg5 arg6 arg7 arg8 arg9 arg10 arg11 arg13 arg15 x st
      ⊢ wp frame (wpE (defs₀ (F := F)) 𝒱 (c : Thread nD τ) bd) E
          (Scf.Loop.for k0_t1_loop k0_t1_ok ⟨⟩ fun t _ => trip1 arg3 arg4 arg5 arg6 arg7 arg8 arg9 arg10 arg11 arg13 harg13 arg15 n t)
          (fun _ => stHeld c arg3 arg4 arg5 arg6 arg7 arg8 arg9 arg10 arg11 arg13 arg15 x (groups1 x n st k0_t1_loop.trips)) := by
  refine for_run c 𝒱 bd E (fun st => stHeld c arg3 arg4 arg5 arg6 arg7 arg8 arg9 arg10 arg11 arg13 arg15 x st) k0_t1_loop k0_t1_ok _ (groups1 x n st) fun k => ?_
  have e : groups1 x n st (k.val + 1) = group1 x n k (groups1 x n st k.val) := by rw [groups1, dif_pos k.isLt]
  rw [e]
  unfold trip1
  refine seq_run c 𝒱 bd E (pair1_run c arg3 arg4 arg5 arg6 arg7 arg8 arg9 arg10 arg11 arg13 harg13 arg15 𝒱 bd E x n k 0 _) ?_
  refine seq_run c 𝒱 bd E (pair1_run c arg3 arg4 arg5 arg6 arg7 arg8 arg9 arg10 arg11 arg13 harg13 arg15 𝒱 bd E x n k 1 _) ?_
  refine seq_run c 𝒱 bd E (pair1_run c arg3 arg4 arg5 arg6 arg7 arg8 arg9 arg10 arg11 arg13 harg13 arg15 𝒱 bd E x n k 2 _) ?_
  exact pair1_run c arg3 arg4 arg5 arg6 arg7 arg8 arg9 arg10 arg11 arg13 harg13 arg15 𝒱 bd E x n k 3 _

theorem pair2_run (𝒱 : Variants) (bd : Option 𝒱.V) (E : Set ℕ) (x : Rd F) (n : BitVec 32) (t : Fin k0_t2_loop.trips) (j : Fin 4) (st : St F) :
    stHeld c arg3 arg4 arg5 arg6 arg7 arg8 arg9 arg10 arg11 arg13 arg15 x st
      ⊢ wp frame (wpE (defs₀ (F := F)) 𝒱 (c : Thread nD τ) bd) E (pair2 arg3 arg4 arg5 arg6 arg7 arg8 arg9 arg10 arg11 arg13 harg13 arg15 n t j)
          (fun _ => stHeld c arg3 arg4 arg5 arg6 arg7 arg8 arg9 arg10 arg11 arg13 arg15 x (step2 x n t j st)) :=
  pairProg_run c arg3 arg4 arg5 arg6 arg7 arg8 arg9 arg10 arg11 arg13 harg13 arg15 𝒱 bd E x _ _ _ _ _ _ _ _ _ _ st

theorem tile2_run (𝒱 : Variants) (bd : Option 𝒱.V) (E : Set ℕ) (x : Rd F) (n : BitVec 32) (st : St F) :
    stHeld c arg3 arg4 arg5 arg6 arg7 arg8 arg9 arg10 arg11 arg13 arg15 x st
      ⊢ wp frame (wpE (defs₀ (F := F)) 𝒱 (c : Thread nD τ) bd) E
          (Scf.Loop.for k0_t2_loop k0_t2_ok ⟨⟩ fun t _ => trip2 arg3 arg4 arg5 arg6 arg7 arg8 arg9 arg10 arg11 arg13 harg13 arg15 n t)
          (fun _ => stHeld c arg3 arg4 arg5 arg6 arg7 arg8 arg9 arg10 arg11 arg13 arg15 x (groups2 x n st k0_t2_loop.trips)) := by
  refine for_run c 𝒱 bd E (fun st => stHeld c arg3 arg4 arg5 arg6 arg7 arg8 arg9 arg10 arg11 arg13 arg15 x st) k0_t2_loop k0_t2_ok _ (groups2 x n st) fun k => ?_
  have e : groups2 x n st (k.val + 1) = group2 x n k (groups2 x n st k.val) := by rw [groups2, dif_pos k.isLt]
  rw [e]
  unfold trip2
  refine seq_run c 𝒱 bd E (pair2_run c arg3 arg4 arg5 arg6 arg7 arg8 arg9 arg10 arg11 arg13 harg13 arg15 𝒱 bd E x n k 0 _) ?_
  refine seq_run c 𝒱 bd E (pair2_run c arg3 arg4 arg5 arg6 arg7 arg8 arg9 arg10 arg11 arg13 harg13 arg15 𝒱 bd E x n k 1 _) ?_
  refine seq_run c 𝒱 bd E (pair2_run c arg3 arg4 arg5 arg6 arg7 arg8 arg9 arg10 arg11 arg13 harg13 arg15 𝒱 bd E x n k 2 _) ?_
  exact pair2_run c arg3 arg4 arg5 arg6 arg7 arg8 arg9 arg10 arg11 arg13 harg13 arg15 𝒱 bd E x n k 3 _

/-- One pair's initial states put into the scratch. -/
def initStep (x12 : Vec F S1x32x64x64 .f32) (s : Vec F S16x64x128 .f32) (h : Fin 32 × Fin 32 × Fin 16) : Vec F S16x64x128 .f32 :=
  put s ![h.2.2.val, 0, 0] S1x64x128.size
    (besides (window x12 ![0, h.1.val, 0, 0] S1x1x64x64.size (offHead_inb h.1)) (window x12 ![0, h.2.1.val, 0, 0] S1x1x64x64.size (offHead_inb h.2.1)))
/-- One pair's final states put into the block of final states. -/
def finStep (s : Vec F S16x64x128 .f32) (z : Vec F S1x32x64x64 .f32) (h : Fin 32 × Fin 32 × Fin 16) : Vec F S1x32x64x64 .f32 :=
  put (put z ![0, h.1.val, 0, 0] S1x1x64x64.size (headL (window s ![h.2.2.val, 0, 0] S1x64x128.size (offPair_inb h.2.2))))
    ![0, h.2.1.val, 0, 0] S1x1x64x64.size (headR (window s ![h.2.2.val, 0, 0] S1x64x128.size (offPair_inb h.2.2)))

theorem init_run (𝒱 : Variants) (bd : Option 𝒱.V) (E : Set ℕ) (x12 : Vec F S1x32x64x64 .f32) (h : Fin 32 × Fin 32 × Fin 16)
    (s : Vec F S16x64x128 .f32) :
    iprop(at_ c arg12 x12 ∗ at_ c arg15 s)
      ⊢ wp frame (wpE (defs₀ (F := F)) 𝒱 (c : Thread nD τ) bd) E (initProg arg12 arg15 h.1 h.2.1 h.2.2)
          (fun _ => iprop(at_ c arg12 x12 ∗ at_ c arg15 (initStep x12 s h))) := by
  unfold initProg initStep
  generalize besides (F := F) = fB
  iintro ⟨H12, H15⟩
  sl_exec
  sl_step
  unfold init_run.sl.x init_run.sl.y
  rw [View.readAt_rep_unit arg12.view x12 (offHead_inb h.1) rfl (offHead_inb h.1),
    View.readAt_rep_unit arg12.view x12 (offHead_inb h.2.1) rfl (offHead_inb h.2.1)]
  isplitl [H12]
  · iexact H12
  · iapply (writes_rep (c : Thread nD τ) arg15 s (offPair_inb h.2.2) _)
    iexact H15

/-- Two stores over the representative of `X`. -/
theorem writes_rep2 (c : Thread nD τ) {sp : Space} {sh : Shape} {e : EltTy} (M : Memref sig c.2.kind sp sh e)
    (X : sh.Idx → Elt F e) {off size off' size' : Fin sh.rank → ℕ} (inb : ∀ a, off a + size a ≤ sh.size a) (inb' : ∀ a, off' a + size' a ≤ sh.size a)
    (w : (Rect.unit off size inb).shape.Idx → Elt F e) (w' : (Rect.unit off' size' inb').shape.Idx → Elt F e) :
    (M.view.loc c ↦[M.view.set]{fullShare} M.view.writes (Elt F) (M.view.rep X) [⟨Rect.unit off' size' inb', w'⟩, ⟨Rect.unit off size inb, w⟩] : sProp 𝕄G)
      ⊢ (M.view.loc c ↦[M.view.set]{fullShare} M.view.rep (put (put X off size w) off' size' w')) := by
  rw [← owns_eq_rep]
  unfold owns
  iintro H
  iexists _
  isplitr
  rotate_left
  · iexact H
  ipureintro
  rw [View.read_writes_cons_put _ _ _ _ _ rfl, View.read_writes_rep_unit _ _ _ _ rfl]

theorem fin_run (𝒱 : Variants) (bd : Option 𝒱.V) (E : Set ℕ) (s : Vec F S16x64x128 .f32) (h : Fin 32 × Fin 32 × Fin 16)
    (z : Vec F S1x32x64x64 .f32) :
    iprop(at_ c arg15 s ∗ at_ c arg14 z)
      ⊢ wp frame (wpE (defs₀ (F := F)) 𝒱 (c : Thread nD τ) bd) E (finProg arg14 arg15 h.1 h.2.1 h.2.2)
          (fun _ => iprop(at_ c arg15 s ∗ at_ c arg14 (finStep s z h))) := by
  unfold finProg finStep
  generalize headL (F := F) = fL
  generalize headR (F := F) = fR
  iintro ⟨H15, H14⟩
  sl_exec
  sl_step
  unfold fin_run.sl.x
  rw [View.readAt_rep_unit arg15.view s (offPair_inb h.2.2) rfl (offPair_inb h.2.2)]
  isplitl [H15]
  · iexact H15
  · iapply (writes_rep2 (c : Thread nD τ) arg14 z (offHead_inb h.1) (offHead_inb h.2.1) _ _)
    iexact H14

/-- The outputs' block with zeros in the first, and in the second half. -/
def zero1 (st : St F) : St F := (put st.1 ![0, 0, 0] S1x2048x128.size (zeroY (F := F)), st.2)
def zero2 (st : St F) : St F := (put st.1 ![0, 0, 128] S1x2048x128.size (zeroY (F := F)), st.2)

theorem zero1_run (𝒱 : Variants) (bd : Option 𝒱.V) (E : Set ℕ) (x : Rd F) (st : St F) (h₁ h₂ h₃) :
    stHeld c arg3 arg4 arg5 arg6 arg7 arg8 arg9 arg10 arg11 arg13 arg15 x st
      ⊢ wp frame (wpE (defs₀ (F := F)) 𝒱 (c : Thread nD τ) bd) E
          (do
            let _ : Vec F S1x2048x128 .bf16 ← Prog.lift (.load arg13 (Rect.unit (s := S1x2048x256) ![0, 0, 0] S1x2048x128.size inb_S1x2048x256_S1x2048x128_0_0_0).toLoadRect h₁)
            Prog.lift (.store arg13 (Rect.unit (s := S1x2048x256) ![0, 0, 0] S1x2048x128.size inb_S1x2048x256_S1x2048x128_0_0_0) zeroY Finset.univ h₂ h₃))
          (fun _ => stHeld c arg3 arg4 arg5 arg6 arg7 arg8 arg9 arg10 arg11 arg13 arg15 x (zero1 st)) := by
  unfold stHeld zero1
  generalize zeroY (F := F) = zz
  iintro ⟨HR, H13, H15⟩
  sl_exec
  sl_step
  isplitl [HR]
  · iexact HR
  isplitl [H13]
  · iapply (writes_rep (c : Thread nD τ) arg13 st.1 inb_S1x2048x256_S1x2048x128_0_0_0 _)
    iexact H13
  iexact H15

theorem zero2_run (𝒱 : Variants) (bd : Option 𝒱.V) (E : Set ℕ) (x : Rd F) (st : St F) (h₁ h₂ h₃) :
    stHeld c arg3 arg4 arg5 arg6 arg7 arg8 arg9 arg10 arg11 arg13 arg15 x st
      ⊢ wp frame (wpE (defs₀ (F := F)) 𝒱 (c : Thread nD τ) bd) E
          (do
            let _ : Vec F S1x2048x128 .bf16 ← Prog.lift (.load arg13 (Rect.unit (s := S1x2048x256) ![0, 0, 128] S1x2048x128.size inb_S1x2048x256_S1x2048x128_0_0_128).toLoadRect h₁)
            Prog.lift (.store arg13 (Rect.unit (s := S1x2048x256) ![0, 0, 128] S1x2048x128.size inb_S1x2048x256_S1x2048x128_0_0_128) zeroY Finset.univ h₂ h₃))
          (fun _ => stHeld c arg3 arg4 arg5 arg6 arg7 arg8 arg9 arg10 arg11 arg13 arg15 x (zero2 st)) := by
  unfold stHeld zero2
  generalize zeroY (F := F) = zz
  iintro ⟨HR, H13, H15⟩
  sl_exec
  sl_step
  isplitl [HR]
  · iexact HR
  isplitl [H13]
  · iapply (writes_rep (c : Thread nD τ) arg13 st.1 inb_S1x2048x256_S1x2048x128_0_0_128 _)
    iexact H13
  iexact H15

/-- A program that does nothing. -/
theorem skip_run (𝒱 : Variants) (bd : Option 𝒱.V) (E : Set ℕ) (A : sProp 𝕄G) :
    A ⊢ wp frame (wpE (defs₀ (F := F)) 𝒱 (c : Thread nD τ) bd) E (pure ⟨⟩ : Prog (TpuEff nD τ sig (Elt F) Λ₀ .tc) PUnit) (fun _ => A) := by
  show A ⊢ wp _ _ _ (Prog.ret _) _
  rw [wp_ret]
  exact fupd_intro

/-- A branch, and what comes after it. -/
theorem branch_run (𝒱 : Variants) (bd : Option 𝒱.V) (E : Set ℕ) (P : Prop) [Decidable P] {S : Type} (own : S → sProp 𝕄G) (u v : S)
    (p k : Prog (TpuEff nD τ sig (Elt F) Λ₀ .tc) PUnit) {Q : PUnit → sProp 𝕄G}
    (h : own u ⊢ wp frame (wpE (defs₀ (F := F)) 𝒱 (c : Thread nD τ) bd) E p (fun _ => own v))
    (h' : own (if P then v else u) ⊢ wp frame (wpE (defs₀ (F := F)) 𝒱 (c : Thread nD τ) bd) E k Q) :
    own u ⊢ wp frame (wpE (defs₀ (F := F)) 𝒱 (c : Thread nD τ) bd) E (branch P p k) Q := by
  unfold branch
  by_cases hp : P
  · rw [if_pos hp] at h'
    rw [dif_pos hp]
    exact seq_run c 𝒱 bd E h h'
  · rw [if_neg hp] at h'
    rw [dif_neg hp]
    exact h'

/-- The word of the table that a grid point reads. -/
def wordAt (arg2 : Memref sig .tc .smem S6 .i32) (f : arg2.view.ty.Contents (Elt F)) (i : grid0.Coords) : BitVec 32 :=
  View.readAt (Elt F) arg2.view (Rect.unit (s := S6) (k0_off1 i) S1.size (k0_off1_inb i)).toLoadRect f (Shape.Idx.first (numel1_S1.symm ▸ Nat.one_pos))

theorem word_run (𝒱 : Variants) (bd : Option 𝒱.V) (E : Set ℕ) (arg2 : Memref sig .tc .smem S6 .i32) (q : PosShare TreeShare)
    (f : arg2.view.ty.Contents (Elt F)) (i : grid0.Coords) (C : sProp 𝕄G) {α : Type} {Q : α → sProp 𝕄G}
    {k : Elt F .i32 → Prog (TpuEff nD τ sig (Elt F) Λ₀ .tc) α}
    (h : iprop(C ∗ (arg2.view.loc (c : Thread nD τ) ↦[arg2.view.set]{q} f)) ⊢ wp frame (wpE (defs₀ (F := F)) 𝒱 (c : Thread nD τ) bd) E (k (wordAt arg2 f i)) Q) :
    iprop(C ∗ (arg2.view.loc (c : Thread nD τ) ↦[arg2.view.set]{q} f))
      ⊢ wp frame (wpE (defs₀ (F := F)) 𝒱 (c : Thread nD τ) bd) E (smemLoad arg2 (Rect.unit (s := S6) (k0_off1 i) S1.size (k0_off1_inb i)) numel1_S1 rfl >>= k) Q := by
  iintro ⟨HC, H2⟩
  sl_exec
  iapply h
  isplitl [HC]
  · iexact HC
  iexact H2

/-- What a grid point does to the outputs' block and the scratch. -/
def bodySt (x : Rd F) (x12 : Vec F S1x32x64x64 .f32) (i : grid0.Coords) (v : BitVec 32) (st : St F) : St F :=
  let a : St F := if cond1 i then (st.1, pairs.foldl (initStep x12) st.2) else st
  let b : St F := if k0_cond2 i v = 1#1 then groups1 x (left i v) a k0_t1_loop.trips else a
  let d : St F := if k0_cond3 i v = 1#1 then zero1 b else b
  let e : St F := if k0_cond4 i v = 1#1 then groups2 x (left i v) d k0_t2_loop.trips else d
  if k0_cond5 i v = 1#1 then zero2 e else e
/-- What a grid point does to the block of final states. -/
def bodyFin (i : grid0.Coords) (s : Vec F S16x64x128 .f32) (z : Vec F S1x32x64x64 .f32) : Vec F S1x32x64x64 .f32 :=
  if k0_cond6 i = 1#1 then pairs.foldl (finStep s) z else z

/-- Everything the body works on. -/
def bodyHeld (x : Rd F) (x12 : Vec F S1x32x64x64 .f32) (A2 : sProp 𝕄G) (z : Vec F S1x32x64x64 .f32) (st : St F) : sProp 𝕄G :=
  iprop(stHeld c arg3 arg4 arg5 arg6 arg7 arg8 arg9 arg10 arg11 arg13 arg15 x st ∗ at_ c arg12 x12 ∗ at_ c arg14 z ∗ A2)

theorem inits_run (𝒱 : Variants) (bd : Option 𝒱.V) (E : Set ℕ) (x : Rd F) (x12 : Vec F S1x32x64x64 .f32) (A2 : sProp 𝕄G) (z : Vec F S1x32x64x64 .f32) (st : St F) :
    bodyHeld c arg3 arg4 arg5 arg6 arg7 arg8 arg9 arg10 arg11 arg12 arg13 arg14 arg15 x x12 A2 z st
      ⊢ wp frame (wpE (defs₀ (F := F)) 𝒱 (c : Thread nD τ) bd) E (runList (initProg arg12 arg15) pairs)
          (fun _ => bodyHeld c arg3 arg4 arg5 arg6 arg7 arg8 arg9 arg10 arg11 arg12 arg13 arg14 arg15 x x12 A2 z (st.1, pairs.foldl (initStep x12) st.2)) := by
  have h := runList_run c 𝒱 bd E (fun s => iprop(at_ c arg12 x12 ∗ at_ c arg15 s)) (initProg arg12 arg15) (initStep x12)
    (fun h s => init_run c arg12 arg15 𝒱 bd E x12 h s) pairs st.2
  unfold bodyHeld stHeld
  iintro ⟨⟨HR, H13, H15⟩, H12, HZ⟩
  iapply (wp_wand_r frame (wpE (defs₀ (F := F)) 𝒱 (c : Thread nD τ) bd) E)
  isplitl [H12 H15]
  · iapply h
    isplitl [H12]
    · iexact H12
    iexact H15
  · iintro %_ ⟨H12, H15⟩
    isplitl [HR H13 H15]
    · isplitl [HR]
      · iexact HR
      isplitl [H13]
      · iexact H13
      iexact H15
    isplitl [H12]
    · iexact H12
    iexact HZ

theorem fins_run (𝒱 : Variants) (bd : Option 𝒱.V) (E : Set ℕ) (x : Rd F) (x12 : Vec F S1x32x64x64 .f32) (A2 : sProp 𝕄G) (z : Vec F S1x32x64x64 .f32) (st : St F) :
    bodyHeld c arg3 arg4 arg5 arg6 arg7 arg8 arg9 arg10 arg11 arg12 arg13 arg14 arg15 x x12 A2 z st
      ⊢ wp frame (wpE (defs₀ (F := F)) 𝒱 (c : Thread nD τ) bd) E (runList (finProg arg14 arg15) pairs)
          (fun _ => bodyHeld c arg3 arg4 arg5 arg6 arg7 arg8 arg9 arg10 arg11 arg12 arg13 arg14 arg15 x x12 A2 (pairs.foldl (finStep st.2) z) st) := by
  have h := runList_run c 𝒱 bd E (fun z => iprop(at_ c arg15 st.2 ∗ at_ c arg14 z)) (finProg arg14 arg15) (finStep st.2)
    (fun h z => fin_run c arg14 arg15 𝒱 bd E st.2 h z) pairs z
  unfold bodyHeld stHeld
  iintro ⟨⟨HR, H13, H15⟩, H12, H14, HZ⟩
  iapply (wp_wand_r frame (wpE (defs₀ (F := F)) 𝒱 (c : Thread nD τ) bd) E)
  isplitl [H14 H15]
  · iapply h
    isplitl [H15]
    · iexact H15
    iexact H14
  · iintro %_ ⟨H15, H14⟩
    isplitl [HR H13 H15]
    · isplitl [HR]
      · iexact HR
      isplitl [H13]
      · iexact H13
      iexact H15
    isplitl [H12]
    · iexact H12
    isplitl [H14]
    · iexact H14
    iexact HZ

/-- The body at a grid point. -/
theorem body_run (𝒱 : Variants) (bd : Option 𝒱.V) (E : Set ℕ) (i : grid0.Coords) (arg2 : Memref sig .tc .smem S6 .i32) (q : PosShare TreeShare)
    (f : arg2.view.ty.Contents (Elt F)) (x : Rd F) (x12 : Vec F S1x32x64x64 .f32) (z : Vec F S1x32x64x64 .f32) (st : St F)
    (h2 h3 h4 h5 h6 h7 h8 h9 h10 h11 h12 h14 h15) :
    bodyHeld c arg3 arg4 arg5 arg6 arg7 arg8 arg9 arg10 arg11 arg12 arg13 arg14 arg15 x x12 (arg2.view.loc (c : Thread nD τ) ↦[arg2.view.set]{q} f) z st
      ⊢ wp frame (wpE (defs₀ (F := F)) 𝒱 (c : Thread nD τ) bd) E
          (body i arg2 h2 arg3 h3 arg4 h4 arg5 h5 arg6 h6 arg7 h7 arg8 h8 arg9 h9 arg10 h10 arg11 h11 arg12 h12 arg13 harg13 arg14 h14 arg15 h15)
          (fun _ => bodyHeld c arg3 arg4 arg5 arg6 arg7 arg8 arg9 arg10 arg11 arg12 arg13 arg14 arg15 x x12 (arg2.view.loc (c : Thread nD τ) ↦[arg2.view.set]{q} f)
            (bodyFin i (bodySt x x12 i (wordAt arg2 f i) st).2 z) (bodySt x x12 i (wordAt arg2 f i) st)) := by
  unfold body bodySt bodyFin
  dsimp only
  have ride : ∀ {p : Prog (TpuEff nD τ sig (Elt F) Λ₀ .tc) PUnit} {u v : St F},
      (stHeld c arg3 arg4 arg5 arg6 arg7 arg8 arg9 arg10 arg11 arg13 arg15 x u ⊢ wp frame (wpE (defs₀ (F := F)) 𝒱 (c : Thread nD τ) bd) E p (fun _ => stHeld c arg3 arg4 arg5 arg6 arg7 arg8 arg9 arg10 arg11 arg13 arg15 x v)) →
      (bodyHeld c arg3 arg4 arg5 arg6 arg7 arg8 arg9 arg10 arg11 arg12 arg13 arg14 arg15 x x12 (arg2.view.loc (c : Thread nD τ) ↦[arg2.view.set]{q} f) z) u ⊢ wp frame (wpE (defs₀ (F := F)) 𝒱 (c : Thread nD τ) bd) E p (fun _ => (bodyHeld c arg3 arg4 arg5 arg6 arg7 arg8 arg9 arg10 arg11 arg12 arg13 arg14 arg15 x x12 (arg2.view.loc (c : Thread nD τ) ↦[arg2.view.set]{q} f) z) v) :=
    fun h => ride_run c 𝒱 bd E h
  refine branch_run c 𝒱 bd E _ (bodyHeld c arg3 arg4 arg5 arg6 arg7 arg8 arg9 arg10 arg11 arg12 arg13 arg14 arg15 x x12 (arg2.view.loc (c : Thread nD τ) ↦[arg2.view.set]{q} f) z) st _ _ _ (inits_run c arg3 arg4 arg5 arg6 arg7 arg8 arg9 arg10 arg11 arg12 arg13 arg14 arg15 𝒱 bd E x x12 _ z st) ?_
  generalize (if cond1 i then (st.1, pairs.foldl (initStep x12) st.2) else st) = a
  have word : ∀ (u : St F) {Q : PUnit → sProp 𝕄G} {k : Elt F .i32 → Prog (TpuEff nD τ sig (Elt F) Λ₀ .tc) PUnit},
      ((bodyHeld c arg3 arg4 arg5 arg6 arg7 arg8 arg9 arg10 arg11 arg12 arg13 arg14 arg15 x x12 (arg2.view.loc (c : Thread nD τ) ↦[arg2.view.set]{q} f) z) u ⊢ wp frame (wpE (defs₀ (F := F)) 𝒱 (c : Thread nD τ) bd) E (k (wordAt arg2 f i)) Q) →
      (bodyHeld c arg3 arg4 arg5 arg6 arg7 arg8 arg9 arg10 arg11 arg12 arg13 arg14 arg15 x x12 (arg2.view.loc (c : Thread nD τ) ↦[arg2.view.set]{q} f) z) u ⊢ wp frame (wpE (defs₀ (F := F)) 𝒱 (c : Thread nD τ) bd) E (smemLoad arg2 (Rect.unit (s := S6) (k0_off1 i) S1.size (k0_off1_inb i)) numel1_S1 rfl >>= k) Q := by
    intro u Q k h
    refine BIBase.Entails.trans ?_ (word_run c 𝒱 bd E arg2 q f i iprop(stHeld c arg3 arg4 arg5 arg6 arg7 arg8 arg9 arg10 arg11 arg13 arg15 x u ∗ at_ c arg12 x12 ∗ at_ c arg14 z) (BIBase.Entails.trans ?_ h))
    · unfold bodyHeld
      iintro ⟨H, H12, H14, H2⟩
      isplitl [H H12 H14]
      · isplitl [H]
        · iexact H
        isplitl [H12]
        · iexact H12
        iexact H14
      iexact H2
    · unfold bodyHeld
      iintro ⟨⟨H, H12, H14⟩, H2⟩
      isplitl [H]
      · iexact H
      isplitl [H12]
      · iexact H12
      isplitl [H14]
      · iexact H14
      iexact H2
  refine word _ ?_
  generalize wordAt arg2 f i = v
  refine branch_run c 𝒱 bd E _ (bodyHeld c arg3 arg4 arg5 arg6 arg7 arg8 arg9 arg10 arg11 arg12 arg13 arg14 arg15 x x12 (arg2.view.loc (c : Thread nD τ) ↦[arg2.view.set]{q} f) z) _ _ _ _ (ride (tile1_run c arg3 arg4 arg5 arg6 arg7 arg8 arg9 arg10 arg11 arg13 harg13 arg15 𝒱 bd E x (left i v) a)) ?_
  generalize (if k0_cond2 i v = 1#1 then groups1 x (left i v) a k0_t1_loop.trips else a) = b
  refine branch_run c 𝒱 bd E _ (bodyHeld c arg3 arg4 arg5 arg6 arg7 arg8 arg9 arg10 arg11 arg12 arg13 arg14 arg15 x x12 (arg2.view.loc (c : Thread nD τ) ↦[arg2.view.set]{q} f) z) _ _ _ _ (ride (zero1_run c arg3 arg4 arg5 arg6 arg7 arg8 arg9 arg10 arg11 arg13 arg15 𝒱 bd E x b _ _ _)) ?_
  generalize (if k0_cond3 i v = 1#1 then zero1 b else b) = d
  refine branch_run c 𝒱 bd E _ (bodyHeld c arg3 arg4 arg5 arg6 arg7 arg8 arg9 arg10 arg11 arg12 arg13 arg14 arg15 x x12 (arg2.view.loc (c : Thread nD τ) ↦[arg2.view.set]{q} f) z) _ _ _ _ (ride (tile2_run c arg3 arg4 arg5 arg6 arg7 arg8 arg9 arg10 arg11 arg13 harg13 arg15 𝒱 bd E x (left i v) d)) ?_
  generalize (if k0_cond4 i v = 1#1 then groups2 x (left i v) d k0_t2_loop.trips else d) = e
  refine branch_run c 𝒱 bd E _ (bodyHeld c arg3 arg4 arg5 arg6 arg7 arg8 arg9 arg10 arg11 arg12 arg13 arg14 arg15 x x12 (arg2.view.loc (c : Thread nD τ) ↦[arg2.view.set]{q} f) z) _ _ _ _ (ride (zero2_run c arg3 arg4 arg5 arg6 arg7 arg8 arg9 arg10 arg11 arg13 arg15 𝒱 bd E x e _ _ _)) ?_
  generalize (if k0_cond5 i v = 1#1 then zero2 e else e) = w
  refine branch_run c 𝒱 bd E _ (fun z => bodyHeld c arg3 arg4 arg5 arg6 arg7 arg8 arg9 arg10 arg11 arg12 arg13 arg14 arg15 x x12 (arg2.view.loc (c : Thread nD τ) ↦[arg2.view.set]{q} f) z _) z _ _ _
    (fins_run c arg3 arg4 arg5 arg6 arg7 arg8 arg9 arg10 arg11 arg12 arg13 arg14 arg15 𝒱 bd E x x12 _ z _) ?_
  exact skip_run c 𝒱 bd E _

end Steps

end Cert.Kernel.Pair

end
-- ==== Proof.FramePrinted.lean ====
/- The launch: every window's block lies inside its array, the body runs at every grid point on whatever the
   staging buffers hold, and the program terminates with its arguments unchanged and every counter at zero. -/
module

public import proofs.«01_k».proof.Proof.AdmPrinted
public import proofs.«01_k».proof.Proof.BodyEqPrinted
public import proofs.«01_k».proof.Proof.RunPrinted
public import proofs.«01_k».proof.Proof.Gen.Kernel.Launch
public import Idealize.ShloMosaic.Lib.Pipeline.Frame
public import Idealize.ShloMosaic.Lib.Tactic

@[expose] public section

set_option maxRecDepth 8192
set_option maxHeartbeats 400000

noncomputable section

namespace Cert.Kernel.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen
open Idealize.ShloMosaic.VecWindow (window put)

variable {F : FTy → Type} [FloatOps F]

/-- The resource algebra. -/
local notation "𝕄G" => MT nD τ sig Unit (Elt F) ℕ (UR sig nD τ) ℕ

/-! ## The blocks lie inside the arrays -/

theorem ix_wide (pf : pre0.Contents (Elt F)) (i : grid0.Coords) (ix : Fin 3 → ℕ) (w : BitVec 32)
    (h : ix = ![(BitVec.ofNat 32 (i 0).val).toNat, 0, (Scalar.minsi (BitVec.ofNat 32 (i 1).val) (lastBlock w)).toNat]) :
    ∀ a, (ix a + 1) * S1x2048x256.size a ≤ S6x2048x4096.size a := by
  subst h
  have h2 := third_lt i w
  have h0 : (i 0).val < 6 := (i 0).isLt
  intro a
  match a with
  | 0 =>
    show ((BitVec.ofNat 32 (i 0).val).toNat + 1) * 1 ≤ 6
    rw [BitVec.toNat_ofNat]
    have := Nat.mod_le (i 0).val (2 ^ 32)
    omega
  | 1 => show (0 + 1) * 2048 ≤ 2048; omega
  | 2 =>
    show ((Scalar.minsi (BitVec.ofNat 32 (i 1).val) (lastBlock w)).toNat + 1) * 256 ≤ 4096
    omega

theorem ix_scale (pf : pre0.Contents (Elt F)) (i : grid0.Coords) (ix : Fin 4 → ℕ) (w : BitVec 32)
    (h : ix = ![(BitVec.ofNat 32 (i 0).val).toNat, 0, 0, (Scalar.minsi (BitVec.ofNat 32 (i 1).val) (lastBlock w)).toNat]) :
    ∀ a, (ix a + 1) * S1x4x8x256.size a ≤ S6x4x8x4096.size a := by
  subst h
  have h2 := third_lt i w
  have h0 : (i 0).val < 6 := (i 0).isLt
  intro a
  match a with
  | 0 =>
    show ((BitVec.ofNat 32 (i 0).val).toNat + 1) * 1 ≤ 6
    rw [BitVec.toNat_ofNat]
    have := Nat.mod_le (i 0).val (2 ^ 32)
    omega
  | 1 => show (0 + 1) * 4 ≤ 4; omega
  | 2 => show (0 + 1) * 8 ≤ 8; omega
  | 3 =>
    show ((Scalar.minsi (BitVec.ofNat 32 (i 1).val) (lastBlock w)).toNat + 1) * 256 ≤ 4096
    omega

/-- The word of the table a point's index maps read. -/
abbrev tblWord (pf : pre0.Contents (Elt F)) (i : grid0.Coords) : BitVec 32 :=
  pf.at 0 (Rect.unit (s := S6) ![(Scalar.indexCast (BitVec.ofNat 32 (i 0).val)).toNat] S1.size (Gen.k0_off1_inb i)) Gen.numel1_S1

/-- Every table of lengths is admissible. -/
theorem ok_all (pf : pre0.Contents (Elt F)) : ok0 pf :=
  ⟨fun i => ⟨ix_wide pf i _ (tblWord pf i) rfl, .inr (Affine.block_words_dvd (of_decide_eq_true rfl) (by decide))⟩,
   fun i => ⟨ix_wide pf i _ (tblWord pf i) rfl, .inr (Affine.block_words_dvd (of_decide_eq_true rfl) (by decide))⟩,
   fun i => ⟨ix_wide pf i _ (tblWord pf i) rfl, .inr (Affine.block_words_dvd (of_decide_eq_true rfl) (by decide))⟩,
   fun i => ⟨ix_scale pf i _ (tblWord pf i) rfl, .inl rfl⟩,
   fun i => ⟨ix_scale pf i _ (tblWord pf i) rfl, .inl rfl⟩,
   fun i => ⟨ix_scale pf i _ (tblWord pf i) rfl, .inl rfl⟩,
   fun i => ⟨ix_wide pf i _ (tblWord pf i) rfl, .inr (Affine.block_words_dvd (of_decide_eq_true rfl) (by decide))⟩,
   fun i => ⟨ix_wide pf i _ (tblWord pf i) rfl, .inr (Affine.block_words_dvd (of_decide_eq_true rfl) (by decide))⟩,
   fun i => ⟨ix_wide pf i _ (tblWord pf i) rfl, .inr (Affine.block_words_dvd (of_decide_eq_true rfl) (by decide))⟩⟩

/-! ## The launch's data -/

variable (m : (ℓ : Loc nD τ sig) → Buf (Elt F) ℓ)

/-- The table of lengths as the program is given it. -/
def table : pre0.Contents (Elt F) := fun k => m ((0 : Dev nD).tc.loc (pre0.ref k))

/-- The contents the region's tables are entered at. -/
def adm : (p : Fin 1) → (pcfgs (F := F) p).Adm := fun _ => ⟨table m, ok_all _⟩

/-- The buffers' contents at the region's entry. -/
abbrev V0 (c : Dev nD) : Valuation τ sig (Elt F) := StableHlo.after hostOps0 (fun b => m (c, b))

/-- What the body finds in the inputs it leaves there; of the outputs' blocks nothing is said. -/
def rdat (c : Dev nD) : Pipeline.RDat τ (Elt F) Unit ℕ (UR sig nD τ) ℕ (Pipeline.pin (pcfgs (F := F)) (adm m) 0) c where
  A w := V0 m c (Proc.devRef .tc (Pipeline.arrRef spec0 w))
  after _ _ _ _ := True
  Φ _ := iprop(Pipeline.ΦA spec0 c ∗ Pipeline.ΦT pre0 (table m) c)
  q _ := fullShare
  owed _ := 0

theorem whole_eq (c : Dev nD) (b : Ref sig .tc) (q : PosShare TreeShare) (f : b.ty.Contents (Elt F)) :
    (((c : Thread nD τ).loc b) ↦{q} f : sProp 𝕄G)
      = ((Memref.whole b).view.loc (c : Thread nD τ) ↦[(Memref.whole b).view.set]{q} f) := by
  simp only [Memref.view_whole, View.set_whole]

theorem pre_eq (c : Dev nD) (q : PosShare TreeShare) : (Pipeline.prefHeld pre0 c (fun _ => q) (table m) : sProp 𝕄G)
    = ((Memref.whole main_arg10).view.loc (c : Thread nD τ) ↦[(Memref.whole main_arg10).view.set]{q} (table m 0 : main_arg10.ty.Contents (Elt F))) := by
  refine Eq.trans ?_ (whole_eq c main_arg10 q (table m 0))
  unfold Pipeline.prefHeld
  rw [show (Finset.univ : Finset (Fin pre0.K)) = {0} from rfl, bigSep_singleton]
  rfl

/-- The body's call at a grid point. -/
abbrev call (t : Fin grid0.N) (s : (w : Fin 12) → Fin (spec0 w).nbuf) : Prog (TpuEff nD τ sig (Elt F) Λ₀ .tc) PUnit :=
  body (grid0.coords t) (Memref.whole main_arg10) (Memref.isWhole_whole _) (spec0_0.stage (s 0)) (hstage0_0 ((s 0).cast nbuf0_0))
    (spec0_1.stage (s 1)) (hstage0_1 ((s 1).cast nbuf0_1)) (spec0_2.stage (s 2)) (hstage0_2 ((s 2).cast nbuf0_2))
    (spec0_3.stage (s 3)) (hstage0_3 ((s 3).cast nbuf0_3)) (spec0_4.stage (s 4)) (hstage0_4 ((s 4).cast nbuf0_4))
    (spec0_5.stage (s 5)) (hstage0_5 ((s 5).cast nbuf0_5)) (spec0_6.stage (s 6)) (hstage0_6 ((s 6).cast nbuf0_6))
    (spec0_7.stage (s 7)) (hstage0_7 ((s 7).cast nbuf0_7)) (spec0_8.stage (s 8)) (hstage0_8 ((s 8).cast nbuf0_8))
    (spec0_9.stage (s 9)) (hstage0_9 ((s 9).cast nbuf0_9)) (spec0_10.stage (s 10)) (hstage0_10 ((s 10).cast nbuf0_10))
    (spec0_11.stage (s 11)) (hstage0_11 ((s 11).cast nbuf0_11)) (Memref.whole cc0_scratch0) (Memref.isWhole_whole _)

theorem defs₀_row (t : Fin grid0.N) (s : (w : Fin 12) → Fin (spec0 w).nbuf) : defs₀ (F := F) .tc 0 (t, s) = call t s := by
  unfold defs₀
  rw [Defs.onTc_tc]
  show cc0_rwkv7_chunked _ _ _ _ _ _ _ _ _ _ _ _ _ _ _ _ _ _ _ _ _ _ _ _ _ _ _ _ _ = _
  rw [body_eq]

/-- The inputs' staged blocks out of a point's buffers. -/
abbrev rdOf (Y : (w : Fin 12) → (spec0 w).block.Idx → Elt F (spec0 w).elt) : Rd F := ⟨Y 0, Y 1, Y 2, Y 3, Y 4, Y 5, Y 6, Y 7, Y 8⟩

/-- The call at a grid point, on what the staging buffers hold. -/
theorem call_run (c : Dev nD) (t : Fin grid0.N) (s : (w : Fin 12) → Fin (spec0 w).nbuf)
    (Y : (w : Fin 12) → (spec0 w).block.Idx → Elt F (spec0 w).elt) (q : PosShare TreeShare)
    (f : main_arg10.ty.Contents (Elt F)) (g : cc0_scratch0.ty.Contents (Elt F)) :
    iprop((((Memref.whole main_arg10).view.loc (c : Thread nD τ) ↦[(Memref.whole main_arg10).view.set]{q} f) ∗ (((c : Thread nD τ).loc cc0_scratch0) ↦{fullShare} g))
        ∗ bigSep Finset.univ fun w : Fin 12 => owns (c : Thread nD τ) ((spec0 w).stage (s w)) fullShare (Y w))
      ⊢ wp (M := 𝕄G) frame (wpE (defs₀ (F := F)) Variants.none (c : Thread nD τ) none) Set.univ (call t s) (fun _ =>
        iprop((((Memref.whole main_arg10).view.loc (c : Thread nD τ) ↦[(Memref.whole main_arg10).view.set]{q} f)
          ∗ (((c : Thread nD τ).loc cc0_scratch0) ↦{fullShare} (bodySt (rdOf Y) (Y 9) (grid0.coords t) (wordAt (Memref.whole main_arg10) f (grid0.coords t)) (Y 10, g)).2))
        ∗ bigSep Finset.univ fun w : Fin 12 => owns (c : Thread nD τ) ((spec0 w).stage (s w)) fullShare
            ((match w with
              | 10 => (bodySt (rdOf Y) (Y 9) (grid0.coords t) (wordAt (Memref.whole main_arg10) f (grid0.coords t)) (Y 10, g)).1
              | 11 => bodyFin (grid0.coords t) (bodySt (rdOf Y) (Y 9) (grid0.coords t) (wordAt (Memref.whole main_arg10) f (grid0.coords t)) (Y 10, g)).2 (Y 11)
              | w => Y w : (spec0 w).block.Idx → Elt F (spec0 w).elt)))) := by
  rw [bigSep_W0, bigSep_W0]
  have sc : ∀ h : cc0_scratch0.ty.Contents (Elt F), (((c : Thread nD τ).loc cc0_scratch0) ↦{fullShare} h : sProp 𝕄G) = at_ (F := F) c (Memref.whole cc0_scratch0) h := fun h => by
    rw [← owns_whole (c : Thread nD τ) cc0_scratch0 fullShare h, owns_eq_rep]
  simp only [sc, owns_eq_rep]
  refine BIBase.Entails.trans ?_ (BIBase.Entails.trans (body_run c (spec0_0.stage (s 0)) (spec0_1.stage (s 1)) (spec0_2.stage (s 2)) (spec0_3.stage (s 3))
    (spec0_4.stage (s 4)) (spec0_5.stage (s 5)) (spec0_6.stage (s 6)) (spec0_7.stage (s 7)) (spec0_8.stage (s 8)) (spec0_9.stage (s 9))
    (spec0_10.stage (s 10)) (hstage0_10 ((s 10).cast nbuf0_10)) (spec0_11.stage (s 11)) (Memref.whole cc0_scratch0) Variants.none none Set.univ
    (grid0.coords t) (Memref.whole main_arg10) q f (rdOf Y) (Y 9) (Y 11) (Y 10, g) _ _ _ _ _ _ _ _ _ _ _ _ _) (wp_mono _ _ _ fun _ => ?_))
  · unfold bodyHeld stHeld rdHeld
    iintro ⟨⟨H2, H15⟩, H3, H4, H5, H6, H7, H8, H9, H10, H11, H12, H13, H14⟩
    isplitl [H3 H4 H5 H6 H7 H8 H9 H10 H11 H13 H15]
    · isplitl [H3 H4 H5 H6 H7 H8 H9 H10 H11]
      · isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexact H11
      isplitl [H13]; · iexact H13
      iexact H15
    isplitl [H12]; · iexact H12
    isplitl [H14]; · iexact H14
    iexact H2
  · generalize bodySt (F := F) (rdOf Y) (Y 9) (grid0.coords t) (wordAt (Memref.whole main_arg10) f (grid0.coords t)) (Y 10, g) = u
    unfold bodyHeld stHeld rdHeld
    iintro ⟨⟨⟨H3, H4, H5, H6, H7, H8, H9, H10, H11⟩, H13, H15⟩, H12, H14, H2⟩
    isplitl [H2 H15]
    · isplitl [H2]; · iexact H2
      iexact H15
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

theorem hbody (c : Dev nD) : (rdat m c).BodyObligation defs₀ Variants.none () Set.univ := by
  intro t Y _
  show _ ⊢ wp frame _ _ (defs₀ (F := F) .tc 0 (t, (Pipeline.pin (pcfgs (F := F)) (adm m) 0).slots t)) _
  rw [defs₀_row]
  unfold rdat Pipeline.RDat.owesAt Pipeline.ΦA Pipeline.ΦT
  dsimp only
  rw [scopedRest0_eq, pre_eq]
  iintro ⟨⟨⟨⟨%g, Hg⟩, Hr⟩, Ht⟩, HO, HY⟩
  iapply (wp_wand_r frame (wpE (defs₀ (F := F)) Variants.none (c : Thread nD τ) none) Set.univ)
  isplitl [Ht Hg HY]
  · iapply (call_run c t ((Pipeline.pin (pcfgs (F := F)) (adm m) 0).slots t) Y fullShare.right (table m 0) g)
    isplitl [Ht Hg]
    · isplitl [Ht]
      · iexact Ht
      iexact Hg
    iexact HY
  iintro %_ ⟨⟨Ht, Hg⟩, HY⟩
  isplitl [Ht Hg Hr]
  · isplitl [Hg Hr]
    · isplitl [Hg]
      · iexists _; iexact Hg
      iexact Hr
    iexact Ht
  isplitl [HO]
  · iexact HO
  have wk1 : ∀ (w : Fin 12) (X : (spec0 w).block.Idx → Elt F (spec0 w).elt),
      (owns (c : Thread nD τ) ((spec0 w).stage ((Pipeline.pin (pcfgs (F := F)) (adm m) 0).slots t w)) fullShare X : sProp 𝕄G)
        ⊢ iprop(∃ X, ⌜True⌝ ∗ owns (c : Thread nD τ) ((spec0 w).stage ((Pipeline.pin (pcfgs (F := F)) (adm m) 0).slots t w)) fullShare X) := fun w X => by
    iintro H
    iexists X
    isplitr
    · ipureintro; trivial
    iexact H
  have wk : ∀ X : (w : Fin 12) → (spec0 w).block.Idx → Elt F (spec0 w).elt,
      bigSep (M := 𝕄G) Finset.univ (fun w : Fin 12 => owns (c : Thread nD τ) ((spec0 w).stage ((Pipeline.pin (pcfgs (F := F)) (adm m) 0).slots t w)) fullShare (X w))
        ⊢ bigSep Finset.univ (fun w : Fin 12 => iprop(∃ X, ⌜True⌝ ∗ owns (c : Thread nD τ) ((spec0 w).stage ((Pipeline.pin (pcfgs (F := F)) (adm m) 0).slots t w)) fullShare X)) :=
    fun X => bigSep_mono fun w _ => wk1 w (X w)
  iapply (wk _)
  iexact HY

/-! ## The run -/

theorem hmain : Pipeline.HMainP (Ix := Unit) (Name := ℕ) (U := UR sig nD τ) (Lvl := ℕ) (pcfgs (F := F)) 0 defs₀ Variants.none m main
    (fun c b => V0 m c (Proc.devRef .tc b)) :=
  Pipeline.hmainP_prefix (pcfgs (F := F)) 0 defs₀ Variants.none m main hostOps0 hostOps0_sub
    (by repeat' constructor) main_chain

/-- The host operations before the call write none of @main's arguments. -/
theorem not_written (b : Ref sig .tc) (hb : ∀ x ∈ [main_v0, main_v1, main_v2, main_v3, main_v4, main_v5, main_v6, main_v7, main_v8, main_v9, main_v10, main_v11, main_v12, main_v13, main_v14, main_v15, main_v16, main_v17, main_v18, main_v19, main_v20], b ≠ x) :
    ∀ op ∈ (hostOps0 (F := F)), Proc.devRef .tc b ∉ op.writes := by
  intro op hop
  simp only [List.mem_cons, List.mem_nil_iff, or_false] at hop
  rcases hop with rfl | rfl | rfl | rfl | rfl | rfl | rfl | rfl | rfl | rfl | rfl | rfl | rfl | rfl | rfl | rfl | rfl | rfl | rfl | rfl | rfl <;>
    simp only [StableHlo.unary_writes, StableHlo.reshape_writes, Finset.mem_singleton] <;>
    exact StableHlo.devRef_ne_of_ne (hb _ (by simp))

theorem V0_arg (c : Dev nD) (b : Ref sig .tc) (hb : ∀ x ∈ [main_v0, main_v1, main_v2, main_v3, main_v4, main_v5, main_v6, main_v7, main_v8, main_v9, main_v10, main_v11, main_v12, main_v13, main_v14, main_v15, main_v16, main_v17, main_v18, main_v19, main_v20], b ≠ x) :
    V0 m c (Proc.devRef .tc b) = m ((c : Thread nD τ).loc b) :=
  StableHlo.after_of_forall_not_mem (b := Proc.devRef .tc b) hostOps0 (fun b => m (c, b)) (not_written b hb)

/-- The arguments' arrays at the end of a run. -/
theorem rest_eq (r : PUnit × MemSt nD τ sig (Elt F)) (h : Pipeline.RDat.FramePost (Pipeline.pin (pcfgs (F := F)) (adm m) 0) (rdat m) (fun c b => V0 m c (Proc.devRef .tc b)) r)
    (c : Dev nD) (b : Ref sig .tc) (hb : b ∈ Pipeline.restRefs sig spec0) (hV : V0 m c (Proc.devRef .tc b) = m ((c : Thread nD τ).loc b)) :
    r.2.mem ((c : Thread nD τ).loc b) = m ((c : Thread nD τ).loc b) := ((h c).2 b hb).trans hV

theorem share_full (c : Dev nD) (w : Fin 12) : (rdat m c).share w = fullShare := by
  unfold Pipeline.RDat.share
  split <;> rfl

theorem launch_run (g : Dev nD → PrngReg) :
    θ_run (defs (F := F)) (onTc (τ := τ) (main (F := F))) ⟨m, fun _ => 0, g⟩ (fun r =>
      Pipeline.RDat.FramePost (Pipeline.pin (pcfgs (F := F)) (adm m) 0) (rdat m) (fun c b => V0 m c (Proc.devRef .tc b)) r ∧ r.2.sem = fun _ => 0) :=
  Pipeline.RDat.θ_run_frameP (pcfgs (F := F)) (adm m) 0 launch0 defs₀ Variants.none (rdat m) m g main (hbody m) (share_full m) (fun _ _ => rfl)
    (fun c b => V0 m c (Proc.devRef .tc b)) (hmain m) (fun _ _ => rfl) (fun c k => by
      have hk : k = 0 := Subsingleton.elim (α := Fin 1) k 0
      subst hk
      have hc : c = 0 := Subsingleton.elim (α := Fin 1) c 0
      subst hc
      exact V0_arg m 0 main_arg10 (by decide)) (fun _ _ => rfl) _ (fun _ h => h)

/-- Every run of the program ends with its arguments as they were and every counter at zero. -/
theorem frame_run (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) := by
  refine (launch_run m g).mono fun s h => ⟨fun c => ?_, h.2⟩
  have e : ∀ (b : Ref sig .tc), b ∈ Pipeline.restRefs sig spec0 → (∀ x ∈ [main_v0, main_v1, main_v2, main_v3, main_v4, main_v5, main_v6, main_v7, main_v8, main_v9, main_v10, main_v11, main_v12, main_v13, main_v14, main_v15, main_v16, main_v17, main_v18, main_v19, main_v20], b ≠ x) →
      s.mem ((c : Thread nD τ).loc b) = m ((c : Thread nD τ).loc b) := fun b hb hx => rest_eq m (PUnit.unit, s) h.1 c b hb (V0_arg m c b hx)
  refine ⟨e main_arg0 ?_ ?_, e main_arg1 ?_ ?_, e main_arg2 ?_ ?_, e main_arg3 ?_ ?_, e main_arg4 ?_ ?_, e main_arg5 ?_ ?_, e main_arg6 ?_ ?_,
    e main_arg7 ?_ ?_, e main_arg8 ?_ ?_, (h.1.arr_in c 9 rfl).trans (V0_arg m c main_arg9 (by decide)), e main_arg10 ?_ ?_⟩
  all_goals first | decide | exact Pipeline.mem_restRefs_of _ (by decide) (by decide)

end Cert.Kernel.Pair

end
-- ==== Proof.Finite.lean ====
/- What the precondition says: every length is at least zero, and every element of the arguments is a real number. -/
module

public import proofs.«01_k».proof.Defs
public import proofs.«01_k».proof.Proof.Gen.Pre_finite
public import Idealize.ShloMosaic.Lib.ReduceAll
public import Idealize.ShloMosaic.Lib.Pointwise

@[expose] public section

set_option maxRecDepth 8192
set_option maxHeartbeats 400000

noncomputable section

namespace Cert.Proof

open Idealize.ShloMosaic
open Cert.Pre_finite Cert.Pre_finite.Gen

/-- Both conditions of a bit that is the conjunction of two. -/
theorem and_one (a b : BitVec 1) (h : a &&& b = 1#1) : a = 1#1 ∧ b = 1#1 := by
  revert a b; decide

theorem sge_iff (a b : BitVec 32) (h : IntOp.cmpi CmpIPredicate.sge a b = 1#1) : b.toInt ≤ a.toInt := by
  by_contra hc
  have : BitVec.ofBool (b.sle a) = 1#1 := h
  have e : b.sle a = false := by rw [← Bool.not_eq_true, BitVec.sle_iff_toInt_le]; exact hc
  rw [e] at this
  exact absurd this (by decide)

/-- A number whose magnitude is below the infinity is real. -/
theorem real_of_abs (x c : EReal) (hc : c ≤ ⊤) (h : Ideal.cmp .olt (max x (-x)) c = 1#1) : x = ((x.toReal : ℝ) : EReal) := by
  have hlt : max x (-x) < c := by
    by_contra hn
    have : Ideal.cmp .olt (max x (-x)) c = 0#1 := by simp [Ideal.cmp, hn]
    rw [this] at h
    exact absurd h (by decide)
  have hx := lt_of_lt_of_le hlt hc
  refine (EReal.coe_toReal ?_ ?_).symm
  · rintro rfl
    exact absurd hx (by simp)
  · rintro rfl
    exact absurd hx (by simp)

theorem sub0 : Subsingleton S_.Idx := ⟨fun a b => funext fun i => i.elim0⟩

/-- The precondition's conjuncts. -/
theorem pre_all (x0 : FVec Ideal S6x4096x32x64 .f32) (x1 : FVec Ideal S6x4096x32x64 .f32) (x2 : FVec Ideal S6x4096x32x64 .f32) (x3 : FVec Ideal S6x4096x32 .f32) (x4 : FVec Ideal S6x4096x32 .f32) (x5 : FVec Ideal S6x4096x32 .f32) (x6 : FVec Ideal S6x4096x32x64 .bf16) (x7 : FVec Ideal S6x4096x32x64 .bf16) (x8 : FVec Ideal S6x4096x32x64 .bf16) (x9 : FVec Ideal S6x32x64x64 .f32) (x10 : IVec S6 32)
    (h : Cert.Pre_finite.fn (F := Ideal) x0 x1 x2 x3 x4 x5 x6 x7 x8 x9 x10 = fun _ => 1#1) :
    (∀ b, 0 ≤ (x10 (ix1 b)).toInt)
      ∧ (∀ i, (x0 i : EReal) = (((x0 i : EReal).toReal : ℝ) : EReal))
      ∧ (∀ i, (x1 i : EReal) = (((x1 i : EReal).toReal : ℝ) : EReal))
      ∧ (∀ i, (x2 i : EReal) = (((x2 i : EReal).toReal : ℝ) : EReal))
      ∧ (∀ i, (x3 i : EReal) = (((x3 i : EReal).toReal : ℝ) : EReal))
      ∧ (∀ i, (x4 i : EReal) = (((x4 i : EReal).toReal : ℝ) : EReal))
      ∧ (∀ i, (x5 i : EReal) = (((x5 i : EReal).toReal : ℝ) : EReal))
      ∧ (∀ i, (x6 i : EReal) = (((x6 i : EReal).toReal : ℝ) : EReal))
      ∧ (∀ i, (x7 i : EReal) = (((x7 i : EReal).toReal : ℝ) : EReal))
      ∧ (∀ i, (x8 i : EReal) = (((x8 i : EReal).toReal : ℝ) : EReal))
      ∧ (∀ i, (x9 i : EReal) = (((x9 i : EReal).toReal : ℝ) : EReal)) := by
  have e := congrFun h ix0
  unfold Cert.Pre_finite.fn Cert.Pre_finite.fn_part1 Cert.Pre_finite.fn_part2 Cert.Pre_finite.fn_part3 at e
  dsimp only at e
  haveI := sub0
  obtain ⟨e, h9⟩ := and_one _ _ e
  obtain ⟨e, h8⟩ := and_one _ _ e
  obtain ⟨e, h7⟩ := and_one _ _ e
  obtain ⟨e, h6⟩ := and_one _ _ e
  obtain ⟨e, h5⟩ := and_one _ _ e
  obtain ⟨e, h4⟩ := and_one _ _ e
  obtain ⟨e, h3⟩ := and_one _ _ e
  obtain ⟨e, h2⟩ := and_one _ _ e
  obtain ⟨e, h1⟩ := and_one _ _ e
  obtain ⟨e, h0⟩ := and_one _ _ e
  refine ⟨fun b => sge_iff _ _ (Host.reduce_andi_all _ _ _ _ ix0 e (ix1 b)), fun i => real_of_abs _ _ le_top (Host.reduce_andi_all _ _ _ _ ix0 h0 i), fun i => real_of_abs _ _ le_top (Host.reduce_andi_all _ _ _ _ ix0 h1 i), fun i => real_of_abs _ _ le_top (Host.reduce_andi_all _ _ _ _ ix0 h2 i), fun i => real_of_abs _ _ le_top (Host.reduce_andi_all _ _ _ _ ix0 h3 i), fun i => real_of_abs _ _ le_top (Host.reduce_andi_all _ _ _ _ ix0 h4 i), fun i => real_of_abs _ _ le_top (Host.reduce_andi_all _ _ _ _ ix0 h5 i), fun i => real_of_abs _ _ le_top (Host.reduce_andi_all _ _ _ _ ix0 h6 i), fun i => real_of_abs _ _ le_top (Host.reduce_andi_all _ _ _ _ ix0 h7 i), fun i => real_of_abs _ _ le_top (Host.reduce_andi_all _ _ _ _ ix0 h8 i), fun i => real_of_abs _ _ le_top (Host.reduce_andi_all _ _ _ _ ix0 h9 i)⟩

end Cert.Proof

end
-- ==== Proof.Lanes.lean ====
/- The kernel's tables of rows and lanes, read at an index, and the rules that take its extended-real arithmetic on finite
   values to the reals. -/
module

public import proofs.«01_k».proof.Proof.Pair
public import Idealize.ShloMosaic.Lib.Pointwise

@[expose] public section

set_option maxRecDepth 8192
set_option maxHeartbeats 400000

noncomputable section

namespace Cert.KernelIdeal.Pair

open Idealize.ShloMosaic Idealize.SL.Sem Cert.KernelIdeal.Gen Idealize.ShloMosaic.Tactic

/-- The truth value of a proposition as a bit. -/
def bit (p : Prop) [Decidable p] : BitVec 1 := if p then 1#1 else 0#1

theorem select_bit {α : Type} (p : Prop) [Decidable p] (a b : α) : Scalar.select (bit p) a b = if p then a else b := by
  unfold bit; split_ifs <;> rfl

theorem sum_coe {ι : Type} [Fintype ι] (f : ι → ℝ) : ∑ x, ((f x : ℝ) : EReal) = ((∑ x, f x : ℝ) : EReal) := by
  classical
  induction (Finset.univ : Finset ι) using Finset.induction_on with
  | empty => simp
  | insert a s ha ih => rw [Finset.sum_insert ha, Finset.sum_insert ha, ih, EReal.coe_add]

theorem ite_coe (p : Prop) [Decidable p] (a b : ℝ) : (if p then (a : EReal) else (b : EReal)) = (((if p then a else b) : ℝ) : EReal) := by
  split_ifs <;> rfl

theorem ite_coe_zero (p : Prop) [Decidable p] (a : ℝ) : (if p then (a : EReal) else 0) = (((if p then a else 0) : ℝ) : EReal) := by
  split_ifs <;> rfl

theorem lo_at (a : Fin 64) (b : Fin 128) : lo (ix2 a b) = bit (b.val < 64) := by
  pointwise [lo]
  revert b
  decide +kernel

theorem strict_at (a : Fin 64) (b : Fin 128) : strict (ix2 a b) = bit (a.val < b.val % 64) := by
  pointwise [strict, srow, tcol]
  revert a b
  decide +kernel

theorem incl_at (a : Fin 64) (b : Fin 128) : incl (ix2 a b) = bit (a.val ≤ b.val % 64) := by
  pointwise [incl, srow, tcol]
  revert a b
  decide +kernel

theorem blk0_at (a : Fin 32) (b : Fin 128) : blk0 (ix2 a b) = bit (b.val / 32 % 2 = 0) := by
  pointwise [blk0, floorDiv]
  revert b
  decide +kernel

theorem same_at (a b : Fin 128) : same (ix2 a b) = bit (a.val / 64 = b.val / 64) := by
  pointwise [same, row, col, floorDiv]
  revert a b
  decide +kernel

theorem colIdx_at (k : Fin 32) (i : Fin 4) (a : Fin 8) (b : Fin 128) :
    (colIdx (BitVec.ofNat 32 k.val) i (ix2 a b)).toNat % 128 = b.val / 32 * 32 + k.val := by
  pointwise [colIdx, group]
  revert k b
  decide +kernel

theorem gsel_at (a b : Fin 128) : cmpi .eq grow gcol (ix2 a b) = bit (a.val / 32 = b.val / 32) := by
  pointwise [grow, gcol, row, col, floorDiv]
  revert a b
  decide +kernel

theorem zsel_at (a b : Fin 128) : andi (cmpi .eq (floorDiv grow 2#32) (floorDiv gcol 2#32)) (cmpi .eq (mod2 grow) (broadcast S128x128 0#32)) (ix2 a b)
    = bit (a.val / 64 = b.val / 64 ∧ a.val / 32 % 2 = 0) := by
  pointwise [grow, gcol, row, col, floorDiv, mod2]
  revert a b
  decide +kernel

theorem eye4_at (a : Fin 32) (b : Fin 128) : eye4 (F := Ideal) (ix2 a b) = (((if b.val % 32 = a.val then 1 else 0) : ℝ) : EReal) := by
  have e : ∀ (a : Fin 32) (b : Fin 128), IntOp.cmpi CmpIPredicate.eq (IntOp.andi (BitVec.ofNat 32 b.val) 31#32) (BitVec.ofNat 32 a.val) = bit (b.val % 32 = a.val) := by
    decide +kernel
  pointwise [eye4, ones, zeros]
  rw [e, select_bit]
  split_ifs
  · simp
  · simp

end Cert.KernelIdeal.Pair
end
-- ==== Proof.Inverse.lean ====
/- The inverse of the unit triangular matrices, over the reals: what the kernel's row operations compute. -/
module

public import proofs.«01_k».proof.Proof.Lanes

@[expose] public section

set_option maxRecDepth 8192
set_option maxHeartbeats 400000

noncomputable section

namespace Cert.KernelIdeal.Pair

open Idealize.ShloMosaic Idealize.SL.Sem Cert.KernelIdeal.Gen Idealize.ShloMosaic.Tactic

/-- Column `j` of the `γ`-th group of 32 lanes. -/
def ln4 (γ : Fin 4) (j : Fin 32) : Fin 128 := ⟨32 * γ.val + j.val, by omega⟩
/-- Row `a` of the `i`-th group of 8 rows. -/
def rw8 (i : Fin 4) (a : Fin 8) : Fin 32 := ⟨8 * i.val + a.val, by omega⟩

/-- The row operations over the reals: row `31 − n` is added into the others, times their entry in its column. -/
def invR (D : Fin 32 → Fin 32 → ℝ) : ℕ → Fin 32 → Fin 32 → ℝ
  | 0 => fun i j => if j.val = i.val then 1 else 0
  | n + 1 => fun i j => invR D n i j + D i (Fin.ofNat 32 (31 - n)) * invR D n (Fin.ofNat 32 (31 - n)) j

theorem invRows_at (d : FVec Ideal S32x128 .f32) (D : Fin 4 → Fin 32 → Fin 32 → ℝ)
    (hd : ∀ γ i j, d (ix2 i (ln4 γ j)) = ((D γ i j : ℝ) : EReal)) (hD : ∀ γ i j, j ≤ i → D γ i j = 0) (n : ℕ) (hn : n ≤ 31) :
    ∀ i a γ j, invRows d n i (ix2 a (ln4 γ j)) = ((invR (D γ) n (rw8 i a) j : ℝ) : EReal) := by
  induction n with
  | zero =>
    intro i a γ j
    show extractStridedSlice S8x128 ![8 * (i : ℕ), 0] eye4 (sliceRows i) (ix2 a (ln4 γ j)) = _
    pointwise []
    refine (eye4_at (rw8 i a) (ln4 γ j)).trans ?_
    have e : (ln4 γ j).val % 32 = j.val := by show (32 * γ.val + j.val) % 32 = j.val; omega
    rw [e]
    rfl
  | succ n ih =>
    intro i a γ j
    have ih := ih (by omega)
    show invStep d (Fin.ofNat 4 ((31 - n) / 8)) (Fin.ofNat 8 ((31 - n) % 8)) (invRows d n) i (ix2 a (ln4 γ j)) = _
    unfold invStep
    have v4 : (Fin.ofNat 4 ((31 - n) / 8)).val = (31 - n) / 8 := by show (31 - n) / 8 % 4 = _; omega
    have v8 : (Fin.ofNat 8 ((31 - n) % 8)).val = (31 - n) % 8 := by show (31 - n) % 8 % 8 = _; omega
    have vk : (Fin.ofNat 32 (31 - n)).val = 31 - n := by show (31 - n) % 32 = _; omega
    have ek : rw8 (Fin.ofNat 4 ((31 - n) / 8)) (Fin.ofNat 8 ((31 - n) % 8)) = Fin.ofNat 32 (31 - n) := by
      refine Fin.ext ?_
      show 8 * (Fin.ofNat 4 ((31 - n) / 8)).val + (Fin.ofNat 8 ((31 - n) % 8)).val = (Fin.ofNat 32 (31 - n)).val
      omega
    have es : 8 * (Fin.ofNat 4 ((31 - n) / 8)).val + (Fin.ofNat 8 ((31 - n) % 8)).val = (Fin.ofNat 32 (31 - n)).val := by omega
    show (if 8 * i.val < 8 * (Fin.ofNat 4 ((31 - n) / 8)).val + (Fin.ofNat 8 ((31 - n) % 8)).val then _ else _ : FVec Ideal S8x128 .f32) _ = _
    rw [es]
    split_ifs with hi
    · unfold upd
      pointwise []
      have ec : (colIdx (BitVec.ofNat 32 (Fin.ofNat 32 (31 - n)).val) i (ix2 a (ln4 γ j))).toNat % 128 = (ln4 γ (Fin.ofNat 32 (31 - n))).val := by
        rw [colIdx_at]
        show (32 * γ.val + j.val) / 32 * 32 + (Fin.ofNat 32 (31 - n)).val = 32 * γ.val + (Fin.ofNat 32 (31 - n)).val
        omega
      have e1 := hd γ (rw8 i a) (Fin.ofNat 32 (31 - n))
      have e2 := (ih (Fin.ofNat 4 ((31 - n) / 8)) (Fin.ofNat 8 ((31 - n) % 8)) γ j).trans (congrArg (fun k => ((invR (D γ) n k j : ℝ) : EReal)) ek)
      refine (congrArg₂ (fun x y : EReal => x + y) (ih i a γ j)
        (congrArg₂ (fun x y : EReal => x * y) (Eq.trans (congrArg (fun q => d (ix2 (rw8 i a) q)) (Fin.ext ec)) e1) e2)).trans ?_
      rw [← EReal.coe_mul, ← EReal.coe_add]
      rfl
    · rw [ih]
      show _ = ((invR (D γ) n (rw8 i a) j + D γ (rw8 i a) (Fin.ofNat 32 (31 - n)) * invR (D γ) n (Fin.ofNat 32 (31 - n)) j : ℝ) : EReal)
      rw [hD γ _ _ (by show (Fin.ofNat 32 (31 - n)).val ≤ 8 * i.val + a.val; omega), zero_mul, add_zero]

/-- The row operations solve `Q = 1 + D Q`. -/
theorem invR_eq (D : Fin 32 → Fin 32 → ℝ) (hD : ∀ i j, j ≤ i → D i j = 0) (n : ℕ) (hn : n ≤ 31) (i j : Fin 32) :
    invR D n i j = (if j = i then 1 else 0) + ∑ k : Fin 32, (if 31 - n < k.val then D i k * invR D n k j else 0) := by
  induction n generalizing i with
  | zero =>
    rw [Finset.sum_eq_zero]
    · show (if j.val = i.val then (1 : ℝ) else 0) = _
      simp only [Fin.ext_iff, add_zero]
    · intro k _
      rw [if_neg (by omega)]
  | succ n ih =>
    have ih := fun i => ih (by omega) i
    have vk : (Fin.ofNat 32 (31 - n)).val = 31 - n := by show (31 - n) % 32 = _; omega
    have keep : ∀ k : Fin 32, 31 - n ≤ k.val → invR D (n + 1) k j = invR D n k j := by
      intro k hk
      show invR D n k j + D k (Fin.ofNat 32 (31 - n)) * invR D n (Fin.ofNat 32 (31 - n)) j = _
      rw [hD _ _ (by rw [Fin.le_def, vk]; exact hk), zero_mul, add_zero]
    have e : ∀ k : Fin 32, (if 31 - (n + 1) < k.val then D i k * invR D (n + 1) k j else 0)
        = (if 31 - n < k.val then D i k * invR D n k j else 0) + (if k = Fin.ofNat 32 (31 - n) then D i k * invR D n k j else 0) := by
      intro k
      by_cases h1 : 31 - n < k.val
      · rw [if_pos (by omega), if_pos h1, if_neg (by intro h; rw [h, vk] at h1; omega), add_zero, keep k (by omega)]
      · by_cases h2 : k = Fin.ofNat 32 (31 - n)
        · rw [if_pos (by rw [h2, vk]; omega), if_neg h1, if_pos h2, zero_add, keep k (by rw [h2, vk])]
        · rw [if_neg, if_neg h1, if_neg h2, add_zero]
          intro h3
          exact h2 (Fin.ext (by rw [vk]; omega))
    rw [Finset.sum_congr rfl fun k _ => e k, Finset.sum_add_distrib, Finset.sum_ite_eq' Finset.univ, if_pos (Finset.mem_univ _), ← add_assoc, ← ih i]
    rfl

/-- Lane `t` of head `h`. -/
def ln (h : Fin 2) (t : Fin 64) : Fin 128 := ⟨64 * h.val + t.val, by omega⟩

theorem sum_ln4 {M : Type} [AddCommMonoid M] (f : Fin 128 → M) : ∑ x, f x = ∑ γ : Fin 4, ∑ j : Fin 32, f (ln4 γ j) := by
  rw [← Fintype.sum_prod_type']
  refine (Fintype.sum_equiv (finProdFinEquiv (m := 4) (n := 32)) _ _ fun x => congrArg f (Fin.ext ?_)).symm
  show 32 * x.1.val + x.2.val = x.2.val + 32 * x.1.val
  omega

theorem sum_ln {M : Type} [AddCommMonoid M] (f : Fin 128 → M) : ∑ x, f x = ∑ h : Fin 2, ∑ j : Fin 64, f (ln h j) := by
  rw [← Fintype.sum_prod_type']
  refine (Fintype.sum_equiv (finProdFinEquiv (m := 2) (n := 64)) _ _ fun x => congrArg f (Fin.ext ?_)).symm
  show 64 * x.1.val + x.2.val = x.2.val + 64 * x.1.val
  omega

/-- Row or column `j` of the `c`-th half of 64. -/
def hf (c : Fin 2) (j : Fin 32) : Fin 64 := ⟨32 * c.val + j.val, by omega⟩

theorem sum_hf {M : Type} [AddCommMonoid M] (f : Fin 64 → M) : ∑ x, f x = ∑ c : Fin 2, ∑ j : Fin 32, f (hf c j) := by
  rw [← Fintype.sum_prod_type']
  refine (Fintype.sum_equiv (finProdFinEquiv (m := 2) (n := 32)) _ _ fun x => congrArg f (Fin.ext ?_)).symm
  show 32 * x.1.val + x.2.val = x.2.val + 32 * x.1.val
  omega

/-- The group of head `h` and half `c`. -/
def gp (h c : Fin 2) : Fin 4 := ⟨2 * h.val + c.val, by omega⟩
theorem ln_hf (h c : Fin 2) (j : Fin 32) : ln h (hf c j) = ln4 (gp h c) j := by
  refine Fin.ext ?_
  show 64 * h.val + (32 * c.val + j.val) = 32 * (2 * h.val + c.val) + j.val
  omega
theorem exists_hf (s : Fin 64) : ∃ c j, s = hf c j :=
  ⟨⟨s.val / 32, by omega⟩, ⟨s.val % 32, by omega⟩, Fin.ext (by show s.val = 32 * (s.val / 32) + s.val % 32; omega)⟩
theorem exists_gp (γ : Fin 4) : ∃ h c, γ = gp h c :=
  ⟨⟨γ.val / 2, by omega⟩, ⟨γ.val % 2, by omega⟩, Fin.ext (by show γ.val = 2 * (γ.val / 2) + γ.val % 2; omega)⟩

theorem cat4_at (rs : Fin 4 → FVec Ideal S8x128 .f32) (q : Fin 4 → Fin 32 → Fin 32 → ℝ)
    (h : ∀ i a γ j, rs i (ix2 a (ln4 γ j)) = ((q γ (rw8 i a) j : ℝ) : EReal)) (i : Fin 32) (γ : Fin 4) (j : Fin 32) :
    concatenate S32x128 0 [⟨S8x128, rs 0⟩, ⟨S8x128, rs 1⟩, ⟨S8x128, rs 2⟩, ⟨S8x128, rs 3⟩]
      concatenates_S8x128_S8x128_S8x128_S8x128_S32x128_d0 (ix2 i (ln4 γ j)) = ((q γ i j : ℝ) : EReal) := by
  have fin : ∀ (p : Fin 4) (a : Fin 8), 8 * p.val + a.val = i.val → rs p (ix2 a (ln4 γ j)) = ((q γ i j : ℝ) : EReal) :=
    fun p a e => (h p a γ j).trans (congrArg (fun k => ((q γ k j : ℝ) : EReal)) (Fin.ext e))
  pointwise []
  split_ifs <;> first
    | exact fin 0 _ (by show 8 * 0 + i.val = i.val; omega)
    | exact fin 1 _ (by show 8 * 1 + (i.val - 8) = i.val; omega)
    | exact fin 2 _ (by show 8 * 2 + (i.val - 8 - 8) = i.val; omega)
    | exact fin 3 _ (by show 8 * 3 + (i.val - 8 - 8 - 8) = i.val; omega)

theorem unitInv_at (d : FVec Ideal S32x128 .f32) (D : Fin 4 → Fin 32 → Fin 32 → ℝ)
    (hd : ∀ γ i j, d (ix2 i (ln4 γ j)) = ((D γ i j : ℝ) : EReal)) (hD : ∀ γ i j, j ≤ i → D γ i j = 0) (i : Fin 32) (γ : Fin 4) (j : Fin 32) :
    unitInv d (ix2 i (ln4 γ j)) = ((invR (D γ) 31 i j : ℝ) : EReal) :=
  cat4_at (invRows d 31) (fun γ => invR (D γ) 31) (invRows_at d D hd hD 31 (by omega)) i γ j

theorem invR_one (D : Fin 32 → Fin 32 → ℝ) (hD : ∀ i j, j ≤ i → D i j = 0) (i j : Fin 32) :
    invR D 31 i j = (if j = i then 1 else 0) + ∑ k : Fin 32, D i k * invR D 31 k j := by
  rw [invR_eq D hD 31 (le_refl _) i j]
  refine congrArg _ (Finset.sum_congr rfl fun k _ => ?_)
  split_ifs with h
  · rfl
  · rw [hD i k (by rw [Fin.le_def]; omega), zero_mul]

/-- The block on the diagonal of head `h` and half `c`. -/
def dg (G : Fin 2 → Fin 64 → Fin 64 → ℝ) (γ : Fin 4) (i j : Fin 32) : ℝ :=
  G ⟨γ.val / 2, by omega⟩ (hf ⟨γ.val % 2, by omega⟩ i) (hf ⟨γ.val % 2, by omega⟩ j)
theorem dg_gp (G : Fin 2 → Fin 64 → Fin 64 → ℝ) (h c : Fin 2) (i j : Fin 32) : dg G (gp h c) i j = G h (hf c i) (hf c j) := by
  have e1 : (⟨(gp h c).val / 2, by omega⟩ : Fin 2) = h := Fin.ext (by show (2 * h.val + c.val) / 2 = h.val; omega)
  have e2 : (⟨(gp h c).val % 2, by omega⟩ : Fin 2) = c := Fin.ext (by show (2 * h.val + c.val) % 2 = c.val; omega)
  unfold dg
  rw [e1, e2]

/-- The inverse over the reals, in blocks. -/
def invG (G : Fin 2 → Fin 64 → Fin 64 → ℝ) (h : Fin 2) (s t : Fin 64) : ℝ :=
  if s.val < 32 then
    if t.val < 32 then invR (dg G (gp h 0)) 31 (Fin.ofNat 32 s.val) (Fin.ofNat 32 t.val)
    else ∑ k : Fin 32, invR (dg G (gp h 0)) 31 (Fin.ofNat 32 s.val) k *
      ∑ l : Fin 32, G h (hf 0 k) (hf 1 l) * invR (dg G (gp h 1)) 31 l (Fin.ofNat 32 t.val)
  else if t.val < 32 then 0 else invR (dg G (gp h 1)) 31 (Fin.ofNat 32 s.val) (Fin.ofNat 32 t.val)

theorem ofNat_hf (c : Fin 2) (j : Fin 32) : Fin.ofNat 32 (hf c j).val = j :=
  Fin.ext (by show (32 * c.val + j.val) % 32 = j.val; omega)

theorem invG_00 (G : Fin 2 → Fin 64 → Fin 64 → ℝ) (h : Fin 2) (i j : Fin 32) :
    invG G h (hf 0 i) (hf 0 j) = invR (dg G (gp h 0)) 31 i j := by
  unfold invG
  rw [if_pos (by show 32 * 0 + i.val < 32; omega), if_pos (by show 32 * 0 + j.val < 32; omega), ofNat_hf, ofNat_hf]
theorem invG_01 (G : Fin 2 → Fin 64 → Fin 64 → ℝ) (h : Fin 2) (i j : Fin 32) :
    invG G h (hf 0 i) (hf 1 j) = ∑ k : Fin 32, invR (dg G (gp h 0)) 31 i k *
      ∑ l : Fin 32, G h (hf 0 k) (hf 1 l) * invR (dg G (gp h 1)) 31 l j := by
  unfold invG
  rw [if_pos (by show 32 * 0 + i.val < 32; omega), if_neg (by show ¬ 32 * 1 + j.val < 32; omega), ofNat_hf, ofNat_hf]
theorem invG_10 (G : Fin 2 → Fin 64 → Fin 64 → ℝ) (h : Fin 2) (i j : Fin 32) :
    invG G h (hf 1 i) (hf 0 j) = 0 := by
  unfold invG
  rw [if_neg (by show ¬ 32 * 1 + i.val < 32; omega), if_pos (by show 32 * 0 + j.val < 32; omega)]
theorem invG_11 (G : Fin 2 → Fin 64 → Fin 64 → ℝ) (h : Fin 2) (i j : Fin 32) :
    invG G h (hf 1 i) (hf 1 j) = invR (dg G (gp h 1)) 31 i j := by
  unfold invG
  rw [if_neg (by show ¬ 32 * 1 + i.val < 32; omega), if_neg (by show ¬ 32 * 1 + j.val < 32; omega), ofNat_hf, ofNat_hf]

theorem hf_inj {c c' : Fin 2} {i i' : Fin 32} : hf c i = hf c' i' ↔ c = c' ∧ i = i' := by
  constructor
  · intro h
    have h : 32 * c.val + i.val = 32 * c'.val + i'.val := congrArg Fin.val h
    exact ⟨Fin.ext (by omega), Fin.ext (by omega)⟩
  · rintro ⟨rfl, rfl⟩; rfl

/-- `Q = 1 + G Q`. -/
theorem invG_eq (G : Fin 2 → Fin 64 → Fin 64 → ℝ) (hG : ∀ h s t, t ≤ s → G h s t = 0) (h : Fin 2) (s t : Fin 64) :
    invG G h s t = (if t = s then 1 else 0) + ∑ k : Fin 64, G h s k * invG G h k t := by
  have hz : ∀ c, ∀ i j : Fin 32, j ≤ i → dg G (gp h c) i j = 0 := by
    intro c i j hij
    rw [dg_gp]
    refine hG _ _ _ ?_
    have hij : j.val ≤ i.val := hij
    show 32 * c.val + j.val ≤ 32 * c.val + i.val
    omega
  have h10 : ∀ i j, G h (hf 1 i) (hf 0 j) = 0 := by
    intro i j
    refine hG _ _ _ ?_
    show 32 * 0 + j.val ≤ 32 * 1 + i.val
    omega
  obtain ⟨c, i, rfl⟩ := exists_hf s
  obtain ⟨c', j, rfl⟩ := exists_hf t
  rw [sum_hf, Fin.sum_univ_two]
  simp only [hf_inj]
  have hc : c = 0 ∨ c = 1 := by omega
  have hc' : c' = 0 ∨ c' = 1 := by omega
  rcases hc with rfl | rfl <;> rcases hc' with rfl | rfl
  · simp only [invG_00, invG_10, true_and, mul_zero, Finset.sum_const_zero, add_zero]
    rw [invR_one _ (hz 0)]
    simp only [dg_gp]
  · simp only [invG_01, invG_11]
    rw [if_neg (by simp), zero_add]
    generalize hZ : (fun k : Fin 32 => ∑ l : Fin 32, G h (hf 0 k) (hf 1 l) * invR (dg G (gp h 1)) 31 l j) = Z
    have hZ' : ∀ k, ∑ l : Fin 32, G h (hf 0 k) (hf 1 l) * invR (dg G (gp h 1)) 31 l j = Z k := fun k => congrFun hZ k
    simp only [hZ']
    have e : ∀ k : Fin 32, invR (dg G (gp h 0)) 31 i k * Z k
        = (if k = i then Z k else 0) + ∑ l : Fin 32, G h (hf 0 i) (hf 0 l) * (invR (dg G (gp h 0)) 31 l k * Z k) := by
      intro k
      conv_lhs => rw [invR_one _ (hz 0)]
      rw [add_mul, Finset.sum_mul]
      simp only [dg_gp, mul_assoc, ite_mul, one_mul, zero_mul]
    rw [Finset.sum_congr rfl fun k _ => e k, Finset.sum_add_distrib, Finset.sum_ite_eq', if_pos (Finset.mem_univ _), Finset.sum_comm, add_comm]
    simp only [Finset.mul_sum]
  · simp only [invG_10, h10, zero_mul, mul_zero, Finset.sum_const_zero, add_zero]
    rw [if_neg (by simp)]
  · simp only [invG_11, h10, true_and, zero_mul, Finset.sum_const_zero, zero_add]
    rw [invR_one _ (hz 1)]
    simp only [dg_gp]

end Cert.KernelIdeal.Pair
end
-- ==== Proof.Tri.lean ====
/- The kernel's 64×64 inverse, read at an index. -/
module

public import proofs.«01_k».proof.Proof.Inverse

@[expose] public section

set_option maxRecDepth 8192
set_option maxHeartbeats 400000

noncomputable section

namespace Cert.KernelIdeal.Pair

open Idealize.ShloMosaic Idealize.SL.Sem Cert.KernelIdeal.Gen Idealize.ShloMosaic.Tactic

theorem mm32_at (x : FVec Ideal S32x128 .f32) (y : FVec Ideal S128x128 .f32) (a : Fin 32) (b : Fin 128) :
    mm32 x y (ix2 a b) = ∑ k : Fin 128, x (ix2 a k) * y (ix2 k b) := by
  pointwise [mm32]

theorem rep4_at (x : FVec Ideal S32x128 .f32) (γ : Fin 4) (j : Fin 32) (b : Fin 128) : rep4 x (ix2 (ln4 γ j) b) = x (ix2 j b) := by
  have e : ∀ (q : Fin 32), q.val = j.val → x (ix2 q b) = x (ix2 j b) := fun q h => congrArg (fun q => x (ix2 q b)) (Fin.ext h)
  pointwise [rep4]
  split_ifs with h1 h2 h3
  all_goals
    refine e _ ?_
    first
    | (show 32 * γ.val + j.val = j.val; have : 32 * γ.val + j.val < 32 := by assumption
       omega)
    | (show 32 * γ.val + j.val - 32 = j.val; have : 32 * γ.val + j.val - 32 < 32 := by assumption
       have : ¬ 32 * γ.val + j.val < 32 := by assumption
       omega)
    | (show 32 * γ.val + j.val - 32 - 32 = j.val; have : 32 * γ.val + j.val - 32 - 32 < 32 := by assumption
       have : ¬ 32 * γ.val + j.val - 32 < 32 := by assumption
       omega)
    | (show 32 * γ.val + j.val - 32 - 32 - 32 = j.val
       have : ¬ 32 * γ.val + j.val - 32 - 32 < 32 := by assumption
       omega)

theorem zeros32 (i : Fin 32) (j : Fin 128) : zeros (F := Ideal) S32x128 (ix2 i j) = 0 := by
  pointwise [zeros]
theorem zeros64 (i : Fin 64) (j : Fin 128) : zeros (F := Ideal) S64x128 (ix2 i j) = 0 := by
  pointwise [zeros]
theorem zeros128 (i j : Fin 128) : zeros (F := Ideal) S128x128 (ix2 i j) = 0 := by
  pointwise [zeros]

theorem gp_half (h c : Fin 2) (j : Fin 32) : (ln4 (gp h c) j).val / 32 % 2 = c.val := by
  show (32 * (2 * h.val + c.val) + j.val) / 32 % 2 = c.val
  omega

theorem gp_eq {h c h' c' : Fin 2} : gp h c = gp h' c' ↔ h = h' ∧ c = c' := by
  constructor
  · intro e
    have e : 2 * h.val + c.val = 2 * h'.val + c'.val := congrArg Fin.val e
    exact ⟨Fin.ext (by omega), Fin.ext (by omega)⟩
  · rintro ⟨rfl, rfl⟩; rfl

theorem sum_gp {M : Type} [AddCommMonoid M] (f : Fin 4 → M) : ∑ γ, f γ = ∑ h : Fin 2, ∑ c : Fin 2, f (gp h c) := by
  rw [← Fintype.sum_prod_type']
  refine (Fintype.sum_equiv (finProdFinEquiv (m := 2) (n := 2)) _ _ fun x => congrArg f (Fin.ext ?_)).symm
  show 2 * x.1.val + x.2.val = x.2.val + 2 * x.1.val
  omega

theorem div_ln4 (γ γ' : Fin 4) (j j' : Fin 32) : ((ln4 γ j).val / 32 = (ln4 γ' j').val / 32) ↔ γ = γ' := by
  show ((32 * γ.val + j.val) / 32 = (32 * γ'.val + j'.val) / 32) ↔ _
  rw [Fin.ext_iff]
  omega

theorem zsel_ln4 (h c h' c' : Fin 2) (j j' : Fin 32) :
    ((ln4 (gp h c) j).val / 64 = (ln4 (gp h' c') j').val / 64 ∧ (ln4 (gp h c) j).val / 32 % 2 = 0) ↔ h = h' ∧ c = 0 := by
  show ((32 * (2 * h.val + c.val) + j.val) / 64 = (32 * (2 * h'.val + c'.val) + j'.val) / 64 ∧ (32 * (2 * h.val + c.val) + j.val) / 32 % 2 = 0) ↔ _
  rw [Fin.ext_iff, Fin.ext_iff]
  show _ ↔ h.val = h'.val ∧ c.val = 0
  omega

/-- The block on the diagonal of each group of lanes. -/
theorem diag_at (g : FVec Ideal S64x128 .f32) (G : Fin 2 → Fin 64 → Fin 64 → ℝ)
    (hg : ∀ h s t, g (ix2 s (ln h t)) = ((G h s t : ℝ) : EReal)) (γ : Fin 4) (i j : Fin 32) :
    select blk0 (up32 g) (dn32 g) (ix2 i (ln4 γ j)) = ((dg G γ i j : ℝ) : EReal) := by
  obtain ⟨h, c, rfl⟩ := exists_gp γ
  rw [dg_gp]
  have hg := hg h (hf c i) (hf c j)
  rw [ln_hf] at hg
  show Scalar.select (blk0 (ix2 i (ln4 (gp h c) j))) (up32 g (ix2 i (ln4 (gp h c) j))) (dn32 g (ix2 i (ln4 (gp h c) j))) = _
  rw [blk0_at, select_bit, gp_half]
  have hc : c = 0 ∨ c = 1 := by omega
  rcases hc with rfl | rfl
  · rw [if_pos (show (0 : Fin 2).val = 0 from rfl), ← hg]
    pointwise [up32]
    exact congrArg (fun q => g (ix2 q _)) (Fin.ext (by show i.val = 32 * 0 + i.val; omega))
  · rw [if_neg (by decide), ← hg]
    pointwise [dn32]
    rfl

/-- The product of the block above the diagonal with the inverse below it. -/
theorem z_at (g : FVec Ideal S64x128 .f32) (G : Fin 2 → Fin 64 → Fin 64 → ℝ)
    (hg : ∀ h s t, g (ix2 s (ln h t)) = ((G h s t : ℝ) : EReal)) (qd : FVec Ideal S32x128 .f32) (Q : Fin 4 → Fin 32 → Fin 32 → ℝ)
    (hq : ∀ γ i j, qd (ix2 i (ln4 γ j)) = ((Q γ i j : ℝ) : EReal)) (h c : Fin 2) (k j : Fin 32) :
    mm32 (select blk0 (zeros S32x128) (up32 g)) (select (cmpi .eq grow gcol) (rep4 qd) (zeros S128x128)) (ix2 k (ln4 (gp h c) j))
      = (((if c = 1 then ∑ l : Fin 32, G h (hf 0 k) (hf 1 l) * Q (gp h 1) l j else 0) : ℝ) : EReal) := by
  rw [mm32_at, sum_ln4, sum_gp]
  have e : ∀ (h' c' : Fin 2) (l : Fin 32), select blk0 (zeros S32x128) (up32 g) (ix2 k (ln4 (gp h' c') l)) *
      select (cmpi .eq grow gcol) (rep4 qd) (zeros S128x128) (ix2 (ln4 (gp h' c') l) (ln4 (gp h c) j))
      = (((if h' = h ∧ c' = 1 ∧ c = 1 then G h (hf 0 k) (hf 1 l) * Q (gp h 1) l j else 0 : ℝ)) : EReal) := by
    intro h' c' l
    show Scalar.select (blk0 _) (zeros S32x128 _) (up32 g _) * Scalar.select (cmpi .eq grow gcol _) (rep4 qd _) (zeros S128x128 _) = _
    rw [blk0_at, gsel_at, select_bit, select_bit, gp_half, zeros32, zeros128, rep4_at, hq]
    simp only [div_ln4, gp_eq]
    have hc : c' = 0 ∨ c' = 1 := by omega
    rcases hc with rfl | rfl
    · rw [if_pos (show (0 : Fin 2).val = 0 from rfl), zero_mul, if_neg (by simp)]; rfl
    · rw [if_neg (by decide)]
      by_cases hh : h' = h ∧ (1 : Fin 2) = c
      · obtain ⟨rfl, rfl⟩ := hh
        rw [if_pos ⟨rfl, rfl⟩, if_pos ⟨rfl, rfl, rfl⟩]
        have hg := hg h' (hf 0 k) (hf 1 l)
        rw [ln_hf] at hg
        rw [EReal.coe_mul, ← hg]
        refine congrArg (fun y : EReal => y * _) ?_
        pointwise [up32]
        exact congrArg (fun q => g (ix2 q _)) (Fin.ext (by show k.val = 32 * 0 + k.val; omega))
      · rw [if_neg hh, mul_zero, if_neg (by rintro ⟨a, -, b⟩; exact hh ⟨a, b.symm⟩)]; rfl
  simp only [e, sum_coe]
  refine congrArg _ ?_
  rw [Finset.sum_eq_single h]
  · rw [Fin.sum_univ_two]
    by_cases hc : c = 1
    · simp [hc]
    · simp [hc]
  · intro b _ hb
    simp [hb]
  · simp

theorem h10 : ¬ (1 : Fin 2) = 0 := by decide
theorem hv10 : ¬ (1 : Fin 2).val = 0 := by decide

theorem cat32_at (x y : FVec Ideal S32x128 .f32) (c : Fin 2) (i : Fin 32) (b : Fin 128) :
    concatenate S64x128 0 [⟨S32x128, x⟩, ⟨S32x128, y⟩] concatenates_S32x128_S32x128_S64x128_d0 (ix2 (hf c i) b)
      = if c = 0 then x (ix2 i b) else y (ix2 i b) := by
  pointwise []
  have hc : c = 0 ∨ c = 1 := by omega
  rcases hc with rfl | rfl
  · have h0 : (hf 0 i).val < 32 := by show 32 * 0 + i.val < 32; omega
    rw [dif_pos h0, if_pos rfl]
    exact congrArg (fun q => x (ix2 q _)) (Fin.ext (by show 32 * 0 + i.val = i.val; omega))
  · have h0 : ¬ (hf 1 i).val < 32 := by show ¬ 32 * 1 + i.val < 32; omega
    rw [dif_neg h0]
    refine Eq.trans ?_ (if_neg h10).symm
    exact congrArg (fun q => y (ix2 q _)) (Fin.ext (by show 32 * 1 + i.val - 32 = i.val; omega))

/-- The inverse in blocks, from the inverses of the blocks on the diagonal. -/
theorem invOf_at (g : FVec Ideal S64x128 .f32) (G : Fin 2 → Fin 64 → Fin 64 → ℝ)
    (hg : ∀ h s t, g (ix2 s (ln h t)) = ((G h s t : ℝ) : EReal)) (qd : FVec Ideal S32x128 .f32) (Q : Fin 4 → Fin 32 → Fin 32 → ℝ)
    (hq : ∀ γ i j, qd (ix2 i (ln4 γ j)) = ((Q γ i j : ℝ) : EReal)) (h c c' : Fin 2) (i j : Fin 32) :
    invOf g qd (ix2 (hf c i) (ln4 (gp h c') j)) = (((if c = 0 then if c' = 0 then Q (gp h 0) i j
        else ∑ k : Fin 32, Q (gp h 0) i k * ∑ l : Fin 32, G h (hf 0 k) (hf 1 l) * Q (gp h 1) l j
      else if c' = 0 then 0 else Q (gp h 1) i j) : ℝ) : EReal) := by
  have hz := z_at g G hg qd Q hq
  unfold invOf
  generalize mm32 (select blk0 (zeros S32x128) (up32 g)) (select (cmpi .eq grow gcol) (rep4 qd) (zeros S128x128)) = z at hz
  rw [cat32_at]
  show (if c = 0 then Scalar.select (blk0 _) (qd _) (mm32 qd _ _) else Scalar.select (blk0 _) (zeros S32x128 _) (qd _)) = _
  rw [blk0_at, select_bit, select_bit, gp_half, zeros32]
  have hc : c = 0 ∨ c = 1 := by omega
  have hc' : c' = 0 ∨ c' = 1 := by omega
  rcases hc' with rfl | rfl
  · rw [if_pos (show (0 : Fin 2).val = 0 from rfl), if_pos (show (0 : Fin 2).val = 0 from rfl)]
    rcases hc with rfl | rfl
    · rw [if_pos rfl, if_pos rfl, if_pos rfl, hq]
    · rw [if_neg h10, if_neg h10, if_pos rfl]; rfl
  · rw [if_neg hv10, if_neg hv10]
    rcases hc with rfl | rfl
    · rw [if_pos rfl, if_pos rfl, if_neg h10, mm32_at, sum_ln4, sum_gp]
      have e : ∀ (h' c' : Fin 2) (k : Fin 32), qd (ix2 i (ln4 (gp h' c') k)) *
          select (andi (cmpi .eq (floorDiv grow 2#32) (floorDiv gcol 2#32)) (cmpi .eq (mod2 grow) (broadcast S128x128 0#32)))
            (rep4 z) (zeros S128x128) (ix2 (ln4 (gp h' c') k) (ln4 (gp h 1) j))
          = (((if h' = h ∧ c' = 0 then Q (gp h 0) i k * ∑ l : Fin 32, G h (hf 0 k) (hf 1 l) * Q (gp h 1) l j else 0 : ℝ)) : EReal) := by
        intro h' c' k
        show _ * Scalar.select (andi (cmpi .eq (floorDiv grow 2#32) (floorDiv gcol 2#32)) (cmpi .eq (mod2 grow) (broadcast S128x128 0#32)) _)
          (rep4 z _) (zeros S128x128 _) = _
        rw [zsel_at, select_bit, rep4_at, zeros128, hz, hq, if_pos rfl]
        simp only [zsel_ln4]
        by_cases hh : h' = h ∧ c' = 0
        · rw [if_pos hh, if_pos hh, ← EReal.coe_mul, hh.1, hh.2]
        · rw [if_neg hh, if_neg hh, mul_zero]; rfl
      simp only [e, sum_coe]
      refine congrArg _ ?_
      rw [Finset.sum_eq_single h]
      · rw [Fin.sum_univ_two]
        simp
      · intro b _ hb
        simp [hb]
      · simp
    · rw [if_neg h10, if_neg h10, if_neg h10, hq]

/-- The kernel's inverse is the inverse over the reals. -/
theorem inv_at (g : FVec Ideal S64x128 .f32) (G : Fin 2 → Fin 64 → Fin 64 → ℝ)
    (hg : ∀ h s t, g (ix2 s (ln h t)) = ((G h s t : ℝ) : EReal)) (hG : ∀ h s t, t ≤ s → G h s t = 0) (h : Fin 2) (s t : Fin 64) :
    inv g (ix2 s (ln h t)) = ((invG G h s t : ℝ) : EReal) := by
  have hd : ∀ γ i j, j ≤ i → dg G γ i j = 0 := by
    intro γ i j hij
    obtain ⟨h, c, rfl⟩ := exists_gp γ
    rw [dg_gp]
    refine hG _ _ _ ?_
    have hij : j.val ≤ i.val := hij
    show 32 * c.val + j.val ≤ 32 * c.val + i.val
    omega
  have hq := fun γ i j => unitInv_at (select blk0 (up32 g) (dn32 g)) (dg G) (diag_at g G hg) hd i γ j
  obtain ⟨c, i, rfl⟩ := exists_hf s
  obtain ⟨c', j, rfl⟩ := exists_hf t
  rw [ln_hf]
  have hi := invOf_at g G hg (unitInv (select blk0 (up32 g) (dn32 g))) (fun γ => invR (dg G γ) 31) hq h c c' i j
  refine hi.trans (congrArg _ ?_)
  have hc : c = 0 ∨ c = 1 := by omega
  have hc' : c' = 0 ∨ c' = 1 := by omega
  rcases hc with rfl | rfl <;> rcases hc' with rfl | rfl
  · rw [if_pos rfl, if_pos rfl, invG_00]
  · rw [if_pos rfl, if_neg (by decide), invG_01]
  · rw [if_neg (by decide), if_pos rfl, invG_10]
  · rw [if_neg (by decide), if_neg (by decide), invG_11]

end Cert.KernelIdeal.Pair
end
-- ==== Proof.Chunk.lean ====
/- One chunk of 64 time steps over the reals. -/
module

public import proofs.«01_k».proof.Proof.Tri

@[expose] public section

set_option maxRecDepth 8192
set_option maxHeartbeats 400000

noncomputable section

namespace Cert.KernelIdeal.Pair

open Idealize.ShloMosaic Idealize.SL.Sem Cert.KernelIdeal.Gen Idealize.ShloMosaic.Tactic

section Mat
variable (x0 x1 bt kt s : FVec Ideal S64x128 .f32) (a : Fin 64) (b : Fin 128)

theorem p00 : p0 (o0 (out x0 x1 bt kt s)) (ix2 a b) = ∑ i : Fin 64, bt (ix2 a (ln 0 i)) * x0 (ix2 i b) := by
  pointwise [p0, o0, out]
  simp only [zeros64, mul_zero, Finset.sum_const_zero, add_zero]
  exact Finset.sum_congr rfl fun i _ => congrArg (fun q => bt (ix2 a q) * _) (Fin.ext (by show i.val = 64 * 0 + i.val; omega))
theorem p01 : p0 (o1 (out x0 x1 bt kt s)) (ix2 a b) = ∑ i : Fin 64, bt (ix2 a (ln 1 i)) * x1 (ix2 i b) := by
  pointwise [p0, o1, out]
  simp only [zeros64, mul_zero, Finset.sum_const_zero, zero_add]
  rfl
theorem p10 : p1 (o0 (out x0 x1 bt kt s)) (ix2 a b) = ∑ i : Fin 64, kt (ix2 a (ln 0 i)) * x0 (ix2 i b) := by
  pointwise [p1, o0, out]
  simp only [zeros64, mul_zero, Finset.sum_const_zero, add_zero]
  exact Finset.sum_congr rfl fun i _ => congrArg (fun q => kt (ix2 a q) * _) (Fin.ext (by show i.val = 64 * 0 + i.val; omega))
theorem p11 : p1 (o1 (out x0 x1 bt kt s)) (ix2 a b) = ∑ i : Fin 64, kt (ix2 a (ln 1 i)) * x1 (ix2 i b) := by
  pointwise [p1, o1, out]
  simp only [zeros64, mul_zero, Finset.sum_const_zero, zero_add]
  rfl
theorem p20 : p2 (o0 (out x0 x1 bt kt s)) (ix2 a b) = ∑ i : Fin 64, s (ix2 a (ln 0 i)) * x0 (ix2 i b) := by
  pointwise [p2, o0, out]
  have n1 : ¬ 128 + a.val < 64 := by omega
  have n2 : ¬ 128 + a.val - 64 < 64 := by omega
  simp only [zeros64, mul_zero, Finset.sum_const_zero, add_zero, dif_neg n1, dif_neg n2]
  exact Finset.sum_congr rfl fun i _ => congrArg₂ (fun p q => s (ix2 p q) * x0 (ix2 i b))
    (Fin.ext (by show 128 + a.val - 64 - 64 = a.val; omega)) (Fin.ext (by show i.val = 64 * 0 + i.val; omega))
theorem p21 : p2 (o1 (out x0 x1 bt kt s)) (ix2 a b) = ∑ i : Fin 64, s (ix2 a (ln 1 i)) * x1 (ix2 i b) := by
  pointwise [p2, o1, out]
  have n1 : ¬ 128 + a.val < 64 := by omega
  have n2 : ¬ 128 + a.val - 64 < 64 := by omega
  simp only [zeros64, mul_zero, Finset.sum_const_zero, zero_add, dif_neg n1, dif_neg n2]
  exact Finset.sum_congr rfl fun i _ => congrArg (fun p => s (ix2 p (ln 1 i)) * x1 (ix2 i b))
    (Fin.ext (by show 128 + a.val - 64 - 64 = a.val; omega))

theorem lo_0 (i : Fin 64) : lo (ix2 a (ln 0 i)) = 1#1 := by
  rw [lo_at]; exact if_pos (by show 64 * 0 + i.val < 64; omega)
theorem lo_1 (i : Fin 64) : lo (ix2 a (ln 1 i)) = 0#1 := by
  rw [lo_at]; exact if_neg (by show ¬ 64 * 1 + i.val < 64; omega)
theorem sel1 {α : Type} (x y : α) : Scalar.select 1#1 x y = x := rfl
theorem sel0 {α : Type} (x y : α) : Scalar.select 0#1 x y = y := rfl
theorem strict_ln (h : Fin 2) (i t : Fin 64) : strict (ix2 i (ln h t)) = bit (i < t) := by
  rw [strict_at]
  have : (ln h t).val % 64 = t.val := by show (64 * h.val + t.val) % 64 = t.val; omega
  simp only [this, Fin.lt_def]
theorem incl_ln (h : Fin 2) (i t : Fin 64) : incl (ix2 i (ln h t)) = bit (i ≤ t) := by
  rw [incl_at]
  have : (ln h t).val % 64 = t.val := by show (64 * h.val + t.val) % 64 = t.val; omega
  simp only [this, Fin.le_def]

/-- A row times a block-diagonal matrix is the row's half times its block. -/
theorem bd_at (x y : FVec Ideal S64x128 .f32) (h : Fin 2) (i : Fin 64) :
    (∑ k : Fin 64, x (ix2 a ⟨k.val, by omega⟩) * Scalar.select (lo (ix2 k (ln h i))) (y (ix2 k (ln h i))) (zeros (F := Ideal) S64x128 (ix2 k (ln h i))) +
      ∑ k : Fin 64, x (ix2 a ⟨64 + k.val, by omega⟩) * Scalar.select (lo (ix2 k (ln h i))) (zeros (F := Ideal) S64x128 (ix2 k (ln h i))) (y (ix2 k (ln h i))))
      = ∑ k : Fin 64, x (ix2 a (ln h k)) * y (ix2 k (ln h i)) := by
  have hh : h = 0 ∨ h = 1 := by omega
  rcases hh with rfl | rfl
  · simp only [lo_0, sel1, zeros64, mul_zero, Finset.sum_const_zero, add_zero]
    exact Finset.sum_congr rfl fun k _ => congrArg (fun q => x (ix2 a q) * _) (Fin.ext (by show k.val = 64 * 0 + k.val; omega))
  · simp only [lo_1, sel0, zeros64, mul_zero, Finset.sum_const_zero, zero_add]
    rfl
/-- The same with the blocks off the diagonal: the other half of the row. -/
theorem ad_at (x y : FVec Ideal S64x128 .f32) (h : Fin 2) (i : Fin 64) :
    (∑ k : Fin 64, x (ix2 a ⟨k.val, by omega⟩) * Scalar.select (lo (ix2 k (ln (1 - h) i))) (zeros (F := Ideal) S64x128 (ix2 k (ln (1 - h) i))) (y (ix2 k (ln (1 - h) i))) +
      ∑ k : Fin 64, x (ix2 a ⟨64 + k.val, by omega⟩) * Scalar.select (lo (ix2 k (ln (1 - h) i))) (y (ix2 k (ln (1 - h) i))) (zeros (F := Ideal) S64x128 (ix2 k (ln (1 - h) i))))
      = ∑ k : Fin 64, x (ix2 a (ln h k)) * y (ix2 k (ln (1 - h) i)) := by
  have hh : h = 0 ∨ h = 1 := by omega
  rcases hh with rfl | rfl
  · rw [show (1 - 0 : Fin 2) = 1 from rfl]
    simp only [lo_1, sel0, zeros64, mul_zero, Finset.sum_const_zero, add_zero]
    exact Finset.sum_congr rfl fun k _ => congrArg (fun q => x (ix2 a q) * _) (Fin.ext (by show k.val = 64 * 0 + k.val; omega))
  · rw [show (1 - 1 : Fin 2) = 0 from rfl]
    simp only [lo_0, sel1, zeros64, mul_zero, Finset.sum_const_zero, zero_add]
    rfl

variable (o : FVec Ideal S192x256 .f32) (h : Fin 2) (t : Fin 64) (x v u q : FVec Ideal S64x128 .f32)

theorem vo0_at : extractStridedSlice S64x128 ![0, 0] (voOf v kt o) slices_S64x384_o0_0_S64x128 (ix2 a (ln h t))
    = ∑ k : Fin 64, v (ix2 a (ln h k)) * lkOf o (ix2 k (ln h t)) := by
  rw [← bd_at]
  pointwise [voOf, antiDiag, blockDiag, cat2]
theorem vo1_at : extractStridedSlice S64x128 ![0, 128] (voOf v kt o) slices_S64x384_o0_128_S64x128 (ix2 a (ln (1 - h) t))
    = ∑ k : Fin 64, v (ix2 a (ln h k)) * mkOf o (ix2 k (ln (1 - h) t)) := by
  rw [← ad_at]
  pointwise [voOf, antiDiag, blockDiag, cat2]
theorem cat3_at (x y z : FVec Ideal S128x128 .f32) (i b : Fin 128) :
    concatenate S128x384 1 [⟨S128x128, x⟩, ⟨S128x128, y⟩, ⟨S128x128, z⟩] concatenates_S128x128_S128x128_S128x128_S128x384_d1
      (ix2 i ⟨256 + b.val, by omega⟩) = z (ix2 i b) := by
  pointwise []
  have n1 : ¬ 256 + b.val < 128 := by omega
  have n2 : ¬ 256 + b.val - 128 < 128 := by omega
  rw [dif_neg n1, dif_neg n2]
  exact congrArg (fun q => z (ix2 i q)) (Fin.ext (by show 256 + b.val - 128 - 128 = b.val; omega))
theorem mm384 (M : FVec Ideal S128x384 .f32) (b : Fin 128) :
    extractStridedSlice S64x128 ![0, 256] (matmul dot_S64x128_S128x384_S64x384_1_0_0_1_n_n (some .fp32) v M (constant S64x384 .f32 0x00000000#32))
      slices_S64x384_o0_256_S64x128 (ix2 a b) = ∑ k : Fin 128, v (ix2 a k) * M (ix2 k ⟨256 + b.val, by omega⟩) := by
  pointwise []
theorem blk_at (b : Fin 128) (x y : FVec Ideal S64x128 .f32) : ∑ k : Fin 128, x (ix2 a k) * blockDiag y (ix2 k b)
    = ∑ k : Fin 64, x (ix2 a ⟨k.val, by omega⟩) * Scalar.select (lo (ix2 k b)) (y (ix2 k b)) (zeros (F := Ideal) S64x128 (ix2 k b)) +
      ∑ k : Fin 64, x (ix2 a ⟨64 + k.val, by omega⟩) * Scalar.select (lo (ix2 k b)) (zeros (F := Ideal) S64x128 (ix2 k b)) (y (ix2 k b)) := by
  pointwise [blockDiag, cat2]
theorem vo2_at : extractStridedSlice S64x128 ![0, 256] (voOf v kt o) slices_S64x384_o0_256_S64x128 (ix2 a (ln h t))
    = ∑ k : Fin 64, v (ix2 a (ln h k)) * kt (ix2 k (ln h t)) := by
  rw [← bd_at]
  refine Eq.trans ?_ (blk_at a (ln h t) v kt)
  refine (mm384 a v _ (ln h t)).trans (Finset.sum_congr rfl fun k _ => ?_)
  rw [cat3_at]
theorem uo0_at : extractStridedSlice S64x128 ![0, 0] (uoOf u bt o) slices_S64x256_o0_0_S64x128 (ix2 a (ln (1 - h) t))
    = ∑ k : Fin 64, u (ix2 a (ln h k)) * mbOf o (ix2 k (ln (1 - h) t)) := by
  rw [← ad_at]
  pointwise [uoOf, antiDiag, blockDiag, cat2]
theorem uo1_at : extractStridedSlice S64x128 ![0, 128] (uoOf u bt o) slices_S64x256_o0_128_S64x128 (ix2 a (ln h t))
    = ∑ k : Fin 64, u (ix2 a (ln h k)) * bt (ix2 k (ln h t)) := by
  rw [← bd_at]
  pointwise [uoOf, antiDiag, blockDiag, cat2]
theorem u_at : uOf x q (ix2 a (ln h t)) = ∑ k : Fin 64, x (ix2 a (ln h k)) * q (ix2 k (ln h t)) := by
  rw [← bd_at]
  pointwise [uOf, antiDiag, blockDiag, cat2]
end Mat

/-- One head's values in a chunk: by time step and feature. -/
structure Head where
  (A R B K V : Fin 64 → Fin 64 → ℝ)
  S : Fin 64 → Fin 64 → ℝ
  W : Fin 64 → ℝ

namespace Head
variable (c : Head)
def G (s t : Fin 64) : ℝ := if s < t then ∑ i, c.B s i * c.A t i else 0
def Mb (s t : Fin 64) : ℝ := if s ≤ t then ∑ i, c.B s i * c.R t i else 0
def Lk (s t : Fin 64) : ℝ := if s < t then ∑ i, c.K s i * c.A t i else 0
def Mk (s t : Fin 64) : ℝ := if s ≤ t then ∑ i, c.K s i * c.R t i else 0
def X (q t : Fin 64) : ℝ := ∑ i, c.S q i * c.A t i
def YY (q t : Fin 64) : ℝ := ∑ i, c.S q i * c.R t i
end Head

/-- What the chunk of two heads computes from the inverses `Q`. -/
def hU (c : Fin 2 → Head) (h : Fin 2) (q t : Fin 64) : ℝ :=
  ∑ s, ((c h).X q s + ∑ u, (c h).V u q * (c h).Lk u s) * invG (fun h => (c h).G) h s t
def hY (c : Fin 2 → Head) (h : Fin 2) (q t : Fin 64) : ℝ :=
  (c h).YY q t + ∑ u, (c h).V u q * (c h).Mk u t + ∑ s, hU c h q s * (c h).Mb s t
def hS (c : Fin 2 → Head) (h : Fin 2) (q i : Fin 64) : ℝ :=
  ((c h).S q i + ∑ u, (c h).V u q * (c h).K u i + ∑ s, hU c h q s * (c h).B s i) * (c h).W i

/-- The arrays hold the real values of two heads. -/
structure ChunkIn (c : Fin 2 → Head) (x0 x1 v bt kt s : FVec Ideal S64x128 .f32) (we : FVec Ideal S1x128 .f32) : Prop where
  x00 : ∀ i t, x0 (ix2 i (ln 0 t)) = (((c 0).A t i : ℝ) : EReal)
  x01 : ∀ i t, x0 (ix2 i (ln 1 t)) = (((c 0).R t i : ℝ) : EReal)
  x10 : ∀ i t, x1 (ix2 i (ln 0 t)) = (((c 1).R t i : ℝ) : EReal)
  x11 : ∀ i t, x1 (ix2 i (ln 1 t)) = (((c 1).A t i : ℝ) : EReal)
  v : ∀ h q t, v (ix2 q (ln h t)) = (((c h).V t q : ℝ) : EReal)
  b : ∀ h t i, bt (ix2 t (ln h i)) = (((c h).B t i : ℝ) : EReal)
  k : ∀ h t i, kt (ix2 t (ln h i)) = (((c h).K t i : ℝ) : EReal)
  s : ∀ h q i, s (ix2 q (ln h i)) = (((c h).S q i : ℝ) : EReal)
  w : ∀ h i, we (ix2 0 (ln h i)) = (((c h).W i : ℝ) : EReal)

section Lift
variable {c : Fin 2 → Head} {x0 x1 v bt kt s : FVec Ideal S64x128 .f32} {we : FVec Ideal S1x128 .f32}
  (H : ChunkIn c x0 x1 v bt kt s we)
include H

theorem g_lift (h : Fin 2) (a t : Fin 64) : gOf (out x0 x1 bt kt s) (ix2 a (ln h t)) = (((c h).G a t : ℝ) : EReal) := by
  show Scalar.select (strict _) (Scalar.select (lo _) (p0 (o0 _) _) (p0 (o1 _) _)) (zeros S64x128 _) = _
  rw [p00, p01, strict_ln, select_bit, zeros64]
  unfold Head.G
  have hh : h = 0 ∨ h = 1 := by omega
  rcases hh with rfl | rfl
  · simp only [lo_0, sel1, H.b, H.x00, ← EReal.coe_mul, sum_coe, ite_coe_zero]
  · simp only [lo_1, sel0, H.b, H.x11, ← EReal.coe_mul, sum_coe, ite_coe_zero]
theorem lk_lift (h : Fin 2) (a t : Fin 64) : lkOf (out x0 x1 bt kt s) (ix2 a (ln h t)) = (((c h).Lk a t : ℝ) : EReal) := by
  show Scalar.select (strict _) (Scalar.select (lo _) (p1 (o0 _) _) (p1 (o1 _) _)) (zeros S64x128 _) = _
  rw [p10, p11, strict_ln, select_bit, zeros64]
  unfold Head.Lk
  have hh : h = 0 ∨ h = 1 := by omega
  rcases hh with rfl | rfl
  · simp only [lo_0, sel1, H.k, H.x00, ← EReal.coe_mul, sum_coe, ite_coe_zero]
  · simp only [lo_1, sel0, H.k, H.x11, ← EReal.coe_mul, sum_coe, ite_coe_zero]
theorem mb_lift (h : Fin 2) (a t : Fin 64) : mbOf (out x0 x1 bt kt s) (ix2 a (ln (1 - h) t)) = (((c h).Mb a t : ℝ) : EReal) := by
  show Scalar.select (incl _) (Scalar.select (lo _) (p0 (o1 _) _) (p0 (o0 _) _)) (zeros S64x128 _) = _
  rw [p00, p01, incl_ln, select_bit, zeros64]
  unfold Head.Mb
  have hh : h = 0 ∨ h = 1 := by omega
  rcases hh with rfl | rfl
  · rw [show (1 - 0 : Fin 2) = 1 from rfl]
    simp only [lo_1, sel0, H.b, H.x01, ← EReal.coe_mul, sum_coe, ite_coe_zero]
  · rw [show (1 - 1 : Fin 2) = 0 from rfl]
    simp only [lo_0, sel1, H.b, H.x10, ← EReal.coe_mul, sum_coe, ite_coe_zero]
theorem mk_lift (h : Fin 2) (a t : Fin 64) : mkOf (out x0 x1 bt kt s) (ix2 a (ln (1 - h) t)) = (((c h).Mk a t : ℝ) : EReal) := by
  show Scalar.select (incl _) (Scalar.select (lo _) (p1 (o1 _) _) (p1 (o0 _) _)) (zeros S64x128 _) = _
  rw [p10, p11, incl_ln, select_bit, zeros64]
  unfold Head.Mk
  have hh : h = 0 ∨ h = 1 := by omega
  rcases hh with rfl | rfl
  · rw [show (1 - 0 : Fin 2) = 1 from rfl]
    simp only [lo_1, sel0, H.k, H.x01, ← EReal.coe_mul, sum_coe, ite_coe_zero]
  · rw [show (1 - 1 : Fin 2) = 0 from rfl]
    simp only [lo_0, sel1, H.k, H.x10, ← EReal.coe_mul, sum_coe, ite_coe_zero]
theorem x_lift (h : Fin 2) (a t : Fin 64) : xOf (out x0 x1 bt kt s) (ix2 a (ln h t)) = (((c h).X a t : ℝ) : EReal) := by
  show Scalar.select (lo _) (p2 (o0 _) _) (p2 (o1 _) _) = _
  rw [p20, p21]
  unfold Head.X
  have hh : h = 0 ∨ h = 1 := by omega
  rcases hh with rfl | rfl
  · simp only [lo_0, sel1, H.s, H.x00, ← EReal.coe_mul, sum_coe]
  · simp only [lo_1, sel0, H.s, H.x11, ← EReal.coe_mul, sum_coe]
theorem yy_lift (h : Fin 2) (a t : Fin 64) : yyOf (out x0 x1 bt kt s) (ix2 a (ln (1 - h) t)) = (((c h).YY a t : ℝ) : EReal) := by
  show Scalar.select (lo _) (p2 (o1 _) _) (p2 (o0 _) _) = _
  rw [p20, p21]
  unfold Head.YY
  have hh : h = 0 ∨ h = 1 := by omega
  rcases hh with rfl | rfl
  · rw [show (1 - 0 : Fin 2) = 1 from rfl]
    simp only [lo_1, sel0, H.s, H.x01, ← EReal.coe_mul, sum_coe]
  · rw [show (1 - 1 : Fin 2) = 0 from rfl]
    simp only [lo_0, sel1, H.s, H.x10, ← EReal.coe_mul, sum_coe]

theorem u_lift (h : Fin 2) (a t : Fin 64) :
    chunkU v kt (out x0 x1 bt kt s) (voOf v kt (out x0 x1 bt kt s)) (ix2 a (ln h t)) = ((hU c h a t : ℝ) : EReal) := by
  unfold chunkU
  rw [u_at]
  have e : ∀ k : Fin 64, addf (xOf (out x0 x1 bt kt s)) (extractStridedSlice S64x128 ![0, 0] (voOf v kt (out x0 x1 bt kt s)) slices_S64x384_o0_0_S64x128)
      (ix2 a (ln h k)) = (((c h).X a k + ∑ u, (c h).V u a * (c h).Lk u k : ℝ) : EReal) := by
    intro k
    show xOf (out x0 x1 bt kt s) (ix2 a (ln h k)) + extractStridedSlice S64x128 ![0, 0] (voOf v kt (out x0 x1 bt kt s)) slices_S64x384_o0_0_S64x128 (ix2 a (ln h k)) = _
    rw [vo0_at, x_lift H]
    simp only [H.v, lk_lift H, ← EReal.coe_mul, sum_coe, ← EReal.coe_add]
  have hi := inv_at (gOf (out x0 x1 bt kt s)) (fun h => (c h).G) (g_lift H)
    (fun h a t hat => if_neg (by rw [Fin.lt_def]; rw [Fin.le_def] at hat; omega))
  simp only [e, hi, ← EReal.coe_mul, sum_coe]
  rfl

theorem y_lift (h : Fin 2) (a t : Fin 64) : (chunk x0 x1 v bt kt s we).1 (ix2 a (ln (1 - h) t)) = ((hY c h a t : ℝ) : EReal) := by
  have hu := u_lift H h a
  show (yyOf _ _ + extractStridedSlice S64x128 ![0, 128] (voOf _ _ _) slices_S64x384_o0_128_S64x128 _)
    + extractStridedSlice S64x128 ![0, 0] (uoOf _ _ _) slices_S64x256_o0_0_S64x128 _ = _
  rw [vo1_at, uo0_at, yy_lift H]
  simp only [hu, mk_lift H, mb_lift H, H.v, ← EReal.coe_mul, sum_coe, ← EReal.coe_add]
  rfl

theorem s_lift (h : Fin 2) (a i : Fin 64) : (chunk x0 x1 v bt kt s we).2 (ix2 a (ln h i)) = ((hS c h a i : ℝ) : EReal) := by
  have hu := u_lift H h a
  have hw : broadcastTo S64x128 we broadcasts_S1x128_S64x128 (ix2 a (ln h i)) = (((c h).W i : ℝ) : EReal) := by
    rw [← H.w]
    pointwise []
  show ((s _ + extractStridedSlice S64x128 ![0, 256] (voOf _ _ _) slices_S64x384_o0_256_S64x128 _)
    + extractStridedSlice S64x128 ![0, 128] (uoOf _ _ _) slices_S64x256_o0_128_S64x128 _)
    * broadcastTo S64x128 we broadcasts_S1x128_S64x128 _ = _
  rw [vo2_at, uo1_at, hw]
  simp only [hu, H.s, H.k, H.b, H.v, ← EReal.coe_mul, sum_coe, ← EReal.coe_add]
  rfl
end Lift

end Cert.KernelIdeal.Pair
end
-- ==== Proof.Recur.lean ====
/- The recurrence over the reals, and that a chunk's closed form is 64 steps of it. -/
module

public import proofs.«01_k».proof.Proof.Chunk

@[expose] public section

set_option maxRecDepth 8192
set_option maxHeartbeats 400000

noncomputable section

namespace Cert.KernelIdeal.Pair

/-- What one head reads at one time step: the logarithm of the decay, the removal key, its rate, the query, the key, the
    value with its scales, the output's scale, and whether the step is before the sequence's end. -/
structure Stp where
  (l kk ic r k v : Fin 64 → ℝ)
  rs : ℝ
  on : Bool

/-- The state after the step. -/
def Stp.next (p : Stp) (S : Fin 64 → Fin 64 → ℝ) (q i : Fin 64) : ℝ :=
  if p.on then S q i * Real.exp (p.l i) + (∑ j, S q j * -(p.kk j)) * (p.kk i * p.ic i) + p.v q * p.k i else S q i
/-- The step's output. -/
def Stp.y (p : Stp) (S : Fin 64 → Fin 64 → ℝ) (q : Fin 64) : ℝ := if p.on then (∑ i, p.next S q i * p.r i) * p.rs else 0

/-- The state after the first `n` steps. -/
def stepsR (p : ℕ → Stp) (S : Fin 64 → Fin 64 → ℝ) : ℕ → Fin 64 → Fin 64 → ℝ
  | 0 => S
  | n + 1 => (p n).next (stepsR p S n)

theorem run_add (p : ℕ → Stp) (S : Fin 64 → Fin 64 → ℝ) (a n : ℕ) : stepsR p S (a + n) = stepsR (fun k => p (a + k)) (stepsR p S a) n := by
  induction n with
  | zero => rfl
  | succ n ih =>
    show (p (a + n)).next (stepsR p S (a + n)) = _
    rw [ih]
    rfl

theorem run_off (p : ℕ → Stp) (S : Fin 64 → Fin 64 → ℝ) (n : ℕ) (h : ∀ k < n, (p k).on = false) : stepsR p S n = S := by
  induction n with
  | zero => rfl
  | succ n ih =>
    show (p n).next (stepsR p S n) = S
    rw [ih fun k hk => h k (by omega)]
    funext q i
    unfold Stp.next
    rw [h n (by omega)]
    rfl

theorem run_congr (p p' : ℕ → Stp) (S : Fin 64 → Fin 64 → ℝ) (n : ℕ) (h : ∀ k < n, p k = p' k) : stepsR p S n = stepsR p' S n := by
  induction n with
  | zero => rfl
  | succ n ih =>
    show (p n).next (stepsR p S n) = (p' n).next (stepsR p' S n)
    rw [ih fun k hk => h k (by omega), h n (by omega)]

/-- The mask as a number. -/
def Stp.m (p : Stp) : ℝ := if p.on then 1 else 0

/-- The logarithms of the decays of the first `n` steps, summed. -/
def cum (p : ℕ → Stp) (n : ℕ) (i : Fin 64) : ℝ := ∑ s ∈ Finset.range n, (p s).l i * (p s).m

/-- A chunk's values with the decays moved into them. -/
def mkHead (p : ℕ → Stp) (S : Fin 64 → Fin 64 → ℝ) : Head where
  A t i := (p t.val).kk i * Real.exp (cum p t.val i)
  R t i := (p t.val).r i * Real.exp (cum p (t.val + 1) i)
  B t i := (p t.val).kk i * (p t.val).ic i * (Real.exp (-cum p (t.val + 1) i) * -(p t.val).m)
  K t i := (p t.val).k i * (Real.exp (-cum p (t.val + 1) i) * -(p t.val).m)
  V t q := (p t.val).v q * -(p t.val).m
  S := S
  W i := Real.exp (cum p 64 i)

section Solve
variable (c : Fin 2 → Head) (h : Fin 2)

/-- The state with the decays left out, before step `n`. -/
def sh (n : ℕ) (q i : Fin 64) : ℝ :=
  (c h).S q i + ∑ u : Fin 64, (if u.val < n then (c h).V u q * (c h).K u i + hU c h q u * (c h).B u i else 0)

/-- `U = Z + U G`. -/
theorem hU_eq (q t : Fin 64) :
    hU c h q t = ((c h).X q t + ∑ u, (c h).V u q * (c h).Lk u t) + ∑ s, hU c h q s * (c h).G s t := by
  let Gm : Matrix (Fin 64) (Fin 64) ℝ := (c h).G
  let Q : Matrix (Fin 64) (Fin 64) ℝ := invG (fun h => (c h).G) h
  let Z : Matrix (Fin 64) (Fin 64) ℝ := fun q s => (c h).X q s + ∑ u, (c h).V u q * (c h).Lk u s
  have e1 : Q = 1 + Gm * Q := by
    funext s t
    have := invG_eq (fun h => (c h).G) (fun h a t hat => if_neg (by rw [Fin.lt_def]; rw [Fin.le_def] at hat; omega)) h s t
    refine this.trans ?_
    rw [Matrix.add_apply, Matrix.mul_apply, Matrix.one_apply]
    simp only [eq_comm (a := t) (b := s)]
    rfl
  have e2 : (1 - Gm) * Q = 1 := by
    rw [sub_mul, one_mul]
    nth_rewrite 1 [e1]
    rw [add_sub_cancel_right]
  have e3 : Q * (1 - Gm) = 1 := mul_eq_one_comm.mp e2
  have e4 : Z * Q = Z + (Z * Q) * Gm := by
    refine sub_eq_iff_eq_add.mp ?_
    rw [Matrix.mul_assoc, ← Matrix.mul_sub]
    nth_rewrite 1 [← mul_one Q]
    rw [← mul_sub, e3, mul_one]
  have := congrFun (congrFun e4 q) t
  rw [Matrix.add_apply, Matrix.mul_apply, Matrix.mul_apply] at this
  refine this.trans ?_
  rfl

theorem hU_sh (q t : Fin 64) : hU c h q t = ∑ i, sh c h t.val q i * (c h).A t i := by
  rw [hU_eq]
  unfold sh Head.X Head.Lk Head.G
  simp only [add_mul, Finset.sum_add_distrib, Finset.sum_mul, add_assoc]
  congr 1
  rw [Finset.sum_comm, ← Finset.sum_add_distrib]
  refine Finset.sum_congr rfl fun u _ => ?_
  by_cases hu : u.val < t.val
  · have hu' : u < t := hu
    simp only [if_pos hu, if_pos hu', add_mul, Finset.sum_add_distrib, Finset.mul_sum, mul_assoc]
  · have hu' : ¬ u < t := hu
    simp only [if_neg hu, if_neg hu', mul_zero, zero_mul, Finset.sum_const_zero, add_zero]

theorem hY_sh (q t : Fin 64) : hY c h q t = ∑ i, sh c h (t.val + 1) q i * (c h).R t i := by
  unfold hY sh Head.YY Head.Mk Head.Mb
  simp only [add_mul, Finset.sum_add_distrib, Finset.sum_mul, add_assoc]
  congr 1
  rw [Finset.sum_comm, ← Finset.sum_add_distrib]
  refine Finset.sum_congr rfl fun u _ => ?_
  by_cases hu : u.val < t.val + 1
  · have hu' : u ≤ t := Nat.le_of_lt_succ hu
    simp only [if_pos hu, if_pos hu', add_mul, Finset.sum_add_distrib, Finset.mul_sum, mul_assoc]
  · have hu' : ¬ u ≤ t := fun h => hu (Nat.lt_succ_of_le h)
    simp only [if_neg hu, if_neg hu', mul_zero, zero_mul, Finset.sum_const_zero, add_zero]

theorem hS_sh (q i : Fin 64) : hS c h q i = sh c h 64 q i * (c h).W i := by
  unfold hS sh
  simp only [Fin.is_lt, if_true, Finset.sum_add_distrib, add_assoc]

theorem sh_succ (n : ℕ) (hn : n < 64) (q i : Fin 64) :
    sh c h (n + 1) q i = sh c h n q i + ((c h).V ⟨n, hn⟩ q * (c h).K ⟨n, hn⟩ i + hU c h q ⟨n, hn⟩ * (c h).B ⟨n, hn⟩ i) := by
  unfold sh
  rw [add_assoc]
  congr 1
  have e : ∀ u : Fin 64, (if u.val < n + 1 then (c h).V u q * (c h).K u i + hU c h q u * (c h).B u i else 0)
      = (if u.val < n then (c h).V u q * (c h).K u i + hU c h q u * (c h).B u i else 0)
        + (if u = ⟨n, hn⟩ then (c h).V u q * (c h).K u i + hU c h q u * (c h).B u i else 0) := by
    intro u
    by_cases h1 : u.val < n
    · rw [if_pos h1, if_pos (by omega), if_neg (by rintro rfl; exact absurd h1 (lt_irrefl _)), add_zero]
    · by_cases h2 : u = ⟨n, hn⟩
      · rw [if_neg h1, if_pos h2, if_pos (by rw [h2]; exact Nat.lt_succ_self n), zero_add]
      · rw [if_neg h1, if_neg h2, if_neg, add_zero]
        intro h3
        exact h2 (Fin.ext (by show u.val = n; omega))
  rw [Finset.sum_congr rfl fun u _ => e u, Finset.sum_add_distrib, Finset.sum_ite_eq', if_pos (Finset.mem_univ _)]

end Solve

section Steps
variable (p : Fin 2 → ℕ → Stp) (S : Fin 2 → Fin 64 → Fin 64 → ℝ) (h : Fin 2)

theorem run_sh (n : ℕ) (hn : n ≤ 64) (q i : Fin 64) :
    stepsR (p h) (S h) n q i = sh (fun h => mkHead (p h) (S h)) h n q i * Real.exp (cum (p h) n i) := by
  induction n generalizing i with
  | zero =>
    unfold sh cum
    simp [stepsR, mkHead]
  | succ n ih =>
    have ih := fun i => ih (by omega) i
    have hu : hU (fun h => mkHead (p h) (S h)) h q ⟨n, hn⟩ = ∑ j, stepsR (p h) (S h) n q j * (p h n).kk j := by
      rw [hU_sh]
      refine Finset.sum_congr rfl fun j _ => ?_
      rw [ih j]
      show _ * ((p h n).kk j * Real.exp (cum (p h) n j)) = _
      ring
    rw [sh_succ _ _ n hn, hu]
    show (p h n).next (stepsR (p h) (S h) n) q i = (_ + ((p h n).v q * -(p h n).m * ((p h n).k i * (Real.exp (-cum (p h) (n + 1) i) * -(p h n).m))
      + _ * ((p h n).kk i * (p h n).ic i * (Real.exp (-cum (p h) (n + 1) i) * -(p h n).m)))) * Real.exp (cum (p h) (n + 1) i)
    have hc : cum (p h) (n + 1) i = cum (p h) n i + (p h n).l i * (p h n).m := Finset.sum_range_succ _ _
    have hE : Real.exp (-cum (p h) (n + 1) i) * Real.exp (cum (p h) (n + 1) i) = 1 := by
      rw [← Real.exp_add, neg_add_cancel, Real.exp_zero]
    have ih := ih i
    unfold Stp.next
    cases ho : (p h n).on
    · have hm : (p h n).m = 0 := by unfold Stp.m; rw [ho]; rfl
      rw [hm] at hc ⊢
      rw [hc, ih]
      simp
    · have hm : (p h n).m = 1 := by unfold Stp.m; rw [ho]; rfl
      have hE2 : Real.exp (cum (p h) (n + 1) i) = Real.exp (cum (p h) n i) * Real.exp ((p h n).l i) := by
        rw [hc, hm, mul_one, Real.exp_add]
      rw [hm, if_pos rfl, ih]
      simp only [mul_neg, Finset.sum_neg_distrib]
      generalize ∑ j, stepsR (p h) (S h) n q j * (p h n).kk j = σ
      generalize sh (fun h => mkHead (p h) (S h)) h n q i = s
      generalize Real.exp (-cum (p h) (n + 1) i) = E' at hE ⊢
      generalize Real.exp (cum (p h) n i) = e0 at *
      generalize Real.exp ((p h n).l i) = e1 at *
      rw [hE2] at hE ⊢
      linear_combination (-((p h n).v q * (p h n).k i) + σ * ((p h n).kk i * (p h n).ic i)) * hE

theorem hY_run (q t : Fin 64) : hY (fun h => mkHead (p h) (S h)) h q t = ∑ i, stepsR (p h) (S h) (t.val + 1) q i * (p h t.val).r i := by
  rw [hY_sh]
  refine Finset.sum_congr rfl fun i _ => ?_
  rw [run_sh p S h (t.val + 1) (by omega)]
  show _ * ((p h t.val).r i * Real.exp (cum (p h) (t.val + 1) i)) = _
  ring

theorem hS_run (q i : Fin 64) : hS (fun h => mkHead (p h) (S h)) h q i = stepsR (p h) (S h) 64 q i := by
  rw [hS_sh, run_sh p S h 64 (le_refl _)]
  rfl

end Steps

end Cert.KernelIdeal.Pair
end
-- ==== Proof.Data.lean ====
/- The real numbers that the arguments hold, and the recurrence that they state: what both programs are shown to compute. -/
module

public import proofs.«01_k».proof.Proof.Recur
public import Idealize.ShloMosaic.Lib.Pointwise

@[expose] public section

noncomputable section

namespace Cert.KernelIdeal.Pair

open Idealize.ShloMosaic

/-- The shapes of the arguments. -/
abbrev Sh4 : Shape := ⟨4, ![6, 4096, 32, 64]⟩
abbrev Sh3 : Shape := ⟨3, ![6, 4096, 32]⟩
abbrev ShS : Shape := ⟨4, ![6, 32, 64, 64]⟩

/-- The real numbers of the arguments. -/
structure Dat where
  (r k v w kk ic : Sh4.Idx → ℝ)
  (rs ks vs : Sh3.Idx → ℝ)
  s : ShS.Idx → ℝ
  len : Fin 6 → ℤ

/-- A time step. -/
def tm (n : ℕ) : Fin 4096 := ⟨n % 4096, Nat.mod_lt _ (by omega)⟩

theorem tm_of (t : Fin 4096) : tm t.val = t := Fin.ext (Nat.mod_eq_of_lt t.isLt)

/-- What head `H` of sequence `b` reads at time step `n`. -/
def Dat.stp (D : Dat) (b : Fin 6) (H : Fin 32) (n : ℕ) : Stp where
  l i := -Real.exp (D.w (ix4 b (tm n) H i))
  kk i := D.kk (ix4 b (tm n) H i)
  ic i := D.ic (ix4 b (tm n) H i)
  r i := D.r (ix4 b (tm n) H i)
  k i := D.k (ix4 b (tm n) H i)
  v i := D.v (ix4 b (tm n) H i) * D.ks (ix3 b (tm n) H) * D.vs (ix3 b (tm n) H)
  rs := D.rs (ix3 b (tm n) H)
  on := decide ((n : ℤ) < D.len b)

/-- The states after `n` time steps. -/
def Dat.st (D : Dat) (b : Fin 6) (H : Fin 32) (n : ℕ) : Fin 64 → Fin 64 → ℝ := stepsR (D.stp b H) (fun q i => D.s (ix4 b H q i)) n

/-- The output of time step `n`. -/
def Dat.out (D : Dat) (b : Fin 6) (H : Fin 32) (n : ℕ) : Fin 64 → ℝ := (D.stp b H n).y (D.st b H n)

end Cert.KernelIdeal.Pair

end
-- ==== Proof.HostVal.lean ====
/- What the launch's inputs hold when the arguments hold real numbers: the host's casts, transposes and reshapes, and the
   block of a sequence that a grid point reads. -/
module

public import proofs.«01_k».proof.Proof.Frame
public import proofs.«01_k».proof.Proof.Data
public import Idealize.ShloMosaic.Lib.Pointwise
public import Idealize.ShloMosaic.Lib.Pipeline.ValueKit

@[expose] public section

set_option maxRecDepth 8192
set_option maxHeartbeats 400000

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

/-! ## The host's layouts -/

theorem wide_at {α : Type} (X : S6x4096x32x64.Idx → α) (b : Fin 6) (r : Fin 2048) (H : Fin 32) (i : Fin 64) (hr : r.val = 64 * H.val + i.val) (n : Fin 4096) :
    shapeCast S6x2048x4096 (transpose S6x32x64x4096 [0, 2, 3, 1] X transposes_S6x4096x32x64_S6x32x64x4096_0_2_3_1) shapeCasts_S6x32x64x4096_S6x2048x4096 (ix3 b r n)
      = X (ix4 b n H i) := by
  refine (shapeCast_apply _ _ _ (ix4 b H i n : S6x32x64x4096.Idx) ?_).trans ?_
  · have e4 := Shape.rowMajor_val_four (d := ![6, 32, 64, 4096]) (ix4 b H i n : S6x32x64x4096.Idx)
    have e3 := Shape.rowMajor_val_three (d := ![6, 2048, 4096]) (ix3 b r n : S6x2048x4096.Idx)
    refine e4.trans (Eq.trans ?_ e3.symm)
    show ((b.val * 32 + H.val) * 64 + i.val) * 4096 + n.val = (b.val * 2048 + r.val) * 4096 + n.val
    omega
  · refine congrArg X (funext fun a => ?_)
    match a with
    | 0 => rfl
    | 1 => rfl
    | 2 => rfl
    | 3 => rfl

theorem scale_at {α : Type} (X : S6x4096x32.Idx → α) (b : Fin 6) (H : Fin 32) (g : Fin 4) (j : Fin 8) (hH : H.val = 8 * g.val + j.val) (n : Fin 4096) :
    shapeCast S6x4x8x4096 (transpose S6x32x4096 [0, 2, 1] X transposes_S6x4096x32_S6x32x4096_0_2_1) shapeCasts_S6x32x4096_S6x4x8x4096 (ix4 b g j n)
      = X (ix3 b n H) := by
  refine (shapeCast_apply _ _ _ (ix3 b H n : S6x32x4096.Idx) ?_).trans ?_
  · have e4 := Shape.rowMajor_val_four (d := ![6, 4, 8, 4096]) (ix4 b g j n : S6x4x8x4096.Idx)
    have e3 := Shape.rowMajor_val_three (d := ![6, 32, 4096]) (ix3 b H n : S6x32x4096.Idx)
    refine e3.trans (Eq.trans ?_ e4.symm)
    show (b.val * 32 + H.val) * 4096 + n.val = ((b.val * 4 + g.val) * 8 + j.val) * 4096 + n.val
    omega
  · refine congrArg X (funext fun a => ?_)
    match a with
    | 0 => rfl
    | 1 => rfl
    | 2 => rfl

variable (m : (ℓ : Loc nD τ sig) → Buf (Elt Ideal) ℓ)

/-- The arguments' arrays hold the real numbers, and no length is negative. -/
structure In (D : Dat) : Prop where
  r : ∀ i, (m (((0 : Dev nD).tc : Thread nD τ).loc main_arg0) : main_arg0.ty.Contents (Elt Ideal)) i = ((D.r i : ℝ) : EReal)
  k : ∀ i, (m (((0 : Dev nD).tc : Thread nD τ).loc main_arg1) : main_arg1.ty.Contents (Elt Ideal)) i = ((D.k i : ℝ) : EReal)
  v : ∀ i, (m (((0 : Dev nD).tc : Thread nD τ).loc main_arg2) : main_arg2.ty.Contents (Elt Ideal)) i = ((D.v i : ℝ) : EReal)
  rs : ∀ i, (m (((0 : Dev nD).tc : Thread nD τ).loc main_arg3) : main_arg3.ty.Contents (Elt Ideal)) i = ((D.rs i : ℝ) : EReal)
  ks : ∀ i, (m (((0 : Dev nD).tc : Thread nD τ).loc main_arg4) : main_arg4.ty.Contents (Elt Ideal)) i = ((D.ks i : ℝ) : EReal)
  vs : ∀ i, (m (((0 : Dev nD).tc : Thread nD τ).loc main_arg5) : main_arg5.ty.Contents (Elt Ideal)) i = ((D.vs i : ℝ) : EReal)
  w : ∀ i, (m (((0 : Dev nD).tc : Thread nD τ).loc main_arg6) : main_arg6.ty.Contents (Elt Ideal)) i = ((D.w i : ℝ) : EReal)
  kk : ∀ i, (m (((0 : Dev nD).tc : Thread nD τ).loc main_arg7) : main_arg7.ty.Contents (Elt Ideal)) i = ((D.kk i : ℝ) : EReal)
  ic : ∀ i, (m (((0 : Dev nD).tc : Thread nD τ).loc main_arg8) : main_arg8.ty.Contents (Elt Ideal)) i = ((D.ic i : ℝ) : EReal)
  s : ∀ i, (m (((0 : Dev nD).tc : Thread nD τ).loc main_arg9) : main_arg9.ty.Contents (Elt Ideal)) i = ((D.s i : ℝ) : EReal)
  len : ∀ b : Fin 6, ((m (((0 : Dev nD).tc : Thread nD τ).loc main_arg10) : main_arg10.ty.Contents (Elt Ideal)) (ix1 b)).toInt = D.len b
  nonneg : ∀ b, 0 ≤ D.len b

theorem host0 : (V0 m 0 (Proc.devRef .tc main_v4) : main_v4.ty.Contents (Elt Ideal)) = shapeCast S6x2048x4096 (transpose S6x32x64x4096 [0, 2, 3, 1] (Host.convertf (φ := .f32) .fp8e4m3 (m (((0 : Dev nD).tc : Thread nD τ).loc main_arg0) : main_arg0.ty.Contents (Elt Ideal)) : FVec Ideal S6x4096x32x64 .fp8e4m3) transposes_S6x4096x32x64_S6x32x64x4096_0_2_3_1) shapeCasts_S6x32x64x4096_S6x2048x4096 := by
  show StableHlo.after _ _ _ = _
  simp only [hostOps0]
  after_results <;> rfl

theorem host1 : (V0 m 0 (Proc.devRef .tc main_v6) : main_v6.ty.Contents (Elt Ideal)) = shapeCast S6x2048x4096 (transpose S6x32x64x4096 [0, 2, 3, 1] (Host.convertf (φ := .f32) .fp8e4m3 (m (((0 : Dev nD).tc : Thread nD τ).loc main_arg1) : main_arg1.ty.Contents (Elt Ideal)) : FVec Ideal S6x4096x32x64 .fp8e4m3) transposes_S6x4096x32x64_S6x32x64x4096_0_2_3_1) shapeCasts_S6x32x64x4096_S6x2048x4096 := by
  show StableHlo.after _ _ _ = _
  simp only [hostOps0]
  after_results <;> rfl

theorem host2 : (V0 m 0 (Proc.devRef .tc main_v8) : main_v8.ty.Contents (Elt Ideal)) = shapeCast S6x2048x4096 (transpose S6x32x64x4096 [0, 2, 3, 1] (Host.convertf (φ := .f32) .fp8e4m3 (m (((0 : Dev nD).tc : Thread nD τ).loc main_arg2) : main_arg2.ty.Contents (Elt Ideal)) : FVec Ideal S6x4096x32x64 .fp8e4m3) transposes_S6x4096x32x64_S6x32x64x4096_0_2_3_1) shapeCasts_S6x32x64x4096_S6x2048x4096 := by
  show StableHlo.after _ _ _ = _
  simp only [hostOps0]
  after_results <;> rfl

theorem host3 : (V0 m 0 (Proc.devRef .tc main_v10) : main_v10.ty.Contents (Elt Ideal)) = shapeCast S6x4x8x4096 (transpose S6x32x4096 [0, 2, 1] (m (((0 : Dev nD).tc : Thread nD τ).loc main_arg3) : main_arg3.ty.Contents (Elt Ideal)) transposes_S6x4096x32_S6x32x4096_0_2_1) shapeCasts_S6x32x4096_S6x4x8x4096 := by
  show StableHlo.after _ _ _ = _
  simp only [hostOps0]
  after_results <;> rfl

theorem host4 : (V0 m 0 (Proc.devRef .tc main_v12) : main_v12.ty.Contents (Elt Ideal)) = shapeCast S6x4x8x4096 (transpose S6x32x4096 [0, 2, 1] (m (((0 : Dev nD).tc : Thread nD τ).loc main_arg4) : main_arg4.ty.Contents (Elt Ideal)) transposes_S6x4096x32_S6x32x4096_0_2_1) shapeCasts_S6x32x4096_S6x4x8x4096 := by
  show StableHlo.after _ _ _ = _
  simp only [hostOps0]
  after_results <;> rfl

theorem host5 : (V0 m 0 (Proc.devRef .tc main_v14) : main_v14.ty.Contents (Elt Ideal)) = shapeCast S6x4x8x4096 (transpose S6x32x4096 [0, 2, 1] (m (((0 : Dev nD).tc : Thread nD τ).loc main_arg5) : main_arg5.ty.Contents (Elt Ideal)) transposes_S6x4096x32_S6x32x4096_0_2_1) shapeCasts_S6x32x4096_S6x4x8x4096 := by
  show StableHlo.after _ _ _ = _
  simp only [hostOps0]
  after_results <;> rfl

theorem host6 : (V0 m 0 (Proc.devRef .tc main_v16) : main_v16.ty.Contents (Elt Ideal)) = shapeCast S6x2048x4096 (transpose S6x32x64x4096 [0, 2, 3, 1] (m (((0 : Dev nD).tc : Thread nD τ).loc main_arg6) : main_arg6.ty.Contents (Elt Ideal)) transposes_S6x4096x32x64_S6x32x64x4096_0_2_3_1) shapeCasts_S6x32x64x4096_S6x2048x4096 := by
  show StableHlo.after _ _ _ = _
  simp only [hostOps0]
  after_results <;> rfl

theorem host7 : (V0 m 0 (Proc.devRef .tc main_v18) : main_v18.ty.Contents (Elt Ideal)) = shapeCast S6x2048x4096 (transpose S6x32x64x4096 [0, 2, 3, 1] (m (((0 : Dev nD).tc : Thread nD τ).loc main_arg7) : main_arg7.ty.Contents (Elt Ideal)) transposes_S6x4096x32x64_S6x32x64x4096_0_2_3_1) shapeCasts_S6x32x64x4096_S6x2048x4096 := by
  show StableHlo.after _ _ _ = _
  simp only [hostOps0]
  after_results <;> rfl

theorem host8 : (V0 m 0 (Proc.devRef .tc main_v20) : main_v20.ty.Contents (Elt Ideal)) = shapeCast S6x2048x4096 (transpose S6x32x64x4096 [0, 2, 3, 1] (m (((0 : Dev nD).tc : Thread nD τ).loc main_arg8) : main_arg8.ty.Contents (Elt Ideal)) transposes_S6x4096x32x64_S6x32x64x4096_0_2_3_1) shapeCasts_S6x32x64x4096_S6x2048x4096 := by
  show StableHlo.after _ _ _ = _
  simp only [hostOps0]
  after_results <;> rfl

/-! ## The block that a point reads -/

theorem lastBlock_val (w : BitVec 32) (hw : 0 < w.toInt) : ((lastBlock w).toNat : ℤ) = (w.toInt - 1) / 256 ∧ (lastBlock w).toNat < 2 ^ 31 := by
  have hwn := BitVec.toInt_eq_toNat_cond w
  have hwl := w.isLt
  have e1 : (w - 1#32).toNat = w.toNat - 1 := by
    rw [BitVec.toNat_sub]
    show (2 ^ 32 - 1 + w.toNat) % 2 ^ 32 = w.toNat - 1
    split at hwn <;> omega
  have h3 : (Scalar.maxsi (Scalar.subi w 1#32) 0#32).toNat = w.toNat - 1 := by
    show (if (0#32).slt (w - 1#32) then w - 1#32 else 0#32).toNat = w.toNat - 1
    split
    · exact e1
    · next h =>
      simp only [BitVec.slt_eq_decide, decide_eq_true_eq] at h
      have := BitVec.toInt_eq_toNat_cond (w - 1#32)
      have h0 : (0#32).toInt = 0 := rfl
      have h00 : (0#32).toNat = 0 := rfl
      rw [h00]
      split at hwn <;> split at this <;> omega
  have hlt : w.toNat - 1 < 2 ^ 31 := by split at hwn <;> omega
  have hr : (((w.toNat - 1) / 256 : ℕ) : ℤ) = (w.toInt - 1) / 256 := by split at hwn <;> omega
  rw [← hr]
  unfold lastBlock
  dsimp only
  generalize Scalar.maxsi (Scalar.subi w 1#32) 0#32 = v at h3
  rw [← h3] at hlt ⊢
  clear h3 hr hwn e1 hw hwl
  by_cases hv : v = 0#32
  · subst hv; decide
  have hpos : (0#32).slt v = true := by
    have hne : v.toNat ≠ 0 := fun h => hv (BitVec.eq_of_toNat_eq h)
    simp only [BitVec.slt_eq_decide, decide_eq_true_eq]
    rw [BitVec.toInt_eq_toNat_cond v]
    have h0 : (0#32).toInt = 0 := rfl
    split <;> omega
  have hneg : v.slt (0#32) = false := by
    simp only [BitVec.slt_eq_decide, decide_eq_false_iff_not, not_lt] at hpos ⊢
    simp only [decide_eq_true_eq] at hpos
    omega
  have e5 : Scalar.cmpi .sgt v 0#32 = 1#1 := by show BitVec.ofBool ((0#32).slt v) = 1#1; rw [hpos]; rfl
  have e7 : Scalar.cmpi .slt v 0#32 = 0#1 := by show BitVec.ofBool (v.slt 0#32) = 0#1; rw [hneg]; rfl
  have ez : Scalar.andi (Scalar.cmpi .ne (Scalar.subi (Scalar.extui (Scalar.cmpi .sgt v 0#32)) (Scalar.extui (Scalar.cmpi .slt v 0#32)) : BitVec 32)
      (Scalar.subi (Scalar.extui (Scalar.cmpi .sgt 256#32 0#32)) (Scalar.extui (Scalar.cmpi .slt 256#32 0#32))))
      (Scalar.cmpi .ne (Scalar.remsi v 256#32) 0#32) = 0#1 := by
    rw [e5, e7]
    generalize Scalar.cmpi .ne (Scalar.remsi v 256#32) 0#32 = b
    revert b; decide
  rw [ez]
  have hd : (Scalar.divsi v 256#32).toNat = v.toNat / 256 := by
    show (IntOp.divsi .scalar v 256#32).toNat = _
    have hc : ¬ IntOp.SDivCorner v 256#32 := by
      rintro (h | ⟨-, h⟩) <;> revert h <;> decide
    unfold IntOp.divsi
    rw [if_neg hc, BitVec.sdiv_eq]
    have hm : v.msb = false := by rw [BitVec.msb_eq_decide]; simp only [decide_eq_false_iff_not, not_le]; omega
    rw [hm, show (256#32).msb = false from rfl]
    show (v / 256#32).toNat = _
    rw [BitVec.toNat_udiv]; rfl
  show ((Scalar.divsi v 256#32).toNat : ℤ) = _ ∧ (Scalar.divsi v 256#32).toNat < _
  rw [hd]
  exact ⟨rfl, lt_of_le_of_lt (Nat.div_le_self _ _) hlt⟩

theorem third_eq (w : BitVec 32) (k : ℕ) (hk : k < 16) (h : 256 * (k : ℤ) < w.toInt) : (Scalar.minsi (BitVec.ofNat 32 k) (lastBlock w)).toNat = k := by
  obtain ⟨e, hl⟩ := lastBlock_val w (by omega)
  have ek : (BitVec.ofNat 32 k).toNat = k := by rw [BitVec.toNat_ofNat]; omega
  show (if (BitVec.ofNat 32 k).slt (lastBlock w) then BitVec.ofNat 32 k else lastBlock w).toNat = k
  split
  · exact ek
  · next hs =>
    simp only [BitVec.slt_eq_decide, decide_eq_true_eq, not_lt] at hs
    rw [BitVec.toInt_eq_toNat_cond (BitVec.ofNat 32 k), BitVec.toInt_eq_toNat_cond (lastBlock w), ek] at hs
    split at hs <;> split at hs <;> omega

theorem tblWord_eq (i : grid0.Coords) : tblWord (table m) i = (table m 0 : main_arg10.ty.Contents (Elt Ideal)) (ix1 (i 0)) := by
  unfold tblWord
  refine congrArg (table m 0 : main_arg10.ty.Contents (Elt Ideal)) (funext fun (a : Fin 1) => Fin.ext ?_)
  match a with
  | 0 =>
    show (BitVec.ofNat 32 (i 0).val).toNat + 1 * 0 = (i 0).val
    have : (i 0).val < 6 := (i 0).isLt
    rw [BitVec.toNat_ofNat]; omega

end Cert.KernelIdeal.Pair

end
-- ==== Proof.Tile.lean ====
/- The work of one pair of heads in one tile of 128 time steps is 128 steps of the recurrence. -/
module

public import proofs.«01_k».proof.Proof.Recur

@[expose] public section

set_option maxRecDepth 8192
set_option maxHeartbeats 400000

noncomputable section

namespace Cert.KernelIdeal.Pair

open Idealize.ShloMosaic Idealize.SL.Sem Cert.KernelIdeal.Gen Idealize.ShloMosaic.Tactic

/-- The arrays of a tile hold the real values of two heads. -/
structure TileIn (p : Fin 2 → ℕ → Stp) (m : FVec Ideal S1x128 .f32) (x : Ins Ideal) : Prop where
  m : ∀ h (t : Fin 128), m (ix2 0 t) = (((p h t.val).m : ℝ) : EReal)
  w : ∀ h i (t : Fin 128), ∃ z : ℝ, x.w (ix3 0 (ln h i) t) = (z : EReal) ∧ (p h t.val).l i = -Real.exp z
  kk : ∀ h i (t : Fin 128), x.kk (ix3 0 (ln h i) t) = (((p h t.val).kk i : ℝ) : EReal)
  ic : ∀ h i (t : Fin 128), x.ic (ix3 0 (ln h i) t) = (((p h t.val).ic i : ℝ) : EReal)
  r : ∀ h i (t : Fin 128), x.r (ix3 0 (ln h i) t) = (((p h t.val).r i : ℝ) : EReal)
  k : ∀ h i (t : Fin 128), x.k (ix3 0 (ln h i) t) = (((p h t.val).k i : ℝ) : EReal)
  v : ∀ h i (t : Fin 128), ∃ a b c : ℝ, x.v (ix3 0 (ln h i) t) = (a : EReal) ∧ (if h = 0 then x.ks0 else x.ks1) (ix4 0 0 0 t) = (b : EReal)
    ∧ (if h = 0 then x.vs0 else x.vs1) (ix4 0 0 0 t) = (c : EReal) ∧ (p h t.val).v i = a * b * c
  rs : ∀ h (t : Fin 128), (if h = 0 then x.rs0 else x.rs1) (ix4 0 0 0 t) = (((p h t.val).rs : ℝ) : EReal)

/-- The constant that turns natural logarithms into base 2, negated. -/
theorem neg_log2e : Named.named (F := Ideal) Cert.KernelIdeal.κ "neg_log2e" (φ := .f32) 0xBFB8AA3B#32 = ((-(Real.log 2)⁻¹ : ℝ) : EReal) :=
  IdealRules.named_const.ideal_named_scalar _ _ _ _ rfl

theorem halfRows_at (x y : FVec Ideal S1x1x1x128 .f32) (h : Fin 2) (i : Fin 64) (t : Fin 128) :
    halfRows x y (ix2 (ln h i) t) = (if h = 0 then x else y) (ix4 0 0 0 t) := by
  pointwise [halfRows, cat2, halfRow]
  have hh : h = 0 ∨ h = 1 := by omega
  rcases hh with rfl | rfl
  · have h0 : (ln 0 i).val < 64 := by show 64 * 0 + i.val < 64; omega
    rw [dif_pos h0, if_pos rfl]
  · have h0 : ¬ (ln 1 i).val < 64 := by show ¬ 64 * 1 + i.val < 64; omega
    rw [dif_neg h0, if_neg h10]

theorem triIncl_at (a b : Fin 128) : triIncl (F := Ideal) (ix2 a b) = (((if a.val / 64 = b.val / 64 ∧ a.val ≤ b.val then 1 else 0) : ℝ) : EReal) := by
  have e : ∀ a b : Fin 128, andi same (cmpi .sle row col) (ix2 a b) = bit (a.val / 64 = b.val / 64 ∧ a.val ≤ b.val) := by
    pointwise [same, row, col, floorDiv]
    decide +kernel
  show Scalar.select (andi same (cmpi .sle row col) (ix2 a b)) (ones S128x128 (ix2 a b)) (zeros S128x128 (ix2 a b)) = _
  rw [e, select_bit, zeros128]
  have h1 : ones (F := Ideal) S128x128 (ix2 a b) = 1 := by pointwise [ones]
  rw [h1]
  split_ifs <;> simp
theorem triExcl_at (a b : Fin 128) : triExcl (F := Ideal) (ix2 a b) = (((if a.val / 64 = b.val / 64 ∧ a.val < b.val then 1 else 0) : ℝ) : EReal) := by
  have e : ∀ a b : Fin 128, andi same (cmpi .slt row col) (ix2 a b) = bit (a.val / 64 = b.val / 64 ∧ a.val < b.val) := by
    pointwise [same, row, col, floorDiv]
    decide +kernel
  show Scalar.select (andi same (cmpi .slt row col) (ix2 a b)) (ones S128x128 (ix2 a b)) (zeros S128x128 (ix2 a b)) = _
  rw [e, select_bit, zeros128]
  have h1 : ones (F := Ideal) S128x128 (ix2 a b) = 1 := by pointwise [ones]
  rw [h1]
  split_ifs <;> simp

/-- The time steps of chunk `c`. -/
def chk (p : Fin 2 → ℕ → Stp) (c : Fin 2) (h : Fin 2) (k : ℕ) : Stp := p h (64 * c.val + k)

/-- A sum over the chunk's steps with a condition is a sum over the first steps. -/
theorem sum_first (f : ℕ → ℝ) (n : ℕ) (hn : n ≤ 64) (P : Fin 64 → Prop) [DecidablePred P] (hP : ∀ j, P j ↔ j.val < n) :
    ∑ j : Fin 64, f j.val * (if P j then (1 : ℝ) else 0) = ∑ s ∈ Finset.range n, f s := by
  have e : ∀ j : Fin 64, f j.val * (if P j then (1 : ℝ) else 0) = (fun k => if k < n then f k else 0) j.val := fun j => by
    by_cases h : P j
    · have := (hP j).mp h
      simp [h, this]
    · have := mt (hP j).mpr h
      simp [h, this]
  rw [Finset.sum_congr rfl fun j _ => e j, Fin.sum_univ_eq_sum_range (fun k => if k < n then f k else 0) 64, ← Finset.sum_filter]
  refine Finset.sum_congr (Finset.ext fun k => ?_) fun _ _ => rfl
  simp only [Finset.mem_filter, Finset.mem_range]
  omega

theorem exp2_log (x : ℝ) : Ideal.exp2 (((Real.log 2)⁻¹ * x : ℝ) : EReal) = ((Real.exp x : ℝ) : EReal) := by
  rw [Ideal.exp2_coe]
  refine congrArg _ ?_
  have h2 : Real.log 2 ≠ 0 := ne_of_gt (Real.log_pos (by norm_num))
  show (2 : ℝ) ^ ((Real.log 2)⁻¹ * x) = _
  rw [Real.rpow_def_of_pos (by norm_num)]
  refine congrArg _ ?_
  field_simp

theorem ofBf16_at (x : FVec Ideal S1x128x128 .bf16) (a b : Fin 128) : ofBf16 x (ix2 a b) = x (ix3 0 a b) := by
  pointwise [ofBf16]
theorem ofF8_at (x : FVec Ideal S1x128x128 .fp8e4m3) (a b : Fin 128) : ofF8 x (ix2 a b) = x (ix3 0 a b) := by
  pointwise [ofF8]
theorem neg_m (m : FVec Ideal S1x128 .f32) (a b : Fin 128) : broadcastTo S128x128 (subf (zeros S1x128) m) broadcasts_S1x128_S128x128 (ix2 a b) = -m (ix2 0 b) := by
  pointwise [zeros]
  try simp
theorem pos_m (m : FVec Ideal S1x128 .f32) (a b : Fin 128) : broadcastTo S128x128 m broadcasts_S1x128_S128x128 (ix2 a b) = m (ix2 0 b) := by
  pointwise []

section
variable {p : Fin 2 → ℕ → Stp} {m : FVec Ideal S1x128 .f32} {x : Ins Ideal} (H : TileIn p m x)
include H

theorem lw_at (h : Fin 2) (i : Fin 64) (s : Fin 128) :
    mulf (exp (extf .f32 (shapeCast S128x128 x.w shapeCasts_S1x128x128_S128x128) bitsLt_bf16_f32))
      (broadcastTo S128x128 (mulf (broadcast S1x128 (Named.named (F := Ideal) Cert.KernelIdeal.κ "neg_log2e" (φ := .f32) 0xBFB8AA3B#32)) m) broadcasts_S1x128_S128x128) (ix2 (ln h i) s)
      = (((Real.log 2)⁻¹ * ((p h s.val).l i * (p h s.val).m) : ℝ) : EReal) := by
  obtain ⟨z, hz, hl⟩ := H.w h i s
  pointwise []
  rw [neg_log2e, H.m h s, hz, hl]
  simp only [Ideal.exp_coe, ← EReal.coe_mul]
  refine congrArg _ ?_
  ring

theorem cumIn_at (h c : Fin 2) (i t : Fin 64) :
    extractStridedSlice S128x128 ![0, 0] (cumLog x.w m) slices_S128x256_o0_0_S128x128 (ix2 (ln h i) (ln c t))
      = (((Real.log 2)⁻¹ * cum (chk p c h) (t.val + 1) i : ℝ) : EReal) := by
  have e : extractStridedSlice S128x128 ![0, 0] (cumLog x.w m) slices_S128x256_o0_0_S128x128 (ix2 (ln h i) (ln c t))
      = ∑ s : Fin 128, (((Real.log 2)⁻¹ * ((p h s.val).l i * (p h s.val).m) : ℝ) : EReal) * triIncl (F := Ideal) (ix2 s (ln c t)) := by
    simp only [← lw_at H]
    unfold cumLog
    generalize triIncl (F := Ideal) = T
    generalize triExcl (F := Ideal) = T'
    generalize mulf (exp (extf .f32 (shapeCast S128x128 x.w shapeCasts_S1x128x128_S128x128) bitsLt_bf16_f32)) _ = L
    pointwise []
  rw [e]
  simp only [triIncl_at, ← EReal.coe_mul, sum_coe]
  refine congrArg _ ?_
  have hne : ∀ b : Fin 2, b ≠ c → ∀ j : Fin 64, ¬ ((ln b j).val / 64 = (ln c t).val / 64 ∧ (ln b j).val ≤ (ln c t).val) := by
    intro b hb j hh
    have h1 : (64 * b.val + j.val) / 64 = (64 * c.val + t.val) / 64 := hh.1
    exact hb (Fin.ext (by omega))
  rw [sum_ln, Finset.sum_eq_single c]
  · unfold cum
    rw [Finset.mul_sum]
    refine sum_first (fun k => (Real.log 2)⁻¹ * ((chk p c h k).l i * (chk p c h k).m)) _ (by omega) _ fun j => ?_
    show (64 * c.val + j.val) / 64 = (64 * c.val + t.val) / 64 ∧ 64 * c.val + j.val ≤ 64 * c.val + t.val ↔ _
    omega
  · intro b _ hb
    refine Finset.sum_eq_zero fun j _ => ?_
    rw [if_neg (hne b hb j), mul_zero]
  · simp

theorem cumEx_at (h c : Fin 2) (i t : Fin 64) :
    extractStridedSlice S128x128 ![0, 128] (cumLog x.w m) slices_S128x256_o0_128_S128x128 (ix2 (ln h i) (ln c t))
      = (((Real.log 2)⁻¹ * cum (chk p c h) (t.val) i : ℝ) : EReal) := by
  have e : extractStridedSlice S128x128 ![0, 128] (cumLog x.w m) slices_S128x256_o0_128_S128x128 (ix2 (ln h i) (ln c t))
      = ∑ s : Fin 128, (((Real.log 2)⁻¹ * ((p h s.val).l i * (p h s.val).m) : ℝ) : EReal) * triExcl (F := Ideal) (ix2 s (ln c t)) := by
    simp only [← lw_at H]
    unfold cumLog
    generalize triIncl (F := Ideal) = T
    generalize triExcl (F := Ideal) = T'
    generalize mulf (exp (extf .f32 (shapeCast S128x128 x.w shapeCasts_S1x128x128_S128x128) bitsLt_bf16_f32)) _ = L
    pointwise []
  rw [e]
  simp only [triExcl_at, ← EReal.coe_mul, sum_coe]
  refine congrArg _ ?_
  have hne : ∀ b : Fin 2, b ≠ c → ∀ j : Fin 64, ¬ ((ln b j).val / 64 = (ln c t).val / 64 ∧ (ln b j).val < (ln c t).val) := by
    intro b hb j hh
    have h1 : (64 * b.val + j.val) / 64 = (64 * c.val + t.val) / 64 := hh.1
    exact hb (Fin.ext (by omega))
  rw [sum_ln, Finset.sum_eq_single c]
  · unfold cum
    rw [Finset.mul_sum]
    refine sum_first (fun k => (Real.log 2)⁻¹ * ((chk p c h k).l i * (chk p c h k).m)) _ (by omega) _ fun j => ?_
    show (64 * c.val + j.val) / 64 = (64 * c.val + t.val) / 64 ∧ 64 * c.val + j.val < 64 * c.val + t.val ↔ _
    omega
  · intro b _ hb
    refine Finset.sum_eq_zero fun j _ => ?_
    rw [if_neg (hne b hb j), mul_zero]
  · simp

theorem wIn_at (h c : Fin 2) (i t : Fin 64) : wIn (cumLog x.w m) (ix2 (ln h i) (ln c t)) = ((Real.exp (cum (chk p c h) (t.val + 1) i) : ℝ) : EReal) :=
  (congrArg Ideal.exp2 (cumIn_at H h c i t)).trans (exp2_log _)
theorem wEx_at (h c : Fin 2) (i t : Fin 64) : wEx (cumLog x.w m) (ix2 (ln h i) (ln c t)) = ((Real.exp (cum (chk p c h) t.val i) : ℝ) : EReal) :=
  (congrArg Ideal.exp2 (cumEx_at H h c i t)).trans (exp2_log _)
theorem wInv_at (h c : Fin 2) (i t : Fin 64) : wInv (cumLog x.w m) m (ix2 (ln h i) (ln c t))
    = ((Real.exp (-cum (chk p c h) (t.val + 1) i) * -(chk p c h t.val).m : ℝ) : EReal) := by
  have e1 : exp2 (subf (zeros S128x128) (extractStridedSlice S128x128 ![0, 0] (cumLog x.w m) slices_S128x256_o0_0_S128x128)) (ix2 (ln h i) (ln c t))
      = ((Real.exp (-cum (chk p c h) (t.val + 1) i) : ℝ) : EReal) := by
    show Ideal.exp2 ((zeros (F := Ideal) S128x128 (ix2 (ln h i) (ln c t)) : EReal) - extractStridedSlice S128x128 ![0, 0] (cumLog x.w m) slices_S128x256_o0_0_S128x128 (ix2 (ln h i) (ln c t))) = _
    rw [cumIn_at H, zeros128, zero_sub, ← EReal.coe_neg, ← mul_neg]
    exact exp2_log _
  show exp2 (subf (zeros S128x128) (extractStridedSlice S128x128 ![0, 0] (cumLog x.w m) slices_S128x256_o0_0_S128x128)) (ix2 (ln h i) (ln c t))
    * broadcastTo S128x128 (subf (zeros S1x128) m) broadcasts_S1x128_S128x128 (ix2 (ln h i) (ln c t)) = _
  rw [e1, neg_m, H.m h (ln c t), ← EReal.coe_neg, ← EReal.coe_mul]
  rfl

theorem a_at (h c : Fin 2) (i t : Fin 64) (S) : aOf m x (ix2 (ln h i) (ln c t)) = (((mkHead (chk p c h) S).A t i : ℝ) : EReal) := by
  show ofBf16 x.kk (ix2 (ln h i) (ln c t)) * wEx (cumLog x.w m) (ix2 (ln h i) (ln c t)) = _
  rw [ofBf16_at, wEx_at H, H.kk h i (ln c t), ← EReal.coe_mul]
  rfl
theorem r_at (h c : Fin 2) (i t : Fin 64) (S) : rOf m x (ix2 (ln h i) (ln c t)) = (((mkHead (chk p c h) S).R t i : ℝ) : EReal) := by
  show ofF8 x.r (ix2 (ln h i) (ln c t)) * wIn (cumLog x.w m) (ix2 (ln h i) (ln c t)) = _
  rw [ofF8_at, wIn_at H, H.r h i (ln c t), ← EReal.coe_mul]
  rfl
theorem b_at (h c : Fin 2) (i t : Fin 64) (S) : bOf m x (ix2 (ln h i) (ln c t)) = (((mkHead (chk p c h) S).B t i : ℝ) : EReal) := by
  show (ofBf16 x.kk (ix2 (ln h i) (ln c t)) * ofBf16 x.ic (ix2 (ln h i) (ln c t))) * wInv (cumLog x.w m) m (ix2 (ln h i) (ln c t)) = _
  rw [ofBf16_at, ofBf16_at, wInv_at H, H.kk h i (ln c t), H.ic h i (ln c t), ← EReal.coe_mul, ← EReal.coe_mul]
  rfl
theorem k_at (h c : Fin 2) (i t : Fin 64) (S) : kOf m x (ix2 (ln h i) (ln c t)) = (((mkHead (chk p c h) S).K t i : ℝ) : EReal) := by
  show ofF8 x.k (ix2 (ln h i) (ln c t)) * wInv (cumLog x.w m) m (ix2 (ln h i) (ln c t)) = _
  rw [ofF8_at, wInv_at H, H.k h i (ln c t), ← EReal.coe_mul]
  rfl
theorem v_at (h c : Fin 2) (i t : Fin 64) (S) : vOf m x (ix2 (ln h i) (ln c t)) = (((mkHead (chk p c h) S).V t i : ℝ) : EReal) := by
  show ((ofF8 x.v (ix2 (ln h i) (ln c t)) * halfRows x.ks0 x.ks1 (ix2 (ln h i) (ln c t))) * halfRows x.vs0 x.vs1 (ix2 (ln h i) (ln c t)))
    * broadcastTo S128x128 (subf (zeros S1x128) m) broadcasts_S1x128_S128x128 (ix2 (ln h i) (ln c t)) = _
  obtain ⟨a, b, d, ha, hb, hd, hv⟩ := H.v h i (ln c t)
  rw [ofF8_at, halfRows_at, halfRows_at, neg_m, ha, hb, hd, H.m h (ln c t), ← EReal.coe_neg, ← EReal.coe_mul, ← EReal.coe_mul, ← EReal.coe_mul, ← hv]
  rfl
theorem ys_at (h : Fin 2) (q : Fin 64) (t : Fin 128) : ysOf m x (ix2 (ln h q) t) = (((p h t.val).rs * (p h t.val).m : ℝ) : EReal) := by
  show halfRows x.rs0 x.rs1 (ix2 (ln h q) t) * broadcastTo S128x128 m broadcasts_S1x128_S128x128 (ix2 (ln h q) t) = _
  rw [halfRows_at, pos_m, H.rs h t, H.m h t, ← EReal.coe_mul]

end

theorem top_at (x : FVec Ideal S128x128 .f32) (i : Fin 64) (b : Fin 128) : top x (ix2 i b) = x (ix2 (ln 0 i) b) := by
  pointwise [top]
  exact congrArg x (congrArg (ix2 · b) (Fin.ext (by show _ = 64 * 0 + i.val; simp)))
theorem bot_at (x : FVec Ideal S128x128 .f32) (i : Fin 64) (b : Fin 128) : bot x (ix2 i b) = x (ix2 (ln 1 i) b) := by
  pointwise [bot]
  exact congrArg x (congrArg (ix2 · b) (Fin.ext (by show _ = 64 * 1 + i.val; simp)))
theorem roll_at (x : FVec Ideal S128x128 .f32) (a : Fin 128) (h : Fin 2) (t : Fin 64) : roll x (ix2 a (ln h t)) = x (ix2 a (ln (1 - h) t)) := by
  have hh : h = 0 ∨ h = 1 := by omega
  pointwise [roll]
  refine congrArg x (congrArg (ix2 a) (Fin.ext ?_))
  rcases hh with rfl | rfl
  · show (64 * 0 + t.val + 128 - 64) % 128 = 64 * 1 + t.val; omega
  · show (64 * 1 + t.val + 128 - 64) % 128 = 64 * 0 + t.val; omega
theorem roll64_at (x : FVec Ideal S64x128 .f32) (a : Fin 64) (h : Fin 2) (t : Fin 64) : roll64 x (ix2 a (ln h t)) = x (ix2 a (ln (1 - h) t)) := by
  have hh : h = 0 ∨ h = 1 := by omega
  pointwise [roll64]
  refine congrArg x (congrArg (ix2 a) (Fin.ext ?_))
  rcases hh with rfl | rfl
  · show (64 * 0 + t.val + 128 - 64) % 128 = 64 * 1 + t.val; omega
  · show (64 * 1 + t.val + 128 - 64) % 128 = 64 * 0 + t.val; omega
theorem tr_at (x : FVec Ideal S128x128 .f32) (a b : Fin 128) : tr x (ix2 a b) = x (ix2 b a) := by
  pointwise [tr]
theorem sel_lo0 (x y : FVec Ideal S64x128 .f32) (i t : Fin 64) : select lo x y (ix2 i (ln 0 t)) = x (ix2 i (ln 0 t)) := by
  show Scalar.select (lo _) _ _ = _
  rw [lo_0]; rfl
theorem sel_lo1 (x y : FVec Ideal S64x128 .f32) (i t : Fin 64) : select lo x y (ix2 i (ln 1 t)) = y (ix2 i (ln 1 t)) := by
  show Scalar.select (lo _) _ _ = _
  rw [lo_1]; rfl
theorem one_sub0 : (1 - 0 : Fin 2) = 1 := rfl
theorem one_sub1 : (1 - 1 : Fin 2) = 0 := rfl
theorem row63 (x : FVec Ideal S128x128 .f32) (b : Fin 128) : extractStridedSlice S1x128 ![63, 0] x slices_S128x128_o63_0_S1x128 (ix2 0 b) = x (ix2 (ln 0 63) b) := by
  pointwise []
  rfl
theorem row127 (x : FVec Ideal S128x128 .f32) (b : Fin 128) : extractStridedSlice S1x128 ![127, 0] x slices_S128x128_o127_0_S1x128 (ix2 0 b) = x (ix2 (ln 1 63) b) := by
  pointwise []
  rfl

section
variable {p : Fin 2 → ℕ → Stp} {m : FVec Ideal S1x128 .f32} {x : Ins Ideal} (H : TileIn p m x)
  (S : Fin 2 → Fin 64 → Fin 64 → ℝ) {s : FVec Ideal S64x128 .f32} (hs : ∀ h q i, s (ix2 q (ln h i)) = ((S h q i : ℝ) : EReal))
include H hs

theorem in0 : ChunkIn (fun h => mkHead (chk p 0 h) (S h))
    (select lo (top (aOf m x)) (top (roll (rOf m x)))) (select lo (bot (rOf m x)) (bot (roll (aOf m x))))
    (select lo (top (vOf m x)) (bot (roll (vOf m x))))
    (top (tr (bOf m x))) (top (tr (kOf m x))) s
    (extractStridedSlice S1x128 ![63, 0] (tr (wIn (cumLog x.w m))) slices_S128x128_o63_0_S1x128) where
  x00 i t := by rw [sel_lo0, top_at]; exact a_at H 0 0 i t _
  x01 i t := by rw [sel_lo1, top_at, roll_at, one_sub1]; exact r_at H 0 0 i t _
  x10 i t := by rw [sel_lo0, bot_at]; exact r_at H 1 0 i t _
  x11 i t := by rw [sel_lo1, bot_at, roll_at, one_sub1]; exact a_at H 1 0 i t _
  v h q t := by
    have hh : h = 0 ∨ h = 1 := by omega
    rcases hh with rfl | rfl
    · rw [sel_lo0, top_at]; exact v_at H 0 0 q t _
    · rw [sel_lo1, bot_at, roll_at, one_sub1]; exact v_at H 1 0 q t _
  b h t i := by rw [top_at, tr_at]; exact b_at H h 0 i t _
  k h t i := by rw [top_at, tr_at]; exact k_at H h 0 i t _
  s h q i := hs h q i
  w h i := by rw [row63, tr_at]; exact wIn_at H h 0 i 63

theorem in1 : ChunkIn (fun h => mkHead (chk p 1 h) (S h))
    (select lo (top (roll (aOf m x))) (top (rOf m x))) (select lo (bot (roll (rOf m x))) (bot (aOf m x)))
    (select lo (top (roll (vOf m x))) (bot (vOf m x)))
    (bot (tr (bOf m x))) (bot (tr (kOf m x))) s
    (extractStridedSlice S1x128 ![127, 0] (tr (wIn (cumLog x.w m))) slices_S128x128_o127_0_S1x128) where
  x00 i t := by rw [sel_lo0, top_at, roll_at, one_sub0]; exact a_at H 0 1 i t _
  x01 i t := by rw [sel_lo1, top_at]; exact r_at H 0 1 i t _
  x10 i t := by rw [sel_lo0, bot_at, roll_at, one_sub0]; exact r_at H 1 1 i t _
  x11 i t := by rw [sel_lo1, bot_at]; exact a_at H 1 1 i t _
  v h q t := by
    have hh : h = 0 ∨ h = 1 := by omega
    rcases hh with rfl | rfl
    · rw [sel_lo0, top_at, roll_at, one_sub0]; exact v_at H 0 1 q t _
    · rw [sel_lo1, bot_at]; exact v_at H 1 1 q t _
  b h t i := by rw [bot_at, tr_at]; exact b_at H h 1 i t _
  k h t i := by rw [bot_at, tr_at]; exact k_at H h 1 i t _
  s h q i := hs h q i
  w h i := by rw [row127, tr_at]; exact wIn_at H h 1 i 63

theorem s0_at (h : Fin 2) (q i : Fin 64) : (chunk0 m x s).2 (ix2 q (ln h i)) = ((stepsR (p h) (S h) 64 q i : ℝ) : EReal) := by
  refine (s_lift (in0 H S hs) h q i).trans (congrArg _ ((hS_run (fun h => chk p 0 h) S h q i).trans ?_))
  exact congrFun (congrFun (run_congr _ _ _ _ fun k _ => congrArg (p h) (by show 64 * 0 + k = k; omega)) q) i
theorem y0_at (h : Fin 2) (q t : Fin 64) : (chunk0 m x s).1 (ix2 q (ln (1 - h) t)) = ((∑ i, stepsR (p h) (S h) (t.val + 1) q i * (p h t.val).r i : ℝ) : EReal) := by
  refine (y_lift (in0 H S hs) h q t).trans (congrArg _ ((hY_run (fun h => chk p 0 h) S h q t).trans ?_))
  have e : ∀ k, chk p 0 h k = p h k := fun k => congrArg (p h) (by show 64 * 0 + k = k; omega)
  refine Finset.sum_congr rfl fun i _ => ?_
  rw [run_congr _ (p h) _ _ fun k _ => e k, e]
end

section
variable {p : Fin 2 → ℕ → Stp} {m : FVec Ideal S1x128 .f32} {x : Ins Ideal} (H : TileIn p m x)
  (S : Fin 2 → Fin 64 → Fin 64 → ℝ) {s : FVec Ideal S1x64x128 .f32} (hs : ∀ h q i, s (ix3 0 q (ln h i)) = ((S h q i : ℝ) : EReal))
include H hs

theorem cast_hs (h : Fin 2) (q i : Fin 64) : cast64 s (ix2 q (ln h i)) = ((S h q i : ℝ) : EReal) := by
  rw [← hs]
  pointwise [cast64]

theorem s1_at (h : Fin 2) (q i : Fin 64) : (chunk1 m x (chunk0 m x (cast64 s)).2).2 (ix2 q (ln h i)) = ((stepsR (p h) (S h) 128 q i : ℝ) : EReal) := by
  refine (s_lift (in1 H (fun h => stepsR (p h) (S h) 64) (s0_at H S (cast_hs H S hs))) h q i).trans (congrArg _ ((hS_run (fun h => chk p 1 h) _ h q i).trans ?_))
  exact (congrFun (congrFun (run_add (p h) (S h) 64 64) q) i).symm
theorem y1_at (h : Fin 2) (q t : Fin 64) : (chunk1 m x (chunk0 m x (cast64 s)).2).1 (ix2 q (ln (1 - h) t))
    = ((∑ i, stepsR (p h) (S h) (64 + t.val + 1) q i * (p h (64 + t.val)).r i : ℝ) : EReal) := by
  refine (y_lift (in1 H (fun h => stepsR (p h) (S h) 64) (s0_at H S (cast_hs H S hs))) h q t).trans (congrArg _ ((hY_run (fun h => chk p 1 h) _ h q t).trans ?_))
  refine Finset.sum_congr rfl fun i _ => ?_
  rw [show 64 + t.val + 1 = 64 + (t.val + 1) from rfl, run_add (p h) (S h) 64 (t.val + 1)]
  rfl

/-- The pair's new state is the state after 128 steps. -/
theorem pairS_at (h : Fin 2) (q i : Fin 64) : pairS m x s (ix3 0 q (ln h i)) = ((stepsR (p h) (S h) 128 q i : ℝ) : EReal) := by
  rw [← s1_at H S hs]
  unfold pairS
  generalize (chunk1 m x (chunk0 m x (cast64 s)).2).2 = z
  pointwise []

theorem y_final (h : Fin 2) (q : Fin 64) (t : Fin 128) :
    (((∑ i, stepsR (p h) (S h) (t.val + 1) q i * (p h t.val).r i : ℝ) : EReal)) * (((p h t.val).rs * (p h t.val).m : ℝ) : EReal)
      = (((p h t.val).y (stepsR (p h) (S h) t.val) q : ℝ) : EReal) := by
  rw [← EReal.coe_mul]
  refine congrArg _ ?_
  unfold Stp.y Stp.m
  show (∑ i, (p h t.val).next (stepsR (p h) (S h) t.val) q i * _) * _ = _
  split_ifs <;> ring

/-- The pair's outputs are the steps' outputs. -/
theorem pairY_at (h : Fin 2) (q : Fin 64) (t : Fin 128) : pairY m x s (ix3 0 (ln h q) t) = (((p h t.val).y (stepsR (p h) (S h) t.val) q : ℝ) : EReal) := by
  rw [← y_final H S hs, ← ys_at H h q t]
  have y0 := y0_at H S (cast_hs H S hs)
  have y1 := y1_at H S hs
  unfold pairY
  generalize (chunk1 m x (chunk0 m x (cast64 s)).2).1 = z1 at y1 ⊢
  generalize (chunk0 m x (cast64 s)).1 = z0 at y0 ⊢
  generalize ysOf m x = ys
  have key : cat2 (select lo (roll64 z0) z1) (select lo z0 (roll64 z1)) (ix2 (ln h q) t)
      = ((∑ i, stepsR (p h) (S h) (t.val + 1) q i * (p h t.val).r i : ℝ) : EReal) := by
    obtain ⟨c, t, rfl⟩ : ∃ c u, t = ln c u := ⟨⟨t.val / 64, by omega⟩, ⟨t.val % 64, by omega⟩, Fin.ext (by show t.val = 64 * (t.val / 64) + t.val % 64; omega)⟩
    have hc : ∀ u v : FVec Ideal S64x128 .f32, cat2 u v (ix2 (ln h q) (ln c t)) = if h = 0 then u (ix2 q (ln c t)) else v (ix2 q (ln c t)) := by
      intro u v
      have hh : h = 0 ∨ h = 1 := by omega
      pointwise [cat2]
      rcases hh with rfl | rfl
      · have h0 : (ln 0 q).val < 64 := by show 64 * 0 + q.val < 64; omega
        refine Eq.trans ?_ (if_pos rfl).symm
        exact (dif_pos h0).trans (congrArg u (congrArg (ix2 · _) (Fin.ext (by show 64 * 0 + q.val = q.val; omega))))
      · have h0 : ¬ (ln 1 q).val < 64 := by show ¬ 64 * 1 + q.val < 64; omega
        refine Eq.trans ?_ (if_neg h10).symm
        exact (dif_neg h0).trans (congrArg v (congrArg (ix2 · _) (Fin.ext (by show 64 * 1 + q.val - 64 = q.val; omega))))
    rw [hc]
    have e0 : (ln 0 t).val = t.val := by show 64 * 0 + t.val = t.val; omega
    have e1 : (ln 1 t).val = 64 + t.val := by show 64 * 1 + t.val = 64 + t.val; omega
    have hh : h = 0 ∨ h = 1 := by omega
    have hc' : c = 0 ∨ c = 1 := by omega
    rcases hh with rfl | rfl <;> rcases hc' with rfl | rfl
    · rw [if_pos rfl, sel_lo0, roll64_at, one_sub0, e0]; exact y0 0 q t
    · rw [if_pos rfl, sel_lo1, e1]; exact y1 0 q t
    · rw [if_neg h10, sel_lo0, e0]; exact y0 1 q t
    · rw [if_neg h10, sel_lo1, roll64_at, one_sub1, e1]; exact y1 1 q t
  rw [← key]
  generalize cat2 (select lo (roll64 z0) z1) (select lo z0 (roll64 z1)) = z
  pointwise []

end

end Cert.KernelIdeal.Pair
end
-- ==== Proof.Padding.lean ====
/- What a grid point computes for time steps after the sequence's end, and for a sequence with no time steps:
   the outputs are zero there, and the states leave the scratch as they came into it. -/
module

public import proofs.«01_k».proof.Proof.Run
public import Idealize.ShloMosaic.Lib.Pointwise

@[expose] public section

set_option maxRecDepth 8192
set_option maxHeartbeats 400000

noncomputable section

namespace Cert.KernelIdeal.Pair

open Idealize.ShloMosaic Cert.KernelIdeal.Gen
open Idealize.ShloMosaic.VecWindow (window put)

/-! ## A block with a window put into it, at an index -/

theorem put_of_in {α : Type} {s : Shape} (x : s.Idx → α) (off size : Fin s.rank → ℕ) (w : ((a : Fin s.rank) → Fin (size a)) → α) (y : s.Idx)
    (h : ∀ a, off a ≤ (y a).val ∧ (y a).val < off a + size a) :
    put x off size w y = w (Rect.unitLocal (s := s) (off := off) (size := size) y h) := dif_pos h

theorem put_of_out {α : Type} {s : Shape} (x : s.Idx → α) (off size : Fin s.rank → ℕ) (w : ((a : Fin s.rank) → Fin (size a)) → α) (y : s.Idx)
    (a : Fin s.rank) (h : (y a).val < off a ∨ off a + size a ≤ (y a).val) :
    put x off size w y = x y := dif_neg fun hh => by have := hh a; omega

/-! ## The outputs -/

theorem off2_eq : ∀ (t : Fin k0_t1_loop.trips) (j : Fin 4), k0_off2 t (BitVec.ofNat 32 j.val) = ![0, 128 * (4 * t.val + j.val), 0] := by decide
theorem off12_eq : ∀ (t : Fin k0_t2_loop.trips) (j : Fin 4), k0_off12 t (BitVec.ofNat 32 j.val) = ![0, 128 * (4 * t.val + j.val), 128] := by decide
theorem trips1 : k0_t1_loop.trips = 4 := by decide
theorem trips2 : k0_t2_loop.trips = 4 := by decide

/-- Where the mask is zero the pair's outputs are zero. -/
theorem pairY_zero (m : FVec Ideal S1x128 .f32) (x : Ins Ideal) (s : FVec Ideal S1x64x128 .f32) (r l : Fin 128) (h : m (ix2 0 l) = 0) :
    pairY m x s (ix3 0 r l) = 0 := by
  unfold pairY
  generalize cat2 (F := Ideal) _ _ = z
  unfold ysOf
  generalize halfRows (F := Ideal) _ _ = q
  pointwise []
  rw [h, mul_zero, mul_zero]

/-- A tile's lane after the sequence's end has mask zero. -/
theorem mask_zero (t0 n : BitVec 32) (l : Fin 128) (h : ¬ (t0 + BitVec.ofNat 32 l.val).slt n) : mask (F := Ideal) t0 n (ix2 0 l) = 0 := by
  unfold mask ones zeros
  pointwise []
  have : IntOp.cmpi CmpIPredicate.slt (IntOp.addi t0 (BitVec.ofNat 32 l.val)) n = 0#1 := by
    show BitVec.ofBool ((t0 + BitVec.ofNat 32 l.val).slt n) = 0#1
    rw [Bool.eq_false_iff.mpr h]
    rfl
  rw [this]
  rfl

/-- One pair's step leaves zero at a masked place that it writes, or that was zero before. -/
theorem pairStep_zero (x : Rd Ideal) (m : FVec Ideal S1x128 .f32)
    (off : Fin 3 → ℕ) (hoff) (offA : Fin 4 → ℕ) (hoffA) (offB : Fin 4 → ℕ) (hoffB) (offS : Fin 3 → ℕ) (hoffS) (st : St Ideal)
    (p l0 : ℕ) (ho : off = ![0, 128 * p, l0]) (y : S1x2048x256.Idx) (hl : l0 ≤ (y 2).val) (hl' : (y 2).val < l0 + 128)
    (hm : m (ix2 0 ⟨(y 2).val - l0, by omega⟩) = 0) (h : (y 1).val / 128 = p ∨ st.1 y = 0) :
    (pairStep x m off hoff offA hoffA offB hoffB offS hoffS st).1 y = 0 := by
  subst ho
  unfold pairStep
  dsimp only
  generalize (Ins.mk (F := Ideal) _ _ _ _ _ _ _ _ _ _ _ _) = i
  generalize window st.2 _ _ _ = s
  by_cases hp : (y 1).val / 128 = p
  · have hin : ∀ a, (![0, 128 * p, l0] : Fin 3 → ℕ) a ≤ (y a).val ∧ (y a).val < (![0, 128 * p, l0] : Fin 3 → ℕ) a + S1x128x128.size a := by
      intro a
      match a with
      | 0 => exact ⟨Nat.zero_le _, (y 0).isLt⟩
      | 1 => show 128 * p ≤ (y 1).val ∧ (y 1).val < 128 * p + 128; omega
      | 2 => exact ⟨hl, hl'⟩
    rw [put_of_in _ _ _ _ _ hin]
    refine Eq.trans (congrArg (pairY m i s) ?_) (pairY_zero m i s ⟨(y 1).val - 128 * p, by omega⟩ ⟨(y 2).val - l0, by omega⟩ hm)
    funext a
    match a with
    | 0 => exact Subsingleton.elim (α := Fin 1) _ _
    | 1 => rfl
    | 2 => rfl
  · rw [put_of_out _ _ _ _ _ 1 (by show (y 1).val < 128 * p ∨ 128 * p + 128 ≤ (y 1).val; omega)]
    exact h.resolve_left hp

/-- One pair's step leaves what lies outside its lanes. -/
theorem pairStep_out (x : Rd Ideal) (m : FVec Ideal S1x128 .f32)
    (off : Fin 3 → ℕ) (hoff) (offA : Fin 4 → ℕ) (hoffA) (offB : Fin 4 → ℕ) (hoffB) (offS : Fin 3 → ℕ) (hoffS) (st : St Ideal)
    (p l0 : ℕ) (ho : off = ![0, 128 * p, l0]) (y : S1x2048x256.Idx) (hl : (y 2).val < l0 ∨ l0 + 128 ≤ (y 2).val) :
    (pairStep x m off hoff offA hoffA offB hoffB offS hoffS st).1 y = st.1 y := by
  subst ho
  exact put_of_out _ _ _ _ _ 2 hl

theorem groups1_zero (x : Rd Ideal) (n : BitVec 32) (st : St Ideal) (y : S1x2048x256.Idx) (hl : (y 2).val < 128)
    (hm : mask (F := Ideal) 0#32 n (ix2 0 ⟨(y 2).val, hl⟩) = 0) :
    ∀ k, (y 1).val < 512 * k → (groups1 x n st k).1 y = 0
  | 0, h => absurd h (Nat.not_lt_zero _)
  | k + 1, h => by
    have hy1 : (y 1).val < 2048 := (y 1).isLt
    have ih := groups1_zero x n st y hl hm k
    have S : ∀ (t : Fin k0_t1_loop.trips) (j : Fin 4) (u : St Ideal), ((y 1).val / 128 = 4 * t.val + j.val ∨ u.1 y = 0) → (step1 x n t j u).1 y = 0 :=
      fun t j u hu => pairStep_zero x _ _ _ _ _ _ _ _ _ u (4 * t.val + j.val) 0 (off2_eq t j) y (Nat.zero_le _) (by omega) hm hu
    rw [groups1]
    split
    case isTrue hk =>
      generalize groups1 x n st k = u at ih ⊢
      unfold group1
      by_cases h' : (y 1).val < 512 * k
      · exact S _ 3 _ (.inr (S _ 2 _ (.inr (S _ 1 _ (.inr (S _ 0 _ (.inr (ih h'))))))))
      · have : (y 1).val / 128 = 4 * k + 0 ∨ (y 1).val / 128 = 4 * k + 1 ∨ (y 1).val / 128 = 4 * k + 2 ∨ (y 1).val / 128 = 4 * k + 3 := by omega
        rcases this with h0 | h1 | h2 | h3
        · exact S _ 3 _ (.inr (S _ 2 _ (.inr (S _ 1 _ (.inr (S _ 0 _ (.inl h0)))))))
        · exact S _ 3 _ (.inr (S _ 2 _ (.inr (S _ 1 _ (.inl h1)))))
        · exact S _ 3 _ (.inr (S _ 2 _ (.inl h2)))
        · exact S _ 3 _ (.inl h3)
    case isFalse hk =>
      refine ih ?_
      rw [trips1] at hk
      omega

theorem groups2_zero (x : Rd Ideal) (n : BitVec 32) (st : St Ideal) (y : S1x2048x256.Idx) (hl : 128 ≤ (y 2).val)
    (hm : mask (F := Ideal) 128#32 n (ix2 0 ⟨(y 2).val - 128, by have : (y 2).val < 256 := (y 2).isLt; omega⟩) = 0) :
    ∀ k, (y 1).val < 512 * k → (groups2 x n st k).1 y = 0
  | 0, h => absurd h (Nat.not_lt_zero _)
  | k + 1, h => by
    have hy1 : (y 1).val < 2048 := (y 1).isLt
    have hy2 : (y 2).val < 256 := (y 2).isLt
    have ih := groups2_zero x n st y hl hm k
    have S : ∀ (t : Fin k0_t2_loop.trips) (j : Fin 4) (u : St Ideal), ((y 1).val / 128 = 4 * t.val + j.val ∨ u.1 y = 0) → (step2 x n t j u).1 y = 0 :=
      fun t j u hu => pairStep_zero x _ _ _ _ _ _ _ _ _ u (4 * t.val + j.val) 128 (off12_eq t j) y hl (by omega) hm hu
    rw [groups2]
    split
    case isTrue hk =>
      generalize groups2 x n st k = u at ih ⊢
      unfold group2
      by_cases h' : (y 1).val < 512 * k
      · exact S _ 3 _ (.inr (S _ 2 _ (.inr (S _ 1 _ (.inr (S _ 0 _ (.inr (ih h'))))))))
      · have : (y 1).val / 128 = 4 * k + 0 ∨ (y 1).val / 128 = 4 * k + 1 ∨ (y 1).val / 128 = 4 * k + 2 ∨ (y 1).val / 128 = 4 * k + 3 := by omega
        rcases this with h0 | h1 | h2 | h3
        · exact S _ 3 _ (.inr (S _ 2 _ (.inr (S _ 1 _ (.inr (S _ 0 _ (.inl h0)))))))
        · exact S _ 3 _ (.inr (S _ 2 _ (.inr (S _ 1 _ (.inl h1)))))
        · exact S _ 3 _ (.inr (S _ 2 _ (.inl h2)))
        · exact S _ 3 _ (.inl h3)
    case isFalse hk =>
      refine ih ?_
      rw [trips2] at hk
      omega

theorem groups2_out (x : Rd Ideal) (n : BitVec 32) (st : St Ideal) (y : S1x2048x256.Idx) (hl : (y 2).val < 128) :
    ∀ k, (groups2 x n st k).1 y = st.1 y
  | 0 => rfl
  | k + 1 => by
    have ih := groups2_out x n st y hl k
    have S : ∀ (t : Fin k0_t2_loop.trips) (j : Fin 4) (u : St Ideal), (step2 x n t j u).1 y = u.1 y :=
      fun t j u => pairStep_out x _ _ _ _ _ _ _ _ _ u (4 * t.val + j.val) 128 (off12_eq t j) y (.inl hl)
    rw [groups2]
    split
    · unfold group2
      rw [S, S, S, S, ih]
    · exact ih

theorem zeroY_zero (z : S1x2048x128.Idx) : zeroY (F := Ideal) z = 0 := by
  unfold zeroY
  pointwise []

theorem zero1_in (st : St Ideal) (y : S1x2048x256.Idx) (hl : (y 2).val < 128) : (zero1 st).1 y = 0 := by
  unfold zero1
  dsimp only
  rw [put_of_in _ _ _ _ _ (fun a => by
    match a with
    | 0 => exact ⟨Nat.zero_le _, (y 0).isLt⟩
    | 1 => exact ⟨Nat.zero_le _, (y 1).isLt⟩
    | 2 => exact ⟨Nat.zero_le _, hl⟩)]
  exact zeroY_zero _

theorem zero2_in (st : St Ideal) (y : S1x2048x256.Idx) (hl : 128 ≤ (y 2).val) : (zero2 st).1 y = 0 := by
  unfold zero2
  dsimp only
  rw [put_of_in _ _ _ _ _ (fun a => by
    match a with
    | 0 => exact ⟨Nat.zero_le _, (y 0).isLt⟩
    | 1 => exact ⟨Nat.zero_le _, (y 1).isLt⟩
    | 2 => exact ⟨hl, (y 2).isLt⟩)]
  exact zeroY_zero _

theorem zero2_out (st : St Ideal) (y : S1x2048x256.Idx) (hl : (y 2).val < 128) : (zero2 st).1 y = st.1 y := by
  unfold zero2
  dsimp only
  exact put_of_out _ _ _ _ _ 2 (.inl hl)

/-! ## The conditions -/

theorem flag_iff (b : Bool) : (Scalar.cmpi .ne (Scalar.extui (BitVec.ofBool b)) 0#32 = 1#1) ↔ b = true := by
  cases b <;> decide

theorem cond2_iff (i : grid0.Coords) (v : BitVec 32) : k0_cond2 i v = 1#1 ↔ (0#32).slt (left i v) = true := flag_iff _
theorem cond3_iff (i : grid0.Coords) (v : BitVec 32) : k0_cond3 i v = 1#1 ↔ (left i v).sle 0#32 = true := flag_iff _
theorem cond4_iff (i : grid0.Coords) (v : BitVec 32) : k0_cond4 i v = 1#1 ↔ (128#32).slt (left i v) = true := flag_iff _
theorem cond5_iff (i : grid0.Coords) (v : BitVec 32) : k0_cond5 i v = 1#1 ↔ (left i v).sle 128#32 = true := flag_iff _

theorem toInt_small (n : ℕ) (h : n < 2 ^ 31) : (BitVec.ofNat 32 n).toInt = n := by
  have e : (BitVec.ofNat 32 n).toNat = n := by rw [BitVec.toNat_ofNat]; exact Nat.mod_eq_of_lt (by omega)
  rw [BitVec.toInt_eq_toNat_of_lt (by rw [e]; omega), e]

theorem i1_lt (i : grid0.Coords) : (i 1).val < 16 := (i 1).isLt

/-- How many time steps are left, without wrapping round. -/
theorem left_toInt (i : grid0.Coords) (v : BitVec 32) (h : 0 ≤ v.toInt) : (left i v).toInt = v.toInt - 256 * (i 1).val := by
  have hi := i1_lt i
  have hv := BitVec.toInt_lt (x := v)
  have e : BitVec.ofNat 32 (i 1).val * 256#32 = BitVec.ofNat 32 (256 * (i 1).val) := by
    rw [mul_comm 256 (i 1).val, BitVec.ofNat_mul]
  show (v - BitVec.ofNat 32 (i 1).val * 256#32).toInt = _
  rw [e, BitVec.toInt_sub, toInt_small _ (by omega), Int.bmod_def]
  omega

/-- A grid point's outputs are zero at the time steps after the sequence's end. -/
theorem bodySt_zero (x : Rd Ideal) (x12 : Vec Ideal S1x32x64x64 .f32) (i : grid0.Coords) (v : BitVec 32) (st : St Ideal) (y : S1x2048x256.Idx)
    (hv : 0 ≤ v.toInt) (h : v.toInt ≤ 256 * (i 1).val + (y 2).val) : (bodySt x x12 i v st).1 y = 0 := by
  have hn := left_toInt i v hv
  have hy1 : (y 1).val < 2048 := (y 1).isLt
  have hy2 : (y 2).val < 256 := (y 2).isLt
  have c1 : ∀ n : BitVec 32, ¬ (0#32).slt n = true → n.sle 0#32 = true := fun n hc => by
    rw [BitVec.slt_iff_toInt_lt] at hc
    rw [BitVec.sle_iff_toInt_le]; omega
  have c2 : ∀ n : BitVec 32, ¬ (128#32).slt n = true → n.sle 128#32 = true := fun n hc => by
    rw [BitVec.slt_iff_toInt_lt] at hc
    rw [BitVec.sle_iff_toInt_le]; omega
  unfold bodySt
  dsimp only
  rw [ite_cond_congr (propext (cond2_iff i v)), ite_cond_congr (propext (cond3_iff i v)), ite_cond_congr (propext (cond4_iff i v)),
    ite_cond_congr (propext (cond5_iff i v))]
  generalize left i v = n at hn ⊢
  generalize (if cond1 i then (st.1, pairs.foldl (initStep x12) st.2) else st : St Ideal) = a
  by_cases hl : (y 2).val < 128
  · have hm : mask (F := Ideal) 0#32 n (ix2 0 ⟨(y 2).val, hl⟩) = 0 := mask_zero _ _ _ (by
      rw [BitVec.slt_iff_toInt_lt, BitVec.zero_add, toInt_small _ (by show (y 2).val < _; omega)]
      show ¬ (((y 2).val : ℕ) : ℤ) < _
      omega)
    have hd : (if n.sle 0#32 = true then zero1 (if (0#32).slt n = true then groups1 x n a k0_t1_loop.trips else a)
        else if (0#32).slt n = true then groups1 x n a k0_t1_loop.trips else a : St Ideal).1 y = 0 := by
      by_cases h3 : n.sle 0#32 = true
      · rw [if_pos h3]; exact zero1_in _ y hl
      · rw [if_neg h3, if_pos (by by_contra hc; exact h3 (c1 n hc))]
        exact groups1_zero x n a y hl hm _ (by rw [trips1]; omega)
    generalize (if n.sle 0#32 = true then zero1 (if (0#32).slt n = true then groups1 x n a k0_t1_loop.trips else a)
        else if (0#32).slt n = true then groups1 x n a k0_t1_loop.trips else a : St Ideal) = d at hd ⊢
    have he : (if (128#32).slt n = true then groups2 x n d k0_t2_loop.trips else d : St Ideal).1 y = 0 := by
      split
      · rw [groups2_out x n d y hl]; exact hd
      · exact hd
    generalize (if (128#32).slt n = true then groups2 x n d k0_t2_loop.trips else d : St Ideal) = e at he ⊢
    split
    · rw [zero2_out _ y hl]; exact he
    · exact he
  · have hl' : 128 ≤ (y 2).val := by omega
    have hm : mask (F := Ideal) 128#32 n (ix2 0 ⟨(y 2).val - 128, by omega⟩) = 0 := mask_zero _ _ _ (by
      rw [BitVec.slt_iff_toInt_lt, show (128#32 : BitVec 32) = BitVec.ofNat 32 128 from rfl, ← BitVec.ofNat_add, toInt_small _ (by show 128 + ((y 2).val - 128) < _; omega)]
      show ¬ ((128 + ((y 2).val - 128) : ℕ) : ℤ) < _
      omega)
    generalize (if n.sle 0#32 = true then zero1 (if (0#32).slt n = true then groups1 x n a k0_t1_loop.trips else a)
        else if (0#32).slt n = true then groups1 x n a k0_t1_loop.trips else a : St Ideal) = d
    by_cases h5 : n.sle 128#32 = true
    · rw [if_pos h5]; exact zero2_in _ y hl'
    · rw [if_neg h5, if_pos (by by_contra hc; exact h5 (c2 n hc))]
      exact groups2_zero x n d y hl' hm _ (by rw [trips2]; omega)

/-- A grid point of a sequence with no time steps leaves the scratch as the states were brought in. -/
theorem bodySt_empty (x : Rd Ideal) (x12 : Vec Ideal S1x32x64x64 .f32) (i : grid0.Coords) (st : St Ideal) :
    (bodySt x x12 i 0#32 st).2 = if cond1 i then pairs.foldl (initStep x12) st.2 else st.2 := by
  have hn := left_toInt i 0#32 (by decide)
  have h0 : (0#32 : BitVec 32).toInt = 0 := rfl
  have n2 : ¬ (0#32).slt (left i 0#32) = true := by
    rw [BitVec.slt_iff_toInt_lt, hn, h0]; omega
  have n4 : ¬ (128#32).slt (left i 0#32) = true := by
    rw [BitVec.slt_iff_toInt_lt, hn, h0]; show ¬ (128 : ℤ) < _; omega
  unfold bodySt
  dsimp only
  rw [if_neg (mt (cond2_iff i 0#32).mp n2), if_neg (mt (cond4_iff i 0#32).mp n4)]
  split <;> split <;> split <;> rfl

end Cert.KernelIdeal.Pair

end
-- ==== Proof.States.lean ====
/- The states' way through the scratch: two heads' states are laid side by side for each pair when a sequence begins and
   taken apart again when it ends, so with nothing done in between the final states are the initial ones. -/
module

public import proofs.«01_k».proof.Proof.Padding

@[expose] public section

set_option maxRecDepth 8192
set_option maxHeartbeats 400000

noncomputable section

namespace Cert.KernelIdeal.Pair

open Idealize.ShloMosaic Cert.KernelIdeal.Gen
open Idealize.ShloMosaic.VecWindow (window put window_put_same window_put_of_disjoint)

/-! ## Side by side, and apart -/

theorem headL_besides (x y : Vec Ideal S1x1x64x64 .f32) (r l : Fin 64) : headL (besides x y) (ix4 0 0 r l) = x (ix4 0 0 r l) := by
  unfold headL besides
  pointwise []
  done

theorem headR_besides (x y : Vec Ideal S1x1x64x64 .f32) (r l : Fin 64) : headR (besides x y) (ix4 0 0 r l) = y (ix4 0 0 r l) := by
  unfold headR besides
  pointwise []
  done

/-! ## The scratch of a sequence with no time steps -/

/-- The scratch holds the block of initial states `x12`. -/
def Holds (x12 : Vec Ideal S1x32x64x64 .f32) (s : Vec Ideal S16x64x128 .f32) : Prop :=
  ∀ h ∈ pairs, window s ![h.2.2.val, 0, 0] S1x64x128.size (offPair_inb h.2.2)
    = besides (window x12 ![0, h.1.val, 0, 0] S1x1x64x64.size (offHead_inb h.1)) (window x12 ![0, h.2.1.val, 0, 0] S1x1x64x64.size (offHead_inb h.2.1))

theorem foldl_init (x12 : Vec Ideal S1x32x64x64 .f32) : ∀ (l : List (Fin 32 × Fin 32 × Fin 16)) (s : Vec Ideal S16x64x128 .f32) (p : Fin 16),
    (∀ h ∈ l, h.2.2 ≠ p) →
      window (l.foldl (initStep x12) s) ![p.val, 0, 0] S1x64x128.size (offPair_inb p) = window s ![p.val, 0, 0] S1x64x128.size (offPair_inb p)
  | [], _, _, _ => rfl
  | h :: l, s, p, hn => by
    rw [List.foldl_cons, foldl_init x12 l _ p fun h' hh => hn h' (List.mem_cons_of_mem _ hh)]
    have hne : h.2.2.val ≠ p.val := fun e => hn h List.mem_cons_self (Fin.ext e)
    exact window_put_of_disjoint _ _ _ _ _ _ _ 0 (by show p.val + 1 ≤ h.2.2.val ∨ h.2.2.val + 1 ≤ p.val; omega)

theorem holds_init (x12 : Vec Ideal S1x32x64x64 .f32) (s : Vec Ideal S16x64x128 .f32) : Holds x12 (pairs.foldl (initStep x12) s) := by
  have key : ∀ (l : List (Fin 32 × Fin 32 × Fin 16)) (s : Vec Ideal S16x64x128 .f32), l.Pairwise (fun a b => a.2.2 ≠ b.2.2) → ∀ h ∈ l,
      window (l.foldl (initStep x12) s) ![h.2.2.val, 0, 0] S1x64x128.size (offPair_inb h.2.2)
        = besides (window x12 ![0, h.1.val, 0, 0] S1x1x64x64.size (offHead_inb h.1)) (window x12 ![0, h.2.1.val, 0, 0] S1x1x64x64.size (offHead_inb h.2.1)) := by
    intro l
    induction l with
    | nil => intro s _ h hh; exact absurd hh List.not_mem_nil
    | cons a l ih =>
      intro s hp h hh
      rw [List.pairwise_cons] at hp
      rw [List.foldl_cons]
      rcases List.mem_cons.mp hh with rfl | hm
      · rw [foldl_init x12 l _ h.2.2 fun h' hh' => (hp.1 h' hh').symm]
        exact window_put_same _ _ _ _ _
      · exact ih _ hp.2 h hm
  exact key pairs s (by decide)

/-! ## The final states of a sequence with no time steps -/

theorem finStep_head (x12 : Vec Ideal S1x32x64x64 .f32) (s : Vec Ideal S16x64x128 .f32) (z : Vec Ideal S1x32x64x64 .f32) (h : Fin 32 × Fin 32 × Fin 16)
    (hs : window s ![h.2.2.val, 0, 0] S1x64x128.size (offPair_inb h.2.2)
      = besides (window x12 ![0, h.1.val, 0, 0] S1x1x64x64.size (offHead_inb h.1)) (window x12 ![0, h.2.1.val, 0, 0] S1x1x64x64.size (offHead_inb h.2.1)))
    (y : S1x32x64x64.Idx) :
    finStep s z h y = if (y 1).val = h.1.val ∨ (y 1).val = h.2.1.val then x12 y else z y := by
  have y0 : (y 0).val < 1 := (y 0).isLt
  have y2 : (y 2).val < 64 := (y 2).isLt
  have y3 : (y 3).val < 64 := (y 3).isLt
  have inside : ∀ k : ℕ, (y 1).val = k → ∀ a, (![0, k, 0, 0] : Fin 4 → ℕ) a ≤ (y a).val ∧ (y a).val < (![0, k, 0, 0] : Fin 4 → ℕ) a + S1x1x64x64.size a := by
    intro k hk a
    match a with
    | 0 => exact ⟨Nat.zero_le _, by show _ < 0 + 1; omega⟩
    | 1 => exact ⟨by show k ≤ _; omega, by show _ < k + 1; omega⟩
    | 2 => exact ⟨Nat.zero_le _, by show _ < 0 + 64; omega⟩
    | 3 => exact ⟨Nat.zero_le _, by show _ < 0 + 64; omega⟩
  have outside : ∀ k : ℕ, (y 1).val ≠ k → (y 1).val < (![0, k, 0, 0] : Fin 4 → ℕ) 1 ∨ (![0, k, 0, 0] : Fin 4 → ℕ) 1 + S1x1x64x64.size 1 ≤ (y 1).val := by
    intro k hk
    show (y 1).val < k ∨ k + 1 ≤ (y 1).val
    omega
  have loc : ∀ (k : Fin 32) (hk : (y 1).val = k.val) (hy), Rect.unitLocal (s := S1x32x64x64) (off := ![0, k.val, 0, 0]) (size := S1x1x64x64.size) y hy
      = (ix4 0 0 ⟨(y 2).val, y2⟩ ⟨(y 3).val, y3⟩ : S1x1x64x64.Idx) := by
    intro k hk hy
    funext a
    refine Fin.ext ?_
    match a with
    | 0 => show (y 0).val - 0 = 0; omega
    | 1 => show (y 1).val - k.val = 0; omega
    | 2 => show (y 2).val - 0 = (y 2).val; omega
    | 3 => show (y 3).val - 0 = (y 3).val; omega
  have back : ∀ (k : Fin 32) (hk : (y 1).val = k.val), window x12 ![0, k.val, 0, 0] S1x1x64x64.size (offHead_inb k) (ix4 0 0 ⟨(y 2).val, y2⟩ ⟨(y 3).val, y3⟩) = x12 y := by
    intro k hk
    refine congrArg x12 (funext fun a => Fin.ext ?_)
    match a with
    | 0 => show 0 + 1 * 0 = (y 0).val; omega
    | 1 => show k.val + 1 * 0 = (y 1).val; omega
    | 2 => show 0 + 1 * (y 2).val = (y 2).val; omega
    | 3 => show 0 + 1 * (y 3).val = (y 3).val; omega
  unfold finStep
  rw [hs]
  by_cases h2 : (y 1).val = h.2.1.val
  · rw [if_pos (.inr h2), put_of_in _ _ _ _ _ (inside _ h2), loc h.2.1 h2, headR_besides, back h.2.1 h2]
  · rw [put_of_out _ _ _ _ _ 1 (outside _ h2)]
    by_cases h1 : (y 1).val = h.1.val
    · rw [if_pos (.inl h1), put_of_in _ _ _ _ _ (inside _ h1), loc h.1 h1, headL_besides, back h.1 h1]
    · rw [put_of_out _ _ _ _ _ 1 (outside _ h1), if_neg (by rintro (e | e); exacts [h1 e, h2 e])]

theorem fin_holds (x12 : Vec Ideal S1x32x64x64 .f32) (s : Vec Ideal S16x64x128 .f32) (hs : Holds x12 s) (z : Vec Ideal S1x32x64x64 .f32) :
    pairs.foldl (finStep s) z = x12 := by
  funext y
  have key : ∀ (l : List (Fin 32 × Fin 32 × Fin 16)) (z : Vec Ideal S1x32x64x64 .f32), (∀ h ∈ l, h ∈ pairs) →
      (z y = x12 y ∨ ∃ h ∈ l, (y 1).val = h.1.val ∨ (y 1).val = h.2.1.val) → l.foldl (finStep s) z y = x12 y := by
    intro l
    induction l with
    | nil =>
      intro z _ hz
      rcases hz with hz | ⟨h, hh, _⟩
      · exact hz
      · exact absurd hh List.not_mem_nil
    | cons a l ih =>
      intro z hl hz
      rw [List.foldl_cons]
      refine ih _ (fun h hh => hl h (List.mem_cons_of_mem _ hh)) ?_
      rw [finStep_head x12 s z a (hs a (hl a List.mem_cons_self)) y]
      by_cases ha : (y 1).val = a.1.val ∨ (y 1).val = a.2.1.val
      · rw [if_pos ha]; exact .inl rfl
      · rw [if_neg ha]
        rcases hz with hz | ⟨h, hh, hy⟩
        · exact .inl hz
        · rcases List.mem_cons.mp hh with rfl | hm
          · exact absurd hy ha
          · exact .inr ⟨h, hm, hy⟩
  refine key pairs z (fun _ h => h) (.inr ?_)
  have : ∀ k : Fin 32, ∃ h ∈ pairs, k.val = h.1.val ∨ k.val = h.2.1.val := by decide
  exact this (y 1)

end Cert.KernelIdeal.Pair

end
-- ==== Proof.Grid.lean ====
/- The work of a grid point is 256 steps of the recurrence for every head: the pairs of heads, the two tiles, and the
   tiles that are left out because the sequence has ended. -/
module

public import proofs.«01_k».proof.Proof.Tile
public import proofs.«01_k».proof.Proof.States

@[expose] public section

set_option maxRecDepth 8192
set_option maxHeartbeats 400000

noncomputable section

namespace Cert.KernelIdeal.Pair

open Idealize.ShloMosaic Cert.KernelIdeal.Gen
open Idealize.ShloMosaic.VecWindow (window put)

/-- A head's row in a block, and a time step of a block. -/
def hrow (H : Fin 32) (i : Fin 64) : Fin 2048 := ⟨64 * H.val + i.val, by omega⟩
def tln (u : Fin 2) (k : Fin 128) : Fin 256 := ⟨128 * u.val + k.val, by omega⟩
/-- A pair's head. -/
def hd (p : Fin 16) (h : Fin 2) : Fin 32 := ⟨2 * p.val + h.val, by omega⟩
/-- Where a head's scales lie. -/
def hsc (H : Fin 32) (k : Fin 256) : S1x4x8x256.Idx := ix4 0 (⟨H.val / 8, by omega⟩ : Fin 4) (⟨H.val % 8, by omega⟩ : Fin 8) k

/-- The staged blocks hold the real values of 256 steps of every head. -/
structure BlockIn (P : Fin 32 → ℕ → Stp) (x : Rd Ideal) : Prop where
  w : ∀ H i (k : Fin 256), ∃ z : ℝ, x.x9 (ix3 0 (hrow H i) k) = (z : EReal) ∧ (P H k.val).l i = -Real.exp z
  kk : ∀ H i (k : Fin 256), x.x10 (ix3 0 (hrow H i) k) = (((P H k.val).kk i : ℝ) : EReal)
  ic : ∀ H i (k : Fin 256), x.x11 (ix3 0 (hrow H i) k) = (((P H k.val).ic i : ℝ) : EReal)
  r : ∀ H i (k : Fin 256), x.x3 (ix3 0 (hrow H i) k) = (((P H k.val).r i : ℝ) : EReal)
  k : ∀ H i (k : Fin 256), x.x4 (ix3 0 (hrow H i) k) = (((P H k.val).k i : ℝ) : EReal)
  v : ∀ H i (k : Fin 256), ∃ a b c : ℝ, x.x5 (ix3 0 (hrow H i) k) = (a : EReal) ∧ x.x7 (hsc H k) = (b : EReal) ∧ x.x8 (hsc H k) = (c : EReal)
    ∧ (P H k.val).v i = a * b * c
  rs : ∀ H (k : Fin 256), x.x6 (hsc H k) = (((P H k.val).rs : ℝ) : EReal)

/-- The scratch holds the real states. -/
def Sh (S : Fin 32 → Fin 64 → Fin 64 → ℝ) (g : Vec Ideal S16x64x128 .f32) : Prop :=
  ∀ (p : Fin 16) (h : Fin 2) (q i : Fin 64), g (ix3 p q (ln h i)) = ((S (hd p h) q i : ℝ) : EReal)

/-- The steps of a head in one tile. -/
def til (P : Fin 32 → ℕ → Stp) (u : Fin 2) (H : Fin 32) (k : ℕ) : Stp := P H (128 * u.val + k)

/-- The first `K` pairs of heads are done in a tile. -/
def Done (P : Fin 32 → ℕ → Stp) (u : Fin 2) (S : Fin 32 → Fin 64 → Fin 64 → ℝ) (K : ℕ) (st : St Ideal) : Prop :=
  Sh (fun H => if H.val / 2 < K then stepsR (til P u H) (S H) 128 else S H) st.2
    ∧ ∀ (H : Fin 32) (q : Fin 64) (k : Fin 128), H.val / 2 < K →
      st.1 (ix3 0 (hrow H q) (tln u k)) = (((til P u H k.val).y (stepsR (til P u H) (S H) k.val) q : ℝ) : EReal)

section
variable {P : Fin 32 → ℕ → Stp} {x : Rd Ideal} (B : BlockIn P x) {m : FVec Ideal S1x128 .f32} {u : Fin 2}
  (hm : ∀ (H : Fin 32) (t : Fin 128), m (ix2 0 t) = (((til P u H t.val).m : ℝ) : EReal))
include B hm

theorem tileIn (g j : Fin 4) (p : Fin 16) (hp : p.val = 4 * g.val + j.val)
    (off : Fin 3 → ℕ) (hoff : ∀ a, off a + S1x128x128.size a ≤ S1x2048x256.size a)
    (offA : Fin 4 → ℕ) (hoffA : ∀ a, offA a + S1x1x1x128.size a ≤ S1x4x8x256.size a)
    (offB : Fin 4 → ℕ) (hoffB : ∀ a, offB a + S1x1x1x128.size a ≤ S1x4x8x256.size a)
    (e : off = ![0, 128 * p.val, 128 * u.val]) (eA : offA = ![0, g.val, 2 * j.val, 128 * u.val]) (eB : offB = ![0, g.val, 2 * j.val + 1, 128 * u.val]) :
    TileIn (fun h => til P u (hd p h)) m ⟨window x.x9 off S1x128x128.size hoff, window x.x10 off S1x128x128.size hoff, window x.x3 off S1x128x128.size hoff,
      window x.x11 off S1x128x128.size hoff, window x.x4 off S1x128x128.size hoff, window x.x5 off S1x128x128.size hoff,
      window x.x7 offA S1x1x1x128.size hoffA, window x.x7 offB S1x1x1x128.size hoffB,
      window x.x8 offA S1x1x1x128.size hoffA, window x.x8 offB S1x1x1x128.size hoffB,
      window x.x6 offA S1x1x1x128.size hoffA, window x.x6 offB S1x1x1x128.size hoffB⟩ := by
  subst e eA eB
  have e3 : ∀ {α : Type} (z : S1x2048x256.Idx → α) (h : Fin 2) (i : Fin 64) (t : Fin 128),
      window z ![0, 128 * p.val, 128 * u.val] S1x128x128.size hoff (ix3 0 (ln h i) t : S1x128x128.Idx) = z (ix3 0 (hrow (hd p h) i) (tln u t)) := by
    intro α z h i t
    refine congrArg z (funext fun a => Fin.ext ?_)
    match a with
    | 0 => rfl
    | 1 => show 128 * p.val + 1 * (64 * h.val + i.val) = 64 * (2 * p.val + h.val) + i.val; omega
    | 2 => show 128 * u.val + 1 * t.val = 128 * u.val + t.val; omega
  have eA : ∀ {α : Type} (z : S1x4x8x256.Idx → α) (t : Fin 128),
      window z ![0, g.val, 2 * j.val, 128 * u.val] S1x1x1x128.size hoffA (ix4 0 0 0 t : S1x1x1x128.Idx) = z (hsc (hd p 0) (tln u t)) := by
    intro α z t
    refine congrArg z (funext fun a => Fin.ext ?_)
    match a with
    | 0 => rfl
    | 1 => show g.val + 1 * 0 = (2 * p.val + 0) / 8; omega
    | 2 => show 2 * j.val + 1 * 0 = (2 * p.val + 0) % 8; omega
    | 3 => show 128 * u.val + 1 * t.val = 128 * u.val + t.val; omega
  have eB : ∀ {α : Type} (z : S1x4x8x256.Idx → α) (t : Fin 128),
      window z ![0, g.val, 2 * j.val + 1, 128 * u.val] S1x1x1x128.size hoffB (ix4 0 0 0 t : S1x1x1x128.Idx) = z (hsc (hd p 1) (tln u t)) := by
    intro α z t
    refine congrArg z (funext fun a => Fin.ext ?_)
    match a with
    | 0 => rfl
    | 1 => show g.val + 1 * 0 = (2 * p.val + 1) / 8; omega
    | 2 => show 2 * j.val + 1 + 1 * 0 = (2 * p.val + 1) % 8; omega
    | 3 => show 128 * u.val + 1 * t.val = 128 * u.val + t.val; omega
  have eAB : ∀ {α : Type} (z : S1x4x8x256.Idx → α) (h : Fin 2) (t : Fin 128),
      (if h = 0 then window z ![0, g.val, 2 * j.val, 128 * u.val] S1x1x1x128.size hoffA else window z ![0, g.val, 2 * j.val + 1, 128 * u.val] S1x1x1x128.size hoffB)
        (ix4 0 0 0 t : S1x1x1x128.Idx) = z (hsc (hd p h) (tln u t)) := by
    intro α z h t
    have hh : h = 0 ∨ h = 1 := by omega
    rcases hh with rfl | rfl
    · rw [if_pos rfl]; exact eA z t
    · rw [if_neg h10]; exact eB z t
  refine ⟨fun h t => hm (hd p h) t, fun h i t => ?_, fun h i t => ?_, fun h i t => ?_, fun h i t => ?_, fun h i t => ?_, fun h i t => ?_, fun h t => ?_⟩
  · dsimp only
    rw [e3]; exact B.w (hd p h) i (tln u t)
  · dsimp only
    rw [e3]; exact B.kk (hd p h) i (tln u t)
  · dsimp only
    rw [e3]; exact B.ic (hd p h) i (tln u t)
  · dsimp only
    rw [e3]; exact B.r (hd p h) i (tln u t)
  · dsimp only
    rw [e3]; exact B.k (hd p h) i (tln u t)
  · dsimp only
    rw [e3, eAB, eAB]; exact B.v (hd p h) i (tln u t)
  · dsimp only
    rw [eAB]; exact B.rs (hd p h) (tln u t)

/-- One pair's step. -/
theorem pairStep_val (S : Fin 32 → Fin 64 → Fin 64 → ℝ) (g j : Fin 4) (p : Fin 16) (hp : p.val = 4 * g.val + j.val)
    (off : Fin 3 → ℕ) (hoff) (offA : Fin 4 → ℕ) (hoffA) (offB : Fin 4 → ℕ) (hoffB) (offS : Fin 3 → ℕ) (hoffS)
    (e : off = ![0, 128 * p.val, 128 * u.val]) (eA : offA = ![0, g.val, 2 * j.val, 128 * u.val]) (eB : offB = ![0, g.val, 2 * j.val + 1, 128 * u.val])
    (eS : offS = ![p.val, 0, 0]) (st : St Ideal) (h : Done P u S p.val st) :
    Done P u S (p.val + 1) (pairStep x m off hoff offA hoffA offB hoffB offS hoffS st) := by
  have T := tileIn B hm g j p hp off hoff offA hoffA offB hoffB e eA eB
  unfold pairStep
  dsimp only
  generalize (Ins.mk (F := Ideal) _ _ _ _ _ _ _ _ _ _ _ _) = z at T ⊢
  subst e eS
  have hs : ∀ (h : Fin 2) (q i : Fin 64), window st.2 ![p.val, 0, 0] S1x64x128.size hoffS (ix3 0 q (ln h i) : S1x64x128.Idx) = ((S (hd p h) q i : ℝ) : EReal) := by
    intro h' q i
    have := h.1 p h' q i
    dsimp only at this
    rw [if_neg (by show ¬ (2 * p.val + h'.val) / 2 < p.val; omega)] at this
    rw [← this]
    refine congrArg st.2 (funext fun a => Fin.ext ?_)
    match a with
    | 0 => show p.val + 1 * 0 = p.val; omega
    | 1 => show 0 + 1 * q.val = q.val; omega
    | 2 => show 0 + 1 * (ln h' i).val = (ln h' i).val; omega
  have pS := pairS_at T (fun h => S (hd p h)) hs
  have pY := pairY_at T (fun h => S (hd p h)) hs
  generalize window st.2 ![p.val, 0, 0] S1x64x128.size hoffS = s at pS pY ⊢
  refine ⟨fun p' h' q i => ?_, fun H q k hH => ?_⟩
  · dsimp only
    by_cases hpp : p' = p
    · subst hpp
      rw [if_pos (by show (2 * p'.val + h'.val) / 2 < p'.val + 1; omega), put_of_in _ _ _ _ _ (fun a => by
        match a with
        | 0 => exact ⟨le_refl _, Nat.lt_succ_self _⟩
        | 1 => exact ⟨Nat.zero_le _, by show q.val < 0 + 64; omega⟩
        | 2 => exact ⟨Nat.zero_le _, by show (ln h' i).val < 0 + 128; omega⟩)]
      refine Eq.trans (congrArg (pairS m z s) ?_) (pS h' q i)
      funext a
      match a with
      | 0 => exact Subsingleton.elim (α := Fin 1) _ _
      | 1 => rfl
      | 2 => rfl
    · have hv : p'.val ≠ p.val := fun e => hpp (Fin.ext e)
      rw [put_of_out _ _ _ _ _ 0 (by show p'.val < p.val ∨ p.val + 1 ≤ p'.val; omega)]
      refine (h.1 p' h' q i).trans ?_
      have e1 : (hd p' h').val / 2 = p'.val := by show (2 * p'.val + h'.val) / 2 = p'.val; omega
      show (((if (hd p' h').val / 2 < p.val then stepsR (til P u (hd p' h')) (S (hd p' h')) 128 else S (hd p' h')) q i : ℝ) : EReal)
        = (((if (hd p' h').val / 2 < p.val + 1 then stepsR (til P u (hd p' h')) (S (hd p' h')) 128 else S (hd p' h')) q i : ℝ) : EReal)
      rw [e1]
      by_cases hlt : p'.val < p.val
      · rw [if_pos hlt, if_pos (by omega)]
      · rw [if_neg hlt, if_neg (by omega)]
  · dsimp only
    by_cases hpp : H.val / 2 = p.val
    · obtain ⟨h', rfl⟩ : ∃ h' : Fin 2, H = hd p h' := ⟨⟨H.val % 2, by omega⟩, Fin.ext (by show H.val = 2 * p.val + H.val % 2; omega)⟩
      rw [put_of_in _ _ _ _ _ (fun a => by
        match a with
        | 0 => exact ⟨Nat.zero_le _, Nat.lt_succ_self _⟩
        | 1 => exact ⟨by show 128 * p.val ≤ 64 * (2 * p.val + h'.val) + q.val; omega, by show 64 * (2 * p.val + h'.val) + q.val < 128 * p.val + 128; omega⟩
        | 2 => exact ⟨by show 128 * u.val ≤ 128 * u.val + k.val; omega, by show 128 * u.val + k.val < 128 * u.val + 128; omega⟩)]
      refine Eq.trans (congrArg (pairY m z s) ?_) (pY h' q k)
      funext a
      match a with
      | 0 => exact Subsingleton.elim (α := Fin 1) _ _
      | 1 => exact Fin.ext (by show 64 * (2 * p.val + h'.val) + q.val - 128 * p.val = 64 * h'.val + q.val; omega)
      | 2 => exact Fin.ext (by show 128 * u.val + k.val - 128 * u.val = k.val; omega)
    · rw [put_of_out _ _ _ _ _ 1 (by show 64 * H.val + q.val < 128 * p.val ∨ 128 * p.val + 128 ≤ 64 * H.val + q.val; omega)]
      exact h.2 H q k (by omega)

end

/-! ## The groups of eight heads -/

theorem offS1_eq : ∀ (t : Fin k0_t1_loop.trips) (j : Fin 4), k0_off5 t (BitVec.ofNat 32 j.val) = ![4 * t.val + j.val, 0, 0] := by decide
theorem offS2_eq : ∀ (t : Fin k0_t2_loop.trips) (j : Fin 4), k0_off15 t (BitVec.ofNat 32 j.val) = ![4 * t.val + j.val, 0, 0] := by decide
theorem offA1_eq : ∀ (t : Fin k0_t1_loop.trips) (j : Fin 4), offA1 t j = ![0, t.val, 2 * j.val, 0] := by decide
theorem offB1_eq : ∀ (t : Fin k0_t1_loop.trips) (j : Fin 4), offB1 t j = ![0, t.val, 2 * j.val + 1, 0] := by decide
theorem offA2_eq : ∀ (t : Fin k0_t2_loop.trips) (j : Fin 4), offA2 t j = ![0, t.val, 2 * j.val, 128] := by decide
theorem offB2_eq : ∀ (t : Fin k0_t2_loop.trips) (j : Fin 4), offB2 t j = ![0, t.val, 2 * j.val + 1, 128] := by decide

theorem mask_at (P : Fin 32 → ℕ → Stp) (n : BitVec 32) (u : Fin 2) (t0 : BitVec 32) (ht0 : t0 = BitVec.ofNat 32 (128 * u.val))
    (hP : ∀ H k, k < 256 → (P H k).on = decide ((k : ℤ) < n.toInt)) (H : Fin 32) (t : Fin 128) :
    mask (F := Ideal) t0 n (ix2 0 t) = (((til P u H t.val).m : ℝ) : EReal) := by
  subst ht0
  have hsl : (BitVec.ofNat 32 (128 * u.val) + BitVec.ofNat 32 t.val).slt n = decide (((128 * u.val + t.val : ℕ) : ℤ) < n.toInt) := by
    rw [← BitVec.ofNat_add, BitVec.slt_eq_decide, toInt_small _ (by omega)]
  have ho := hP H (128 * u.val + t.val) (by omega)
  unfold til Stp.m
  rw [ho]
  unfold mask ones zeros
  pointwise []
  have : IntOp.cmpi CmpIPredicate.slt (IntOp.addi (BitVec.ofNat 32 (128 * u.val)) (BitVec.ofNat 32 t.val)) n
      = BitVec.ofBool (decide (((128 * u.val + t.val : ℕ) : ℤ) < n.toInt)) := by
    rw [← hsl]; rfl
  rw [this]
  cases decide (((128 * u.val + t.val : ℕ) : ℤ) < n.toInt)
  · exact EReal.coe_zero.symm
  · exact EReal.coe_one.symm

section
variable {P : Fin 32 → ℕ → Stp} {x : Rd Ideal} (B : BlockIn P x) (n : BitVec 32) (hP : ∀ H k, k < 256 → (P H k).on = decide ((k : ℤ) < n.toInt))
  (S : Fin 32 → Fin 64 → Fin 64 → ℝ)
include B hP

theorem groups1_val (st : St Ideal) (h : Done P 0 S 0 st) : ∀ k, k ≤ 4 → Done P 0 S (4 * k) (groups1 x n st k)
  | 0, _ => h
  | k + 1, hk => by
    have ih := groups1_val st h k (by omega)
    have St : ∀ (t : Fin k0_t1_loop.trips) (j : Fin 4) (a : St Ideal), Done P 0 S (4 * t.val + j.val) a → Done P 0 S (4 * t.val + j.val + 1) (step1 x n t j a) := by
      intro t j a ha
      have ht : t.val < 4 := lt_of_lt_of_eq t.isLt trips1
      exact pairStep_val B (u := 0) (mask_at P n 0 0#32 rfl hP) S ⟨t.val, ht⟩ j ⟨4 * t.val + j.val, by omega⟩ rfl _ _ _ _ _ _ _ _
        (off2_eq t j) (offA1_eq t j) (offB1_eq t j) (offS1_eq t j) a ha
    rw [groups1, dif_pos (show k < k0_t1_loop.trips by rw [trips1]; omega)]
    generalize groups1 x n st k = a at ih ⊢
    unfold group1
    exact St _ 3 _ (St _ 2 _ (St _ 1 _ (St _ 0 _ ih)))

theorem groups2_val (st : St Ideal) (h : Done P 1 S 0 st) : ∀ k, k ≤ 4 → Done P 1 S (4 * k) (groups2 x n st k)
  | 0, _ => h
  | k + 1, hk => by
    have ih := groups2_val st h k (by omega)
    have St : ∀ (t : Fin k0_t2_loop.trips) (j : Fin 4) (a : St Ideal), Done P 1 S (4 * t.val + j.val) a → Done P 1 S (4 * t.val + j.val + 1) (step2 x n t j a) := by
      intro t j a ha
      have ht : t.val < 4 := lt_of_lt_of_eq t.isLt trips2
      exact pairStep_val B (u := 1) (mask_at P n 1 128#32 rfl hP) S ⟨t.val, ht⟩ j ⟨4 * t.val + j.val, by omega⟩ rfl _ _ _ _ _ _ _ _
        (off12_eq t j) (offA2_eq t j) (offB2_eq t j) (offS2_eq t j) a ha
    rw [groups2, dif_pos (show k < k0_t2_loop.trips by rw [trips2]; omega)]
    generalize groups2 x n st k = a at ih ⊢
    unfold group2
    exact St _ 3 _ (St _ 2 _ (St _ 1 _ (St _ 0 _ ih)))

end

end Cert.KernelIdeal.Pair

end
-- ==== Proof.GridEnd.lean ====
/- The body of a grid point: the tiles that are left out because the sequence has ended, and the states' way in and out. -/
module

public import proofs.«01_k».proof.Proof.Grid

@[expose] public section

set_option maxRecDepth 8192
set_option maxHeartbeats 400000

noncomputable section

namespace Cert.KernelIdeal.Pair

open Idealize.ShloMosaic Cert.KernelIdeal.Gen
open Idealize.ShloMosaic.VecWindow (window put)

/-! ## The body -/

theorem done0 (P : Fin 32 → ℕ → Stp) (u : Fin 2) (S : Fin 32 → Fin 64 → Fin 64 → ℝ) (st : St Ideal) (h : Sh S st.2) : Done P u S 0 st :=
  ⟨fun p h' q i => (h p h' q i).trans (by dsimp only; rw [if_neg (Nat.not_lt_zero _)]), fun H q k hH => absurd hH (Nat.not_lt_zero _)⟩

theorem done16 (P : Fin 32 → ℕ → Stp) (u : Fin 2) (S : Fin 32 → Fin 64 → Fin 64 → ℝ) (st : St Ideal) (h : Done P u S 16 st) :
    Sh (fun H => stepsR (til P u H) (S H) 128) st.2 := fun p h' q i => by
  refine (h.1 p h' q i).trans ?_
  dsimp only
  rw [if_pos (by have := (hd p h').isLt; omega)]

/-- A grid point's body. -/
theorem bodySt_val (P : Fin 32 → ℕ → Stp) (x : Rd Ideal) (x12 : Vec Ideal S1x32x64x64 .f32) (i : grid0.Coords) (v : BitVec 32) (st : St Ideal)
    (S : Fin 32 → Fin 64 → Fin 64 → ℝ) (hv : 0 ≤ v.toInt) (hB : 256 * ((i 1).val : ℤ) < v.toInt → BlockIn P x)
    (hP : ∀ H k, k < 256 → (P H k).on = decide ((k : ℤ) < v.toInt - 256 * (i 1).val))
    (hS : Sh S (if cond1 i then pairs.foldl (initStep x12) st.2 else st.2)) :
    Sh (fun H => stepsR (P H) (S H) 256) (bodySt x x12 i v st).2
      ∧ ∀ (H : Fin 32) (q : Fin 64) (k : Fin 256), (bodySt x x12 i v st).1 (ix3 0 (hrow H q) k) = (((P H k.val).y (stepsR (P H) (S H) k.val) q : ℝ) : EReal) := by
  have hn := left_toInt i v hv
  have hz := bodySt_zero x x12 i v st
  have t0 : ∀ H, til P 0 H = P H := fun H => funext fun k => congrArg (P H) (by show 128 * 0 + k = k; omega)
  have h256 : ∀ H, stepsR (P H) (S H) 256 = stepsR (til P 1 H) (stepsR (P H) (S H) 128) 128 := fun H => run_add (P H) (S H) 128 128
  rw [← hn] at hP
  unfold bodySt at hz ⊢
  dsimp only at hz ⊢
  rw [ite_cond_congr (propext (cond2_iff i v)), ite_cond_congr (propext (cond3_iff i v)), ite_cond_congr (propext (cond4_iff i v)),
    ite_cond_congr (propext (cond5_iff i v))] at hz ⊢
  have hB : 0 < (left i v).toInt → BlockIn P x := fun h => hB (by rw [hn] at h; omega)
  have hz : ∀ (H : Fin 32) (q : Fin 64) (k : Fin 256), (left i v).toInt ≤ ((k.val : ℕ) : ℤ) → _ := fun H q k hk => hz (ix3 0 (hrow H q) k) hv (by
    show v.toInt ≤ 256 * ((i 1).val : ℤ) + ((k.val : ℕ) : ℤ)
    rw [hn] at hk; omega)
  clear hn
  generalize left i v = n at hB hP hz ⊢
  have ha : Sh S (if cond1 i then (st.1, pairs.foldl (initStep x12) st.2) else st : St Ideal).2 := by
    split
    · next hc => rw [if_pos hc] at hS; exact hS
    · next hc => rw [if_neg hc] at hS; exact hS
  generalize (if cond1 i then (st.1, pairs.foldl (initStep x12) st.2) else st : St Ideal) = a at ha hz ⊢
  have hoff : ∀ (H : Fin 32) (k : ℕ), k < 256 → n.toInt ≤ (k : ℤ) → (P H k).on = false := fun H k hk h => by
    rw [hP H k hk, decide_eq_false_iff_not]; omega
  have hyoff : ∀ (H : Fin 32) (k : Fin 256) (T : Fin 64 → Fin 64 → ℝ) (q : Fin 64), n.toInt ≤ ((k.val : ℕ) : ℤ) → (P H k.val).y T q = 0 := fun H k T q h => by
    unfold Stp.y; rw [hoff H k.val k.isLt h]; rfl
  by_cases c2 : (0#32).slt n = true
  · have p2 : 0 < n.toInt := by rw [BitVec.slt_iff_toInt_lt] at c2; exact c2
    have n3 : ¬ n.sle 0#32 = true := by
      rw [BitVec.sle_iff_toInt_le]; show ¬ n.toInt ≤ 0; omega
    rw [if_pos c2, if_neg n3] at hz ⊢
    have D1 := groups1_val (hB p2) n hP S a (done0 P 0 S a ha) 4 (le_refl _)
    rw [trips1] at hz ⊢
    have B1 := done16 P 0 S _ D1
    have Y1 := D1.2
    simp only [t0] at B1 Y1
    generalize groups1 x n a 4 = b at B1 Y1 hz ⊢
    have lo : ∀ (H : Fin 32) (q : Fin 64) (k : Fin 256), k.val < 128 → b.1 (ix3 0 (hrow H q) k) = (((P H k.val).y (stepsR (P H) (S H) k.val) q : ℝ) : EReal) := by
      intro H q k hk
      have := Y1 H q ⟨k.val, hk⟩ (by omega)
      refine Eq.trans ?_ this
      exact congrArg b.1 (congrArg (ix3 0 (hrow H q)) (Fin.ext (by show k.val = 128 * 0 + k.val; omega)))
    by_cases c4 : (128#32).slt n = true
    · have p4 : 128 < n.toInt := by rw [BitVec.slt_iff_toInt_lt] at c4; exact c4
      have n5 : ¬ n.sle 128#32 = true := by
        rw [BitVec.sle_iff_toInt_le]; show ¬ n.toInt ≤ 128; omega
      rw [if_pos c4, if_neg n5]
      have D2 := groups2_val (hB p2) n hP (fun H => stepsR (P H) (S H) 128) b (done0 P 1 _ b B1) 4 (le_refl _)
      have O2 := groups2_out x n b
      refine ⟨?_, fun H q k => ?_⟩
      · have := done16 P 1 _ _ D2
        intro p h' q i
        exact (this p h' q i).trans (congrArg (fun z : Fin 64 → Fin 64 → ℝ => ((z q i : ℝ) : EReal)) (h256 (hd p h')).symm)
      · by_cases hk : k.val < 128
        · rw [O2 _ (by exact hk) 4]; exact lo H q k hk
        · have := D2.2 H q ⟨k.val - 128, by omega⟩ (by omega)
          have ek : tln 1 ⟨k.val - 128, by omega⟩ = k := Fin.ext (by show 128 * 1 + (k.val - 128) = k.val; omega)
          rw [ek] at this
          rw [this]
          have e2 : 128 + (k.val - 128) = k.val := by omega
          have e1 : til P 1 H (k.val - 128) = P H k.val := congrArg (P H) e2
          have e3 : stepsR (P H) (S H) k.val = stepsR (til P 1 H) (stepsR (P H) (S H) 128) (k.val - 128) := by
            rw [← e2]
            refine (run_add (P H) (S H) 128 (k.val - 128)).trans ?_
            rw [e2]; rfl
          dsimp only
          rw [e1, e3]
    · have p4 : n.toInt ≤ 128 := by
        rw [BitVec.slt_iff_toInt_lt] at c4
        exact not_lt.mp c4
      have n5 : n.sle 128#32 = true := by rw [BitVec.sle_iff_toInt_le]; exact p4
      rw [if_neg c4, if_pos n5] at hz ⊢
      refine ⟨?_, fun H q k => ?_⟩
      · intro p h' q i
        refine (B1 p h' q i).trans (congrArg (fun z : Fin 64 → Fin 64 → ℝ => ((z q i : ℝ) : EReal)) (show stepsR (P (hd p h')) (S (hd p h')) 128 = stepsR (P (hd p h')) (S (hd p h')) 256 from ?_))
        rw [h256, run_off (til P 1 (hd p h')) _ 128 fun k hk => hoff _ _ (by show 128 * 1 + k < 256; omega) (by show n.toInt ≤ ((128 * 1 + k : ℕ) : ℤ); omega)]
      · by_cases hk : k.val < 128
        · rw [zero2_out _ _ (by exact hk)]; exact lo H q k hk
        · rw [hz H q k (by omega), hyoff H k _ q (by omega)]; rfl
  · have p2 : n.toInt ≤ 0 := by
      rw [BitVec.slt_iff_toInt_lt] at c2
      exact not_lt.mp c2
    have n4 : ¬ (128#32).slt n = true := by
      rw [BitVec.slt_iff_toInt_lt]; show ¬ (128 : ℤ) < n.toInt; omega
    have n3 : n.sle 0#32 = true := by rw [BitVec.sle_iff_toInt_le]; exact p2
    have n5 : n.sle 128#32 = true := by rw [BitVec.sle_iff_toInt_le]; show n.toInt ≤ 128; omega
    refine ⟨?_, fun H q k => ?_⟩
    · rw [if_neg c2, if_pos n3, if_neg n4, if_pos n5]
      intro p h' q i
      refine (ha p h' q i).trans (congrArg (fun z : Fin 64 → Fin 64 → ℝ => ((z q i : ℝ) : EReal)) (show S (hd p h') = stepsR (P (hd p h')) (S (hd p h')) 256 from ?_))
      rw [run_off (P (hd p h')) _ 256 fun k hk => hoff _ _ hk (by omega)]
    · rw [hz H q k (by omega), hyoff H k _ q (by omega)]; rfl

/-! ## The states' way in and out -/

theorem besides_at (x y : Vec Ideal S1x1x64x64 .f32) (h : Fin 2) (q i : Fin 64) :
    besides x y (ix3 0 q (ln h i)) = if h = 0 then x (ix4 0 0 q i) else y (ix4 0 0 q i) := by
  have hh : h = 0 ∨ h = 1 := by omega
  unfold besides
  pointwise []
  rcases hh with rfl | rfl
  · have h0 : (ln 0 i).val < 64 := by show 64 * 0 + i.val < 64; omega
    refine Eq.trans ?_ (if_pos rfl).symm
    exact (dif_pos h0).trans (congrArg x (congrArg (ix4 0 0 q) (Fin.ext (by show 64 * 0 + i.val = i.val; omega))))
  · have h0 : ¬ (ln 1 i).val < 64 := by show ¬ 64 * 1 + i.val < 64; omega
    refine Eq.trans ?_ (if_neg h10).symm
    exact (dif_neg h0).trans (congrArg y (congrArg (ix4 0 0 q) (Fin.ext (by show 64 * 1 + i.val - 64 = i.val; omega))))

/-- The block of initial states and the real states. -/
def Blk (S : Fin 32 → Fin 64 → Fin 64 → ℝ) (x12 : Vec Ideal S1x32x64x64 .f32) : Prop :=
  ∀ (H : Fin 32) (q i : Fin 64), x12 (ix4 0 H q i) = ((S H q i : ℝ) : EReal)

theorem pairs_mem : ∀ h ∈ pairs, h.1 = hd h.2.2 0 ∧ h.2.1 = hd h.2.2 1 := by decide +kernel
theorem mem_pairs : ∀ p : Fin 16, (hd p 0, hd p 1, p) ∈ pairs := by decide +kernel

theorem head_at (x12 : Vec Ideal S1x32x64x64 .f32) (H : Fin 32) (q i : Fin 64) :
    window x12 ![0, H.val, 0, 0] S1x1x64x64.size (offHead_inb H) (ix4 0 0 q i : S1x1x64x64.Idx) = x12 (ix4 0 H q i) := by
  refine congrArg x12 (funext fun a => Fin.ext ?_)
  match a with
  | 0 => rfl
  | 1 => show H.val + 1 * 0 = H.val; omega
  | 2 => show 0 + 1 * q.val = q.val; omega
  | 3 => show 0 + 1 * i.val = i.val; omega

theorem pair_at (s : Vec Ideal S16x64x128 .f32) (p : Fin 16) (q : Fin 64) (l : Fin 128) :
    window s ![p.val, 0, 0] S1x64x128.size (offPair_inb p) (ix3 0 q l : S1x64x128.Idx) = s (ix3 p q l) := by
  refine congrArg s (funext fun a => Fin.ext ?_)
  match a with
  | 0 => show p.val + 1 * 0 = p.val; omega
  | 1 => show 0 + 1 * q.val = q.val; omega
  | 2 => show 0 + 1 * l.val = l.val; omega

theorem sh_of_holds (S : Fin 32 → Fin 64 → Fin 64 → ℝ) (x12 : Vec Ideal S1x32x64x64 .f32) (hx : Blk S x12) (s : Vec Ideal S16x64x128 .f32) (hs : Holds x12 s) : Sh S s := by
  intro p h q i
  have e := congrFun (hs (hd p 0, hd p 1, p) (mem_pairs p)) (ix3 0 q (ln h i) : S1x64x128.Idx)
  dsimp only at e
  rw [pair_at, besides_at, head_at, head_at] at e
  rw [e]
  have hh : h = 0 ∨ h = 1 := by omega
  rcases hh with rfl | rfl
  · rw [if_pos rfl]; exact hx _ _ _
  · rw [if_neg h10]; exact hx _ _ _

theorem holds_of_sh (S : Fin 32 → Fin 64 → Fin 64 → ℝ) (x12 : Vec Ideal S1x32x64x64 .f32) (hx : Blk S x12) (s : Vec Ideal S16x64x128 .f32) (hs : Sh S s) : Holds x12 s := by
  intro h hh
  obtain ⟨a, b, p⟩ := h
  obtain ⟨h1, h2⟩ := pairs_mem _ hh
  dsimp only at h1 h2 ⊢
  subst h1 h2
  funext y
  obtain ⟨q, h, i, rfl⟩ : ∃ (q : Fin 64) (h : Fin 2) (i : Fin 64), y = (ix3 0 q (ln h i) : S1x64x128.Idx) := by
    have y2 : (y 2).val < 128 := (y 2).isLt
    refine ⟨y 1, ⟨(y 2).val / 64, by omega⟩, ⟨(y 2).val % 64, by omega⟩, funext fun a => ?_⟩
    match a with
    | 0 => exact Subsingleton.elim (α := Fin 1) _ _
    | 1 => rfl
    | 2 => exact Fin.ext (by show (y 2).val = 64 * ((y 2).val / 64) + (y 2).val % 64; omega)
  rw [pair_at, besides_at, head_at, head_at, hs p h q i]
  have hh : h = 0 ∨ h = 1 := by omega
  rcases hh with rfl | rfl
  · rw [if_pos rfl]; exact (hx _ _ _).symm
  · rw [if_neg h10]; exact (hx _ _ _).symm

end Cert.KernelIdeal.Pair

end
-- ==== Proof.Value.lean ====
/- The launch once more, with the values of its outputs: between the grid's points the scratch holds the states of the
   recurrence over the reals, and every point's outputs are the recurrence's. -/
module

public import proofs.«01_k».proof.Proof.HostVal
public import proofs.«01_k».proof.Proof.GridEnd
public import Idealize.ShloMosaic.Lib.Pipeline.FrameBody
public import Idealize.ShloMosaic.Lib.Pipeline.ArrRel
public import Idealize.ShloMosaic.Lib.Pipeline.ValueKit

@[expose] public section

set_option maxRecDepth 8192
set_option maxHeartbeats 400000

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

/-- The resource algebra. -/
local notation "𝕄G" => MT nD τ sig Unit (Elt Ideal) ℕ (UR sig nD τ) ℕ

/-! ## The grid's points -/

theorem coords0 : ∀ t : Fin grid0.N, (grid0.coords t 0).val = t.val / 16 := by decide +kernel
theorem coords1 : ∀ t : Fin grid0.N, (grid0.coords t 1).val = t.val % 16 := by decide +kernel

theorem cond1_val : ∀ k : Fin 16, Scalar.cmpi .ne (Scalar.extui (Scalar.cmpi .eq (BitVec.ofNat 32 k.val) 0#32)) (0#32) = 1#1 ↔ k.val = 0 := by decide +kernel
theorem cond6_val : ∀ k : Fin 16, Scalar.cmpi .ne (Scalar.extui (Scalar.cmpi .eq (BitVec.ofNat 32 k.val) 15#32)) (0#32) = 1#1 ↔ k.val = 15 := by decide +kernel
theorem cond1_iff (i : grid0.Coords) : cond1 i ↔ (i 1).val = 0 := cond1_val (i 1)
theorem cond6_iff (i : grid0.Coords) : k0_cond6 i = 1#1 ↔ (i 1).val = 15 := cond6_val (i 1)

/-! ## What a point finds and leaves -/

variable (m : (ℓ : Loc nD τ sig) → Buf (Elt Ideal) ℓ)

/-- The length that a point reads. -/
def lenW (t : Fin grid0.N) : BitVec 32 := wordAt (F := Ideal) (Memref.whole main_arg10) (table m 0) (grid0.coords t)

theorem lenW_eq (t : Fin grid0.N) : lenW m t = (table m 0 : main_arg10.ty.Contents (Elt Ideal)) (ix1 (grid0.coords t 0)) := by
  unfold lenW wordAt
  refine congrArg (table m 0 : main_arg10.ty.Contents (Elt Ideal)) (funext fun a => Fin.ext ?_)
  match a with
  | 0 =>
    show (BitVec.ofNat 32 (grid0.coords t 0).val).toNat + 1 * 0 = (grid0.coords t 0).val
    have : (grid0.coords t 0).val < 6 := (grid0.coords t 0).isLt
    rw [BitVec.toNat_ofNat]; omega

/-- The initial states of a point's sequence. -/
def states (c : Dev nD) (t : Fin grid0.N) : Vec Ideal S1x32x64x64 .f32 :=
  fun y => (V0 m c (Proc.devRef .tc main_arg9) : main_arg9.ty.Contents (Elt Ideal)) (ix4 (grid0.coords t 0) (y 1) (y 2) (y 3))

variable (D : Dat)

/-- What a point leaves in its blocks: the inputs as they were, its 256 steps' outputs, and at the last point of a sequence
    the final states. -/
def leaves (w : Fin 12) (t : Fin grid0.N) (Y X : (spec0 w).block.Idx → Elt Ideal (spec0 w).elt) : Prop :=
  match w, Y, X with
  | 10, _, X => ∀ (H : Fin 32) (q : Fin 64) (k : Fin 256), (X : S1x2048x256.Idx → EReal) (ix3 0 (hrow H q) k) = ((D.out (grid0.coords t 0) H (256 * (grid0.coords t 1).val + k.val) q : ℝ) : EReal)
  | 11, _, X => (grid0.coords t 1).val = 15 → ∀ (H : Fin 32) (q i : Fin 64), (X : S1x32x64x64.Idx → EReal) (ix4 0 H q i) = ((D.st (grid0.coords t 0) H 4096 q i : ℝ) : EReal)
  | _, Y, X => X = Y

/-- Between points the scratch holds the states. -/
def Inv (n : ℕ) (g : Vec Ideal S16x64x128 .f32) : Prop :=
  ∀ t : Fin grid0.N, t.val + 1 = n → Sh (fun H => D.st (grid0.coords t 0) H (256 * ((grid0.coords t 1).val + 1))) g

def rdatV (c : Dev nD) : Pipeline.RDat τ (Elt Ideal) Unit ℕ (UR sig nD τ) ℕ (Pipeline.pin (pcfgs (F := Ideal)) (adm m) 0) c where
  A w := V0 m c (Proc.devRef .tc (Pipeline.arrRef spec0 w))
  after w t Y X := leaves D w t Y X
  Φ n := iprop((∃ g, ⌜Inv D n.val g⌝ ∗ (((c : Thread nD τ).loc cc0_scratch0) ↦{fullShare} g)) ∗ (∃ r, prngReg c r) ∗ Pipeline.ΦT pre0 (table m) c)
  q _ := fullShare
  owed _ := 0

/-- A point finds its sequence's initial states staged. -/
theorem finds_states (c : Dev nD) (t : Fin grid0.N) (Y : S1x32x64x64.Idx → Elt Ideal .f32) (h : (rdatV m D c).Finds 9 t Y) : Y = states m c t := by
  obtain ⟨d, hd⟩ := (rdatV m D c).finds_in_eq_fetched 9 rfl (fun _ _ _ => rfl) (fun _ _ _ h => h) t Y h
  refine hd.trans (funext fun (y : S1x32x64x64.Idx) => ?_)
  have h6 : (grid0.coords t 0).val < 6 := (grid0.coords t 0).isLt
  have y0 : (y 0).val < 1 := (y 0).isLt
  refine congrArg (V0 m c (Proc.devRef .tc main_arg9) : main_arg9.ty.Contents (Elt Ideal)) (funext fun (a : Fin 4) => Fin.ext ?_)
  match a with
  | 0 => show (BitVec.ofNat 32 (grid0.coords t 0).val).toNat * 1 + 1 * (y 0).val = (grid0.coords t 0).val; rw [BitVec.toNat_ofNat]; omega
  | 1 => show 0 * 32 + 1 * (y 1).val = (y 1).val; omega
  | 2 => show 0 * 64 + 1 * (y 2).val = (y 2).val; omega
  | 3 => show 0 * 64 + 1 * (y 3).val = (y 3).val; omega

theorem b6 (t : Fin grid0.N) : (BitVec.ofNat 32 (grid0.coords t 0).val).toNat = (grid0.coords t 0).val := by
  have h6 : (grid0.coords t 0).val < 6 := (grid0.coords t 0).isLt
  rw [BitVec.toNat_ofNat]; omega

theorem third_t (t : Fin grid0.N) (h : 256 * ((grid0.coords t 1).val : ℤ) < (lenW m t).toInt) :
    (Scalar.minsi (BitVec.ofNat 32 (grid0.coords t 1).val) (lastBlock (tblWord (table m) (grid0.coords t)))).toNat = (grid0.coords t 1).val :=
  third_eq _ _ (grid0.coords t 1).isLt (by rw [tblWord_eq, ← lenW_eq]; exact h)

theorem finds0 (t : Fin grid0.N) (Y : S1x2048x256.Idx → Elt Ideal .fp8e4m3) (h : (rdatV m D 0).Finds 0 t Y) (hl : 256 * ((grid0.coords t 1).val : ℤ) < (lenW m t).toInt)
    (A : In m D) (H : Fin 32) (i : Fin 64) (k : Fin 256) : Y (ix3 0 (hrow H i) k) = ((D.r (ix4 (grid0.coords t 0) (tm (256 * (grid0.coords t 1).val + k.val)) H i) : ℝ) : EReal) := by
  obtain ⟨d, hd⟩ := (rdatV m D 0).finds_in_eq_fetched 0 rfl (fun _ _ _ => rfl) (fun _ _ _ h => h) t Y h
  have e0 := b6 t
  have e1 := third_t m t hl
  have h1 : (grid0.coords t 1).val < 16 := (grid0.coords t 1).isLt
  refine (congrFun hd (ix3 0 (hrow H i) k : S1x2048x256.Idx)).trans (Eq.trans (congrArg (V0 m 0 (Proc.devRef .tc main_v4) : main_v4.ty.Contents (Elt Ideal))
    (show _ = (ix3 (grid0.coords t 0) (hrow H i) (tm (256 * (grid0.coords t 1).val + k.val)) : S6x2048x4096.Idx) from funext fun (a : Fin 3) => Fin.ext ?_)) ?_)
  · match a with
    | 0 => show (BitVec.ofNat 32 (grid0.coords t 0).val).toNat * 1 + 1 * 0 = (grid0.coords t 0).val; omega
    | 1 => show 0 * 2048 + 1 * (hrow H i).val = (hrow H i).val; omega
    | 2 =>
      show (Scalar.minsi (BitVec.ofNat 32 (grid0.coords t 1).val) (lastBlock (tblWord (table m) (grid0.coords t)))).toNat * 256 + 1 * k.val = (256 * (grid0.coords t 1).val + k.val) % 4096
      rw [e1]; omega
  · exact (congrFun (host0 m) _).trans ((wide_at _ (grid0.coords t 0) (hrow H i) H i rfl _).trans (A.r _))

theorem finds1 (t : Fin grid0.N) (Y : S1x2048x256.Idx → Elt Ideal .fp8e4m3) (h : (rdatV m D 0).Finds 1 t Y) (hl : 256 * ((grid0.coords t 1).val : ℤ) < (lenW m t).toInt)
    (A : In m D) (H : Fin 32) (i : Fin 64) (k : Fin 256) : Y (ix3 0 (hrow H i) k) = ((D.k (ix4 (grid0.coords t 0) (tm (256 * (grid0.coords t 1).val + k.val)) H i) : ℝ) : EReal) := by
  obtain ⟨d, hd⟩ := (rdatV m D 0).finds_in_eq_fetched 1 rfl (fun _ _ _ => rfl) (fun _ _ _ h => h) t Y h
  have e0 := b6 t
  have e1 := third_t m t hl
  have h1 : (grid0.coords t 1).val < 16 := (grid0.coords t 1).isLt
  refine (congrFun hd (ix3 0 (hrow H i) k : S1x2048x256.Idx)).trans (Eq.trans (congrArg (V0 m 0 (Proc.devRef .tc main_v6) : main_v6.ty.Contents (Elt Ideal))
    (show _ = (ix3 (grid0.coords t 0) (hrow H i) (tm (256 * (grid0.coords t 1).val + k.val)) : S6x2048x4096.Idx) from funext fun (a : Fin 3) => Fin.ext ?_)) ?_)
  · match a with
    | 0 => show (BitVec.ofNat 32 (grid0.coords t 0).val).toNat * 1 + 1 * 0 = (grid0.coords t 0).val; omega
    | 1 => show 0 * 2048 + 1 * (hrow H i).val = (hrow H i).val; omega
    | 2 =>
      show (Scalar.minsi (BitVec.ofNat 32 (grid0.coords t 1).val) (lastBlock (tblWord (table m) (grid0.coords t)))).toNat * 256 + 1 * k.val = (256 * (grid0.coords t 1).val + k.val) % 4096
      rw [e1]; omega
  · exact (congrFun (host1 m) _).trans ((wide_at _ (grid0.coords t 0) (hrow H i) H i rfl _).trans (A.k _))

theorem finds2 (t : Fin grid0.N) (Y : S1x2048x256.Idx → Elt Ideal .fp8e4m3) (h : (rdatV m D 0).Finds 2 t Y) (hl : 256 * ((grid0.coords t 1).val : ℤ) < (lenW m t).toInt)
    (A : In m D) (H : Fin 32) (i : Fin 64) (k : Fin 256) : Y (ix3 0 (hrow H i) k) = ((D.v (ix4 (grid0.coords t 0) (tm (256 * (grid0.coords t 1).val + k.val)) H i) : ℝ) : EReal) := by
  obtain ⟨d, hd⟩ := (rdatV m D 0).finds_in_eq_fetched 2 rfl (fun _ _ _ => rfl) (fun _ _ _ h => h) t Y h
  have e0 := b6 t
  have e1 := third_t m t hl
  have h1 : (grid0.coords t 1).val < 16 := (grid0.coords t 1).isLt
  refine (congrFun hd (ix3 0 (hrow H i) k : S1x2048x256.Idx)).trans (Eq.trans (congrArg (V0 m 0 (Proc.devRef .tc main_v8) : main_v8.ty.Contents (Elt Ideal))
    (show _ = (ix3 (grid0.coords t 0) (hrow H i) (tm (256 * (grid0.coords t 1).val + k.val)) : S6x2048x4096.Idx) from funext fun (a : Fin 3) => Fin.ext ?_)) ?_)
  · match a with
    | 0 => show (BitVec.ofNat 32 (grid0.coords t 0).val).toNat * 1 + 1 * 0 = (grid0.coords t 0).val; omega
    | 1 => show 0 * 2048 + 1 * (hrow H i).val = (hrow H i).val; omega
    | 2 =>
      show (Scalar.minsi (BitVec.ofNat 32 (grid0.coords t 1).val) (lastBlock (tblWord (table m) (grid0.coords t)))).toNat * 256 + 1 * k.val = (256 * (grid0.coords t 1).val + k.val) % 4096
      rw [e1]; omega
  · exact (congrFun (host2 m) _).trans ((wide_at _ (grid0.coords t 0) (hrow H i) H i rfl _).trans (A.v _))

theorem finds3 (t : Fin grid0.N) (Y : S1x4x8x256.Idx → Elt Ideal .f32) (h : (rdatV m D 0).Finds 3 t Y) (hl : 256 * ((grid0.coords t 1).val : ℤ) < (lenW m t).toInt)
    (A : In m D) (H : Fin 32) (k : Fin 256) : Y (hsc H k) = ((D.rs (ix3 (grid0.coords t 0) (tm (256 * (grid0.coords t 1).val + k.val)) H) : ℝ) : EReal) := by
  obtain ⟨d, hd⟩ := (rdatV m D 0).finds_in_eq_fetched 3 rfl (fun _ _ _ => rfl) (fun _ _ _ h => h) t Y h
  have e0 := b6 t
  have e1 := third_t m t hl
  have h1 : (grid0.coords t 1).val < 16 := (grid0.coords t 1).isLt
  refine (congrFun hd (hsc H k)).trans (Eq.trans (congrArg (V0 m 0 (Proc.devRef .tc main_v10) : main_v10.ty.Contents (Elt Ideal))
    (show _ = (ix4 (grid0.coords t 0) ⟨H.val / 8, by omega⟩ ⟨H.val % 8, by omega⟩ (tm (256 * (grid0.coords t 1).val + k.val)) : S6x4x8x4096.Idx) from funext fun (a : Fin 4) => Fin.ext ?_)) ?_)
  · match a with
    | 0 => show (BitVec.ofNat 32 (grid0.coords t 0).val).toNat * 1 + 1 * 0 = (grid0.coords t 0).val; omega
    | 1 => show 0 * 4 + 1 * (H.val / 8) = H.val / 8; omega
    | 2 => show 0 * 8 + 1 * (H.val % 8) = H.val % 8; omega
    | 3 =>
      show (Scalar.minsi (BitVec.ofNat 32 (grid0.coords t 1).val) (lastBlock (tblWord (table m) (grid0.coords t)))).toNat * 256 + 1 * k.val = (256 * (grid0.coords t 1).val + k.val) % 4096
      rw [e1]; omega
  · exact (congrFun (host3 m) _).trans ((scale_at _ (grid0.coords t 0) H _ _ (by show H.val = 8 * (H.val / 8) + H.val % 8; omega) _).trans (A.rs _))

theorem finds4 (t : Fin grid0.N) (Y : S1x4x8x256.Idx → Elt Ideal .f32) (h : (rdatV m D 0).Finds 4 t Y) (hl : 256 * ((grid0.coords t 1).val : ℤ) < (lenW m t).toInt)
    (A : In m D) (H : Fin 32) (k : Fin 256) : Y (hsc H k) = ((D.ks (ix3 (grid0.coords t 0) (tm (256 * (grid0.coords t 1).val + k.val)) H) : ℝ) : EReal) := by
  obtain ⟨d, hd⟩ := (rdatV m D 0).finds_in_eq_fetched 4 rfl (fun _ _ _ => rfl) (fun _ _ _ h => h) t Y h
  have e0 := b6 t
  have e1 := third_t m t hl
  have h1 : (grid0.coords t 1).val < 16 := (grid0.coords t 1).isLt
  refine (congrFun hd (hsc H k)).trans (Eq.trans (congrArg (V0 m 0 (Proc.devRef .tc main_v12) : main_v12.ty.Contents (Elt Ideal))
    (show _ = (ix4 (grid0.coords t 0) ⟨H.val / 8, by omega⟩ ⟨H.val % 8, by omega⟩ (tm (256 * (grid0.coords t 1).val + k.val)) : S6x4x8x4096.Idx) from funext fun (a : Fin 4) => Fin.ext ?_)) ?_)
  · match a with
    | 0 => show (BitVec.ofNat 32 (grid0.coords t 0).val).toNat * 1 + 1 * 0 = (grid0.coords t 0).val; omega
    | 1 => show 0 * 4 + 1 * (H.val / 8) = H.val / 8; omega
    | 2 => show 0 * 8 + 1 * (H.val % 8) = H.val % 8; omega
    | 3 =>
      show (Scalar.minsi (BitVec.ofNat 32 (grid0.coords t 1).val) (lastBlock (tblWord (table m) (grid0.coords t)))).toNat * 256 + 1 * k.val = (256 * (grid0.coords t 1).val + k.val) % 4096
      rw [e1]; omega
  · exact (congrFun (host4 m) _).trans ((scale_at _ (grid0.coords t 0) H _ _ (by show H.val = 8 * (H.val / 8) + H.val % 8; omega) _).trans (A.ks _))

theorem finds5 (t : Fin grid0.N) (Y : S1x4x8x256.Idx → Elt Ideal .f32) (h : (rdatV m D 0).Finds 5 t Y) (hl : 256 * ((grid0.coords t 1).val : ℤ) < (lenW m t).toInt)
    (A : In m D) (H : Fin 32) (k : Fin 256) : Y (hsc H k) = ((D.vs (ix3 (grid0.coords t 0) (tm (256 * (grid0.coords t 1).val + k.val)) H) : ℝ) : EReal) := by
  obtain ⟨d, hd⟩ := (rdatV m D 0).finds_in_eq_fetched 5 rfl (fun _ _ _ => rfl) (fun _ _ _ h => h) t Y h
  have e0 := b6 t
  have e1 := third_t m t hl
  have h1 : (grid0.coords t 1).val < 16 := (grid0.coords t 1).isLt
  refine (congrFun hd (hsc H k)).trans (Eq.trans (congrArg (V0 m 0 (Proc.devRef .tc main_v14) : main_v14.ty.Contents (Elt Ideal))
    (show _ = (ix4 (grid0.coords t 0) ⟨H.val / 8, by omega⟩ ⟨H.val % 8, by omega⟩ (tm (256 * (grid0.coords t 1).val + k.val)) : S6x4x8x4096.Idx) from funext fun (a : Fin 4) => Fin.ext ?_)) ?_)
  · match a with
    | 0 => show (BitVec.ofNat 32 (grid0.coords t 0).val).toNat * 1 + 1 * 0 = (grid0.coords t 0).val; omega
    | 1 => show 0 * 4 + 1 * (H.val / 8) = H.val / 8; omega
    | 2 => show 0 * 8 + 1 * (H.val % 8) = H.val % 8; omega
    | 3 =>
      show (Scalar.minsi (BitVec.ofNat 32 (grid0.coords t 1).val) (lastBlock (tblWord (table m) (grid0.coords t)))).toNat * 256 + 1 * k.val = (256 * (grid0.coords t 1).val + k.val) % 4096
      rw [e1]; omega
  · exact (congrFun (host5 m) _).trans ((scale_at _ (grid0.coords t 0) H _ _ (by show H.val = 8 * (H.val / 8) + H.val % 8; omega) _).trans (A.vs _))

theorem finds6 (t : Fin grid0.N) (Y : S1x2048x256.Idx → Elt Ideal .bf16) (h : (rdatV m D 0).Finds 6 t Y) (hl : 256 * ((grid0.coords t 1).val : ℤ) < (lenW m t).toInt)
    (A : In m D) (H : Fin 32) (i : Fin 64) (k : Fin 256) : Y (ix3 0 (hrow H i) k) = ((D.w (ix4 (grid0.coords t 0) (tm (256 * (grid0.coords t 1).val + k.val)) H i) : ℝ) : EReal) := by
  obtain ⟨d, hd⟩ := (rdatV m D 0).finds_in_eq_fetched 6 rfl (fun _ _ _ => rfl) (fun _ _ _ h => h) t Y h
  have e0 := b6 t
  have e1 := third_t m t hl
  have h1 : (grid0.coords t 1).val < 16 := (grid0.coords t 1).isLt
  refine (congrFun hd (ix3 0 (hrow H i) k : S1x2048x256.Idx)).trans (Eq.trans (congrArg (V0 m 0 (Proc.devRef .tc main_v16) : main_v16.ty.Contents (Elt Ideal))
    (show _ = (ix3 (grid0.coords t 0) (hrow H i) (tm (256 * (grid0.coords t 1).val + k.val)) : S6x2048x4096.Idx) from funext fun (a : Fin 3) => Fin.ext ?_)) ?_)
  · match a with
    | 0 => show (BitVec.ofNat 32 (grid0.coords t 0).val).toNat * 1 + 1 * 0 = (grid0.coords t 0).val; omega
    | 1 => show 0 * 2048 + 1 * (hrow H i).val = (hrow H i).val; omega
    | 2 =>
      show (Scalar.minsi (BitVec.ofNat 32 (grid0.coords t 1).val) (lastBlock (tblWord (table m) (grid0.coords t)))).toNat * 256 + 1 * k.val = (256 * (grid0.coords t 1).val + k.val) % 4096
      rw [e1]; omega
  · exact (congrFun (host6 m) _).trans ((wide_at _ (grid0.coords t 0) (hrow H i) H i rfl _).trans (A.w _))

theorem finds7 (t : Fin grid0.N) (Y : S1x2048x256.Idx → Elt Ideal .bf16) (h : (rdatV m D 0).Finds 7 t Y) (hl : 256 * ((grid0.coords t 1).val : ℤ) < (lenW m t).toInt)
    (A : In m D) (H : Fin 32) (i : Fin 64) (k : Fin 256) : Y (ix3 0 (hrow H i) k) = ((D.kk (ix4 (grid0.coords t 0) (tm (256 * (grid0.coords t 1).val + k.val)) H i) : ℝ) : EReal) := by
  obtain ⟨d, hd⟩ := (rdatV m D 0).finds_in_eq_fetched 7 rfl (fun _ _ _ => rfl) (fun _ _ _ h => h) t Y h
  have e0 := b6 t
  have e1 := third_t m t hl
  have h1 : (grid0.coords t 1).val < 16 := (grid0.coords t 1).isLt
  refine (congrFun hd (ix3 0 (hrow H i) k : S1x2048x256.Idx)).trans (Eq.trans (congrArg (V0 m 0 (Proc.devRef .tc main_v18) : main_v18.ty.Contents (Elt Ideal))
    (show _ = (ix3 (grid0.coords t 0) (hrow H i) (tm (256 * (grid0.coords t 1).val + k.val)) : S6x2048x4096.Idx) from funext fun (a : Fin 3) => Fin.ext ?_)) ?_)
  · match a with
    | 0 => show (BitVec.ofNat 32 (grid0.coords t 0).val).toNat * 1 + 1 * 0 = (grid0.coords t 0).val; omega
    | 1 => show 0 * 2048 + 1 * (hrow H i).val = (hrow H i).val; omega
    | 2 =>
      show (Scalar.minsi (BitVec.ofNat 32 (grid0.coords t 1).val) (lastBlock (tblWord (table m) (grid0.coords t)))).toNat * 256 + 1 * k.val = (256 * (grid0.coords t 1).val + k.val) % 4096
      rw [e1]; omega
  · exact (congrFun (host7 m) _).trans ((wide_at _ (grid0.coords t 0) (hrow H i) H i rfl _).trans (A.kk _))

theorem finds8 (t : Fin grid0.N) (Y : S1x2048x256.Idx → Elt Ideal .bf16) (h : (rdatV m D 0).Finds 8 t Y) (hl : 256 * ((grid0.coords t 1).val : ℤ) < (lenW m t).toInt)
    (A : In m D) (H : Fin 32) (i : Fin 64) (k : Fin 256) : Y (ix3 0 (hrow H i) k) = ((D.ic (ix4 (grid0.coords t 0) (tm (256 * (grid0.coords t 1).val + k.val)) H i) : ℝ) : EReal) := by
  obtain ⟨d, hd⟩ := (rdatV m D 0).finds_in_eq_fetched 8 rfl (fun _ _ _ => rfl) (fun _ _ _ h => h) t Y h
  have e0 := b6 t
  have e1 := third_t m t hl
  have h1 : (grid0.coords t 1).val < 16 := (grid0.coords t 1).isLt
  refine (congrFun hd (ix3 0 (hrow H i) k : S1x2048x256.Idx)).trans (Eq.trans (congrArg (V0 m 0 (Proc.devRef .tc main_v20) : main_v20.ty.Contents (Elt Ideal))
    (show _ = (ix3 (grid0.coords t 0) (hrow H i) (tm (256 * (grid0.coords t 1).val + k.val)) : S6x2048x4096.Idx) from funext fun (a : Fin 3) => Fin.ext ?_)) ?_)
  · match a with
    | 0 => show (BitVec.ofNat 32 (grid0.coords t 0).val).toNat * 1 + 1 * 0 = (grid0.coords t 0).val; omega
    | 1 => show 0 * 2048 + 1 * (hrow H i).val = (hrow H i).val; omega
    | 2 =>
      show (Scalar.minsi (BitVec.ofNat 32 (grid0.coords t 1).val) (lastBlock (tblWord (table m) (grid0.coords t)))).toNat * 256 + 1 * k.val = (256 * (grid0.coords t 1).val + k.val) % 4096
      rw [e1]; omega
  · exact (congrFun (host8 m) _).trans ((wide_at _ (grid0.coords t 0) (hrow H i) H i rfl _).trans (A.ic _))

/-- What every point finds of its inputs. -/
def Fnd (t : Fin grid0.N) (Y : (w : Fin 12) → (spec0 w).block.Idx → Elt Ideal (spec0 w).elt) : Prop := ∀ w, (rdatV m D 0).Finds w t (Y w)

theorem lenW_len (A : In m D) (t : Fin grid0.N) : (lenW m t).toInt = D.len (grid0.coords t 0) := by
  rw [lenW_eq]
  exact A.len _

theorem blockIn (A : In m D) (t : Fin grid0.N) (Y : (w : Fin 12) → (spec0 w).block.Idx → Elt Ideal (spec0 w).elt) (h : Fnd m D t Y)
    (hl : 256 * ((grid0.coords t 1).val : ℤ) < (lenW m t).toInt) :
    BlockIn (fun H k => D.stp (grid0.coords t 0) H (256 * (grid0.coords t 1).val + k)) (rdOf Y) where
  w H i k := ⟨_, finds6 m D t (Y 6) (h 6) hl A H i k, rfl⟩
  kk H i k := finds7 m D t (Y 7) (h 7) hl A H i k
  ic H i k := finds8 m D t (Y 8) (h 8) hl A H i k
  r H i k := finds0 m D t (Y 0) (h 0) hl A H i k
  k H i k := finds1 m D t (Y 1) (h 1) hl A H i k
  v H i k := ⟨_, _, _, finds2 m D t (Y 2) (h 2) hl A H i k, finds4 m D t (Y 4) (h 4) hl A H k, finds5 m D t (Y 5) (h 5) hl A H k, rfl⟩
  rs H k := finds3 m D t (Y 3) (h 3) hl A H k

theorem blk_states (A : In m D) (t : Fin grid0.N) : Blk (fun H q i => D.s (ix4 (grid0.coords t 0) H q i)) (states m 0 t) := fun H q i => by
  unfold states
  rw [V0_arg m 0 main_arg9 (by decide)]
  exact A.s _

/-- A point's work. -/
theorem point_val (A : In m D) (t : Fin grid0.N) (Y : (w : Fin 12) → (spec0 w).block.Idx → Elt Ideal (spec0 w).elt) (h : Fnd m D t Y)
    (o : Vec Ideal S1x2048x256 .bf16) (g : Vec Ideal S16x64x128 .f32) (hg : Inv D t.val g) :
    Sh (fun H => D.st (grid0.coords t 0) H (256 * ((grid0.coords t 1).val + 1))) (bodySt (rdOf Y) (states m 0 t) (grid0.coords t) (lenW m t) (o, g)).2
      ∧ ∀ (H : Fin 32) (q : Fin 64) (k : Fin 256), (bodySt (rdOf Y) (states m 0 t) (grid0.coords t) (lenW m t) (o, g)).1 (ix3 0 (hrow H q) k)
          = ((D.out (grid0.coords t 0) H (256 * (grid0.coords t 1).val + k.val) q : ℝ) : EReal) := by
  have B := bodySt_val (fun H k => D.stp (grid0.coords t 0) H (256 * (grid0.coords t 1).val + k)) (rdOf Y) (states m 0 t) (grid0.coords t) (lenW m t) (o, g)
    (fun H => D.st (grid0.coords t 0) H (256 * (grid0.coords t 1).val)) (by rw [lenW_len m D A]; exact A.nonneg _) (blockIn m D A t Y h)
    (fun H k hk => by
      rw [lenW_len m D A]
      show decide (((256 * (grid0.coords t 1).val + k : ℕ) : ℤ) < D.len (grid0.coords t 0)) = decide ((k : ℤ) < D.len (grid0.coords t 0) - 256 * ((grid0.coords t 1).val : ℤ))
      refine decide_eq_decide.mpr ?_
      push_cast
      omega) ?_
  · refine ⟨?_, fun H q k => ?_⟩
    · have e : (fun H => D.st (grid0.coords t 0) H (256 * ((grid0.coords t 1).val + 1)))
          = fun H => stepsR (fun k => D.stp (grid0.coords t 0) H (256 * (grid0.coords t 1).val + k)) (D.st (grid0.coords t 0) H (256 * (grid0.coords t 1).val)) 256 :=
        funext fun H => run_add (D.stp (grid0.coords t 0) H) _ (256 * (grid0.coords t 1).val) 256
      rw [e]
      exact B.1
    · refine (B.2 H q k).trans ?_
      unfold Dat.out Dat.st
      rw [run_add (D.stp (grid0.coords t 0) H) _ (256 * (grid0.coords t 1).val) k.val]
  · by_cases h0 : (grid0.coords t 1).val = 0
    · rw [if_pos ((cond1_iff _).mpr h0), h0]
      exact sh_of_holds (fun H q i => D.s (ix4 (grid0.coords t 0) H q i)) _ (blk_states m D A t) _ (holds_init _ _)
    · rw [if_neg (mt (cond1_iff _).mp h0)]
      have e1 := coords1 t
      have hp : t.val ≠ 0 := fun e => h0 (by rw [e1, e])
      let u : Fin grid0.N := ⟨t.val - 1, by have := t.isLt; omega⟩
      have hu : grid0.coords u 0 = grid0.coords t 0 := Fin.ext (by
        rw [coords0, coords0]; show (t.val - 1) / 16 = t.val / 16; omega)
      have hu1 : (grid0.coords u 1).val + 1 = (grid0.coords t 1).val := by
        rw [coords1, coords1]; show (t.val - 1) % 16 + 1 = t.val % 16; omega
      have := hg u (by show t.val - 1 + 1 = t.val; omega)
      rw [hu, hu1] at this
      exact this

end Cert.KernelIdeal.Pair

end
-- ==== Proof.ValueRun.lean ====
/- The launch with the values of its outputs: every point's body leaves what it is to leave, so the
   whole launch runs and its output arrays are written with such blocks. -/
module

public import proofs.«01_k».proof.Proof.Value

@[expose] public section

set_option maxRecDepth 8192
set_option maxHeartbeats 400000

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

/-- The resource algebra. -/
local notation "𝕄G" => MT nD τ sig Unit (Elt Ideal) ℕ (UR sig nD τ) ℕ

variable (m : (ℓ : Loc nD τ sig) → Buf (Elt Ideal) ℓ) (D : Dat)

/-- What the body leaves in each block is what the point is to leave. -/
theorem leaves_body (A : In m D) (t : Fin grid0.N) (Y : (w : Fin 12) → (spec0 w).block.Idx → Elt Ideal (spec0 w).elt) (g : Vec Ideal S16x64x128 .f32)
    (h : Fnd m D t Y) (h9 : Y 9 = states m 0 t) (hg : Inv D t.val g) (w : Fin 12) :
    leaves D w t (Y w) (match w with
      | 10 => (bodySt (rdOf Y) (Y 9) (grid0.coords t) (wordAt (F := Ideal) (Memref.whole main_arg10) (table m 0) (grid0.coords t)) (Y 10, g)).1
      | 11 => bodyFin (grid0.coords t) (bodySt (rdOf Y) (Y 9) (grid0.coords t) (wordAt (F := Ideal) (Memref.whole main_arg10) (table m 0) (grid0.coords t)) (Y 10, g)).2 (Y 11)
      | w => Y w : (spec0 w).block.Idx → Elt Ideal (spec0 w).elt) := by
  match w with
  | 0 => exact rfl
  | 1 => exact rfl
  | 2 => exact rfl
  | 3 => exact rfl
  | 4 => exact rfl
  | 5 => exact rfl
  | 6 => exact rfl
  | 7 => exact rfl
  | 8 => exact rfl
  | 9 => exact rfl
  | 10 =>
    show ∀ (H : Fin 32) (q : Fin 64) (k : Fin 256), (bodySt (rdOf Y) (Y 9) (grid0.coords t) (lenW m t) (Y 10, g)).1 (ix3 0 (hrow H q) k) = ((D.out (grid0.coords t 0) H (256 * (grid0.coords t 1).val + k.val) q : ℝ) : EReal)
    rw [h9]
    exact (point_val m D A t Y h (Y 10) g hg).2
  | 11 =>
    intro h15
    have P := (point_val m D A t Y h (Y 10) g hg).1
    rw [← h9] at P
    show ∀ (H : Fin 32) (q i : Fin 64), (bodyFin (grid0.coords t) (bodySt (rdOf Y) (Y 9) (grid0.coords t) (lenW m t) (Y 10, g)).2 (Y 11) : Vec Ideal S1x32x64x64 .f32) (ix4 0 H q i) = ((D.st (grid0.coords t 0) H 4096 q i : ℝ) : EReal)
    generalize (bodySt (rdOf Y) (Y 9) (grid0.coords t) (lenW m t) (Y 10, g)).2 = s at P ⊢
    intro H q i
    rw [bodyFin, if_pos ((cond6_iff _).mpr h15)]
    rw [h15] at P
    have hb : Blk (fun H q i => D.st (grid0.coords t 0) H (256 * (15 + 1)) q i) (fun y : S1x32x64x64.Idx => ((D.st (grid0.coords t 0) (y 1) 4096 (y 2) (y 3) : ℝ) : EReal)) := fun H q i => rfl
    exact congrFun (fin_holds _ _ (holds_of_sh _ _ hb _ P) _) (ix4 0 H q i)

attribute [local irreducible] bodySt bodyFin

/-- The scratch after a point, and the blocks that it leaves. -/
theorem call_runV (c : Dev nD) (t : Fin grid0.N) (s : (w : Fin 12) → Fin (spec0 w).nbuf)
    (Y : (w : Fin 12) → (spec0 w).block.Idx → Elt Ideal (spec0 w).elt) (g : Vec Ideal S16x64x128 .f32)
    (A : In m D) (h : Fnd m D t Y) (h9 : Y 9 = states m 0 t) (hg : Inv D t.val g) :
    iprop((((Memref.whole main_arg10).view.loc (c : Thread nD τ) ↦[(Memref.whole main_arg10).view.set]{fullShare.right} (table m 0)) ∗ (((c : Thread nD τ).loc cc0_scratch0) ↦{fullShare} g))
        ∗ bigSep Finset.univ fun w : Fin 12 => owns (c : Thread nD τ) ((spec0 w).stage (s w)) fullShare (Y w))
      ⊢ wp (M := 𝕄G) frame (wpE (defs₀ (F := Ideal)) Variants.none (c : Thread nD τ) none) Set.univ (call t s) (fun _ =>
        iprop((((Memref.whole main_arg10).view.loc (c : Thread nD τ) ↦[(Memref.whole main_arg10).view.set]{fullShare.right} (table m 0))
          ∗ (∃ g, ⌜Inv D (t.val + 1) g⌝ ∗ (((c : Thread nD τ).loc cc0_scratch0) ↦{fullShare} g)))
        ∗ bigSep Finset.univ fun w : Fin 12 => iprop(∃ X, ⌜leaves D w t (Y w) X⌝ ∗ owns (c : Thread nD τ) ((spec0 w).stage (s w)) fullShare X))) := by
  have wkg : ∀ g : Vec Ideal S16x64x128 .f32, Inv D (t.val + 1) g →
      ((((c : Thread nD τ).loc cc0_scratch0) ↦{fullShare} g : sProp 𝕄G)
        ⊢ iprop(∃ g, ⌜Inv D (t.val + 1) g⌝ ∗ (((c : Thread nD τ).loc cc0_scratch0) ↦{fullShare} g))) := fun g h => by
    iintro H
    iexists g
    isplitr
    · ipureintro; exact h
    iexact H
  have wk1 : ∀ (w : Fin 12) (X : (spec0 w).block.Idx → Elt Ideal (spec0 w).elt), leaves D w t (Y w) X →
      ((owns (c : Thread nD τ) ((spec0 w).stage (s w)) fullShare X : sProp 𝕄G)
        ⊢ iprop(∃ X, ⌜leaves D w t (Y w) X⌝ ∗ owns (c : Thread nD τ) ((spec0 w).stage (s w)) fullShare X)) := fun w X hX => by
    iintro H
    iexists X
    isplitr
    · ipureintro; exact hX
    iexact H
  have hinv : Inv D (t.val + 1) (bodySt (rdOf Y) (Y 9) (grid0.coords t) (wordAt (F := Ideal) (Memref.whole main_arg10) (table m 0) (grid0.coords t)) (Y 10, g)).2 := by
    rw [h9]
    intro t' ht
    rw [show t' = t from Fin.ext (by omega)]
    exact (point_val m D A t Y h (Y 10) g hg).1
  refine (call_run c t s Y fullShare.right (table m 0) g).trans (wp_mono _ _ _ fun _ => ?_)
  exact BIClass.sep_mono (BIClass.sep_mono .rfl (wkg _ hinv)) (bigSep_mono fun w _ => wk1 w _ (leaves_body m D A t Y g h h9 hg w))

theorem hbodyV (A : In m D) (c : Dev nD) : (rdatV m D c).BodyObligation defs₀ Variants.none () Set.univ := by
  intro t Y hY
  obtain rfl : c = 0 := Subsingleton.elim (α := Fin 1) c 0
  have h9 : Y 9 = states m 0 t := finds_states m D 0 t (Y 9) (hY 9)
  show _ ⊢ wp frame _ _ (defs₀ (F := Ideal) .tc 0 (t, (Pipeline.pin (pcfgs (F := Ideal)) (adm m) 0).slots t)) _
  rw [defs₀_row]
  unfold rdatV Pipeline.RDat.owesAt Pipeline.ΦT
  dsimp only
  simp only [Fin.val_castSucc, Fin.val_succ]
  rw [pre_eq]
  iintro ⟨⟨⟨%g, %hg, Hg⟩, Hr, Ht⟩, HO, HY⟩
  iapply (wp_wand_r frame (wpE (defs₀ (F := Ideal)) Variants.none ((0 : Dev nD) : Thread nD τ) none) Set.univ)
  isplitl [Ht Hg HY]
  · iapply (call_runV m D 0 t ((Pipeline.pin (pcfgs (F := Ideal)) (adm m) 0).slots t) Y g A hY h9 hg)
    isplitl [Ht Hg]
    · isplitl [Ht]
      · iexact Ht
      iexact Hg
    iexact HY
  iintro %_ ⟨⟨Ht, Hg⟩, HY⟩
  isplitl [Ht Hg Hr]
  · isplitl [Hg]
    · iexact Hg
    isplitl [Hr]
    · iexact Hr
    iexact Ht
  isplitl [HO]
  · iexact HO
  iexact HY

theorem share_fullV (c : Dev nD) (w : Fin 12) : (rdatV m D c).share w = fullShare := by
  unfold Pipeline.RDat.share
  split <;> rfl

theorem hinV (c : Dev nD) : iprop(Pipeline.ΦA spec0 c ∗ Pipeline.ΦT pre0 (table m) c) ⊢ (rdatV m D c).Φ 0 := by
  unfold rdatV Pipeline.ΦA
  dsimp only
  rw [scopedRest0_eq]
  iintro ⟨⟨⟨%g, Hg⟩, Hr⟩, Ht⟩
  isplitl [Hg]
  · iexists g
    isplitr
    · ipureintro
      intro t ht
      exact absurd ht (Nat.succ_ne_zero _)
    iexact Hg
  isplitl [Hr]
  · iexact Hr
  iexact Ht

theorem houtV (c : Dev nD) : (rdatV m D c).Φ (Fin.last (Pipeline.pin (pcfgs (F := Ideal)) (adm m) 0).N) ⊢ (Pipeline.ΦA spec0 c : sProp 𝕄G) := by
  unfold rdatV Pipeline.ΦA
  dsimp only
  rw [scopedRest0_eq]
  iintro ⟨⟨%g, -, Hg⟩, Hr, -⟩
  isplitl [Hg]
  · iexists g; iexact Hg
  iexact Hr

theorem launch_runV (A : In m D) (g : Dev nD → PrngReg) :
    θ_run (defs (F := Ideal)) (onTc (τ := τ) (main (F := Ideal))) ⟨m, fun _ => 0, g⟩ (fun r =>
      Pipeline.RDat.FramePost (Pipeline.pin (pcfgs (F := Ideal)) (adm m) 0) (rdatV m D) (fun c b => V0 m c (Proc.devRef .tc b)) r ∧ r.2.sem = fun _ => 0) :=
  Pipeline.RDat.θ_run_frameP_track (pcfgs (F := Ideal)) (adm m) 0 launch0 defs₀ Variants.none (rdatV m D) m g main (hbodyV m D A) (share_fullV m D) (fun _ _ => rfl)
    (fun c b => V0 m c (Proc.devRef .tc b)) (hmain m) (fun _ _ => rfl) (fun c k => by
      have hk : k = 0 := Subsingleton.elim (α := Fin 1) k 0
      subst hk
      have hc : c = 0 := Subsingleton.elim (α := Fin 1) c 0
      subst hc
      exact V0_arg m 0 main_arg10 (by decide)) (hinV m D) (houtV m D) _ (fun _ h => h)

end Cert.KernelIdeal.Pair

end
-- ==== Proof.ValueEnd.lean ====
/- What the two results of the kernel hold after a run: the recurrence's outputs and its final states. -/
module

public import proofs.«01_k».proof.Proof.ValueRun

@[expose] public section

set_option maxRecDepth 8192
set_option maxHeartbeats 400000

noncomputable section

namespace Cert.KernelIdeal.Pair

open Idealize.ShloMosaic Idealize.ShloMosaic.TcCoe Idealize.ShloMosaic.Tactic
open Idealize.SL Idealize.SL.RA Idealize.SL.BI
open Idealize.SL.Sem
open Cert.KernelIdeal.Gen

variable (m : (ℓ : Loc nD τ sig) → Buf (Elt Ideal) ℓ) (D : Dat)

/-- Some contents of the memory: the outputs' windows do not depend on them. -/
def m₀ : (ℓ : Loc nD τ sig) → Buf (Elt Ideal) ℓ := fun _ _ => Classical.arbitrary _

theorem covers10 : ((Pipeline.pin (pcfgs (F := Ideal)) (adm m) 0).win 10).Covers :=
  (by decide +kernel : ((Pipeline.pin (pcfgs (F := Ideal)) (adm m₀) 0).win 10).Covers)

theorem covers11 : ((Pipeline.pin (pcfgs (F := Ideal)) (adm m) 0).win 11).Covers :=
  (by decide +kernel : ((Pipeline.pin (pcfgs (F := Ideal)) (adm m₀) 0).win 11).Covers)

theorem flush11 (t : Fin grid0.N) (h : ((Pipeline.pin (pcfgs (F := Ideal)) (adm m) 0).win 11).flush t = true) : (grid0.coords t 1).val = 15 :=
  (by decide +kernel : ∀ t : Fin grid0.N, ((Pipeline.pin (pcfgs (F := Ideal)) (adm m₀) 0).win 11).flush t = true → (grid0.coords t 1).val = 15) t h

/-- The outputs of the launch. -/
theorem value_run (A : In m D) (g : Dev nD → PrngReg) :
    θ_run (defs (F := Ideal)) (onTc (τ := τ) (main (F := Ideal))) ⟨m, fun _ => 0, g⟩ (fun r => ∀ c : Dev nD,
      (∀ i : S6x2048x4096.Idx, (r.2.mem ((c.tc : Thread nD τ).loc main_v21_0) : main_v21_0.ty.Contents (Elt Ideal)) i = ((D.out (i 0) ⟨(i 1).val / 64, by have h : (i 1).val < 2048 := (i 1).isLt; omega⟩ (i 2).val ⟨(i 1).val % 64, Nat.mod_lt _ (by decide)⟩ : ℝ) : EReal))
      ∧ (∀ i : S6x32x64x64.Idx, (r.2.mem ((c.tc : Thread nD τ).loc main_v21_1) : main_v21_1.ty.Contents (Elt Ideal)) i = ((D.st (i 0) (i 1) 4096 (i 2) (i 3) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (launch_runV m D A g).mono fun s h c => ?_
  obtain ⟨after, hL, hA⟩ := Pipeline.RDat.FramePost.exists_exact (r := (PUnit.unit, s)) h.1 c
  have b6 : ∀ t : Fin grid0.N, (BitVec.ofNat 32 (grid0.coords t 0).val).toNat = (grid0.coords t 0).val := fun t => by
    have h6 : (grid0.coords t 0).val < 6 := (grid0.coords t 0).isLt
    rw [BitVec.toNat_ofNat]; omega
  have b16 : ∀ t : Fin grid0.N, (BitVec.ofNat 32 (grid0.coords t 1).val).toNat = (grid0.coords t 1).val := fun t => by
    have h6 : (grid0.coords t 1).val < 16 := (grid0.coords t 1).isLt
    rw [BitVec.toNat_ofNat]; omega
  have ea : ∀ (b : Ref sig .tc), b ∈ Pipeline.restRefs sig spec0 → (∀ x ∈ [main_v0, main_v1, main_v2, main_v3, main_v4, main_v5, main_v6, main_v7, main_v8, main_v9, main_v10, main_v11, main_v12, main_v13, main_v14, main_v15, main_v16, main_v17, main_v18, main_v19, main_v20], b ≠ x) →
      s.mem ((c : Thread nD τ).loc b) = m ((c : Thread nD τ).loc b) := fun b hb hx => ((h.1 c).2 b hb).trans (V0_arg m c b hx)
  refine ⟨?_, ?_, ea main_arg0 ?_ ?_, ea main_arg1 ?_ ?_, ea main_arg2 ?_ ?_, ea main_arg3 ?_ ?_, ea main_arg4 ?_ ?_, ea main_arg5 ?_ ?_,
    ea main_arg6 ?_ ?_, ea main_arg7 ?_ ?_, ea main_arg8 ?_ ?_, (h.1.arr_in c 9 rfl).trans (V0_arg m c main_arg9 (by decide)), ea main_arg10 ?_ ?_⟩
  · intro i
    have h10 : (s.mem ((c.tc : Thread nD τ).loc main_v21_0) : main_v21_0.ty.Contents (Elt Ideal)) = ((rdatV m D c).withAfter after).arrAt 10 (Pipeline.pin (pcfgs (F := Ideal)) (adm m) 0).N := hA 10
    show (s.mem ((c.tc : Thread nD τ).loc main_v21_0) : main_v21_0.ty.Contents (Elt Ideal)) i = ((D.out (i 0) ⟨(i 1).val / 64, by have h : (i 1).val < 2048 := (i 1).isLt; omega⟩ (i 2).val ⟨(i 1).val % 64, Nat.mod_lt _ (by decide)⟩ : ℝ) : EReal)
    rw [h10]
    refine ((rdatV m D c).withAfter after).arrAt_forall_of_covers 10
      (fun (i : S6x2048x4096.Idx) (v : EReal) => v = ((D.out (i 0) ⟨(i 1).val / 64, by have h : (i 1).val < 2048 := (i 1).isLt; omega⟩ (i 2).val ⟨(i 1).val % 64, Nat.mod_lt _ (by decide)⟩ : ℝ) : EReal)) (covers10 m) (fun t hf (y : S1x2048x256.Idx) => ?_) i
    obtain ⟨Y, -, hY⟩ := hL 10 t hf
    have e : ∀ (H : Fin 32) (q : Fin 64) (k : Fin 256), (after 10 t : S1x2048x256.Idx → EReal) (ix3 0 (hrow H q) k) = ((D.out (grid0.coords t 0) H (256 * (grid0.coords t 1).val + k.val) q : ℝ) : EReal) := hY
    have y1 : (y 1).val < 2048 := (y 1).isLt
    have y0 : (y 0).val < 1 := (y 0).isLt
    have ei : (((Pipeline.pin (pcfgs (F := Ideal)) (adm m) 0).win 10).blk t).view.emb y
        = (ix3 (grid0.coords t 0) (y 1) ⟨256 * (grid0.coords t 1).val + (y 2).val, by have h1 : (grid0.coords t 1).val < 16 := (grid0.coords t 1).isLt; have h2 : (y 2).val < 256 := (y 2).isLt; show _ < 4096; omega⟩ : S6x2048x4096.Idx) := by
      refine funext fun (a : Fin 3) => Fin.ext ?_
      match a with
      | 0 => show (BitVec.ofNat 32 (grid0.coords t 0).val).toNat * 1 + 1 * (y 0).val = (grid0.coords t 0).val; rw [b6]; omega
      | 1 => show 0 * 2048 + 1 * (y 1).val = (y 1).val; omega
      | 2 => show (BitVec.ofNat 32 (grid0.coords t 1).val).toNat * 256 + 1 * (y 2).val = 256 * (grid0.coords t 1).val + (y 2).val; rw [b16]; omega
    rw [ei]
    refine Eq.trans (congrArg (after 10 t : S1x2048x256.Idx → EReal) (funext fun (a : Fin 3) => Fin.ext ?_))
      (e ⟨(y 1).val / 64, by omega⟩ ⟨(y 1).val % 64, Nat.mod_lt _ (by decide)⟩ (y 2))
    match a with
    | 0 => show (y 0).val = 0; omega
    | 1 => show (y 1).val = 64 * ((y 1).val / 64) + (y 1).val % 64; omega
    | 2 => rfl
  · intro i
    have h11 : (s.mem ((c.tc : Thread nD τ).loc main_v21_1) : main_v21_1.ty.Contents (Elt Ideal)) = ((rdatV m D c).withAfter after).arrAt 11 (Pipeline.pin (pcfgs (F := Ideal)) (adm m) 0).N := hA 11
    show (s.mem ((c.tc : Thread nD τ).loc main_v21_1) : main_v21_1.ty.Contents (Elt Ideal)) i = ((D.st (i 0) (i 1) 4096 (i 2) (i 3) : ℝ) : EReal)
    rw [h11]
    refine ((rdatV m D c).withAfter after).arrAt_forall_of_covers 11
      (fun (i : S6x32x64x64.Idx) (v : EReal) => v = ((D.st (i 0) (i 1) 4096 (i 2) (i 3) : ℝ) : EReal)) (covers11 m) (fun t hf (y : S1x32x64x64.Idx) => ?_) i
    obtain ⟨Y, -, hY⟩ := hL 11 t hf
    have e : (grid0.coords t 1).val = 15 → ∀ (H : Fin 32) (q i : Fin 64), (after 11 t : S1x32x64x64.Idx → EReal) (ix4 0 H q i) = ((D.st (grid0.coords t 0) H 4096 q i : ℝ) : EReal) := hY
    have y0 : (y 0).val < 1 := (y 0).isLt
    have ei : (((Pipeline.pin (pcfgs (F := Ideal)) (adm m) 0).win 11).blk t).view.emb y = (ix4 (grid0.coords t 0) (y 1) (y 2) (y 3) : S6x32x64x64.Idx) := by
      refine funext fun (a : Fin 4) => Fin.ext ?_
      match a with
      | 0 => show (BitVec.ofNat 32 (grid0.coords t 0).val).toNat * 1 + 1 * (y 0).val = (grid0.coords t 0).val; rw [b6]; omega
      | 1 => show 0 * 32 + 1 * (y 1).val = (y 1).val; omega
      | 2 => show 0 * 64 + 1 * (y 2).val = (y 2).val; omega
      | 3 => show 0 * 64 + 1 * (y 3).val = (y 3).val; omega
    rw [ei]
    refine Eq.trans (congrArg (after 11 t : S1x32x64x64.Idx → EReal) (funext fun (a : Fin 4) => Fin.ext ?_)) (e (flush11 m t hf) (y 1) (y 2) (y 3))
    match a with
    | 0 => show (y 0).val = 0; omega
    | 1 => rfl
    | 2 => rfl
    | 3 => rfl
  all_goals first | decide | exact Pipeline.mem_restRefs_of _ (by decide) (by decide)

end Cert.KernelIdeal.Pair

end
-- ==== Proof.RefStep.lean ====
/- The recurrence's own program, one time step after another: each step's states and outputs are those of the recurrence
   over the reals. -/
module

public import proofs.«01_k».proof.Proof.Gen.ReferenceIdeal.Run
public import proofs.«01_k».proof.Proof.Data
public import Idealize.ShloMosaic.Lib.Pointwise
public import Idealize.ShloMosaic.Lib.VecWindow
public import Idealize.ShloMosaic.Lib.Pipeline.ValueKit

@[expose] public section

set_option maxRecDepth 8192
set_option maxHeartbeats 400000

noncomputable section

namespace Cert.ReferenceIdeal.Pad

open Idealize.ShloMosaic Idealize.ShloMosaic.TcCoe Idealize.ShloMosaic.Tactic
open Idealize.SL.Sem
open Cert.ReferenceIdeal.Gen
open Cert.KernelIdeal.Pair (Dat Stp stepsR sum_coe tm tm_of)

theorem slt_bit (a n : BitVec 32) : IntOp.cmpi CmpIPredicate.slt a n = BitVec.ofBool (decide (a.toInt < n.toInt)) := by
  show BitVec.ofBool (a.slt n) = _
  rw [BitVec.slt_eq_decide]

theorem iv_toInt (k : Fin k0_t1_loop.trips) : (Scf.iv 0#32 1#32 k.val).toInt = (k.val : ℤ) := by
  have hk : k.val < 4096 := Nat.lt_of_lt_of_le k.isLt k0_t1_abs.2.1
  unfold Scf.iv
  rw [BitVec.zero_add, BitVec.mul_one, BitVec.toInt_eq_toNat_of_lt] <;> rw [BitVec.toNat_ofNat] <;> omega

/-! ## One step -/

section
variable (p : Stp) (S : Fin 64 → Fin 64 → ℝ) (kf vf rf : Fin 64 → ℝ) (acc : Vec Ideal S6x32x64x64 .f32) (v14 v24 v34 v42 : FVec Ideal S6x32x64 .f32)
  (v44 v50 : Vec Ideal S6x1x32x64 .bf16) (b : Fin 6) (H : Fin 32) (hacc : ∀ q i, acc (ix4 b H q i) = ((S q i : ℝ) : EReal))
  (h24 : ∀ i, v24 (ix3 b H i) = ((kf i : ℝ) : EReal)) (h34 : ∀ q, v34 (ix3 b H q) = ((vf q : ℝ) : EReal)) (hkv : ∀ q i, vf q * kf i = p.v q * p.k i)
  (h42 : ∀ i, v42 (ix3 b H i) = ((Real.exp (p.l i) : ℝ) : EReal)) (h44 : ∀ i, v44 (ix4 b 0 H i) = ((p.kk i : ℝ) : EReal)) (h50 : ∀ i, v50 (ix4 b 0 H i) = ((p.ic i : ℝ) : EReal))
include hacc h24 h34 hkv h42 h44 h50

theorem pay7_at (q i : Fin 64) : k0_pay7 (F := Ideal) acc v24 v34 v42 v44 v50 (ix4 b H q i)
    = ((S q i * Real.exp (p.l i) + (∑ j, S q j * -(p.kk j)) * (p.kk i * p.ic i) + p.v q * p.k i : ℝ) : EReal) := by
  pointwise [k0_pay7]
  simp only [hacc, h24, h34, h42, h44, h50]
  have e : ∀ x, (0 : EReal) - ((p.kk x : ℝ) : EReal) = ((-(p.kk x) : ℝ) : EReal) := fun x => by
    rw [zero_sub, EReal.coe_neg]
  simp only [e, ← EReal.coe_mul]
  rw [sum_coe, ← EReal.coe_mul, ← EReal.coe_add, ← EReal.coe_add, hkv]

variable (v0 : Vec Ideal S6 .i32) (a : BitVec 32) (hon : p.on = decide (a.toInt < (v0 (ix1 b)).toInt))
include hon

theorem pay1_at (q i : Fin 64) : k0_pay1 (F := Ideal) acc (k0_pay7 acc v24 v34 v42 v44 v50) (k0_pay9 v0 a) (ix4 b H q i) = ((p.next S q i : ℝ) : EReal) := by
  have e7 := pay7_at p S kf vf acc v24 v34 v42 v44 v50 b H hacc h24 h34 hkv h42 h44 h50 q i
  generalize k0_pay7 (F := Ideal) acc v24 v34 v42 v44 v50 = new at e7 ⊢
  pointwise [k0_pay1, k0_pay9, k0_pay6]
  rw [slt_bit, ← hon, e7, hacc]
  unfold Stp.next
  cases p.on <;> rfl

theorem pay8_at (h14 : ∀ i, v14 (ix3 b H i) = ((rf i : ℝ) : EReal)) (hr : ∀ i, rf i = p.r i * p.rs) (q : Fin 64) :
    k0_pay8 (F := Ideal) v0 acc a v14 v24 v34 v42 v44 v50 (ix4 b 0 H q) = ((p.y S q : ℝ) : EReal) := by
  have e7 := fun i => pay7_at p S kf vf acc v24 v34 v42 v44 v50 b H hacc h24 h34 hkv h42 h44 h50 q i
  pointwise [k0_pay8, k0_pay6]
  simp only [e7, h14, ← EReal.coe_mul]
  rw [slt_bit, ← hon, sum_coe]
  have hy : p.y S q = if p.on then ∑ i, (S q i * Real.exp (p.l i) + (∑ j, S q j * -(p.kk j)) * (p.kk i * p.ic i) + p.v q * p.k i) * rf i else 0 := by
    unfold Stp.y Stp.next
    cases p.on
    · rfl
    · rw [if_pos rfl, if_pos rfl, Finset.sum_mul]
      refine Finset.sum_congr rfl fun i _ => ?_
      rw [if_pos rfl, hr i, mul_assoc]
  rw [hy]
  cases p.on <;> rfl

end

theorem pay2_at (v6 : Vec Ideal S6x1x32x64 .fp8e4m3) (v10 : Vec Ideal S6x1x32 .f32) (b : Fin 6) (H : Fin 32) (i : Fin 64) (x y : ℝ)
    (hx : v6 (ix4 b 0 H i) = (x : EReal)) (hy : v10 (ix3 b 0 H) = (y : EReal)) : k0_pay2 (F := Ideal) v6 v10 (ix3 b H i) = ((x * y : ℝ) : EReal) := by
  pointwise [k0_pay2]
  rw [hx, hy, EReal.coe_mul]

theorem pay5_at (v6 : Vec Ideal S6x1x32x64 .bf16) (b : Fin 6) (H : Fin 32) (i : Fin 64) (x : ℝ)
    (hx : v6 (ix4 b 0 H i) = (x : EReal)) : k0_pay5 (F := Ideal) v6 (ix3 b H i) = ((Real.exp (-Real.exp x) : ℝ) : EReal) := by
  pointwise [k0_pay5]
  rw [hx, Ideal.exp_coe, zero_sub, ← EReal.coe_neg, Ideal.exp_coe]

/-! ## What a step loads -/

theorem off1_eq (k : Fin k0_t1_loop.trips) : k0_off1 k = ![0, k.val, 0, 0] := by
  have hk : k.val < 4096 := Nat.lt_of_lt_of_le k.isLt k0_t1_abs.2.1
  have e : (Scalar.indexCast (Scf.iv 0#32 1#32 k.val)).toNat = k.val := by
    show (0#32 + BitVec.ofNat 32 k.val * 1#32).toNat = k.val
    rw [BitVec.zero_add, BitVec.mul_one, BitVec.toNat_ofNat]; omega
  unfold k0_off1
  dsimp only
  rw [e]

theorem off2_eq (k : Fin k0_t1_loop.trips) : k0_off2 k = ![0, k.val, 0] := by
  have hk : k.val < 4096 := Nat.lt_of_lt_of_le k.isLt k0_t1_abs.2.1
  have e : (Scalar.indexCast (Scf.iv 0#32 1#32 k.val)).toNat = k.val := by
    show (0#32 + BitVec.ofNat 32 k.val * 1#32).toNat = k.val
    rw [BitVec.zero_add, BitVec.mul_one, BitVec.toNat_ofNat]; omega
  unfold k0_off2
  dsimp only
  rw [e]

theorem load4 {e : EltTy} (X : S6x4096x32x64.Idx → Elt Ideal e) (k : Fin k0_t1_loop.trips) (b : Fin 6) (H : Fin 32) (i : Fin 64) :
    View.ld X (Rect.unit (s := S6x4096x32x64) (k0_off1 k) S6x1x32x64.size (k0_off1_inb k)) (ix4 b 0 H i : S6x1x32x64.Idx) = X (ix4 b (tm k.val) H i) := by
  have hk : k.val < 4096 := Nat.lt_of_lt_of_le k.isLt k0_t1_abs.2.1
  have o := off1_eq k
  refine View.ld_unit_apply_of X _ _ _ _ _ fun (a : Fin 4) => ?_
  match a with
  | 0 => show b.val = k0_off1 k 0 + b.val; rw [congrFun o 0]; show b.val = 0 + b.val; omega
  | 1 => show k.val % 4096 = k0_off1 k 1 + 0; rw [congrFun o 1]; show k.val % 4096 = k.val + 0; omega
  | 2 => show H.val = k0_off1 k 2 + H.val; rw [congrFun o 2]; show H.val = 0 + H.val; omega
  | 3 => show i.val = k0_off1 k 3 + i.val; rw [congrFun o 3]; show i.val = 0 + i.val; omega

theorem load3 {e : EltTy} (X : S6x4096x32.Idx → Elt Ideal e) (k : Fin k0_t1_loop.trips) (b : Fin 6) (H : Fin 32) :
    View.ld X (Rect.unit (s := S6x4096x32) (k0_off2 k) S6x1x32.size (k0_off2_inb k)) (ix3 b 0 H : S6x1x32.Idx) = X (ix3 b (tm k.val) H) := by
  have hk : k.val < 4096 := Nat.lt_of_lt_of_le k.isLt k0_t1_abs.2.1
  have o := off2_eq k
  refine View.ld_unit_apply_of X _ _ _ _ _ fun (a : Fin 3) => ?_
  match a with
  | 0 => show b.val = k0_off2 k 0 + b.val; rw [congrFun o 0]; show b.val = 0 + b.val; omega
  | 1 => show k.val % 4096 = k0_off2 k 1 + 0; rw [congrFun o 1]; show k.val % 4096 = k.val + 0; omega
  | 2 => show H.val = k0_off2 k 2 + H.val; rw [congrFun o 2]; show H.val = 0 + H.val; omega

/-! ## A trip of the loop -/

theorem trip_R (𝒱 : Variants) (c : Dev nD) (bd : Option 𝒱.V) (arg0 : Memref sig .tc .vmem S6x4096x32x64 .fp8e4m3) (harg0 : arg0.IsWhole) (arg1 : Memref sig .tc .vmem S6x4096x32x64 .fp8e4m3) (harg1 : arg1.IsWhole) (arg2 : Memref sig .tc .vmem S6x4096x32x64 .fp8e4m3) (harg2 : arg2.IsWhole) (arg3 : Memref sig .tc .vmem S6x4096x32 .f32) (harg3 : arg3.IsWhole) (arg4 : Memref sig .tc .vmem S6x4096x32 .f32) (harg4 : arg4.IsWhole) (arg5 : Memref sig .tc .vmem S6x4096x32 .f32) (harg5 : arg5.IsWhole) (arg6 : Memref sig .tc .vmem S6x4096x32x64 .bf16) (harg6 : arg6.IsWhole) (arg7 : Memref sig .tc .vmem S6x4096x32x64 .bf16) (harg7 : arg7.IsWhole) (arg8 : Memref sig .tc .vmem S6x4096x32x64 .bf16) (harg8 : arg8.IsWhole) (arg9 : Memref sig .tc .vmem S6x32x64x64 .f32) (harg9 : arg9.IsWhole) (arg10 : Memref sig .tc .vmem S6 .i32) (harg10 : arg10.IsWhole) (arg11 : Memref sig .tc .vmem S6x4096x32x64 .bf16) (harg11 : arg11.IsWhole) (arg12 : Memref sig .tc .vmem S6x32x64x64 .f32) (harg12 : arg12.IsWhole) (v0 : Vec Ideal S6 .i32) (X_arg0 : BufTy.Contents (Elt Ideal) arg0.view.ty) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (k : Fin k0_t1_loop.trips) (acc : Vec Ideal S6x32x64x64 .f32) (D : Dat) (h0 : ∀ i, arg0.view.read (Elt Ideal) X_arg0 i = ((D.r i : ℝ) : EReal)) (h1 : ∀ i, arg1.view.read (Elt Ideal) X_arg1 i = ((D.k i : ℝ) : EReal)) (h2 : ∀ i, arg2.view.read (Elt Ideal) X_arg2 i = ((D.v i : ℝ) : EReal)) (h3 : ∀ i, arg3.view.read (Elt Ideal) X_arg3 i = ((D.rs i : ℝ) : EReal)) (h4 : ∀ i, arg4.view.read (Elt Ideal) X_arg4 i = ((D.ks i : ℝ) : EReal)) (h5 : ∀ i, arg5.view.read (Elt Ideal) X_arg5 i = ((D.vs i : ℝ) : EReal)) (h6 : ∀ i, arg6.view.read (Elt Ideal) X_arg6 i = ((D.w i : ℝ) : EReal)) (h7 : ∀ i, arg7.view.read (Elt Ideal) X_arg7 i = ((D.kk i : ℝ) : EReal)) (h8 : ∀ i, arg8.view.read (Elt Ideal) X_arg8 i = ((D.ic i : ℝ) : EReal)) (hl : ∀ b : Fin 6, (v0 (ix1 b)).toInt = D.len b) (b : Fin 6) (H : Fin 32) (S : Fin 64 → Fin 64 → ℝ) (hacc : ∀ q i, acc (ix4 b H q i) = ((S q i : ℝ) : EReal)) (q i : Fin 64) :
    tripR_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 v0 X_arg0 X_arg1 X_arg2 X_arg3 X_arg4 X_arg5 X_arg6 X_arg7 X_arg8 k acc (ix4 b H q i) = (((D.stp b H k.val).next S q i : ℝ) : EReal) := by
  unfold tripR_k0_t1 trip_k0_t1
  sl_unfold_words
  dsimp only
  refine pay1_at (D.stp b H k.val) S (fun i => D.k (ix4 b (tm k.val) H i) * D.ks (ix3 b (tm k.val) H)) (fun i => D.v (ix4 b (tm k.val) H i) * D.vs (ix3 b (tm k.val) H)) acc _ _ _ _ _ b H hacc
    (fun i => pay2_at _ _ b H i _ _ ((load4 (arg1.view.read (Elt Ideal) X_arg1) k b H i).trans (h1 _)) ((load3 (arg4.view.read (Elt Ideal) X_arg4) k b H).trans (h4 _)))
    (fun i => pay2_at _ _ b H i _ _ ((load4 (arg2.view.read (Elt Ideal) X_arg2) k b H i).trans (h2 _)) ((load3 (arg5.view.read (Elt Ideal) X_arg5) k b H).trans (h5 _)))
    (fun q i => ?_) (fun i => pay5_at _ b H i _ ((load4 (arg6.view.read (Elt Ideal) X_arg6) k b H i).trans (h6 _)))
    (fun i => (load4 (arg7.view.read (Elt Ideal) X_arg7) k b H i).trans (h7 _)) (fun i => (load4 (arg8.view.read (Elt Ideal) X_arg8) k b H i).trans (h8 _)) v0 _ ?_ q i
  · show D.v (ix4 b (tm k.val) H q) * D.vs (ix3 b (tm k.val) H) * (D.k (ix4 b (tm k.val) H i) * D.ks (ix3 b (tm k.val) H))
      = D.v (ix4 b (tm k.val) H q) * D.ks (ix3 b (tm k.val) H) * D.vs (ix3 b (tm k.val) H) * D.k (ix4 b (tm k.val) H i)
    ring
  · rw [iv_toInt, hl]; rfl

theorem trip_L (𝒱 : Variants) (c : Dev nD) (bd : Option 𝒱.V) (arg0 : Memref sig .tc .vmem S6x4096x32x64 .fp8e4m3) (harg0 : arg0.IsWhole) (arg1 : Memref sig .tc .vmem S6x4096x32x64 .fp8e4m3) (harg1 : arg1.IsWhole) (arg2 : Memref sig .tc .vmem S6x4096x32x64 .fp8e4m3) (harg2 : arg2.IsWhole) (arg3 : Memref sig .tc .vmem S6x4096x32 .f32) (harg3 : arg3.IsWhole) (arg4 : Memref sig .tc .vmem S6x4096x32 .f32) (harg4 : arg4.IsWhole) (arg5 : Memref sig .tc .vmem S6x4096x32 .f32) (harg5 : arg5.IsWhole) (arg6 : Memref sig .tc .vmem S6x4096x32x64 .bf16) (harg6 : arg6.IsWhole) (arg7 : Memref sig .tc .vmem S6x4096x32x64 .bf16) (harg7 : arg7.IsWhole) (arg8 : Memref sig .tc .vmem S6x4096x32x64 .bf16) (harg8 : arg8.IsWhole) (arg9 : Memref sig .tc .vmem S6x32x64x64 .f32) (harg9 : arg9.IsWhole) (arg10 : Memref sig .tc .vmem S6 .i32) (harg10 : arg10.IsWhole) (arg11 : Memref sig .tc .vmem S6x4096x32x64 .bf16) (harg11 : arg11.IsWhole) (arg12 : Memref sig .tc .vmem S6x32x64x64 .f32) (harg12 : arg12.IsWhole) (v0 : Vec Ideal S6 .i32) (X_arg0 : BufTy.Contents (Elt Ideal) arg0.view.ty) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (k : Fin k0_t1_loop.trips) (acc : Vec Ideal S6x32x64x64 .f32) (D : Dat) (h0 : ∀ i, arg0.view.read (Elt Ideal) X_arg0 i = ((D.r i : ℝ) : EReal)) (h1 : ∀ i, arg1.view.read (Elt Ideal) X_arg1 i = ((D.k i : ℝ) : EReal)) (h2 : ∀ i, arg2.view.read (Elt Ideal) X_arg2 i = ((D.v i : ℝ) : EReal)) (h3 : ∀ i, arg3.view.read (Elt Ideal) X_arg3 i = ((D.rs i : ℝ) : EReal)) (h4 : ∀ i, arg4.view.read (Elt Ideal) X_arg4 i = ((D.ks i : ℝ) : EReal)) (h5 : ∀ i, arg5.view.read (Elt Ideal) X_arg5 i = ((D.vs i : ℝ) : EReal)) (h6 : ∀ i, arg6.view.read (Elt Ideal) X_arg6 i = ((D.w i : ℝ) : EReal)) (h7 : ∀ i, arg7.view.read (Elt Ideal) X_arg7 i = ((D.kk i : ℝ) : EReal)) (h8 : ∀ i, arg8.view.read (Elt Ideal) X_arg8 i = ((D.ic i : ℝ) : EReal)) (hl : ∀ b : Fin 6, (v0 (ix1 b)).toInt = D.len b) (S : Fin 6 → Fin 32 → Fin 64 → Fin 64 → ℝ) (hacc : ∀ b H q i, acc (ix4 b H q i) = ((S b H q i : ℝ) : EReal)) :
    ∃ w : S6x1x32x64.Idx → EReal, tripL_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 v0 X_arg0 X_arg1 X_arg2 X_arg3 X_arg4 X_arg5 X_arg6 X_arg7 X_arg8 k acc = [⟨Rect.unit (s := S6x4096x32x64) (k0_off1 k) S6x1x32x64.size (k0_off1_inb k), w⟩]
      ∧ ∀ b H q, w (ix4 b 0 H q) = (((D.stp b H k.val).y (S b H) q : ℝ) : EReal) := by
  unfold tripL_k0_t1 trip_k0_t1
  sl_unfold_words
  dsimp only
  refine ⟨_, rfl, fun b H q => ?_⟩
  refine pay8_at (D.stp b H k.val) (S b H) (fun i => D.k (ix4 b (tm k.val) H i) * D.ks (ix3 b (tm k.val) H)) (fun i => D.v (ix4 b (tm k.val) H i) * D.vs (ix3 b (tm k.val) H))
    (fun i => D.r (ix4 b (tm k.val) H i) * D.rs (ix3 b (tm k.val) H)) acc _ _ _ _ _ _ b H (hacc b H)
    (fun i => pay2_at _ _ b H i _ _ ((load4 (arg1.view.read (Elt Ideal) X_arg1) k b H i).trans (h1 _)) ((load3 (arg4.view.read (Elt Ideal) X_arg4) k b H).trans (h4 _)))
    (fun i => pay2_at _ _ b H i _ _ ((load4 (arg2.view.read (Elt Ideal) X_arg2) k b H i).trans (h2 _)) ((load3 (arg5.view.read (Elt Ideal) X_arg5) k b H).trans (h5 _)))
    (fun q i => ?_) (fun i => pay5_at _ b H i _ ((load4 (arg6.view.read (Elt Ideal) X_arg6) k b H i).trans (h6 _)))
    (fun i => (load4 (arg7.view.read (Elt Ideal) X_arg7) k b H i).trans (h7 _)) (fun i => (load4 (arg8.view.read (Elt Ideal) X_arg8) k b H i).trans (h8 _)) v0 _ ?_
    (fun i => pay2_at _ _ b H i _ _ ((load4 (arg0.view.read (Elt Ideal) X_arg0) k b H i).trans (h0 _)) ((load3 (arg3.view.read (Elt Ideal) X_arg3) k b H).trans (h3 _))) (fun i => rfl) q
  · show D.v (ix4 b (tm k.val) H q) * D.vs (ix3 b (tm k.val) H) * (D.k (ix4 b (tm k.val) H i) * D.ks (ix3 b (tm k.val) H))
      = D.v (ix4 b (tm k.val) H q) * D.ks (ix3 b (tm k.val) H) * D.vs (ix3 b (tm k.val) H) * D.k (ix4 b (tm k.val) H i)
    ring
  · rw [iv_toInt, hl]; rfl

theorem st_val (𝒱 : Variants) (c : Dev nD) (bd : Option 𝒱.V) (arg0 : Memref sig .tc .vmem S6x4096x32x64 .fp8e4m3) (harg0 : arg0.IsWhole) (arg1 : Memref sig .tc .vmem S6x4096x32x64 .fp8e4m3) (harg1 : arg1.IsWhole) (arg2 : Memref sig .tc .vmem S6x4096x32x64 .fp8e4m3) (harg2 : arg2.IsWhole) (arg3 : Memref sig .tc .vmem S6x4096x32 .f32) (harg3 : arg3.IsWhole) (arg4 : Memref sig .tc .vmem S6x4096x32 .f32) (harg4 : arg4.IsWhole) (arg5 : Memref sig .tc .vmem S6x4096x32 .f32) (harg5 : arg5.IsWhole) (arg6 : Memref sig .tc .vmem S6x4096x32x64 .bf16) (harg6 : arg6.IsWhole) (arg7 : Memref sig .tc .vmem S6x4096x32x64 .bf16) (harg7 : arg7.IsWhole) (arg8 : Memref sig .tc .vmem S6x4096x32x64 .bf16) (harg8 : arg8.IsWhole) (arg9 : Memref sig .tc .vmem S6x32x64x64 .f32) (harg9 : arg9.IsWhole) (arg10 : Memref sig .tc .vmem S6 .i32) (harg10 : arg10.IsWhole) (arg11 : Memref sig .tc .vmem S6x4096x32x64 .bf16) (harg11 : arg11.IsWhole) (arg12 : Memref sig .tc .vmem S6x32x64x64 .f32) (harg12 : arg12.IsWhole) (v0 : Vec Ideal S6 .i32) (X_arg0 : BufTy.Contents (Elt Ideal) arg0.view.ty) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (init : Vec Ideal S6x32x64x64 .f32) (D : Dat) (h0 : ∀ i, arg0.view.read (Elt Ideal) X_arg0 i = ((D.r i : ℝ) : EReal)) (h1 : ∀ i, arg1.view.read (Elt Ideal) X_arg1 i = ((D.k i : ℝ) : EReal)) (h2 : ∀ i, arg2.view.read (Elt Ideal) X_arg2 i = ((D.v i : ℝ) : EReal)) (h3 : ∀ i, arg3.view.read (Elt Ideal) X_arg3 i = ((D.rs i : ℝ) : EReal)) (h4 : ∀ i, arg4.view.read (Elt Ideal) X_arg4 i = ((D.ks i : ℝ) : EReal)) (h5 : ∀ i, arg5.view.read (Elt Ideal) X_arg5 i = ((D.vs i : ℝ) : EReal)) (h6 : ∀ i, arg6.view.read (Elt Ideal) X_arg6 i = ((D.w i : ℝ) : EReal)) (h7 : ∀ i, arg7.view.read (Elt Ideal) X_arg7 i = ((D.kk i : ℝ) : EReal)) (h8 : ∀ i, arg8.view.read (Elt Ideal) X_arg8 i = ((D.ic i : ℝ) : EReal)) (hl : ∀ b : Fin 6, (v0 (ix1 b)).toInt = D.len b) (hi : ∀ b H q i, init (ix4 b H q i) = ((D.s (ix4 b H q i) : ℝ) : EReal))
    {sp : Space} (v : View sig .tc sp S6x4096x32x64 .bf16) (f : v.ty.Contents (Elt Ideal)) (n : ℕ) (hn : n ≤ k0_t1_loop.trips) :
    (∀ b (t : Fin 4096) H q, t.val < n →
        v.read (Elt Ideal) (v.writes (Elt Ideal) f (st_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 v0 X_arg0 X_arg1 X_arg2 X_arg3 X_arg4 X_arg5 X_arg6 X_arg7 X_arg8 init n).2) (ix4 b t H q) = ((D.out b H t.val q : ℝ) : EReal))
      ∧ (∀ b H q i, (st_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 v0 X_arg0 X_arg1 X_arg2 X_arg3 X_arg4 X_arg5 X_arg6 X_arg7 X_arg8 init n).1 (ix4 b H q i) = ((D.st b H n q i : ℝ) : EReal)) := by
  induction n with
  | zero => exact ⟨fun b t H q hy => absurd hy (Nat.not_lt_zero _), hi⟩
  | succ n ih =>
    obtain ⟨ih1, ih2⟩ := ih (Nat.le_of_succ_le hn)
    let k : Fin k0_t1_loop.trips := ⟨n, hn⟩
    have hs := st_k0_t1_succ (F := Ideal) 𝒱 c bd arg0 harg0 arg1 harg1 arg2 harg2 arg3 harg3 arg4 harg4 arg5 harg5 arg6 harg6 arg7 harg7 arg8 harg8 arg9 harg9 arg10 harg10 arg11 harg11 arg12 harg12 v0 X_arg0 X_arg1 X_arg2 X_arg3 X_arg4 X_arg5 X_arg6 X_arg7 X_arg8 init k
    generalize st_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 v0 X_arg0 X_arg1 X_arg2 X_arg3 X_arg4 X_arg5 X_arg6 X_arg7 X_arg8 init (n + 1) = s at hs ⊢
    change s = _ at hs
    generalize hp : st_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 v0 X_arg0 X_arg1 X_arg2 X_arg3 X_arg4 X_arg5 X_arg6 X_arg7 X_arg8 init n = p at ih1 ih2
    have hp' : st_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 v0 X_arg0 X_arg1 X_arg2 X_arg3 X_arg4 X_arg5 X_arg6 X_arg7 X_arg8 init k.val = p := hp
    rw [hp'] at hs
    constructor
    · intro b t H q ht
      obtain ⟨w, hw, hz⟩ := trip_L 𝒱 c bd arg0 harg0 arg1 harg1 arg2 harg2 arg3 harg3 arg4 harg4 arg5 harg5 arg6 harg6 arg7 harg7 arg8 harg8 arg9 harg9 arg10 harg10 arg11 harg11 arg12 harg12 v0 X_arg0 X_arg1 X_arg2 X_arg3 X_arg4 X_arg5 X_arg6 X_arg7 X_arg8 k p.1 D h0 h1 h2 h3 h4 h5 h6 h7 h8 hl (fun b H => D.st b H n) ih2
      rw [hs, hw, List.singleton_append]
      refine (congrFun (View.read_writes_cons_put v f _ w _ (off1_eq k)) (ix4 b t H q)).trans ?_
      by_cases hyn : t.val = n
      · have hin : ∀ a, (![0, k.val, 0, 0] : Fin 4 → ℕ) a ≤ ((ix4 b t H q : S6x4096x32x64.Idx) a).val ∧ ((ix4 b t H q : S6x4096x32x64.Idx) a).val < (![0, k.val, 0, 0] : Fin 4 → ℕ) a + S6x1x32x64.size a := fun a => by
          match a with
          | 0 => exact ⟨Nat.zero_le _, by show b.val < 0 + 6; omega⟩
          | 1 => exact ⟨by show n ≤ t.val; omega, by show t.val < n + 1; omega⟩
          | 2 => exact ⟨Nat.zero_le _, by show H.val < 0 + 32; omega⟩
          | 3 => exact ⟨Nat.zero_le _, by show q.val < 0 + 64; omega⟩
        refine (dif_pos hin).trans ?_
        have e := hz b H q
        have ek : ((D.stp b H k.val).y (D.st b H n) q : ℝ) = D.out b H t.val q := by rw [hyn]; rfl
        rw [ek] at e
        refine Eq.trans (congrArg w (funext fun (a : Fin 4) => Fin.ext ?_)) e
        match a with
        | 0 => show b.val - 0 = b.val; omega
        | 1 => show t.val - n = 0; omega
        | 2 => show H.val - 0 = H.val; omega
        | 3 => show q.val - 0 = q.val; omega
      · refine (dif_neg fun hh => ?_).trans (ih1 b t H q (by omega))
        have h1 : n ≤ t.val := (hh 1).1
        omega
    · intro b H q i
      rw [hs]
      exact trip_R 𝒱 c bd arg0 harg0 arg1 harg1 arg2 harg2 arg3 harg3 arg4 harg4 arg5 harg5 arg6 harg6 arg7 harg7 arg8 harg8 arg9 harg9 arg10 harg10 arg11 harg11 arg12 harg12 v0 X_arg0 X_arg1 X_arg2 X_arg3 X_arg4 X_arg5 X_arg6 X_arg7 X_arg8 k p.1 D h0 h1 h2 h3 h4 h5 h6 h7 h8 hl b H (D.st b H n) (ih2 b H) q i

end Cert.ReferenceIdeal.Pad

end
-- ==== Proof.RefEnd.lean ====
/- What the recurrence's own program leaves in its two results: the outputs and the final states of the recurrence over
   the reals. -/
module

public import proofs.«01_k».proof.Proof.RefStep

@[expose] public section

set_option maxRecDepth 8192
set_option maxHeartbeats 400000

noncomputable section

namespace Cert.ReferenceIdeal.Pad

open Idealize.ShloMosaic Idealize.ShloMosaic.TcCoe Idealize.ShloMosaic.Tactic
open Idealize.SL.Sem
open Cert.ReferenceIdeal.Gen
open Cert.KernelIdeal.Pair (Dat Stp stepsR sum_coe tm tm_of)

theorem trips_eq : k0_t1_loop.trips = 4096 := by decide +kernel

theorem hz1 : (![0] : Fin 1 → ℕ) = fun _ => 0 := funext fun a => by fin_cases a; rfl
theorem hz4 : (![0, 0, 0, 0] : Fin 4 → ℕ) = fun _ => 0 := funext fun a => by fin_cases a <;> rfl

theorem out11 (c : Dev nD) (arg0 : Memref sig .tc .vmem S6x4096x32x64 .fp8e4m3) (harg0 : arg0.IsWhole) (arg1 : Memref sig .tc .vmem S6x4096x32x64 .fp8e4m3) (harg1 : arg1.IsWhole) (arg2 : Memref sig .tc .vmem S6x4096x32x64 .fp8e4m3) (harg2 : arg2.IsWhole) (arg3 : Memref sig .tc .vmem S6x4096x32 .f32) (harg3 : arg3.IsWhole) (arg4 : Memref sig .tc .vmem S6x4096x32 .f32) (harg4 : arg4.IsWhole) (arg5 : Memref sig .tc .vmem S6x4096x32 .f32) (harg5 : arg5.IsWhole) (arg6 : Memref sig .tc .vmem S6x4096x32x64 .bf16) (harg6 : arg6.IsWhole) (arg7 : Memref sig .tc .vmem S6x4096x32x64 .bf16) (harg7 : arg7.IsWhole) (arg8 : Memref sig .tc .vmem S6x4096x32x64 .bf16) (harg8 : arg8.IsWhole) (arg9 : Memref sig .tc .vmem S6x32x64x64 .f32) (harg9 : arg9.IsWhole) (arg10 : Memref sig .tc .vmem S6 .i32) (harg10 : arg10.IsWhole) (arg11 : Memref sig .tc .vmem S6x4096x32x64 .bf16) (harg11 : arg11.IsWhole) (arg12 : Memref sig .tc .vmem S6x32x64x64 .f32) (harg12 : arg12.IsWhole) (x0 : Vec Ideal S6x4096x32x64 .fp8e4m3) (x1 : Vec Ideal S6x4096x32x64 .fp8e4m3) (x2 : Vec Ideal S6x4096x32x64 .fp8e4m3) (x3 : Vec Ideal S6x4096x32 .f32) (x4 : Vec Ideal S6x4096x32 .f32) (x5 : Vec Ideal S6x4096x32 .f32) (x6 : Vec Ideal S6x4096x32x64 .bf16) (x7 : Vec Ideal S6x4096x32x64 .bf16) (x8 : Vec Ideal S6x4096x32x64 .bf16) (x9 : Vec Ideal S6x32x64x64 .f32) (x10 : Vec Ideal S6 .i32) (D : Dat) (h0 : ∀ i, x0 i = ((D.r i : ℝ) : EReal)) (h1 : ∀ i, x1 i = ((D.k i : ℝ) : EReal)) (h2 : ∀ i, x2 i = ((D.v i : ℝ) : EReal)) (h3 : ∀ i, x3 i = ((D.rs i : ℝ) : EReal)) (h4 : ∀ i, x4 i = ((D.ks i : ℝ) : EReal)) (h5 : ∀ i, x5 i = ((D.vs i : ℝ) : EReal)) (h6 : ∀ i, x6 i = ((D.w i : ℝ) : EReal)) (h7 : ∀ i, x7 i = ((D.kk i : ℝ) : EReal)) (h8 : ∀ i, x8 i = ((D.ic i : ℝ) : EReal)) (h9 : ∀ i, x9 i = ((D.s i : ℝ) : EReal)) (hl : ∀ b : Fin 6, (x10 (ix1 b)).toInt = D.len b) (b : Fin 6) (t : Fin 4096) (H : Fin 32) (q : Fin 64) :
    out0_A_11 (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 (ix4 b t H q) = ((D.out b H t.val q : ℝ) : EReal) := by
  unfold out0_A_11 kernelRun0_A
  sl_unfold_words
  dsimp only
  refine (st_val _ _ _ _ _ _ _ _ _ _ _ _ _ _ _ _ _ _ _ _ _ _ _ _ _ _ _ _ _ _ _ _ _ _ _ _ _ _ _ _ D (fun i => (congrFun (harg0.read_unread x0) i).trans (h0 i)) (fun i => (congrFun (harg1.read_unread x1) i).trans (h1 i)) (fun i => (congrFun (harg2.read_unread x2) i).trans (h2 i)) (fun i => (congrFun (harg3.read_unread x3) i).trans (h3 i)) (fun i => (congrFun (harg4.read_unread x4) i).trans (h4 i)) (fun i => (congrFun (harg5.read_unread x5) i).trans (h5 i)) (fun i => (congrFun (harg6.read_unread x6) i).trans (h6 i)) (fun i => (congrFun (harg7.read_unread x7) i).trans (h7 i)) (fun i => (congrFun (harg8.read_unread x8) i).trans (h8 i)) ?_ ?_ _ _ k0_t1_loop.trips le_rfl).1 b t H q ?_
  · intro b
    simp only [View.readAt_eq_ld, harg10.read_unread, shapeCast_self]
    exact (congrArg BitVec.toInt (congrFun (View.ld_unit_zero (Val := Elt Ideal) (S := S6) hz1 inb_S6_S6_0 x10) (ix1 b))).trans (hl b)
  · intro b H q i
    simp only [View.readAt_eq_ld, harg9.read_unread, shapeCast_self]
    exact (congrFun (View.ld_unit_zero (Val := Elt Ideal) (S := S6x32x64x64) hz4 inb_S6x32x64x64_S6x32x64x64_0_0_0_0 x9) _).trans (h9 _)
  · rw [trips_eq]
    exact t.isLt

theorem out12 (c : Dev nD) (arg0 : Memref sig .tc .vmem S6x4096x32x64 .fp8e4m3) (harg0 : arg0.IsWhole) (arg1 : Memref sig .tc .vmem S6x4096x32x64 .fp8e4m3) (harg1 : arg1.IsWhole) (arg2 : Memref sig .tc .vmem S6x4096x32x64 .fp8e4m3) (harg2 : arg2.IsWhole) (arg3 : Memref sig .tc .vmem S6x4096x32 .f32) (harg3 : arg3.IsWhole) (arg4 : Memref sig .tc .vmem S6x4096x32 .f32) (harg4 : arg4.IsWhole) (arg5 : Memref sig .tc .vmem S6x4096x32 .f32) (harg5 : arg5.IsWhole) (arg6 : Memref sig .tc .vmem S6x4096x32x64 .bf16) (harg6 : arg6.IsWhole) (arg7 : Memref sig .tc .vmem S6x4096x32x64 .bf16) (harg7 : arg7.IsWhole) (arg8 : Memref sig .tc .vmem S6x4096x32x64 .bf16) (harg8 : arg8.IsWhole) (arg9 : Memref sig .tc .vmem S6x32x64x64 .f32) (harg9 : arg9.IsWhole) (arg10 : Memref sig .tc .vmem S6 .i32) (harg10 : arg10.IsWhole) (arg11 : Memref sig .tc .vmem S6x4096x32x64 .bf16) (harg11 : arg11.IsWhole) (arg12 : Memref sig .tc .vmem S6x32x64x64 .f32) (harg12 : arg12.IsWhole) (x0 : Vec Ideal S6x4096x32x64 .fp8e4m3) (x1 : Vec Ideal S6x4096x32x64 .fp8e4m3) (x2 : Vec Ideal S6x4096x32x64 .fp8e4m3) (x3 : Vec Ideal S6x4096x32 .f32) (x4 : Vec Ideal S6x4096x32 .f32) (x5 : Vec Ideal S6x4096x32 .f32) (x6 : Vec Ideal S6x4096x32x64 .bf16) (x7 : Vec Ideal S6x4096x32x64 .bf16) (x8 : Vec Ideal S6x4096x32x64 .bf16) (x9 : Vec Ideal S6x32x64x64 .f32) (x10 : Vec Ideal S6 .i32) (D : Dat) (h0 : ∀ i, x0 i = ((D.r i : ℝ) : EReal)) (h1 : ∀ i, x1 i = ((D.k i : ℝ) : EReal)) (h2 : ∀ i, x2 i = ((D.v i : ℝ) : EReal)) (h3 : ∀ i, x3 i = ((D.rs i : ℝ) : EReal)) (h4 : ∀ i, x4 i = ((D.ks i : ℝ) : EReal)) (h5 : ∀ i, x5 i = ((D.vs i : ℝ) : EReal)) (h6 : ∀ i, x6 i = ((D.w i : ℝ) : EReal)) (h7 : ∀ i, x7 i = ((D.kk i : ℝ) : EReal)) (h8 : ∀ i, x8 i = ((D.ic i : ℝ) : EReal)) (h9 : ∀ i, x9 i = ((D.s i : ℝ) : EReal)) (hl : ∀ b : Fin 6, (x10 (ix1 b)).toInt = D.len b) (b : Fin 6) (H : Fin 32) (q i : Fin 64) :
    out0_A_12 (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 (ix4 b H q i) = ((D.st b H 4096 q i : ℝ) : EReal) := by
  unfold out0_A_12
  rw [View.read_writes_eq_canon _ _ _ (cover0_A_12 c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10)]
  unfold kernelRun0_A
  sl_unfold_words
  dsimp only
  rw [View.canon_unit_zero (S := S6x32x64x64) hz4]
  refine ((st_val _ _ _ _ _ _ _ _ _ _ _ _ _ _ _ _ _ _ _ _ _ _ _ _ _ _ _ _ _ _ _ _ _ _ _ _ _ _ _ _ D (fun i => (congrFun (harg0.read_unread x0) i).trans (h0 i)) (fun i => (congrFun (harg1.read_unread x1) i).trans (h1 i)) (fun i => (congrFun (harg2.read_unread x2) i).trans (h2 i)) (fun i => (congrFun (harg3.read_unread x3) i).trans (h3 i)) (fun i => (congrFun (harg4.read_unread x4) i).trans (h4 i)) (fun i => (congrFun (harg5.read_unread x5) i).trans (h5 i)) (fun i => (congrFun (harg6.read_unread x6) i).trans (h6 i)) (fun i => (congrFun (harg7.read_unread x7) i).trans (h7 i)) (fun i => (congrFun (harg8.read_unread x8) i).trans (h8 i)) ?_ ?_ VO0_11 VO0_11.junk k0_t1_loop.trips le_rfl).2 b H q i).trans ?_
  · intro b
    simp only [View.readAt_eq_ld, harg10.read_unread, shapeCast_self]
    exact (congrArg BitVec.toInt (congrFun (View.ld_unit_zero (Val := Elt Ideal) (S := S6) hz1 inb_S6_S6_0 x10) (ix1 b))).trans (hl b)
  · intro b H q i
    simp only [View.readAt_eq_ld, harg9.read_unread, shapeCast_self]
    exact (congrFun (View.ld_unit_zero (Val := Elt Ideal) (S := S6x32x64x64) hz4 inb_S6x32x64x64_S6x32x64x64_0_0_0_0 x9) _).trans (h9 _)
  · rw [trips_eq]

attribute [local irreducible] out0_A_11 out0_A_12

variable (m : (ℓ : Loc nD τ sig) → Buf (Elt Ideal) ℓ)

theorem covers11 : (cfg0.win 11).Covers := by decide +kernel
theorem covers12 : (cfg0.win 12).Covers := by decide +kernel

/-! ## The arguments -/

/-- The arguments' arrays hold the real numbers. -/
structure In (c : Dev nD) (D : Dat) : Prop where
  r : ∀ i, (m ((c.tc : Thread nD τ).loc main_arg0) : main_arg0.ty.Contents (Elt Ideal)) i = ((D.r i : ℝ) : EReal)
  k : ∀ i, (m ((c.tc : Thread nD τ).loc main_arg1) : main_arg1.ty.Contents (Elt Ideal)) i = ((D.k i : ℝ) : EReal)
  v : ∀ i, (m ((c.tc : Thread nD τ).loc main_arg2) : main_arg2.ty.Contents (Elt Ideal)) i = ((D.v i : ℝ) : EReal)
  rs : ∀ i, (m ((c.tc : Thread nD τ).loc main_arg3) : main_arg3.ty.Contents (Elt Ideal)) i = ((D.rs i : ℝ) : EReal)
  ks : ∀ i, (m ((c.tc : Thread nD τ).loc main_arg4) : main_arg4.ty.Contents (Elt Ideal)) i = ((D.ks i : ℝ) : EReal)
  vs : ∀ i, (m ((c.tc : Thread nD τ).loc main_arg5) : main_arg5.ty.Contents (Elt Ideal)) i = ((D.vs i : ℝ) : EReal)
  w : ∀ i, (m ((c.tc : Thread nD τ).loc main_arg6) : main_arg6.ty.Contents (Elt Ideal)) i = ((D.w i : ℝ) : EReal)
  kk : ∀ i, (m ((c.tc : Thread nD τ).loc main_arg7) : main_arg7.ty.Contents (Elt Ideal)) i = ((D.kk i : ℝ) : EReal)
  ic : ∀ i, (m ((c.tc : Thread nD τ).loc main_arg8) : main_arg8.ty.Contents (Elt Ideal)) i = ((D.ic i : ℝ) : EReal)
  s : ∀ i, (m ((c.tc : Thread nD τ).loc main_arg9) : main_arg9.ty.Contents (Elt Ideal)) i = ((D.s i : ℝ) : EReal)
  len : ∀ b : Fin 6, ((m ((c.tc : Thread nD τ).loc main_arg10) : main_arg10.ty.Contents (Elt Ideal)) (ix1 b)).toInt = D.len b

theorem V_main_v0 (c : Dev nD) : V m c main_v0 = (Host.convertf (φ := .f32) .fp8e4m3 (m ((c.tc : Thread nD τ).loc main_arg0) : main_arg0.ty.Contents (Elt Ideal)) : FVec Ideal S6x4096x32x64 .fp8e4m3) := by
  show StableHlo.after _ _ _ = _
  simp only [hostOps0, List.flatten_cons, List.flatten_nil, List.append_nil, List.cons_append, List.nil_append]
  after_results <;> rfl

theorem V_main_v1 (c : Dev nD) : V m c main_v1 = (Host.convertf (φ := .f32) .fp8e4m3 (m ((c.tc : Thread nD τ).loc main_arg1) : main_arg1.ty.Contents (Elt Ideal)) : FVec Ideal S6x4096x32x64 .fp8e4m3) := by
  show StableHlo.after _ _ _ = _
  simp only [hostOps0, List.flatten_cons, List.flatten_nil, List.append_nil, List.cons_append, List.nil_append]
  after_results <;> rfl

theorem V_main_v2 (c : Dev nD) : V m c main_v2 = (Host.convertf (φ := .f32) .fp8e4m3 (m ((c.tc : Thread nD τ).loc main_arg2) : main_arg2.ty.Contents (Elt Ideal)) : FVec Ideal S6x4096x32x64 .fp8e4m3) := by
  show StableHlo.after _ _ _ = _
  simp only [hostOps0, List.flatten_cons, List.flatten_nil, List.append_nil, List.cons_append, List.nil_append]
  after_results <;> rfl

theorem iblk0 (c : Dev nD) (D : Dat) (A : In m c D) (t : Fin cfg0.N) (y : S6x4096x32x64.Idx) : (iblk m c 0 t : Vec Ideal S6x4096x32x64 .fp8e4m3) y = ((D.r y : ℝ) : EReal) := by
  show (V m c main_v0 : main_v0.ty.Contents (Elt Ideal)) (((cfg0.win 0).blk t).view.emb (y : S6x4096x32x64.Idx)) = _
  rw [V_main_v0]
  refine Eq.trans (congrArg _ ?_) (A.r y)
  refine funext fun (a : Fin 4) => Fin.ext ?_
  match a with
  | 0 => show 0 * 6 + 1 * (y 0).val = (y 0).val; omega
  | 1 => show 0 * 4096 + 1 * (y 1).val = (y 1).val; omega
  | 2 => show 0 * 32 + 1 * (y 2).val = (y 2).val; omega
  | 3 => show 0 * 64 + 1 * (y 3).val = (y 3).val; omega

theorem iblk1 (c : Dev nD) (D : Dat) (A : In m c D) (t : Fin cfg0.N) (y : S6x4096x32x64.Idx) : (iblk m c 1 t : Vec Ideal S6x4096x32x64 .fp8e4m3) y = ((D.k y : ℝ) : EReal) := by
  show (V m c main_v1 : main_v1.ty.Contents (Elt Ideal)) (((cfg0.win 1).blk t).view.emb (y : S6x4096x32x64.Idx)) = _
  rw [V_main_v1]
  refine Eq.trans (congrArg _ ?_) (A.k y)
  refine funext fun (a : Fin 4) => Fin.ext ?_
  match a with
  | 0 => show 0 * 6 + 1 * (y 0).val = (y 0).val; omega
  | 1 => show 0 * 4096 + 1 * (y 1).val = (y 1).val; omega
  | 2 => show 0 * 32 + 1 * (y 2).val = (y 2).val; omega
  | 3 => show 0 * 64 + 1 * (y 3).val = (y 3).val; omega

theorem iblk2 (c : Dev nD) (D : Dat) (A : In m c D) (t : Fin cfg0.N) (y : S6x4096x32x64.Idx) : (iblk m c 2 t : Vec Ideal S6x4096x32x64 .fp8e4m3) y = ((D.v y : ℝ) : EReal) := by
  show (V m c main_v2 : main_v2.ty.Contents (Elt Ideal)) (((cfg0.win 2).blk t).view.emb (y : S6x4096x32x64.Idx)) = _
  rw [V_main_v2]
  refine Eq.trans (congrArg _ ?_) (A.v y)
  refine funext fun (a : Fin 4) => Fin.ext ?_
  match a with
  | 0 => show 0 * 6 + 1 * (y 0).val = (y 0).val; omega
  | 1 => show 0 * 4096 + 1 * (y 1).val = (y 1).val; omega
  | 2 => show 0 * 32 + 1 * (y 2).val = (y 2).val; omega
  | 3 => show 0 * 64 + 1 * (y 3).val = (y 3).val; omega

theorem iblk3 (c : Dev nD) (D : Dat) (A : In m c D) (t : Fin cfg0.N) (y : S6x4096x32.Idx) : (iblk m c 3 t : Vec Ideal S6x4096x32 .f32) y = ((D.rs y : ℝ) : EReal) := by
  show (V m c main_arg3 : main_arg3.ty.Contents (Elt Ideal)) (((cfg0.win 3).blk t).view.emb (y : S6x4096x32.Idx)) = _
  rw [V_main_arg3]
  refine Eq.trans (congrArg _ ?_) (A.rs y)
  refine funext fun (a : Fin 3) => Fin.ext ?_
  match a with
  | 0 => show 0 * 6 + 1 * (y 0).val = (y 0).val; omega
  | 1 => show 0 * 4096 + 1 * (y 1).val = (y 1).val; omega
  | 2 => show 0 * 32 + 1 * (y 2).val = (y 2).val; omega

theorem iblk4 (c : Dev nD) (D : Dat) (A : In m c D) (t : Fin cfg0.N) (y : S6x4096x32.Idx) : (iblk m c 4 t : Vec Ideal S6x4096x32 .f32) y = ((D.ks y : ℝ) : EReal) := by
  show (V m c main_arg4 : main_arg4.ty.Contents (Elt Ideal)) (((cfg0.win 4).blk t).view.emb (y : S6x4096x32.Idx)) = _
  rw [V_main_arg4]
  refine Eq.trans (congrArg _ ?_) (A.ks y)
  refine funext fun (a : Fin 3) => Fin.ext ?_
  match a with
  | 0 => show 0 * 6 + 1 * (y 0).val = (y 0).val; omega
  | 1 => show 0 * 4096 + 1 * (y 1).val = (y 1).val; omega
  | 2 => show 0 * 32 + 1 * (y 2).val = (y 2).val; omega

theorem iblk5 (c : Dev nD) (D : Dat) (A : In m c D) (t : Fin cfg0.N) (y : S6x4096x32.Idx) : (iblk m c 5 t : Vec Ideal S6x4096x32 .f32) y = ((D.vs y : ℝ) : EReal) := by
  show (V m c main_arg5 : main_arg5.ty.Contents (Elt Ideal)) (((cfg0.win 5).blk t).view.emb (y : S6x4096x32.Idx)) = _
  rw [V_main_arg5]
  refine Eq.trans (congrArg _ ?_) (A.vs y)
  refine funext fun (a : Fin 3) => Fin.ext ?_
  match a with
  | 0 => show 0 * 6 + 1 * (y 0).val = (y 0).val; omega
  | 1 => show 0 * 4096 + 1 * (y 1).val = (y 1).val; omega
  | 2 => show 0 * 32 + 1 * (y 2).val = (y 2).val; omega

theorem iblk6 (c : Dev nD) (D : Dat) (A : In m c D) (t : Fin cfg0.N) (y : S6x4096x32x64.Idx) : (iblk m c 6 t : Vec Ideal S6x4096x32x64 .bf16) y = ((D.w y : ℝ) : EReal) := by
  show (V m c main_arg6 : main_arg6.ty.Contents (Elt Ideal)) (((cfg0.win 6).blk t).view.emb (y : S6x4096x32x64.Idx)) = _
  rw [V_main_arg6]
  refine Eq.trans (congrArg _ ?_) (A.w y)
  refine funext fun (a : Fin 4) => Fin.ext ?_
  match a with
  | 0 => show 0 * 6 + 1 * (y 0).val = (y 0).val; omega
  | 1 => show 0 * 4096 + 1 * (y 1).val = (y 1).val; omega
  | 2 => show 0 * 32 + 1 * (y 2).val = (y 2).val; omega
  | 3 => show 0 * 64 + 1 * (y 3).val = (y 3).val; omega

theorem iblk7 (c : Dev nD) (D : Dat) (A : In m c D) (t : Fin cfg0.N) (y : S6x4096x32x64.Idx) : (iblk m c 7 t : Vec Ideal S6x4096x32x64 .bf16) y = ((D.kk y : ℝ) : EReal) := by
  show (V m c main_arg7 : main_arg7.ty.Contents (Elt Ideal)) (((cfg0.win 7).blk t).view.emb (y : S6x4096x32x64.Idx)) = _
  rw [V_main_arg7]
  refine Eq.trans (congrArg _ ?_) (A.kk y)
  refine funext fun (a : Fin 4) => Fin.ext ?_
  match a with
  | 0 => show 0 * 6 + 1 * (y 0).val = (y 0).val; omega
  | 1 => show 0 * 4096 + 1 * (y 1).val = (y 1).val; omega
  | 2 => show 0 * 32 + 1 * (y 2).val = (y 2).val; omega
  | 3 => show 0 * 64 + 1 * (y 3).val = (y 3).val; omega

theorem iblk8 (c : Dev nD) (D : Dat) (A : In m c D) (t : Fin cfg0.N) (y : S6x4096x32x64.Idx) : (iblk m c 8 t : Vec Ideal S6x4096x32x64 .bf16) y = ((D.ic y : ℝ) : EReal) := by
  show (V m c main_arg8 : main_arg8.ty.Contents (Elt Ideal)) (((cfg0.win 8).blk t).view.emb (y : S6x4096x32x64.Idx)) = _
  rw [V_main_arg8]
  refine Eq.trans (congrArg _ ?_) (A.ic y)
  refine funext fun (a : Fin 4) => Fin.ext ?_
  match a with
  | 0 => show 0 * 6 + 1 * (y 0).val = (y 0).val; omega
  | 1 => show 0 * 4096 + 1 * (y 1).val = (y 1).val; omega
  | 2 => show 0 * 32 + 1 * (y 2).val = (y 2).val; omega
  | 3 => show 0 * 64 + 1 * (y 3).val = (y 3).val; omega

theorem iblk9 (c : Dev nD) (D : Dat) (A : In m c D) (t : Fin cfg0.N) (y : S6x32x64x64.Idx) : (iblk m c 9 t : Vec Ideal S6x32x64x64 .f32) y = ((D.s y : ℝ) : EReal) := by
  show (V m c main_arg9 : main_arg9.ty.Contents (Elt Ideal)) (((cfg0.win 9).blk t).view.emb (y : S6x32x64x64.Idx)) = _
  rw [V_main_arg9]
  refine Eq.trans (congrArg _ ?_) (A.s y)
  refine funext fun (a : Fin 4) => Fin.ext ?_
  match a with
  | 0 => show 0 * 6 + 1 * (y 0).val = (y 0).val; omega
  | 1 => show 0 * 32 + 1 * (y 1).val = (y 1).val; omega
  | 2 => show 0 * 64 + 1 * (y 2).val = (y 2).val; omega
  | 3 => show 0 * 64 + 1 * (y 3).val = (y 3).val; omega

theorem iblk10 (c : Dev nD) (D : Dat) (A : In m c D) (t : Fin cfg0.N) (b : Fin 6) : ((iblk m c 10 t : Vec Ideal S6 .i32) (ix1 b)).toInt = D.len b := by
  show ((V m c main_arg10 : main_arg10.ty.Contents (Elt Ideal)) (((cfg0.win 10).blk t).view.emb (ix1 b : S6.Idx))).toInt = _
  rw [V_main_arg10]
  refine Eq.trans (congrArg BitVec.toInt (congrArg _ ?_)) (A.len b)
  refine funext fun (a : Fin 1) => Fin.ext ?_
  match a with
  | 0 => show 0 * 6 + 1 * b.val = b.val; omega

theorem outs11 (c : Dev nD) (D : Dat) (A : In m c D) (t : Fin cfg0.N) (b : Fin 6) (n : Fin 4096) (H : Fin 32) (q : Fin 64) :
    (outsAt0 m c t).1 (ix4 b n H q) = ((D.out b H n.val q : ℝ) : EReal) := by
  unfold outsAt0
  exact out11 _ _ _ _ _ _ _ _ _ _ _ _ _ _ _ _ _ _ _ _ _ _ _ _ _ _ _ _ _ _ _ _ _ _ _ _ _ _ D (iblk0 m c D A t) (iblk1 m c D A t) (iblk2 m c D A t) (iblk3 m c D A t) (iblk4 m c D A t) (iblk5 m c D A t) (iblk6 m c D A t) (iblk7 m c D A t) (iblk8 m c D A t) (iblk9 m c D A t) (iblk10 m c D A t) b n H q

theorem outs12 (c : Dev nD) (D : Dat) (A : In m c D) (t : Fin cfg0.N) (b : Fin 6) (H : Fin 32) (q i : Fin 64) :
    (outsAt0 m c t).2 (ix4 b H q i) = ((D.st b H 4096 q i : ℝ) : EReal) := by
  unfold outsAt0
  exact out12 _ _ _ _ _ _ _ _ _ _ _ _ _ _ _ _ _ _ _ _ _ _ _ _ _ _ _ _ _ _ _ _ _ _ _ _ _ _ D (iblk0 m c D A t) (iblk1 m c D A t) (iblk2 m c D A t) (iblk3 m c D A t) (iblk4 m c D A t) (iblk5 m c D A t) (iblk6 m c D A t) (iblk7 m c D A t) (iblk8 m c D A t) (iblk9 m c D A t) (iblk10 m c D A t) b H q i

theorem reg0_val (c : Dev nD) (D : Dat) (A : In m c D) (i : S6x4096x32x64.Idx) :
    (Value.reg_main_v3_0 m c : main_v3_0.ty.Contents (Elt Ideal)) i = ((D.out (i 0) (i 2) (i 1).val (i 3) : ℝ) : EReal) := by
  unfold Value.reg_main_v3_0
  refine (dats m 0 c).arrAt_forall_of_covers 11 (fun (i : S6x4096x32x64.Idx) (v : EReal) => v = ((D.out (i 0) (i 2) (i 1).val (i 3) : ℝ) : EReal)) covers11 (fun t hf (y : S6x4096x32x64.Idx) => ?_) i
  have ei : ((cfg0.win 11).blk t).view.emb y = (y : S6x4096x32x64.Idx) := by
    refine funext fun (a : Fin 4) => Fin.ext ?_
    match a with
    | 0 => show 0 * 6 + 1 * (y 0).val = (y 0).val; omega
    | 1 => show 0 * 4096 + 1 * (y 1).val = (y 1).val; omega
    | 2 => show 0 * 32 + 1 * (y 2).val = (y 2).val; omega
    | 3 => show 0 * 64 + 1 * (y 3).val = (y 3).val; omega
  rw [ei]
  show (dats m 0 c).after 11 t y = _
  rw [after0_11]
  obtain ⟨b, n, H, q, rfl⟩ : ∃ b n H q, y = (ix4 b n H q : S6x4096x32x64.Idx) := ⟨y 0, y 1, y 2, y 3, funext fun a => by match a with | 0 => rfl | 1 => rfl | 2 => rfl | 3 => rfl⟩
  exact outs11 m c D A t b n H q

theorem reg1_val (c : Dev nD) (D : Dat) (A : In m c D) (i : S6x32x64x64.Idx) :
    (Value.reg_main_v3_1 m c : main_v3_1.ty.Contents (Elt Ideal)) i = ((D.st (i 0) (i 1) 4096 (i 2) (i 3) : ℝ) : EReal) := by
  unfold Value.reg_main_v3_1
  refine (dats m 0 c).arrAt_forall_of_covers 12 (fun (i : S6x32x64x64.Idx) (v : EReal) => v = ((D.st (i 0) (i 1) 4096 (i 2) (i 3) : ℝ) : EReal)) covers12 (fun t hf (y : S6x32x64x64.Idx) => ?_) i
  have ei : ((cfg0.win 12).blk t).view.emb y = (y : S6x32x64x64.Idx) := by
    refine funext fun (a : Fin 4) => Fin.ext ?_
    match a with
    | 0 => show 0 * 6 + 1 * (y 0).val = (y 0).val; omega
    | 1 => show 0 * 32 + 1 * (y 1).val = (y 1).val; omega
    | 2 => show 0 * 64 + 1 * (y 2).val = (y 2).val; omega
    | 3 => show 0 * 64 + 1 * (y 3).val = (y 3).val; omega
  rw [ei]
  show (dats m 0 c).after 12 t y = _
  rw [after0_12]
  obtain ⟨b, n, H, q, rfl⟩ : ∃ b n H q, y = (ix4 b n H q : S6x32x64x64.Idx) := ⟨y 0, y 1, y 2, y 3, funext fun a => by match a with | 0 => rfl | 1 => rfl | 2 => rfl | 3 => rfl⟩
  exact outs12 m c D A t b n H q

theorem y_val (c : Dev nD) (D : Dat) (A : In m c D) (i : S6x2048x4096.Idx) :
    (shapeCast S6x2048x4096 (transpose S6x32x64x4096 [0, 2, 3, 1] (Value.reg_main_v3_0 m c : main_v3_0.ty.Contents (Elt Ideal)) transposes_S6x4096x32x64_S6x32x64x4096_0_2_3_1) shapeCasts_S6x32x64x4096_S6x2048x4096) i
      = ((D.out (i 0) ⟨(i 1).val / 64, by have h : (i 1).val < 2048 := (i 1).isLt; omega⟩ (i 2).val ⟨(i 1).val % 64, Nat.mod_lt _ (by omega)⟩ : ℝ) : EReal) := by
  obtain ⟨b, k, t, rfl⟩ : ∃ b k t, i = ix3 b k t := ⟨i 0, i 1, i 2, funext fun a => by match a with | 0 => rfl | 1 => rfl | 2 => rfl⟩
  have hk : k.val < 2048 := k.isLt
  have ht : t.val < 4096 := t.isLt
  have hr := reg0_val m c D A
  generalize (Value.reg_main_v3_0 m c : main_v3_0.ty.Contents (Elt Ideal)) = X at hr ⊢
  refine (shapeCast_apply _ _ _ (ix4 b (⟨k.val / 64, by omega⟩ : Fin 32) (⟨k.val % 64, by omega⟩ : Fin 64) t : S6x32x64x4096.Idx) ?_).trans ?_
  · have e4 := Shape.rowMajor_val_four (d := ![6, 32, 64, 4096]) (ix4 b (⟨k.val / 64, by omega⟩ : Fin 32) (⟨k.val % 64, by omega⟩ : Fin 64) t : S6x32x64x4096.Idx)
    have e3 := Shape.rowMajor_val_three (d := ![6, 2048, 4096]) (ix3 b k t : S6x2048x4096.Idx)
    refine e4.trans (Eq.trans ?_ e3.symm)
    show ((b.val * 32 + k.val / 64) * 64 + k.val % 64) * 4096 + t.val = (b.val * 2048 + k.val) * 4096 + t.val
    omega
  · exact hr _

end Cert.ReferenceIdeal.Pad

end
-- ==== Proof.Ends.lean ====
/- The kernel and the reference on finite arguments: both end with the outputs and the final states of the recurrence over
   the reals. -/
module

public import proofs.«01_k».proof.Proof.Finite
public import proofs.«01_k».proof.Proof.ValueEnd
public import proofs.«01_k».proof.Proof.RefEnd

@[expose] public section

set_option maxRecDepth 8192
set_option maxHeartbeats 400000

noncomputable section

namespace Cert.Proof

open Idealize.ShloMosaic Idealize.ShloMosaic.TcCoe Idealize.ShloMosaic.Tactic
open Idealize.SL.Sem
open Cert.KernelIdeal.Pair (Dat)

/-- The real numbers that the memory's arguments hold. -/
def datOf (m : (ℓ : Loc Cert.KernelIdeal.nD Cert.KernelIdeal.τ Cert.KernelIdeal.sig) → Buf (Elt Ideal) ℓ) : Dat where
  r i := ((m (((0 : Dev Cert.KernelIdeal.nD).tc : Thread Cert.KernelIdeal.nD Cert.KernelIdeal.τ).loc Cert.KernelIdeal.main_arg0) : Cert.KernelIdeal.main_arg0.ty.Contents (Elt Ideal)) i : EReal).toReal
  k i := ((m (((0 : Dev Cert.KernelIdeal.nD).tc : Thread Cert.KernelIdeal.nD Cert.KernelIdeal.τ).loc Cert.KernelIdeal.main_arg1) : Cert.KernelIdeal.main_arg1.ty.Contents (Elt Ideal)) i : EReal).toReal
  v i := ((m (((0 : Dev Cert.KernelIdeal.nD).tc : Thread Cert.KernelIdeal.nD Cert.KernelIdeal.τ).loc Cert.KernelIdeal.main_arg2) : Cert.KernelIdeal.main_arg2.ty.Contents (Elt Ideal)) i : EReal).toReal
  rs i := ((m (((0 : Dev Cert.KernelIdeal.nD).tc : Thread Cert.KernelIdeal.nD Cert.KernelIdeal.τ).loc Cert.KernelIdeal.main_arg3) : Cert.KernelIdeal.main_arg3.ty.Contents (Elt Ideal)) i : EReal).toReal
  ks i := ((m (((0 : Dev Cert.KernelIdeal.nD).tc : Thread Cert.KernelIdeal.nD Cert.KernelIdeal.τ).loc Cert.KernelIdeal.main_arg4) : Cert.KernelIdeal.main_arg4.ty.Contents (Elt Ideal)) i : EReal).toReal
  vs i := ((m (((0 : Dev Cert.KernelIdeal.nD).tc : Thread Cert.KernelIdeal.nD Cert.KernelIdeal.τ).loc Cert.KernelIdeal.main_arg5) : Cert.KernelIdeal.main_arg5.ty.Contents (Elt Ideal)) i : EReal).toReal
  w i := ((m (((0 : Dev Cert.KernelIdeal.nD).tc : Thread Cert.KernelIdeal.nD Cert.KernelIdeal.τ).loc Cert.KernelIdeal.main_arg6) : Cert.KernelIdeal.main_arg6.ty.Contents (Elt Ideal)) i : EReal).toReal
  kk i := ((m (((0 : Dev Cert.KernelIdeal.nD).tc : Thread Cert.KernelIdeal.nD Cert.KernelIdeal.τ).loc Cert.KernelIdeal.main_arg7) : Cert.KernelIdeal.main_arg7.ty.Contents (Elt Ideal)) i : EReal).toReal
  ic i := ((m (((0 : Dev Cert.KernelIdeal.nD).tc : Thread Cert.KernelIdeal.nD Cert.KernelIdeal.τ).loc Cert.KernelIdeal.main_arg8) : Cert.KernelIdeal.main_arg8.ty.Contents (Elt Ideal)) i : EReal).toReal
  s i := ((m (((0 : Dev Cert.KernelIdeal.nD).tc : Thread Cert.KernelIdeal.nD Cert.KernelIdeal.τ).loc Cert.KernelIdeal.main_arg9) : Cert.KernelIdeal.main_arg9.ty.Contents (Elt Ideal)) i : EReal).toReal
  len b := ((m (((0 : Dev Cert.KernelIdeal.nD).tc : Thread Cert.KernelIdeal.nD Cert.KernelIdeal.τ).loc Cert.KernelIdeal.main_arg10) : Cert.KernelIdeal.main_arg10.ty.Contents (Elt Ideal)) (ix1 b)).toInt

/-- Every device is device 0. -/
theorem dev_zero (c : Dev Cert.KernelIdeal.nD) : c = 0 := Subsingleton.elim (α := Fin 1) c 0

theorem in_of_pre (m : (ℓ : Loc Cert.KernelIdeal.nD Cert.KernelIdeal.τ Cert.KernelIdeal.sig) → Buf (Elt Ideal) ℓ) (h : Pre_KernelIdeal_finite m) :
    Cert.KernelIdeal.Pair.In m (datOf m) := by
  obtain ⟨hl, h0, h1, h2, h3, h4, h5, h6, h7, h8, h9⟩ := pre_all _ _ _ _ _ _ _ _ _ _ _ (h 0)
  exact ⟨h0, h1, h2, h3, h4, h5, h6, h7, h8, h9, fun _ => rfl, hl⟩

theorem algebraic : Cert.algebraic_KernelIdeal_ReferenceIdeal_pre_finite := by
  intro m g m' g' hpre hm
  have A := in_of_pre m hpre
  refine ⟨fun _ => fun i : Cert.KernelIdeal.S6x2048x4096.Idx => (((datOf m).out (i 0) ⟨(i 1).val / 64, by have h : (i 1).val < 2048 := (i 1).isLt; omega⟩ (i 2).val ⟨(i 1).val % 64, Nat.mod_lt _ (by omega)⟩ : ℝ) : EReal),
    fun _ => fun i : Cert.KernelIdeal.S6x32x64x64.Idx => (((datOf m).st (i 0) (i 1) 4096 (i 2) (i 3) : ℝ) : EReal), ?_, ?_⟩
  · refine (θ_run _ _ _).mono (fun r h c => ?_) (Cert.KernelIdeal.Pair.value_run m (datOf m) A g)
    obtain ⟨h0, h1, ha⟩ := h c
    exact ⟨funext h0, funext h1, ha⟩
  · refine (θ_run _ _ _).mono (fun r h c => ?_) (Cert.ReferenceIdeal.Value.run m' g')
    obtain ⟨h0, h1, ha⟩ := h c
    obtain ⟨e0, e1, e2, e3, e4, e5, e6, e7, e8, e9, e10⟩ := hm c
    obtain rfl : c = 0 := dev_zero c
    have B : Cert.ReferenceIdeal.Pad.In m' 0 (datOf m) :=
      ⟨fun i => (congrFun e0 i).trans (A.r i), fun i => (congrFun e1 i).trans (A.k i), fun i => (congrFun e2 i).trans (A.v i),
        fun i => (congrFun e3 i).trans (A.rs i), fun i => (congrFun e4 i).trans (A.ks i), fun i => (congrFun e5 i).trans (A.vs i),
        fun i => (congrFun e6 i).trans (A.w i), fun i => (congrFun e7 i).trans (A.kk i), fun i => (congrFun e8 i).trans (A.ic i),
        fun i => (congrFun e9 i).trans (A.s i), fun b => congrArg BitVec.toInt (congrFun e10 (ix1 b))⟩
    exact ⟨h0.trans (funext fun i => Cert.ReferenceIdeal.Pad.y_val m' 0 (datOf m) B i), h1.trans (funext fun i => Cert.ReferenceIdeal.Pad.reg1_val m' 0 (datOf m) B i), ha⟩

end Cert.Proof

end
-- ==== Proof.lean ====
module

public import proofs.«01_k».proof.Defs
public import proofs.«01_k».proof.Proof.Gen.Kernel
public import proofs.«01_k».proof.Proof.Gen.Kernel.Launch
public import proofs.«01_k».proof.Proof.Gen.KernelIdeal
public import proofs.«01_k».proof.Proof.Gen.KernelIdeal.Launch
public import proofs.«01_k».proof.Proof.Gen.ReferenceIdeal
public import proofs.«01_k».proof.Proof.Gen.ReferenceIdeal.Launch
public import proofs.«01_k».proof.Proof.Gen.ReferenceIdeal.Frame
public import proofs.«01_k».proof.Proof.Gen.ReferenceIdeal.Loops
public import proofs.«01_k».proof.Proof.Gen.ReferenceIdeal.Run
public import proofs.«01_k».proof.Proof.Gen.Pre_finite
public import proofs.«01_k».proof.Proof.Frame
public import proofs.«01_k».proof.Proof.FramePrinted
public import proofs.«01_k».proof.Proof.Ends
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite.Gen.facts,
  fun m g _ => Cert.Kernel.Pair.frame_run m g, fun m g _ => Cert.KernelIdeal.Pair.frame_run m g, fun m g _ => Cert.KernelIdeal.Pair.frame_run m g,
  fun m g _ => Cert.ReferenceIdeal.Gen.frame m g, fun m g _ => Cert.ReferenceIdeal.Gen.frame m g,
  IdealRules.named_const.statement Cert.KernelIdeal.κ "neg_log2e" .f32 0xBFB8AA3B#32 ((-(Real.log 2)⁻¹ : ℝ) : EReal) rfl, Cert.Proof.algebraic⟩

end Cert.Proof

end
